-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Grouped (m : (ℓ : Loc Cert.Grouped.nD Cert.Grouped.τ Cert.Grouped.sig) → Buf (Elt Bits) ℓ) : Prop :=
  True

def Pre_GroupedIdeal (m : (ℓ : Loc Cert.GroupedIdeal.nD Cert.GroupedIdeal.τ Cert.GroupedIdeal.sig) → Buf (Elt Ideal) ℓ) : Prop :=
  True

def Pre_GroupedIdeal_grouped_finite [hPre_grouped_finite : Cert.Pre_grouped_finite.Facts] (m : (ℓ : Loc Cert.GroupedIdeal.nD Cert.GroupedIdeal.τ Cert.GroupedIdeal.sig) → Buf (Elt Ideal) ℓ) : Prop :=
  ∀ c : Dev Cert.GroupedIdeal.nD,
    (Cert.Pre_grouped_finite.fn (F := Ideal) (m ((c.tc : Thread Cert.GroupedIdeal.nD Cert.GroupedIdeal.τ).loc Cert.GroupedIdeal.main_arg0)) (m ((c.tc : Thread Cert.GroupedIdeal.nD Cert.GroupedIdeal.τ).loc Cert.GroupedIdeal.main_arg1)) (m ((c.tc : Thread Cert.GroupedIdeal.nD Cert.GroupedIdeal.τ).loc Cert.GroupedIdeal.main_arg2)) (m ((c.tc : Thread Cert.GroupedIdeal.nD Cert.GroupedIdeal.τ).loc Cert.GroupedIdeal.main_arg3)) (m ((c.tc : Thread Cert.GroupedIdeal.nD Cert.GroupedIdeal.τ).loc Cert.GroupedIdeal.main_arg4)) (m ((c.tc : Thread Cert.GroupedIdeal.nD Cert.GroupedIdeal.τ).loc Cert.GroupedIdeal.main_arg5)) (m ((c.tc : Thread Cert.GroupedIdeal.nD Cert.GroupedIdeal.τ).loc Cert.GroupedIdeal.main_arg6)) (m ((c.tc : Thread Cert.GroupedIdeal.nD Cert.GroupedIdeal.τ).loc Cert.GroupedIdeal.main_arg7))) = (fun _ => 1#1)

def Pre_GroupedReferenceIdeal (m : (ℓ : Loc Cert.GroupedReferenceIdeal.nD Cert.GroupedReferenceIdeal.τ Cert.GroupedReferenceIdeal.sig) → Buf (Elt Ideal) ℓ) : Prop :=
  True

def Pre_GroupedReferenceIdeal_grouped_finite [hPre_grouped_finite : Cert.Pre_grouped_finite.Facts] (m : (ℓ : Loc Cert.GroupedReferenceIdeal.nD Cert.GroupedReferenceIdeal.τ Cert.GroupedReferenceIdeal.sig) → Buf (Elt Ideal) ℓ) : Prop :=
  ∀ c : Dev Cert.GroupedReferenceIdeal.nD,
    (Cert.Pre_grouped_finite.fn (F := Ideal) (m ((c.tc : Thread Cert.GroupedReferenceIdeal.nD Cert.GroupedReferenceIdeal.τ).loc Cert.GroupedReferenceIdeal.main_arg0)) (m ((c.tc : Thread Cert.GroupedReferenceIdeal.nD Cert.GroupedReferenceIdeal.τ).loc Cert.GroupedReferenceIdeal.main_arg1)) (m ((c.tc : Thread Cert.GroupedReferenceIdeal.nD Cert.GroupedReferenceIdeal.τ).loc Cert.GroupedReferenceIdeal.main_arg2)) (m ((c.tc : Thread Cert.GroupedReferenceIdeal.nD Cert.GroupedReferenceIdeal.τ).loc Cert.GroupedReferenceIdeal.main_arg3)) (m ((c.tc : Thread Cert.GroupedReferenceIdeal.nD Cert.GroupedReferenceIdeal.τ).loc Cert.GroupedReferenceIdeal.main_arg4)) (m ((c.tc : Thread Cert.GroupedReferenceIdeal.nD Cert.GroupedReferenceIdeal.τ).loc Cert.GroupedReferenceIdeal.main_arg5)) (m ((c.tc : Thread Cert.GroupedReferenceIdeal.nD Cert.GroupedReferenceIdeal.τ).loc Cert.GroupedReferenceIdeal.main_arg6)) (m ((c.tc : Thread Cert.GroupedReferenceIdeal.nD Cert.GroupedReferenceIdeal.τ).loc Cert.GroupedReferenceIdeal.main_arg7))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerReferenceIdeal (m : (ℓ : Loc Cert.MixerReferenceIdeal.nD Cert.MixerReferenceIdeal.τ Cert.MixerReferenceIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterReferenceIdeal (m : (ℓ : Loc Cert.RouterReferenceIdeal.nD Cert.RouterReferenceIdeal.τ Cert.RouterReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Grouped [hGrouped : Cert.Grouped.Facts] : Prop :=
  ∀ (m : (ℓ : Loc Cert.Grouped.nD Cert.Grouped.τ Cert.Grouped.sig) → Buf (Elt Bits) ℓ) (g : Dev Cert.Grouped.nD → PrngReg), Pre_Grouped m →
    θ_run (Cert.Grouped.defs (F := Bits)) (onTc (τ := Cert.Grouped.τ) (Cert.Grouped.main (F := Bits))) ⟨m, fun _ => 0, g⟩ (fun r => (∀ c : Dev Cert.Grouped.nD,
      r.2.mem ((c.tc : Thread Cert.Grouped.nD Cert.Grouped.τ).loc Cert.Grouped.main_arg0) = m ((c.tc : Thread Cert.Grouped.nD Cert.Grouped.τ).loc Cert.Grouped.main_arg0)
      ∧ r.2.mem ((c.tc : Thread Cert.Grouped.nD Cert.Grouped.τ).loc Cert.Grouped.main_arg1) = m ((c.tc : Thread Cert.Grouped.nD Cert.Grouped.τ).loc Cert.Grouped.main_arg1)
      ∧ r.2.mem ((c.tc : Thread Cert.Grouped.nD Cert.Grouped.τ).loc Cert.Grouped.main_arg2) = m ((c.tc : Thread Cert.Grouped.nD Cert.Grouped.τ).loc Cert.Grouped.main_arg2)
      ∧ r.2.mem ((c.tc : Thread Cert.Grouped.nD Cert.Grouped.τ).loc Cert.Grouped.main_arg3) = m ((c.tc : Thread Cert.Grouped.nD Cert.Grouped.τ).loc Cert.Grouped.main_arg3)
      ∧ r.2.mem ((c.tc : Thread Cert.Grouped.nD Cert.Grouped.τ).loc Cert.Grouped.main_arg4) = m ((c.tc : Thread Cert.Grouped.nD Cert.Grouped.τ).loc Cert.Grouped.main_arg4)
      ∧ r.2.mem ((c.tc : Thread Cert.Grouped.nD Cert.Grouped.τ).loc Cert.Grouped.main_arg5) = m ((c.tc : Thread Cert.Grouped.nD Cert.Grouped.τ).loc Cert.Grouped.main_arg5)
      ∧ r.2.mem ((c.tc : Thread Cert.Grouped.nD Cert.Grouped.τ).loc Cert.Grouped.main_arg6) = m ((c.tc : Thread Cert.Grouped.nD Cert.Grouped.τ).loc Cert.Grouped.main_arg6)
      ∧ r.2.mem ((c.tc : Thread Cert.Grouped.nD Cert.Grouped.τ).loc Cert.Grouped.main_arg7) = m ((c.tc : Thread Cert.Grouped.nD Cert.Grouped.τ).loc Cert.Grouped.main_arg7))
      ∧ r.2.sem = fun _ => 0)

def quiescent_GroupedIdeal [hGroupedIdeal : Cert.GroupedIdeal.Facts] : Prop :=
  ∀ (m : (ℓ : Loc Cert.GroupedIdeal.nD Cert.GroupedIdeal.τ Cert.GroupedIdeal.sig) → Buf (Elt Ideal) ℓ) (g : Dev Cert.GroupedIdeal.nD → PrngReg), Pre_GroupedIdeal m →
    θ_run (Cert.GroupedIdeal.defs (F := Ideal)) (onTc (τ := Cert.GroupedIdeal.τ) (Cert.GroupedIdeal.main (F := Ideal))) ⟨m, fun _ => 0, g⟩ (fun r => (∀ c : Dev Cert.GroupedIdeal.nD,
      r.2.mem ((c.tc : Thread Cert.GroupedIdeal.nD Cert.GroupedIdeal.τ).loc Cert.GroupedIdeal.main_arg0) = m ((c.tc : Thread Cert.GroupedIdeal.nD Cert.GroupedIdeal.τ).loc Cert.GroupedIdeal.main_arg0)
      ∧ r.2.mem ((c.tc : Thread Cert.GroupedIdeal.nD Cert.GroupedIdeal.τ).loc Cert.GroupedIdeal.main_arg1) = m ((c.tc : Thread Cert.GroupedIdeal.nD Cert.GroupedIdeal.τ).loc Cert.GroupedIdeal.main_arg1)
      ∧ r.2.mem ((c.tc : Thread Cert.GroupedIdeal.nD Cert.GroupedIdeal.τ).loc Cert.GroupedIdeal.main_arg2) = m ((c.tc : Thread Cert.GroupedIdeal.nD Cert.GroupedIdeal.τ).loc Cert.GroupedIdeal.main_arg2)
      ∧ r.2.mem ((c.tc : Thread Cert.GroupedIdeal.nD Cert.GroupedIdeal.τ).loc Cert.GroupedIdeal.main_arg3) = m ((c.tc : Thread Cert.GroupedIdeal.nD Cert.GroupedIdeal.τ).loc Cert.GroupedIdeal.main_arg3)
      ∧ r.2.mem ((c.tc : Thread Cert.GroupedIdeal.nD Cert.GroupedIdeal.τ).loc Cert.GroupedIdeal.main_arg4) = m ((c.tc : Thread Cert.GroupedIdeal.nD Cert.GroupedIdeal.τ).loc Cert.GroupedIdeal.main_arg4)
      ∧ r.2.mem ((c.tc : Thread Cert.GroupedIdeal.nD Cert.GroupedIdeal.τ).loc Cert.GroupedIdeal.main_arg5) = m ((c.tc : Thread Cert.GroupedIdeal.nD Cert.GroupedIdeal.τ).loc Cert.GroupedIdeal.main_arg5)
      ∧ r.2.mem ((c.tc : Thread Cert.GroupedIdeal.nD Cert.GroupedIdeal.τ).loc Cert.GroupedIdeal.main_arg6) = m ((c.tc : Thread Cert.GroupedIdeal.nD Cert.GroupedIdeal.τ).loc Cert.GroupedIdeal.main_arg6)
      ∧ r.2.mem ((c.tc : Thread Cert.GroupedIdeal.nD Cert.GroupedIdeal.τ).loc Cert.GroupedIdeal.main_arg7) = m ((c.tc : Thread Cert.GroupedIdeal.nD Cert.GroupedIdeal.τ).loc Cert.GroupedIdeal.main_arg7))
      ∧ r.2.sem = fun _ => 0)

def quiescent_GroupedIdeal_pre_grouped_finite [hGroupedIdeal : Cert.GroupedIdeal.Facts] [hPre_grouped_finite : Cert.Pre_grouped_finite.Facts] : Prop :=
  ∀ (m : (ℓ : Loc Cert.GroupedIdeal.nD Cert.GroupedIdeal.τ Cert.GroupedIdeal.sig) → Buf (Elt Ideal) ℓ) (g : Dev Cert.GroupedIdeal.nD → PrngReg), Pre_GroupedIdeal_grouped_finite m →
    θ_run (Cert.GroupedIdeal.defs (F := Ideal)) (onTc (τ := Cert.GroupedIdeal.τ) (Cert.GroupedIdeal.main (F := Ideal))) ⟨m, fun _ => 0, g⟩ (fun r => (∀ c : Dev Cert.GroupedIdeal.nD,
      r.2.mem ((c.tc : Thread Cert.GroupedIdeal.nD Cert.GroupedIdeal.τ).loc Cert.GroupedIdeal.main_arg0) = m ((c.tc : Thread Cert.GroupedIdeal.nD Cert.GroupedIdeal.τ).loc Cert.GroupedIdeal.main_arg0)
      ∧ r.2.mem ((c.tc : Thread Cert.GroupedIdeal.nD Cert.GroupedIdeal.τ).loc Cert.GroupedIdeal.main_arg1) = m ((c.tc : Thread Cert.GroupedIdeal.nD Cert.GroupedIdeal.τ).loc Cert.GroupedIdeal.main_arg1)
      ∧ r.2.mem ((c.tc : Thread Cert.GroupedIdeal.nD Cert.GroupedIdeal.τ).loc Cert.GroupedIdeal.main_arg2) = m ((c.tc : Thread Cert.GroupedIdeal.nD Cert.GroupedIdeal.τ).loc Cert.GroupedIdeal.main_arg2)
      ∧ r.2.mem ((c.tc : Thread Cert.GroupedIdeal.nD Cert.GroupedIdeal.τ).loc Cert.GroupedIdeal.main_arg3) = m ((c.tc : Thread Cert.GroupedIdeal.nD Cert.GroupedIdeal.τ).loc Cert.GroupedIdeal.main_arg3)
      ∧ r.2.mem ((c.tc : Thread Cert.GroupedIdeal.nD Cert.GroupedIdeal.τ).loc Cert.GroupedIdeal.main_arg4) = m ((c.tc : Thread Cert.GroupedIdeal.nD Cert.GroupedIdeal.τ).loc Cert.GroupedIdeal.main_arg4)
      ∧ r.2.mem ((c.tc : Thread Cert.GroupedIdeal.nD Cert.GroupedIdeal.τ).loc Cert.GroupedIdeal.main_arg5) = m ((c.tc : Thread Cert.GroupedIdeal.nD Cert.GroupedIdeal.τ).loc Cert.GroupedIdeal.main_arg5)
      ∧ r.2.mem ((c.tc : Thread Cert.GroupedIdeal.nD Cert.GroupedIdeal.τ).loc Cert.GroupedIdeal.main_arg6) = m ((c.tc : Thread Cert.GroupedIdeal.nD Cert.GroupedIdeal.τ).loc Cert.GroupedIdeal.main_arg6)
      ∧ r.2.mem ((c.tc : Thread Cert.GroupedIdeal.nD Cert.GroupedIdeal.τ).loc Cert.GroupedIdeal.main_arg7) = m ((c.tc : Thread Cert.GroupedIdeal.nD Cert.GroupedIdeal.τ).loc Cert.GroupedIdeal.main_arg7))
      ∧ r.2.sem = fun _ => 0)

def quiescent_GroupedReferenceIdeal [hGroupedReferenceIdeal : Cert.GroupedReferenceIdeal.Facts] : Prop :=
  ∀ (m : (ℓ : Loc Cert.GroupedReferenceIdeal.nD Cert.GroupedReferenceIdeal.τ Cert.GroupedReferenceIdeal.sig) → Buf (Elt Ideal) ℓ) (g : Dev Cert.GroupedReferenceIdeal.nD → PrngReg), Pre_GroupedReferenceIdeal m →
    θ_run (Cert.GroupedReferenceIdeal.defs (F := Ideal)) (onTc (τ := Cert.GroupedReferenceIdeal.τ) (Cert.GroupedReferenceIdeal.main (F := Ideal))) ⟨m, fun _ => 0, g⟩ (fun r => (∀ c : Dev Cert.GroupedReferenceIdeal.nD,
      r.2.mem ((c.tc : Thread Cert.GroupedReferenceIdeal.nD Cert.GroupedReferenceIdeal.τ).loc Cert.GroupedReferenceIdeal.main_arg0) = m ((c.tc : Thread Cert.GroupedReferenceIdeal.nD Cert.GroupedReferenceIdeal.τ).loc Cert.GroupedReferenceIdeal.main_arg0)
      ∧ r.2.mem ((c.tc : Thread Cert.GroupedReferenceIdeal.nD Cert.GroupedReferenceIdeal.τ).loc Cert.GroupedReferenceIdeal.main_arg1) = m ((c.tc : Thread Cert.GroupedReferenceIdeal.nD Cert.GroupedReferenceIdeal.τ).loc Cert.GroupedReferenceIdeal.main_arg1)
      ∧ r.2.mem ((c.tc : Thread Cert.GroupedReferenceIdeal.nD Cert.GroupedReferenceIdeal.τ).loc Cert.GroupedReferenceIdeal.main_arg2) = m ((c.tc : Thread Cert.GroupedReferenceIdeal.nD Cert.GroupedReferenceIdeal.τ).loc Cert.GroupedReferenceIdeal.main_arg2)
      ∧ r.2.mem ((c.tc : Thread Cert.GroupedReferenceIdeal.nD Cert.GroupedReferenceIdeal.τ).loc Cert.GroupedReferenceIdeal.main_arg3) = m ((c.tc : Thread Cert.GroupedReferenceIdeal.nD Cert.GroupedReferenceIdeal.τ).loc Cert.GroupedReferenceIdeal.main_arg3)
      ∧ r.2.mem ((c.tc : Thread Cert.GroupedReferenceIdeal.nD Cert.GroupedReferenceIdeal.τ).loc Cert.GroupedReferenceIdeal.main_arg4) = m ((c.tc : Thread Cert.GroupedReferenceIdeal.nD Cert.GroupedReferenceIdeal.τ).loc Cert.GroupedReferenceIdeal.main_arg4)
      ∧ r.2.mem ((c.tc : Thread Cert.GroupedReferenceIdeal.nD Cert.GroupedReferenceIdeal.τ).loc Cert.GroupedReferenceIdeal.main_arg5) = m ((c.tc : Thread Cert.GroupedReferenceIdeal.nD Cert.GroupedReferenceIdeal.τ).loc Cert.GroupedReferenceIdeal.main_arg5)
      ∧ r.2.mem ((c.tc : Thread Cert.GroupedReferenceIdeal.nD Cert.GroupedReferenceIdeal.τ).loc Cert.GroupedReferenceIdeal.main_arg6) = m ((c.tc : Thread Cert.GroupedReferenceIdeal.nD Cert.GroupedReferenceIdeal.τ).loc Cert.GroupedReferenceIdeal.main_arg6)
      ∧ r.2.mem ((c.tc : Thread Cert.GroupedReferenceIdeal.nD Cert.GroupedReferenceIdeal.τ).loc Cert.GroupedReferenceIdeal.main_arg7) = m ((c.tc : Thread Cert.GroupedReferenceIdeal.nD Cert.GroupedReferenceIdeal.τ).loc Cert.GroupedReferenceIdeal.main_arg7))
      ∧ r.2.sem = fun _ => 0)

def quiescent_GroupedReferenceIdeal_pre_grouped_finite [hGroupedReferenceIdeal : Cert.GroupedReferenceIdeal.Facts] [hPre_grouped_finite : Cert.Pre_grouped_finite.Facts] : Prop :=
  ∀ (m : (ℓ : Loc Cert.GroupedReferenceIdeal.nD Cert.GroupedReferenceIdeal.τ Cert.GroupedReferenceIdeal.sig) → Buf (Elt Ideal) ℓ) (g : Dev Cert.GroupedReferenceIdeal.nD → PrngReg), Pre_GroupedReferenceIdeal_grouped_finite m →
    θ_run (Cert.GroupedReferenceIdeal.defs (F := Ideal)) (onTc (τ := Cert.GroupedReferenceIdeal.τ) (Cert.GroupedReferenceIdeal.main (F := Ideal))) ⟨m, fun _ => 0, g⟩ (fun r => (∀ c : Dev Cert.GroupedReferenceIdeal.nD,
      r.2.mem ((c.tc : Thread Cert.GroupedReferenceIdeal.nD Cert.GroupedReferenceIdeal.τ).loc Cert.GroupedReferenceIdeal.main_arg0) = m ((c.tc : Thread Cert.GroupedReferenceIdeal.nD Cert.GroupedReferenceIdeal.τ).loc Cert.GroupedReferenceIdeal.main_arg0)
      ∧ r.2.mem ((c.tc : Thread Cert.GroupedReferenceIdeal.nD Cert.GroupedReferenceIdeal.τ).loc Cert.GroupedReferenceIdeal.main_arg1) = m ((c.tc : Thread Cert.GroupedReferenceIdeal.nD Cert.GroupedReferenceIdeal.τ).loc Cert.GroupedReferenceIdeal.main_arg1)
      ∧ r.2.mem ((c.tc : Thread Cert.GroupedReferenceIdeal.nD Cert.GroupedReferenceIdeal.τ).loc Cert.GroupedReferenceIdeal.main_arg2) = m ((c.tc : Thread Cert.GroupedReferenceIdeal.nD Cert.GroupedReferenceIdeal.τ).loc Cert.GroupedReferenceIdeal.main_arg2)
      ∧ r.2.mem ((c.tc : Thread Cert.GroupedReferenceIdeal.nD Cert.GroupedReferenceIdeal.τ).loc Cert.GroupedReferenceIdeal.main_arg3) = m ((c.tc : Thread Cert.GroupedReferenceIdeal.nD Cert.GroupedReferenceIdeal.τ).loc Cert.GroupedReferenceIdeal.main_arg3)
      ∧ r.2.mem ((c.tc : Thread Cert.GroupedReferenceIdeal.nD Cert.GroupedReferenceIdeal.τ).loc Cert.GroupedReferenceIdeal.main_arg4) = m ((c.tc : Thread Cert.GroupedReferenceIdeal.nD Cert.GroupedReferenceIdeal.τ).loc Cert.GroupedReferenceIdeal.main_arg4)
      ∧ r.2.mem ((c.tc : Thread Cert.GroupedReferenceIdeal.nD Cert.GroupedReferenceIdeal.τ).loc Cert.GroupedReferenceIdeal.main_arg5) = m ((c.tc : Thread Cert.GroupedReferenceIdeal.nD Cert.GroupedReferenceIdeal.τ).loc Cert.GroupedReferenceIdeal.main_arg5)
      ∧ r.2.mem ((c.tc : Thread Cert.GroupedReferenceIdeal.nD Cert.GroupedReferenceIdeal.τ).loc Cert.GroupedReferenceIdeal.main_arg6) = m ((c.tc : Thread Cert.GroupedReferenceIdeal.nD Cert.GroupedReferenceIdeal.τ).loc Cert.GroupedReferenceIdeal.main_arg6)
      ∧ r.2.mem ((c.tc : Thread Cert.GroupedReferenceIdeal.nD Cert.GroupedReferenceIdeal.τ).loc Cert.GroupedReferenceIdeal.main_arg7) = m ((c.tc : Thread Cert.GroupedReferenceIdeal.nD Cert.GroupedReferenceIdeal.τ).loc Cert.GroupedReferenceIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16)
      ∧ r.2.mem ((c.tc : Thread Cert.Merge.nD Cert.Merge.τ).loc Cert.Merge.main_arg17) = m ((c.tc : Thread Cert.Merge.nD Cert.Merge.τ).loc Cert.Merge.main_arg17)
      ∧ r.2.mem ((c.tc : Thread Cert.Merge.nD Cert.Merge.τ).loc Cert.Merge.main_arg18) = m ((c.tc : Thread Cert.Merge.nD Cert.Merge.τ).loc Cert.Merge.main_arg18))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
      ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
      ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13)
      ∧ r.2.mem ((c.tc : Thread Cert.MergeReferenceIdeal.nD Cert.MergeReferenceIdeal.τ).loc Cert.MergeReferenceIdeal.main_arg14) = m ((c.tc : Thread Cert.MergeReferenceIdeal.nD Cert.MergeReferenceIdeal.τ).loc Cert.MergeReferenceIdeal.main_arg14)
      ∧ r.2.mem ((c.tc : Thread Cert.MergeReferenceIdeal.nD Cert.MergeReferenceIdeal.τ).loc Cert.MergeReferenceIdeal.main_arg15) = m ((c.tc : Thread Cert.MergeReferenceIdeal.nD Cert.MergeReferenceIdeal.τ).loc Cert.MergeReferenceIdeal.main_arg15)
      ∧ r.2.mem ((c.tc : Thread Cert.MergeReferenceIdeal.nD Cert.MergeReferenceIdeal.τ).loc Cert.MergeReferenceIdeal.main_arg16) = m ((c.tc : Thread Cert.MergeReferenceIdeal.nD Cert.MergeReferenceIdeal.τ).loc Cert.MergeReferenceIdeal.main_arg16)
      ∧ r.2.mem ((c.tc : Thread Cert.MergeReferenceIdeal.nD Cert.MergeReferenceIdeal.τ).loc Cert.MergeReferenceIdeal.main_arg17) = m ((c.tc : Thread Cert.MergeReferenceIdeal.nD Cert.MergeReferenceIdeal.τ).loc Cert.MergeReferenceIdeal.main_arg17)
      ∧ r.2.mem ((c.tc : Thread Cert.MergeReferenceIdeal.nD Cert.MergeReferenceIdeal.τ).loc Cert.MergeReferenceIdeal.main_arg18) = m ((c.tc : Thread Cert.MergeReferenceIdeal.nD Cert.MergeReferenceIdeal.τ).loc Cert.MergeReferenceIdeal.main_arg18))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11))
      ∧ r.2.sem = fun _ => 0)

def quiescent_MixerReferenceIdeal [hMixerReferenceIdeal : Cert.MixerReferenceIdeal.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5)
      ∧ r.2.mem ((c.tc : Thread Cert.MixerReferenceIdeal.nD Cert.MixerReferenceIdeal.τ).loc Cert.MixerReferenceIdeal.main_arg6) = m ((c.tc : Thread Cert.MixerReferenceIdeal.nD Cert.MixerReferenceIdeal.τ).loc Cert.MixerReferenceIdeal.main_arg6)
      ∧ r.2.mem ((c.tc : Thread Cert.MixerReferenceIdeal.nD Cert.MixerReferenceIdeal.τ).loc Cert.MixerReferenceIdeal.main_arg7) = m ((c.tc : Thread Cert.MixerReferenceIdeal.nD Cert.MixerReferenceIdeal.τ).loc Cert.MixerReferenceIdeal.main_arg7)
      ∧ r.2.mem ((c.tc : Thread Cert.MixerReferenceIdeal.nD Cert.MixerReferenceIdeal.τ).loc Cert.MixerReferenceIdeal.main_arg8) = m ((c.tc : Thread Cert.MixerReferenceIdeal.nD Cert.MixerReferenceIdeal.τ).loc Cert.MixerReferenceIdeal.main_arg8)
      ∧ r.2.mem ((c.tc : Thread Cert.MixerReferenceIdeal.nD Cert.MixerReferenceIdeal.τ).loc Cert.MixerReferenceIdeal.main_arg9) = m ((c.tc : Thread Cert.MixerReferenceIdeal.nD Cert.MixerReferenceIdeal.τ).loc Cert.MixerReferenceIdeal.main_arg9)
      ∧ r.2.mem ((c.tc : Thread Cert.MixerReferenceIdeal.nD Cert.MixerReferenceIdeal.τ).loc Cert.MixerReferenceIdeal.main_arg10) = m ((c.tc : Thread Cert.MixerReferenceIdeal.nD Cert.MixerReferenceIdeal.τ).loc Cert.MixerReferenceIdeal.main_arg10)
      ∧ r.2.mem ((c.tc : Thread Cert.MixerReferenceIdeal.nD Cert.MixerReferenceIdeal.τ).loc Cert.MixerReferenceIdeal.main_arg11) = m ((c.tc : Thread Cert.MixerReferenceIdeal.nD Cert.MixerReferenceIdeal.τ).loc Cert.MixerReferenceIdeal.main_arg11))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4)
      ∧ r.2.mem ((c.tc : Thread Cert.Router.nD Cert.Router.τ).loc Cert.Router.main_arg5) = m ((c.tc : Thread Cert.Router.nD Cert.Router.τ).loc Cert.Router.main_arg5)
      ∧ r.2.mem ((c.tc : Thread Cert.Router.nD Cert.Router.τ).loc Cert.Router.main_arg6) = m ((c.tc : Thread Cert.Router.nD Cert.Router.τ).loc Cert.Router.main_arg6)
      ∧ r.2.mem ((c.tc : Thread Cert.Router.nD Cert.Router.τ).loc Cert.Router.main_arg7) = m ((c.tc : Thread Cert.Router.nD Cert.Router.τ).loc Cert.Router.main_arg7)
      ∧ r.2.mem ((c.tc : Thread Cert.Router.nD Cert.Router.τ).loc Cert.Router.main_arg8) = m ((c.tc : Thread Cert.Router.nD Cert.Router.τ).loc Cert.Router.main_arg8)
      ∧ r.2.mem ((c.tc : Thread Cert.Router.nD Cert.Router.τ).loc Cert.Router.main_arg9) = m ((c.tc : Thread Cert.Router.nD Cert.Router.τ).loc Cert.Router.main_arg9)
      ∧ r.2.mem ((c.tc : Thread Cert.Router.nD Cert.Router.τ).loc Cert.Router.main_arg10) = m ((c.tc : Thread Cert.Router.nD Cert.Router.τ).loc Cert.Router.main_arg10)
      ∧ r.2.mem ((c.tc : Thread Cert.Router.nD Cert.Router.τ).loc Cert.Router.main_arg11) = m ((c.tc : Thread Cert.Router.nD Cert.Router.τ).loc Cert.Router.main_arg11)
      ∧ r.2.mem ((c.tc : Thread Cert.Router.nD Cert.Router.τ).loc Cert.Router.main_arg12) = m ((c.tc : Thread Cert.Router.nD Cert.Router.τ).loc Cert.Router.main_arg12)
      ∧ r.2.mem ((c.tc : Thread Cert.Router.nD Cert.Router.τ).loc Cert.Router.main_arg13) = m ((c.tc : Thread Cert.Router.nD Cert.Router.τ).loc Cert.Router.main_arg13)
      ∧ r.2.mem ((c.tc : Thread Cert.Router.nD Cert.Router.τ).loc Cert.Router.main_arg14) = m ((c.tc : Thread Cert.Router.nD Cert.Router.τ).loc Cert.Router.main_arg14)
      ∧ r.2.mem ((c.tc : Thread Cert.Router.nD Cert.Router.τ).loc Cert.Router.main_arg15) = m ((c.tc : Thread Cert.Router.nD Cert.Router.τ).loc Cert.Router.main_arg15)
      ∧ r.2.mem ((c.tc : Thread Cert.Router.nD Cert.Router.τ).loc Cert.Router.main_arg16) = m ((c.tc : Thread Cert.Router.nD Cert.Router.τ).loc Cert.Router.main_arg16)
      ∧ r.2.mem ((c.tc : Thread Cert.Router.nD Cert.Router.τ).loc Cert.Router.main_arg17) = m ((c.tc : Thread Cert.Router.nD Cert.Router.τ).loc Cert.Router.main_arg17))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
      ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
      ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7)
      ∧ r.2.mem ((c.tc : Thread Cert.RouterIdeal.nD Cert.RouterIdeal.τ).loc Cert.RouterIdeal.main_arg8) = m ((c.tc : Thread Cert.RouterIdeal.nD Cert.RouterIdeal.τ).loc Cert.RouterIdeal.main_arg8)
      ∧ r.2.mem ((c.tc : Thread Cert.RouterIdeal.nD Cert.RouterIdeal.τ).loc Cert.RouterIdeal.main_arg9) = m ((c.tc : Thread Cert.RouterIdeal.nD Cert.RouterIdeal.τ).loc Cert.RouterIdeal.main_arg9)
      ∧ r.2.mem ((c.tc : Thread Cert.RouterIdeal.nD Cert.RouterIdeal.τ).loc Cert.RouterIdeal.main_arg10) = m ((c.tc : Thread Cert.RouterIdeal.nD Cert.RouterIdeal.τ).loc Cert.RouterIdeal.main_arg10)
      ∧ r.2.mem ((c.tc : Thread Cert.RouterIdeal.nD Cert.RouterIdeal.τ).loc Cert.RouterIdeal.main_arg11) = m ((c.tc : Thread Cert.RouterIdeal.nD Cert.RouterIdeal.τ).loc Cert.RouterIdeal.main_arg11)
      ∧ r.2.mem ((c.tc : Thread Cert.RouterIdeal.nD Cert.RouterIdeal.τ).loc Cert.RouterIdeal.main_arg12) = m ((c.tc : Thread Cert.RouterIdeal.nD Cert.RouterIdeal.τ).loc Cert.RouterIdeal.main_arg12)
      ∧ r.2.mem ((c.tc : Thread Cert.RouterIdeal.nD Cert.RouterIdeal.τ).loc Cert.RouterIdeal.main_arg13) = m ((c.tc : Thread Cert.RouterIdeal.nD Cert.RouterIdeal.τ).loc Cert.RouterIdeal.main_arg13)
      ∧ r.2.mem ((c.tc : Thread Cert.RouterIdeal.nD Cert.RouterIdeal.τ).loc Cert.RouterIdeal.main_arg14) = m ((c.tc : Thread Cert.RouterIdeal.nD Cert.RouterIdeal.τ).loc Cert.RouterIdeal.main_arg14)
      ∧ r.2.mem ((c.tc : Thread Cert.RouterIdeal.nD Cert.RouterIdeal.τ).loc Cert.RouterIdeal.main_arg15) = m ((c.tc : Thread Cert.RouterIdeal.nD Cert.RouterIdeal.τ).loc Cert.RouterIdeal.main_arg15)
      ∧ r.2.mem ((c.tc : Thread Cert.RouterIdeal.nD Cert.RouterIdeal.τ).loc Cert.RouterIdeal.main_arg16) = m ((c.tc : Thread Cert.RouterIdeal.nD Cert.RouterIdeal.τ).loc Cert.RouterIdeal.main_arg16)
      ∧ r.2.mem ((c.tc : Thread Cert.RouterIdeal.nD Cert.RouterIdeal.τ).loc Cert.RouterIdeal.main_arg17) = m ((c.tc : Thread Cert.RouterIdeal.nD Cert.RouterIdeal.τ).loc Cert.RouterIdeal.main_arg17))
      ∧ r.2.sem = fun _ => 0)

def quiescent_RouterReferenceIdeal [hRouterReferenceIdeal : Cert.RouterReferenceIdeal.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2)
      ∧ r.2.mem ((c.tc : Thread Cert.RouterReferenceIdeal.nD Cert.RouterReferenceIdeal.τ).loc Cert.RouterReferenceIdeal.main_arg3) = m ((c.tc : Thread Cert.RouterReferenceIdeal.nD Cert.RouterReferenceIdeal.τ).loc Cert.RouterReferenceIdeal.main_arg3)
      ∧ r.2.mem ((c.tc : Thread Cert.RouterReferenceIdeal.nD Cert.RouterReferenceIdeal.τ).loc Cert.RouterReferenceIdeal.main_arg4) = m ((c.tc : Thread Cert.RouterReferenceIdeal.nD Cert.RouterReferenceIdeal.τ).loc Cert.RouterReferenceIdeal.main_arg4)
      ∧ r.2.mem ((c.tc : Thread Cert.RouterReferenceIdeal.nD Cert.RouterReferenceIdeal.τ).loc Cert.RouterReferenceIdeal.main_arg5) = m ((c.tc : Thread Cert.RouterReferenceIdeal.nD Cert.RouterReferenceIdeal.τ).loc Cert.RouterReferenceIdeal.main_arg5)
      ∧ r.2.mem ((c.tc : Thread Cert.RouterReferenceIdeal.nD Cert.RouterReferenceIdeal.τ).loc Cert.RouterReferenceIdeal.main_arg6) = m ((c.tc : Thread Cert.RouterReferenceIdeal.nD Cert.RouterReferenceIdeal.τ).loc Cert.RouterReferenceIdeal.main_arg6)
      ∧ r.2.mem ((c.tc : Thread Cert.RouterReferenceIdeal.nD Cert.RouterReferenceIdeal.τ).loc Cert.RouterReferenceIdeal.main_arg7) = m ((c.tc : Thread Cert.RouterReferenceIdeal.nD Cert.RouterReferenceIdeal.τ).loc Cert.RouterReferenceIdeal.main_arg7)
      ∧ r.2.mem ((c.tc : Thread Cert.RouterReferenceIdeal.nD Cert.RouterReferenceIdeal.τ).loc Cert.RouterReferenceIdeal.main_arg8) = m ((c.tc : Thread Cert.RouterReferenceIdeal.nD Cert.RouterReferenceIdeal.τ).loc Cert.RouterReferenceIdeal.main_arg8)
      ∧ r.2.mem ((c.tc : Thread Cert.RouterReferenceIdeal.nD Cert.RouterReferenceIdeal.τ).loc Cert.RouterReferenceIdeal.main_arg9) = m ((c.tc : Thread Cert.RouterReferenceIdeal.nD Cert.RouterReferenceIdeal.τ).loc Cert.RouterReferenceIdeal.main_arg9)
      ∧ r.2.mem ((c.tc : Thread Cert.RouterReferenceIdeal.nD Cert.RouterReferenceIdeal.τ).loc Cert.RouterReferenceIdeal.main_arg10) = m ((c.tc : Thread Cert.RouterReferenceIdeal.nD Cert.RouterReferenceIdeal.τ).loc Cert.RouterReferenceIdeal.main_arg10)
      ∧ r.2.mem ((c.tc : Thread Cert.RouterReferenceIdeal.nD Cert.RouterReferenceIdeal.τ).loc Cert.RouterReferenceIdeal.main_arg11) = m ((c.tc : Thread Cert.RouterReferenceIdeal.nD Cert.RouterReferenceIdeal.τ).loc Cert.RouterReferenceIdeal.main_arg11)
      ∧ r.2.mem ((c.tc : Thread Cert.RouterReferenceIdeal.nD Cert.RouterReferenceIdeal.τ).loc Cert.RouterReferenceIdeal.main_arg12) = m ((c.tc : Thread Cert.RouterReferenceIdeal.nD Cert.RouterReferenceIdeal.τ).loc Cert.RouterReferenceIdeal.main_arg12)
      ∧ r.2.mem ((c.tc : Thread Cert.RouterReferenceIdeal.nD Cert.RouterReferenceIdeal.τ).loc Cert.RouterReferenceIdeal.main_arg13) = m ((c.tc : Thread Cert.RouterReferenceIdeal.nD Cert.RouterReferenceIdeal.τ).loc Cert.RouterReferenceIdeal.main_arg13)
      ∧ r.2.mem ((c.tc : Thread Cert.RouterReferenceIdeal.nD Cert.RouterReferenceIdeal.τ).loc Cert.RouterReferenceIdeal.main_arg14) = m ((c.tc : Thread Cert.RouterReferenceIdeal.nD Cert.RouterReferenceIdeal.τ).loc Cert.RouterReferenceIdeal.main_arg14)
      ∧ r.2.mem ((c.tc : Thread Cert.RouterReferenceIdeal.nD Cert.RouterReferenceIdeal.τ).loc Cert.RouterReferenceIdeal.main_arg15) = m ((c.tc : Thread Cert.RouterReferenceIdeal.nD Cert.RouterReferenceIdeal.τ).loc Cert.RouterReferenceIdeal.main_arg15)
      ∧ r.2.mem ((c.tc : Thread Cert.RouterReferenceIdeal.nD Cert.RouterReferenceIdeal.τ).loc Cert.RouterReferenceIdeal.main_arg16) = m ((c.tc : Thread Cert.RouterReferenceIdeal.nD Cert.RouterReferenceIdeal.τ).loc Cert.RouterReferenceIdeal.main_arg16)
      ∧ r.2.mem ((c.tc : Thread Cert.RouterReferenceIdeal.nD Cert.RouterReferenceIdeal.τ).loc Cert.RouterReferenceIdeal.main_arg17) = m ((c.tc : Thread Cert.RouterReferenceIdeal.nD Cert.RouterReferenceIdeal.τ).loc Cert.RouterReferenceIdeal.main_arg17))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Grouped_GroupedIdeal : Prop :=
  True

def algebraic_GroupedIdeal_GroupedReferenceIdeal_pre_grouped_finite [hGroupedIdeal : Cert.GroupedIdeal.Facts] [hGroupedReferenceIdeal : Cert.GroupedReferenceIdeal.Facts] [hPre_grouped_finite : Cert.Pre_grouped_finite.Facts] : Prop :=
  ∀ (m : (ℓ : Loc Cert.GroupedIdeal.nD Cert.GroupedIdeal.τ Cert.GroupedIdeal.sig) → Buf (Elt Ideal) ℓ) (g : Dev Cert.GroupedIdeal.nD → PrngReg)
    (m' : (ℓ : Loc Cert.GroupedReferenceIdeal.nD Cert.GroupedReferenceIdeal.τ Cert.GroupedReferenceIdeal.sig) → Buf (Elt Ideal) ℓ) (g' : Dev Cert.GroupedReferenceIdeal.nD → PrngReg), Pre_GroupedIdeal_grouped_finite m →
    (∀ c : Dev Cert.GroupedIdeal.nD,
      m' ((c.tc : Thread Cert.GroupedReferenceIdeal.nD Cert.GroupedReferenceIdeal.τ).loc Cert.GroupedReferenceIdeal.main_arg0) = m ((c.tc : Thread Cert.GroupedIdeal.nD Cert.GroupedIdeal.τ).loc Cert.GroupedIdeal.main_arg0)
      ∧ m' ((c.tc : Thread Cert.GroupedReferenceIdeal.nD Cert.GroupedReferenceIdeal.τ).loc Cert.GroupedReferenceIdeal.main_arg1) = m ((c.tc : Thread Cert.GroupedIdeal.nD Cert.GroupedIdeal.τ).loc Cert.GroupedIdeal.main_arg1)
      ∧ m' ((c.tc : Thread Cert.GroupedReferenceIdeal.nD Cert.GroupedReferenceIdeal.τ).loc Cert.GroupedReferenceIdeal.main_arg2) = m ((c.tc : Thread Cert.GroupedIdeal.nD Cert.GroupedIdeal.τ).loc Cert.GroupedIdeal.main_arg2)
      ∧ m' ((c.tc : Thread Cert.GroupedReferenceIdeal.nD Cert.GroupedReferenceIdeal.τ).loc Cert.GroupedReferenceIdeal.main_arg3) = m ((c.tc : Thread Cert.GroupedIdeal.nD Cert.GroupedIdeal.τ).loc Cert.GroupedIdeal.main_arg3)
      ∧ m' ((c.tc : Thread Cert.GroupedReferenceIdeal.nD Cert.GroupedReferenceIdeal.τ).loc Cert.GroupedReferenceIdeal.main_arg4) = m ((c.tc : Thread Cert.GroupedIdeal.nD Cert.GroupedIdeal.τ).loc Cert.GroupedIdeal.main_arg4)
      ∧ m' ((c.tc : Thread Cert.GroupedReferenceIdeal.nD Cert.GroupedReferenceIdeal.τ).loc Cert.GroupedReferenceIdeal.main_arg5) = m ((c.tc : Thread Cert.GroupedIdeal.nD Cert.GroupedIdeal.τ).loc Cert.GroupedIdeal.main_arg5)
      ∧ m' ((c.tc : Thread Cert.GroupedReferenceIdeal.nD Cert.GroupedReferenceIdeal.τ).loc Cert.GroupedReferenceIdeal.main_arg6) = m ((c.tc : Thread Cert.GroupedIdeal.nD Cert.GroupedIdeal.τ).loc Cert.GroupedIdeal.main_arg6)
      ∧ m' ((c.tc : Thread Cert.GroupedReferenceIdeal.nD Cert.GroupedReferenceIdeal.τ).loc Cert.GroupedReferenceIdeal.main_arg7) = m ((c.tc : Thread Cert.GroupedIdeal.nD Cert.GroupedIdeal.τ).loc Cert.GroupedIdeal.main_arg7)) →
    ∃ (v0 : (c : Dev Cert.GroupedIdeal.nD) → Buf (Elt Ideal) ((c.tc : Thread Cert.GroupedIdeal.nD Cert.GroupedIdeal.τ).loc Cert.GroupedIdeal.main_v39)),
      θ_run (Cert.GroupedIdeal.defs (F := Ideal)) (onTc (τ := Cert.GroupedIdeal.τ) (Cert.GroupedIdeal.main (F := Ideal))) ⟨m, fun _ => 0, g⟩ (fun r => ∀ c : Dev Cert.GroupedIdeal.nD,
          r.2.mem ((c.tc : Thread Cert.GroupedIdeal.nD Cert.GroupedIdeal.τ).loc Cert.GroupedIdeal.main_v39) = v0 c
          ∧ r.2.mem ((c.tc : Thread Cert.GroupedIdeal.nD Cert.GroupedIdeal.τ).loc Cert.GroupedIdeal.main_arg0) = m ((c.tc : Thread Cert.GroupedIdeal.nD Cert.GroupedIdeal.τ).loc Cert.GroupedIdeal.main_arg0)
          ∧ r.2.mem ((c.tc : Thread Cert.GroupedIdeal.nD Cert.GroupedIdeal.τ).loc Cert.GroupedIdeal.main_arg1) = m ((c.tc : Thread Cert.GroupedIdeal.nD Cert.GroupedIdeal.τ).loc Cert.GroupedIdeal.main_arg1)
          ∧ r.2.mem ((c.tc : Thread Cert.GroupedIdeal.nD Cert.GroupedIdeal.τ).loc Cert.GroupedIdeal.main_arg2) = m ((c.tc : Thread Cert.GroupedIdeal.nD Cert.GroupedIdeal.τ).loc Cert.GroupedIdeal.main_arg2)
          ∧ r.2.mem ((c.tc : Thread Cert.GroupedIdeal.nD Cert.GroupedIdeal.τ).loc Cert.GroupedIdeal.main_arg3) = m ((c.tc : Thread Cert.GroupedIdeal.nD Cert.GroupedIdeal.τ).loc Cert.GroupedIdeal.main_arg3)
          ∧ r.2.mem ((c.tc : Thread Cert.GroupedIdeal.nD Cert.GroupedIdeal.τ).loc Cert.GroupedIdeal.main_arg4) = m ((c.tc : Thread Cert.GroupedIdeal.nD Cert.GroupedIdeal.τ).loc Cert.GroupedIdeal.main_arg4)
          ∧ r.2.mem ((c.tc : Thread Cert.GroupedIdeal.nD Cert.GroupedIdeal.τ).loc Cert.GroupedIdeal.main_arg5) = m ((c.tc : Thread Cert.GroupedIdeal.nD Cert.GroupedIdeal.τ).loc Cert.GroupedIdeal.main_arg5)
          ∧ r.2.mem ((c.tc : Thread Cert.GroupedIdeal.nD Cert.GroupedIdeal.τ).loc Cert.GroupedIdeal.main_arg6) = m ((c.tc : Thread Cert.GroupedIdeal.nD Cert.GroupedIdeal.τ).loc Cert.GroupedIdeal.main_arg6)
          ∧ r.2.mem ((c.tc : Thread Cert.GroupedIdeal.nD Cert.GroupedIdeal.τ).loc Cert.GroupedIdeal.main_arg7) = m ((c.tc : Thread Cert.GroupedIdeal.nD Cert.GroupedIdeal.τ).loc Cert.GroupedIdeal.main_arg7))
      ∧ θ_run (Cert.GroupedReferenceIdeal.defs (F := Ideal)) (onTc (τ := Cert.GroupedReferenceIdeal.τ) (Cert.GroupedReferenceIdeal.main (F := Ideal))) ⟨m', fun _ => 0, g'⟩ (fun r => ∀ c : Dev Cert.GroupedReferenceIdeal.nD,
          r.2.mem ((c.tc : Thread Cert.GroupedReferenceIdeal.nD Cert.GroupedReferenceIdeal.τ).loc Cert.GroupedReferenceIdeal.main_v20) = v0 c
          ∧ r.2.mem ((c.tc : Thread Cert.GroupedReferenceIdeal.nD Cert.GroupedReferenceIdeal.τ).loc Cert.GroupedReferenceIdeal.main_arg0) = m' ((c.tc : Thread Cert.GroupedReferenceIdeal.nD Cert.GroupedReferenceIdeal.τ).loc Cert.GroupedReferenceIdeal.main_arg0)
          ∧ r.2.mem ((c.tc : Thread Cert.GroupedReferenceIdeal.nD Cert.GroupedReferenceIdeal.τ).loc Cert.GroupedReferenceIdeal.main_arg1) = m' ((c.tc : Thread Cert.GroupedReferenceIdeal.nD Cert.GroupedReferenceIdeal.τ).loc Cert.GroupedReferenceIdeal.main_arg1)
          ∧ r.2.mem ((c.tc : Thread Cert.GroupedReferenceIdeal.nD Cert.GroupedReferenceIdeal.τ).loc Cert.GroupedReferenceIdeal.main_arg2) = m' ((c.tc : Thread Cert.GroupedReferenceIdeal.nD Cert.GroupedReferenceIdeal.τ).loc Cert.GroupedReferenceIdeal.main_arg2)
          ∧ r.2.mem ((c.tc : Thread Cert.GroupedReferenceIdeal.nD Cert.GroupedReferenceIdeal.τ).loc Cert.GroupedReferenceIdeal.main_arg3) = m' ((c.tc : Thread Cert.GroupedReferenceIdeal.nD Cert.GroupedReferenceIdeal.τ).loc Cert.GroupedReferenceIdeal.main_arg3)
          ∧ r.2.mem ((c.tc : Thread Cert.GroupedReferenceIdeal.nD Cert.GroupedReferenceIdeal.τ).loc Cert.GroupedReferenceIdeal.main_arg4) = m' ((c.tc : Thread Cert.GroupedReferenceIdeal.nD Cert.GroupedReferenceIdeal.τ).loc Cert.GroupedReferenceIdeal.main_arg4)
          ∧ r.2.mem ((c.tc : Thread Cert.GroupedReferenceIdeal.nD Cert.GroupedReferenceIdeal.τ).loc Cert.GroupedReferenceIdeal.main_arg5) = m' ((c.tc : Thread Cert.GroupedReferenceIdeal.nD Cert.GroupedReferenceIdeal.τ).loc Cert.GroupedReferenceIdeal.main_arg5)
          ∧ r.2.mem ((c.tc : Thread Cert.GroupedReferenceIdeal.nD Cert.GroupedReferenceIdeal.τ).loc Cert.GroupedReferenceIdeal.main_arg6) = m' ((c.tc : Thread Cert.GroupedReferenceIdeal.nD Cert.GroupedReferenceIdeal.τ).loc Cert.GroupedReferenceIdeal.main_arg6)
          ∧ r.2.mem ((c.tc : Thread Cert.GroupedReferenceIdeal.nD Cert.GroupedReferenceIdeal.τ).loc Cert.GroupedReferenceIdeal.main_arg7) = m' ((c.tc : Thread Cert.GroupedReferenceIdeal.nD Cert.GroupedReferenceIdeal.τ).loc Cert.GroupedReferenceIdeal.main_arg7))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)
      ∧ m' ((c.tc : Thread Cert.MergeReferenceIdeal.nD Cert.MergeReferenceIdeal.τ).loc Cert.MergeReferenceIdeal.main_arg13) = m ((c.tc : Thread Cert.MergeIdeal.nD Cert.MergeIdeal.τ).loc Cert.MergeIdeal.main_arg13)
      ∧ m' ((c.tc : Thread Cert.MergeReferenceIdeal.nD Cert.MergeReferenceIdeal.τ).loc Cert.MergeReferenceIdeal.main_arg14) = m ((c.tc : Thread Cert.MergeIdeal.nD Cert.MergeIdeal.τ).loc Cert.MergeIdeal.main_arg14)
      ∧ m' ((c.tc : Thread Cert.MergeReferenceIdeal.nD Cert.MergeReferenceIdeal.τ).loc Cert.MergeReferenceIdeal.main_arg15) = m ((c.tc : Thread Cert.MergeIdeal.nD Cert.MergeIdeal.τ).loc Cert.MergeIdeal.main_arg15)
      ∧ m' ((c.tc : Thread Cert.MergeReferenceIdeal.nD Cert.MergeReferenceIdeal.τ).loc Cert.MergeReferenceIdeal.main_arg16) = m ((c.tc : Thread Cert.MergeIdeal.nD Cert.MergeIdeal.τ).loc Cert.MergeIdeal.main_arg16)
      ∧ m' ((c.tc : Thread Cert.MergeReferenceIdeal.nD Cert.MergeReferenceIdeal.τ).loc Cert.MergeReferenceIdeal.main_arg17) = m ((c.tc : Thread Cert.MergeIdeal.nD Cert.MergeIdeal.τ).loc Cert.MergeIdeal.main_arg17)
      ∧ m' ((c.tc : Thread Cert.MergeReferenceIdeal.nD Cert.MergeReferenceIdeal.τ).loc Cert.MergeReferenceIdeal.main_arg18) = m ((c.tc : Thread Cert.MergeIdeal.nD Cert.MergeIdeal.τ).loc Cert.MergeIdeal.main_arg18)) →
    ∃ (v0 : (c : Dev Cert.MergeIdeal.nD) → Buf (Elt Ideal) ((c.tc : Thread Cert.MergeIdeal.nD Cert.MergeIdeal.τ).loc Cert.MergeIdeal.main_v30)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v30) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
          ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
          ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
          ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v115) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13)
          ∧ r.2.mem ((c.tc : Thread Cert.MergeReferenceIdeal.nD Cert.MergeReferenceIdeal.τ).loc Cert.MergeReferenceIdeal.main_arg14) = m' ((c.tc : Thread Cert.MergeReferenceIdeal.nD Cert.MergeReferenceIdeal.τ).loc Cert.MergeReferenceIdeal.main_arg14)
          ∧ r.2.mem ((c.tc : Thread Cert.MergeReferenceIdeal.nD Cert.MergeReferenceIdeal.τ).loc Cert.MergeReferenceIdeal.main_arg15) = m' ((c.tc : Thread Cert.MergeReferenceIdeal.nD Cert.MergeReferenceIdeal.τ).loc Cert.MergeReferenceIdeal.main_arg15)
          ∧ r.2.mem ((c.tc : Thread Cert.MergeReferenceIdeal.nD Cert.MergeReferenceIdeal.τ).loc Cert.MergeReferenceIdeal.main_arg16) = m' ((c.tc : Thread Cert.MergeReferenceIdeal.nD Cert.MergeReferenceIdeal.τ).loc Cert.MergeReferenceIdeal.main_arg16)
          ∧ r.2.mem ((c.tc : Thread Cert.MergeReferenceIdeal.nD Cert.MergeReferenceIdeal.τ).loc Cert.MergeReferenceIdeal.main_arg17) = m' ((c.tc : Thread Cert.MergeReferenceIdeal.nD Cert.MergeReferenceIdeal.τ).loc Cert.MergeReferenceIdeal.main_arg17)
          ∧ r.2.mem ((c.tc : Thread Cert.MergeReferenceIdeal.nD Cert.MergeReferenceIdeal.τ).loc Cert.MergeReferenceIdeal.main_arg18) = m' ((c.tc : Thread Cert.MergeReferenceIdeal.nD Cert.MergeReferenceIdeal.τ).loc Cert.MergeReferenceIdeal.main_arg18))

def preserves_Mixer_MixerIdeal : Prop :=
  True

def algebraic_MixerIdeal_MixerReferenceIdeal [hMixerIdeal : Cert.MixerIdeal.Facts] [hMixerReferenceIdeal : Cert.MixerReferenceIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerReferenceIdeal.nD Cert.MixerReferenceIdeal.τ Cert.MixerReferenceIdeal.sig) → Buf (Elt Ideal) ℓ) (g' : Dev Cert.MixerReferenceIdeal.nD → PrngReg), Pre_MixerIdeal m →
    (∀ c : Dev Cert.MixerIdeal.nD,
      m' ((c.tc : Thread Cert.MixerReferenceIdeal.nD Cert.MixerReferenceIdeal.τ).loc Cert.MixerReferenceIdeal.main_arg0) = m ((c.tc : Thread Cert.MixerIdeal.nD Cert.MixerIdeal.τ).loc Cert.MixerIdeal.main_arg0)
      ∧ m' ((c.tc : Thread Cert.MixerReferenceIdeal.nD Cert.MixerReferenceIdeal.τ).loc Cert.MixerReferenceIdeal.main_arg1) = m ((c.tc : Thread Cert.MixerIdeal.nD Cert.MixerIdeal.τ).loc Cert.MixerIdeal.main_arg1)
      ∧ m' ((c.tc : Thread Cert.MixerReferenceIdeal.nD Cert.MixerReferenceIdeal.τ).loc Cert.MixerReferenceIdeal.main_arg2) = m ((c.tc : Thread Cert.MixerIdeal.nD Cert.MixerIdeal.τ).loc Cert.MixerIdeal.main_arg2)
      ∧ m' ((c.tc : Thread Cert.MixerReferenceIdeal.nD Cert.MixerReferenceIdeal.τ).loc Cert.MixerReferenceIdeal.main_arg3) = m ((c.tc : Thread Cert.MixerIdeal.nD Cert.MixerIdeal.τ).loc Cert.MixerIdeal.main_arg3)
      ∧ m' ((c.tc : Thread Cert.MixerReferenceIdeal.nD Cert.MixerReferenceIdeal.τ).loc Cert.MixerReferenceIdeal.main_arg4) = m ((c.tc : Thread Cert.MixerIdeal.nD Cert.MixerIdeal.τ).loc Cert.MixerIdeal.main_arg4)
      ∧ m' ((c.tc : Thread Cert.MixerReferenceIdeal.nD Cert.MixerReferenceIdeal.τ).loc Cert.MixerReferenceIdeal.main_arg5) = m ((c.tc : Thread Cert.MixerIdeal.nD Cert.MixerIdeal.τ).loc Cert.MixerIdeal.main_arg5)
      ∧ m' ((c.tc : Thread Cert.MixerReferenceIdeal.nD Cert.MixerReferenceIdeal.τ).loc Cert.MixerReferenceIdeal.main_arg6) = m ((c.tc : Thread Cert.MixerIdeal.nD Cert.MixerIdeal.τ).loc Cert.MixerIdeal.main_arg6)
      ∧ m' ((c.tc : Thread Cert.MixerReferenceIdeal.nD Cert.MixerReferenceIdeal.τ).loc Cert.MixerReferenceIdeal.main_arg7) = m ((c.tc : Thread Cert.MixerIdeal.nD Cert.MixerIdeal.τ).loc Cert.MixerIdeal.main_arg7)
      ∧ m' ((c.tc : Thread Cert.MixerReferenceIdeal.nD Cert.MixerReferenceIdeal.τ).loc Cert.MixerReferenceIdeal.main_arg8) = m ((c.tc : Thread Cert.MixerIdeal.nD Cert.MixerIdeal.τ).loc Cert.MixerIdeal.main_arg8)
      ∧ m' ((c.tc : Thread Cert.MixerReferenceIdeal.nD Cert.MixerReferenceIdeal.τ).loc Cert.MixerReferenceIdeal.main_arg9) = m ((c.tc : Thread Cert.MixerIdeal.nD Cert.MixerIdeal.τ).loc Cert.MixerIdeal.main_arg9)
      ∧ m' ((c.tc : Thread Cert.MixerReferenceIdeal.nD Cert.MixerReferenceIdeal.τ).loc Cert.MixerReferenceIdeal.main_arg10) = m ((c.tc : Thread Cert.MixerIdeal.nD Cert.MixerIdeal.τ).loc Cert.MixerIdeal.main_arg10)
      ∧ m' ((c.tc : Thread Cert.MixerReferenceIdeal.nD Cert.MixerReferenceIdeal.τ).loc Cert.MixerReferenceIdeal.main_arg11) = m ((c.tc : Thread Cert.MixerIdeal.nD Cert.MixerIdeal.τ).loc Cert.MixerIdeal.main_arg11)) →
    ∃ (v0 : (c : Dev Cert.MixerIdeal.nD) → Buf (Elt Ideal) ((c.tc : Thread Cert.MixerIdeal.nD Cert.MixerIdeal.τ).loc Cert.MixerIdeal.main_v148_0)) (v1 : (c : Dev Cert.MixerIdeal.nD) → Buf (Elt Ideal) ((c.tc : Thread Cert.MixerIdeal.nD Cert.MixerIdeal.τ).loc Cert.MixerIdeal.main_v148_1)) (v2 : (c : Dev Cert.MixerIdeal.nD) → Buf (Elt Ideal) ((c.tc : Thread Cert.MixerIdeal.nD Cert.MixerIdeal.τ).loc Cert.MixerIdeal.main_v148_2)) (v3 : (c : Dev Cert.MixerIdeal.nD) → Buf (Elt Ideal) ((c.tc : Thread Cert.MixerIdeal.nD Cert.MixerIdeal.τ).loc Cert.MixerIdeal.main_v148_9)) (v4 : (c : Dev Cert.MixerIdeal.nD) → Buf (Elt Ideal) ((c.tc : Thread Cert.MixerIdeal.nD Cert.MixerIdeal.τ).loc Cert.MixerIdeal.main_v148_5)) (v5 : (c : Dev Cert.MixerIdeal.nD) → Buf (Elt Ideal) ((c.tc : Thread Cert.MixerIdeal.nD Cert.MixerIdeal.τ).loc Cert.MixerIdeal.main_v148_8)) (v6 : (c : Dev Cert.MixerIdeal.nD) → Buf (Elt Ideal) ((c.tc : Thread Cert.MixerIdeal.nD Cert.MixerIdeal.τ).loc Cert.MixerIdeal.main_v148_4)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v148_0) = v0 c
          ∧ r.2.mem ((c.tc : Thread Cert.MixerIdeal.nD Cert.MixerIdeal.τ).loc Cert.MixerIdeal.main_v148_1) = v1 c
          ∧ r.2.mem ((c.tc : Thread Cert.MixerIdeal.nD Cert.MixerIdeal.τ).loc Cert.MixerIdeal.main_v148_2) = v2 c
          ∧ r.2.mem ((c.tc : Thread Cert.MixerIdeal.nD Cert.MixerIdeal.τ).loc Cert.MixerIdeal.main_v148_9) = v3 c
          ∧ r.2.mem ((c.tc : Thread Cert.MixerIdeal.nD Cert.MixerIdeal.τ).loc Cert.MixerIdeal.main_v148_5) = v4 c
          ∧ r.2.mem ((c.tc : Thread Cert.MixerIdeal.nD Cert.MixerIdeal.τ).loc Cert.MixerIdeal.main_v148_8) = v5 c
          ∧ r.2.mem ((c.tc : Thread Cert.MixerIdeal.nD Cert.MixerIdeal.τ).loc Cert.MixerIdeal.main_v148_4) = v6 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
          ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11))
      ∧ θ_run (Cert.MixerReferenceIdeal.defs (F := Ideal)) (onTc (τ := Cert.MixerReferenceIdeal.τ) (Cert.MixerReferenceIdeal.main (F := Ideal))) ⟨m', fun _ => 0, g'⟩ (fun r => ∀ c : Dev Cert.MixerReferenceIdeal.nD,
          r.2.mem ((c.tc : Thread Cert.MixerReferenceIdeal.nD Cert.MixerReferenceIdeal.τ).loc Cert.MixerReferenceIdeal.main_v81) = v0 c
          ∧ r.2.mem ((c.tc : Thread Cert.MixerReferenceIdeal.nD Cert.MixerReferenceIdeal.τ).loc Cert.MixerReferenceIdeal.main_v84) = v1 c
          ∧ r.2.mem ((c.tc : Thread Cert.MixerReferenceIdeal.nD Cert.MixerReferenceIdeal.τ).loc Cert.MixerReferenceIdeal.main_v87) = v2 c
          ∧ r.2.mem ((c.tc : Thread Cert.MixerReferenceIdeal.nD Cert.MixerReferenceIdeal.τ).loc Cert.MixerReferenceIdeal.main_v90) = v3 c
          ∧ r.2.mem ((c.tc : Thread Cert.MixerReferenceIdeal.nD Cert.MixerReferenceIdeal.τ).loc Cert.MixerReferenceIdeal.main_v143) = v4 c
          ∧ r.2.mem ((c.tc : Thread Cert.MixerReferenceIdeal.nD Cert.MixerReferenceIdeal.τ).loc Cert.MixerReferenceIdeal.main_v146) = v5 c
          ∧ r.2.mem ((c.tc : Thread Cert.MixerReferenceIdeal.nD Cert.MixerReferenceIdeal.τ).loc Cert.MixerReferenceIdeal.main_v226) = v6 c
          ∧ r.2.mem ((c.tc : Thread Cert.MixerReferenceIdeal.nD Cert.MixerReferenceIdeal.τ).loc Cert.MixerReferenceIdeal.main_arg0) = m' ((c.tc : Thread Cert.MixerReferenceIdeal.nD Cert.MixerReferenceIdeal.τ).loc Cert.MixerReferenceIdeal.main_arg0)
          ∧ r.2.mem ((c.tc : Thread Cert.MixerReferenceIdeal.nD Cert.MixerReferenceIdeal.τ).loc Cert.MixerReferenceIdeal.main_arg1) = m' ((c.tc : Thread Cert.MixerReferenceIdeal.nD Cert.MixerReferenceIdeal.τ).loc Cert.MixerReferenceIdeal.main_arg1)
          ∧ r.2.mem ((c.tc : Thread Cert.MixerReferenceIdeal.nD Cert.MixerReferenceIdeal.τ).loc Cert.MixerReferenceIdeal.main_arg2) = m' ((c.tc : Thread Cert.MixerReferenceIdeal.nD Cert.MixerReferenceIdeal.τ).loc Cert.MixerReferenceIdeal.main_arg2)
          ∧ r.2.mem ((c.tc : Thread Cert.MixerReferenceIdeal.nD Cert.MixerReferenceIdeal.τ).loc Cert.MixerReferenceIdeal.main_arg3) = m' ((c.tc : Thread Cert.MixerReferenceIdeal.nD Cert.MixerReferenceIdeal.τ).loc Cert.MixerReferenceIdeal.main_arg3)
          ∧ r.2.mem ((c.tc : Thread Cert.MixerReferenceIdeal.nD Cert.MixerReferenceIdeal.τ).loc Cert.MixerReferenceIdeal.main_arg4) = m' ((c.tc : Thread Cert.MixerReferenceIdeal.nD Cert.MixerReferenceIdeal.τ).loc Cert.MixerReferenceIdeal.main_arg4)
          ∧ r.2.mem ((c.tc : Thread Cert.MixerReferenceIdeal.nD Cert.MixerReferenceIdeal.τ).loc Cert.MixerReferenceIdeal.main_arg5) = m' ((c.tc : Thread Cert.MixerReferenceIdeal.nD Cert.MixerReferenceIdeal.τ).loc Cert.MixerReferenceIdeal.main_arg5)
          ∧ r.2.mem ((c.tc : Thread Cert.MixerReferenceIdeal.nD Cert.MixerReferenceIdeal.τ).loc Cert.MixerReferenceIdeal.main_arg6) = m' ((c.tc : Thread Cert.MixerReferenceIdeal.nD Cert.MixerReferenceIdeal.τ).loc Cert.MixerReferenceIdeal.main_arg6)
          ∧ r.2.mem ((c.tc : Thread Cert.MixerReferenceIdeal.nD Cert.MixerReferenceIdeal.τ).loc Cert.MixerReferenceIdeal.main_arg7) = m' ((c.tc : Thread Cert.MixerReferenceIdeal.nD Cert.MixerReferenceIdeal.τ).loc Cert.MixerReferenceIdeal.main_arg7)
          ∧ r.2.mem ((c.tc : Thread Cert.MixerReferenceIdeal.nD Cert.MixerReferenceIdeal.τ).loc Cert.MixerReferenceIdeal.main_arg8) = m' ((c.tc : Thread Cert.MixerReferenceIdeal.nD Cert.MixerReferenceIdeal.τ).loc Cert.MixerReferenceIdeal.main_arg8)
          ∧ r.2.mem ((c.tc : Thread Cert.MixerReferenceIdeal.nD Cert.MixerReferenceIdeal.τ).loc Cert.MixerReferenceIdeal.main_arg9) = m' ((c.tc : Thread Cert.MixerReferenceIdeal.nD Cert.MixerReferenceIdeal.τ).loc Cert.MixerReferenceIdeal.main_arg9)
          ∧ r.2.mem ((c.tc : Thread Cert.MixerReferenceIdeal.nD Cert.MixerReferenceIdeal.τ).loc Cert.MixerReferenceIdeal.main_arg10) = m' ((c.tc : Thread Cert.MixerReferenceIdeal.nD Cert.MixerReferenceIdeal.τ).loc Cert.MixerReferenceIdeal.main_arg10)
          ∧ r.2.mem ((c.tc : Thread Cert.MixerReferenceIdeal.nD Cert.MixerReferenceIdeal.τ).loc Cert.MixerReferenceIdeal.main_arg11) = m' ((c.tc : Thread Cert.MixerReferenceIdeal.nD Cert.MixerReferenceIdeal.τ).loc Cert.MixerReferenceIdeal.main_arg11))

def preserves_Router_RouterIdeal : Prop :=
  True

def algebraic_RouterIdeal_RouterReferenceIdeal [hRouterIdeal : Cert.RouterIdeal.Facts] [hRouterReferenceIdeal : Cert.RouterReferenceIdeal.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterIdeal m →
    (∀ c : Dev Cert.RouterIdeal.nD,
      m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)
      ∧ m' ((c.tc : Thread Cert.RouterReferenceIdeal.nD Cert.RouterReferenceIdeal.τ).loc Cert.RouterReferenceIdeal.main_arg2) = m ((c.tc : Thread Cert.RouterIdeal.nD Cert.RouterIdeal.τ).loc Cert.RouterIdeal.main_arg2)
      ∧ m' ((c.tc : Thread Cert.RouterReferenceIdeal.nD Cert.RouterReferenceIdeal.τ).loc Cert.RouterReferenceIdeal.main_arg3) = m ((c.tc : Thread Cert.RouterIdeal.nD Cert.RouterIdeal.τ).loc Cert.RouterIdeal.main_arg3)
      ∧ m' ((c.tc : Thread Cert.RouterReferenceIdeal.nD Cert.RouterReferenceIdeal.τ).loc Cert.RouterReferenceIdeal.main_arg4) = m ((c.tc : Thread Cert.RouterIdeal.nD Cert.RouterIdeal.τ).loc Cert.RouterIdeal.main_arg4)
      ∧ m' ((c.tc : Thread Cert.RouterReferenceIdeal.nD Cert.RouterReferenceIdeal.τ).loc Cert.RouterReferenceIdeal.main_arg5) = m ((c.tc : Thread Cert.RouterIdeal.nD Cert.RouterIdeal.τ).loc Cert.RouterIdeal.main_arg5)
      ∧ m' ((c.tc : Thread Cert.RouterReferenceIdeal.nD Cert.RouterReferenceIdeal.τ).loc Cert.RouterReferenceIdeal.main_arg6) = m ((c.tc : Thread Cert.RouterIdeal.nD Cert.RouterIdeal.τ).loc Cert.RouterIdeal.main_arg6)
      ∧ m' ((c.tc : Thread Cert.RouterReferenceIdeal.nD Cert.RouterReferenceIdeal.τ).loc Cert.RouterReferenceIdeal.main_arg7) = m ((c.tc : Thread Cert.RouterIdeal.nD Cert.RouterIdeal.τ).loc Cert.RouterIdeal.main_arg7)
      ∧ m' ((c.tc : Thread Cert.RouterReferenceIdeal.nD Cert.RouterReferenceIdeal.τ).loc Cert.RouterReferenceIdeal.main_arg8) = m ((c.tc : Thread Cert.RouterIdeal.nD Cert.RouterIdeal.τ).loc Cert.RouterIdeal.main_arg8)
      ∧ m' ((c.tc : Thread Cert.RouterReferenceIdeal.nD Cert.RouterReferenceIdeal.τ).loc Cert.RouterReferenceIdeal.main_arg9) = m ((c.tc : Thread Cert.RouterIdeal.nD Cert.RouterIdeal.τ).loc Cert.RouterIdeal.main_arg9)
      ∧ m' ((c.tc : Thread Cert.RouterReferenceIdeal.nD Cert.RouterReferenceIdeal.τ).loc Cert.RouterReferenceIdeal.main_arg10) = m ((c.tc : Thread Cert.RouterIdeal.nD Cert.RouterIdeal.τ).loc Cert.RouterIdeal.main_arg10)
      ∧ m' ((c.tc : Thread Cert.RouterReferenceIdeal.nD Cert.RouterReferenceIdeal.τ).loc Cert.RouterReferenceIdeal.main_arg11) = m ((c.tc : Thread Cert.RouterIdeal.nD Cert.RouterIdeal.τ).loc Cert.RouterIdeal.main_arg11)
      ∧ m' ((c.tc : Thread Cert.RouterReferenceIdeal.nD Cert.RouterReferenceIdeal.τ).loc Cert.RouterReferenceIdeal.main_arg12) = m ((c.tc : Thread Cert.RouterIdeal.nD Cert.RouterIdeal.τ).loc Cert.RouterIdeal.main_arg12)
      ∧ m' ((c.tc : Thread Cert.RouterReferenceIdeal.nD Cert.RouterReferenceIdeal.τ).loc Cert.RouterReferenceIdeal.main_arg13) = m ((c.tc : Thread Cert.RouterIdeal.nD Cert.RouterIdeal.τ).loc Cert.RouterIdeal.main_arg13)
      ∧ m' ((c.tc : Thread Cert.RouterReferenceIdeal.nD Cert.RouterReferenceIdeal.τ).loc Cert.RouterReferenceIdeal.main_arg14) = m ((c.tc : Thread Cert.RouterIdeal.nD Cert.RouterIdeal.τ).loc Cert.RouterIdeal.main_arg14)
      ∧ m' ((c.tc : Thread Cert.RouterReferenceIdeal.nD Cert.RouterReferenceIdeal.τ).loc Cert.RouterReferenceIdeal.main_arg15) = m ((c.tc : Thread Cert.RouterIdeal.nD Cert.RouterIdeal.τ).loc Cert.RouterIdeal.main_arg15)
      ∧ m' ((c.tc : Thread Cert.RouterReferenceIdeal.nD Cert.RouterReferenceIdeal.τ).loc Cert.RouterReferenceIdeal.main_arg16) = m ((c.tc : Thread Cert.RouterIdeal.nD Cert.RouterIdeal.τ).loc Cert.RouterIdeal.main_arg16)
      ∧ m' ((c.tc : Thread Cert.RouterReferenceIdeal.nD Cert.RouterReferenceIdeal.τ).loc Cert.RouterReferenceIdeal.main_arg17) = m ((c.tc : Thread Cert.RouterIdeal.nD Cert.RouterIdeal.τ).loc Cert.RouterIdeal.main_arg17)) →
    ∃ (v0 : (c : Dev Cert.RouterIdeal.nD) → Buf (Elt Ideal) ((c.tc : Thread Cert.RouterIdeal.nD Cert.RouterIdeal.τ).loc Cert.RouterIdeal.main_v33_0)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v33_0) = v0 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
          ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
          ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
          ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7)
          ∧ r.2.mem ((c.tc : Thread Cert.RouterIdeal.nD Cert.RouterIdeal.τ).loc Cert.RouterIdeal.main_arg8) = m ((c.tc : Thread Cert.RouterIdeal.nD Cert.RouterIdeal.τ).loc Cert.RouterIdeal.main_arg8)
          ∧ r.2.mem ((c.tc : Thread Cert.RouterIdeal.nD Cert.RouterIdeal.τ).loc Cert.RouterIdeal.main_arg9) = m ((c.tc : Thread Cert.RouterIdeal.nD Cert.RouterIdeal.τ).loc Cert.RouterIdeal.main_arg9)
          ∧ r.2.mem ((c.tc : Thread Cert.RouterIdeal.nD Cert.RouterIdeal.τ).loc Cert.RouterIdeal.main_arg10) = m ((c.tc : Thread Cert.RouterIdeal.nD Cert.RouterIdeal.τ).loc Cert.RouterIdeal.main_arg10)
          ∧ r.2.mem ((c.tc : Thread Cert.RouterIdeal.nD Cert.RouterIdeal.τ).loc Cert.RouterIdeal.main_arg11) = m ((c.tc : Thread Cert.RouterIdeal.nD Cert.RouterIdeal.τ).loc Cert.RouterIdeal.main_arg11)
          ∧ r.2.mem ((c.tc : Thread Cert.RouterIdeal.nD Cert.RouterIdeal.τ).loc Cert.RouterIdeal.main_arg12) = m ((c.tc : Thread Cert.RouterIdeal.nD Cert.RouterIdeal.τ).loc Cert.RouterIdeal.main_arg12)
          ∧ r.2.mem ((c.tc : Thread Cert.RouterIdeal.nD Cert.RouterIdeal.τ).loc Cert.RouterIdeal.main_arg13) = m ((c.tc : Thread Cert.RouterIdeal.nD Cert.RouterIdeal.τ).loc Cert.RouterIdeal.main_arg13)
          ∧ r.2.mem ((c.tc : Thread Cert.RouterIdeal.nD Cert.RouterIdeal.τ).loc Cert.RouterIdeal.main_arg14) = m ((c.tc : Thread Cert.RouterIdeal.nD Cert.RouterIdeal.τ).loc Cert.RouterIdeal.main_arg14)
          ∧ r.2.mem ((c.tc : Thread Cert.RouterIdeal.nD Cert.RouterIdeal.τ).loc Cert.RouterIdeal.main_arg15) = m ((c.tc : Thread Cert.RouterIdeal.nD Cert.RouterIdeal.τ).loc Cert.RouterIdeal.main_arg15)
          ∧ r.2.mem ((c.tc : Thread Cert.RouterIdeal.nD Cert.RouterIdeal.τ).loc Cert.RouterIdeal.main_arg16) = m ((c.tc : Thread Cert.RouterIdeal.nD Cert.RouterIdeal.τ).loc Cert.RouterIdeal.main_arg16)
          ∧ r.2.mem ((c.tc : Thread Cert.RouterIdeal.nD Cert.RouterIdeal.τ).loc Cert.RouterIdeal.main_arg17) = m ((c.tc : Thread Cert.RouterIdeal.nD Cert.RouterIdeal.τ).loc Cert.RouterIdeal.main_arg17))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          r.2.mem ((c.tc : Thread Cert.RouterReferenceIdeal.nD Cert.RouterReferenceIdeal.τ).loc Cert.RouterReferenceIdeal.main_v56) = v0 c
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1)
          ∧ r.2.mem ((c.tc : Thread Cert.RouterReferenceIdeal.nD Cert.RouterReferenceIdeal.τ).loc Cert.RouterReferenceIdeal.main_arg2) = m' ((c.tc : Thread Cert.RouterReferenceIdeal.nD Cert.RouterReferenceIdeal.τ).loc Cert.RouterReferenceIdeal.main_arg2)
          ∧ r.2.mem ((c.tc : Thread Cert.RouterReferenceIdeal.nD Cert.RouterReferenceIdeal.τ).loc Cert.RouterReferenceIdeal.main_arg3) = m' ((c.tc : Thread Cert.RouterReferenceIdeal.nD Cert.RouterReferenceIdeal.τ).loc Cert.RouterReferenceIdeal.main_arg3)
          ∧ r.2.mem ((c.tc : Thread Cert.RouterReferenceIdeal.nD Cert.RouterReferenceIdeal.τ).loc Cert.RouterReferenceIdeal.main_arg4) = m' ((c.tc : Thread Cert.RouterReferenceIdeal.nD Cert.RouterReferenceIdeal.τ).loc Cert.RouterReferenceIdeal.main_arg4)
          ∧ r.2.mem ((c.tc : Thread Cert.RouterReferenceIdeal.nD Cert.RouterReferenceIdeal.τ).loc Cert.RouterReferenceIdeal.main_arg5) = m' ((c.tc : Thread Cert.RouterReferenceIdeal.nD Cert.RouterReferenceIdeal.τ).loc Cert.RouterReferenceIdeal.main_arg5)
          ∧ r.2.mem ((c.tc : Thread Cert.RouterReferenceIdeal.nD Cert.RouterReferenceIdeal.τ).loc Cert.RouterReferenceIdeal.main_arg6) = m' ((c.tc : Thread Cert.RouterReferenceIdeal.nD Cert.RouterReferenceIdeal.τ).loc Cert.RouterReferenceIdeal.main_arg6)
          ∧ r.2.mem ((c.tc : Thread Cert.RouterReferenceIdeal.nD Cert.RouterReferenceIdeal.τ).loc Cert.RouterReferenceIdeal.main_arg7) = m' ((c.tc : Thread Cert.RouterReferenceIdeal.nD Cert.RouterReferenceIdeal.τ).loc Cert.RouterReferenceIdeal.main_arg7)
          ∧ r.2.mem ((c.tc : Thread Cert.RouterReferenceIdeal.nD Cert.RouterReferenceIdeal.τ).loc Cert.RouterReferenceIdeal.main_arg8) = m' ((c.tc : Thread Cert.RouterReferenceIdeal.nD Cert.RouterReferenceIdeal.τ).loc Cert.RouterReferenceIdeal.main_arg8)
          ∧ r.2.mem ((c.tc : Thread Cert.RouterReferenceIdeal.nD Cert.RouterReferenceIdeal.τ).loc Cert.RouterReferenceIdeal.main_arg9) = m' ((c.tc : Thread Cert.RouterReferenceIdeal.nD Cert.RouterReferenceIdeal.τ).loc Cert.RouterReferenceIdeal.main_arg9)
          ∧ r.2.mem ((c.tc : Thread Cert.RouterReferenceIdeal.nD Cert.RouterReferenceIdeal.τ).loc Cert.RouterReferenceIdeal.main_arg10) = m' ((c.tc : Thread Cert.RouterReferenceIdeal.nD Cert.RouterReferenceIdeal.τ).loc Cert.RouterReferenceIdeal.main_arg10)
          ∧ r.2.mem ((c.tc : Thread Cert.RouterReferenceIdeal.nD Cert.RouterReferenceIdeal.τ).loc Cert.RouterReferenceIdeal.main_arg11) = m' ((c.tc : Thread Cert.RouterReferenceIdeal.nD Cert.RouterReferenceIdeal.τ).loc Cert.RouterReferenceIdeal.main_arg11)
          ∧ r.2.mem ((c.tc : Thread Cert.RouterReferenceIdeal.nD Cert.RouterReferenceIdeal.τ).loc Cert.RouterReferenceIdeal.main_arg12) = m' ((c.tc : Thread Cert.RouterReferenceIdeal.nD Cert.RouterReferenceIdeal.τ).loc Cert.RouterReferenceIdeal.main_arg12)
          ∧ r.2.mem ((c.tc : Thread Cert.RouterReferenceIdeal.nD Cert.RouterReferenceIdeal.τ).loc Cert.RouterReferenceIdeal.main_arg13) = m' ((c.tc : Thread Cert.RouterReferenceIdeal.nD Cert.RouterReferenceIdeal.τ).loc Cert.RouterReferenceIdeal.main_arg13)
          ∧ r.2.mem ((c.tc : Thread Cert.RouterReferenceIdeal.nD Cert.RouterReferenceIdeal.τ).loc Cert.RouterReferenceIdeal.main_arg14) = m' ((c.tc : Thread Cert.RouterReferenceIdeal.nD Cert.RouterReferenceIdeal.τ).loc Cert.RouterReferenceIdeal.main_arg14)
          ∧ r.2.mem ((c.tc : Thread Cert.RouterReferenceIdeal.nD Cert.RouterReferenceIdeal.τ).loc Cert.RouterReferenceIdeal.main_arg15) = m' ((c.tc : Thread Cert.RouterReferenceIdeal.nD Cert.RouterReferenceIdeal.τ).loc Cert.RouterReferenceIdeal.main_arg15)
          ∧ r.2.mem ((c.tc : Thread Cert.RouterReferenceIdeal.nD Cert.RouterReferenceIdeal.τ).loc Cert.RouterReferenceIdeal.main_arg16) = m' ((c.tc : Thread Cert.RouterReferenceIdeal.nD Cert.RouterReferenceIdeal.τ).loc Cert.RouterReferenceIdeal.main_arg16)
          ∧ r.2.mem ((c.tc : Thread Cert.RouterReferenceIdeal.nD Cert.RouterReferenceIdeal.τ).loc Cert.RouterReferenceIdeal.main_arg17) = m' ((c.tc : Thread Cert.RouterReferenceIdeal.nD Cert.RouterReferenceIdeal.τ).loc Cert.RouterReferenceIdeal.main_arg17))

def Claim : Prop :=
  ∃ (hKernel : Cert.Kernel.Facts) (hKernelIdeal : Cert.KernelIdeal.Facts) (hReferenceIdeal : Cert.ReferenceIdeal.Facts) (hGrouped : Cert.Grouped.Facts) (hGroupedIdeal : Cert.GroupedIdeal.Facts) (hGroupedReferenceIdeal : Cert.GroupedReferenceIdeal.Facts) (hMerge : Cert.Merge.Facts) (hMergeIdeal : Cert.MergeIdeal.Facts) (hMergeReferenceIdeal : Cert.MergeReferenceIdeal.Facts) (hMixer : Cert.Mixer.Facts) (hMixerIdeal : Cert.MixerIdeal.Facts) (hMixerReferenceIdeal : Cert.MixerReferenceIdeal.Facts) (hRouter : Cert.Router.Facts) (hRouterIdeal : Cert.RouterIdeal.Facts) (hRouterReferenceIdeal : Cert.RouterReferenceIdeal.Facts) (hPre_scores_finite : Cert.Pre_scores_finite.Facts) (hPre_grouped_finite : Cert.Pre_grouped_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Grouped (hGrouped := hGrouped)
    ∧ quiescent_GroupedIdeal (hGroupedIdeal := hGroupedIdeal)
    ∧ quiescent_GroupedIdeal_pre_grouped_finite (hGroupedIdeal := hGroupedIdeal) (hPre_grouped_finite := hPre_grouped_finite)
    ∧ quiescent_GroupedReferenceIdeal (hGroupedReferenceIdeal := hGroupedReferenceIdeal)
    ∧ quiescent_GroupedReferenceIdeal_pre_grouped_finite (hGroupedReferenceIdeal := hGroupedReferenceIdeal) (hPre_grouped_finite := hPre_grouped_finite)
    ∧ quiescent_Merge (hMerge := hMerge)
    ∧ quiescent_MergeIdeal (hMergeIdeal := hMergeIdeal)
    ∧ quiescent_MergeReferenceIdeal (hMergeReferenceIdeal := hMergeReferenceIdeal)
    ∧ quiescent_Mixer (hMixer := hMixer)
    ∧ quiescent_MixerIdeal (hMixerIdeal := hMixerIdeal)
    ∧ quiescent_MixerReferenceIdeal (hMixerReferenceIdeal := hMixerReferenceIdeal)
    ∧ quiescent_Router (hRouter := hRouter)
    ∧ quiescent_RouterIdeal (hRouterIdeal := hRouterIdeal)
    ∧ quiescent_RouterReferenceIdeal (hRouterReferenceIdeal := hRouterReferenceIdeal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Grouped_GroupedIdeal
    ∧ algebraic_GroupedIdeal_GroupedReferenceIdeal_pre_grouped_finite (hGroupedIdeal := hGroupedIdeal) (hGroupedReferenceIdeal := hGroupedReferenceIdeal) (hPre_grouped_finite := hPre_grouped_finite)
    ∧ preserves_Merge_MergeIdeal
    ∧ algebraic_MergeIdeal_MergeReferenceIdeal (hMergeIdeal := hMergeIdeal) (hMergeReferenceIdeal := hMergeReferenceIdeal)
    ∧ preserves_Mixer_MixerIdeal
    ∧ algebraic_MixerIdeal_MixerReferenceIdeal (hMixerIdeal := hMixerIdeal) (hMixerReferenceIdeal := hMixerReferenceIdeal)
    ∧ preserves_Router_RouterIdeal
    ∧ algebraic_RouterIdeal_RouterReferenceIdeal (hRouterIdeal := hRouterIdeal) (hRouterReferenceIdeal := hRouterReferenceIdeal)
-- ==== Pre_grouped_finite.lean ====
abbrev S8x4096x2x4x64 : Shape := ⟨5, ![8, 4096, 2, 4, 64]⟩
abbrev S8x4096x2x64 : Shape := ⟨4, ![8, 4096, 2, 64]⟩
abbrev S8x256x2x4x64 : Shape := ⟨5, ![8, 256, 2, 4, 64]⟩
abbrev S8x256x2x64 : Shape := ⟨4, ![8, 256, 2, 64]⟩
abbrev S64 : Shape := ⟨1, ![64]⟩
abbrev S_ : Shape := ⟨0, ![]⟩

class Facts : Prop where
  bcast_S_S8x4096x2x4x64 : S_.BroadcastsInDim S8x4096x2x4x64 (![] : Fin 0 → Fin S8x4096x2x4x64.rank)
  reducesTo_S8x4096x2x4x64_S_d0_1_2_3_4 : S8x4096x2x4x64.ReducesTo [0, 1, 2, 3, 4] S_
  h_S_ : 0 < S_.numel
  bcast_S_S8x4096x2x64 : S_.BroadcastsInDim S8x4096x2x64 (![] : Fin 0 → Fin S8x4096x2x64.rank)
  reducesTo_S8x4096x2x64_S_d0_1_2_3 : S8x4096x2x64.ReducesTo [0, 1, 2, 3] S_
  bcast_S_S8x256x2x64 : S_.BroadcastsInDim S8x256x2x64 (![] : Fin 0 → Fin S8x256x2x64.rank)
  reducesTo_S8x256x2x64_S_d0_1_2_3 : S8x256x2x64.ReducesTo [0, 1, 2, 3] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S8x4096x2x4x64 .f32) (main_arg1 : FVec F S8x4096x2x64 .f32) (main_arg2 : FVec F S8x4096x2x64 .f32) (main_arg3 : FVec F S8x256x2x4x64 .f32) (main_arg4 : FVec F S8x256x2x64 .f32) (main_arg5 : FVec F S8x256x2x64 .f32) (main_arg6 : FVec F S64 .f32) (main_arg7 : FVec F S64 .f32) : IVec S_ 1 :=
  let main_v0 : FVec F S8x4096x2x4x64 .f32 := Host.absf main_arg0
  let main_cst : FVec F S_ .f32 := constant S_ .f32 0x7F800000#32
  let main_v1 : FVec F S8x4096x2x4x64 .f32 := broadcastInDim S8x4096x2x4x64 ![] bcast_S_S8x4096x2x4x64 main_cst
  let main_v2 : IVec S8x4096x2x4x64 1 := cmpf .olt main_v0 main_v1
  let main_c : IVec S_ 1 := constantI S_ 1 1#1
  let main_v3 : IVec S_ 1 := (fun x v => Host.reduce IntOp.andi x v reducesTo_S8x4096x2x4x64_S_d0_1_2_3_4 h_S_) main_v2 main_c
  let main_v4 : FVec F S8x4096x2x64 .f32 := Host.absf main_arg1
  let main_cst_0 : FVec F S_ .f32 := constant S_ .f32 0x7F800000#32
  let main_v5 : FVec F S8x4096x2x64 .f32 := broadcastInDim S8x4096x2x64 ![] bcast_S_S8x4096x2x64 main_cst_0
  let main_v6 : IVec S8x4096x2x64 1 := cmpf .olt main_v4 main_v5
  let main_c_1 : IVec S_ 1 := constantI S_ 1 1#1
  let main_v7 : IVec S_ 1 := (fun x v => Host.reduce IntOp.andi x v reducesTo_S8x4096x2x64_S_d0_1_2_3 h_S_) main_v6 main_c_1
  let main_v8 : IVec S_ 1 := andi main_v3 main_v7
  let main_v9 : FVec F S8x256x2x64 .f32 := Host.absf main_arg4
  let main_cst_2 : FVec F S_ .f32 := constant S_ .f32 0x7F800000#32
  let main_v10 : FVec F S8x256x2x64 .f32 := broadcastInDim S8x256x2x64 ![] bcast_S_S8x256x2x64 main_cst_2
  let main_v11 : IVec S8x256x2x64 1 := cmpf .olt main_v9 main_v10
  let main_c_3 : IVec S_ 1 := constantI S_ 1 1#1
  let main_v12 : IVec S_ 1 := (fun x v => Host.reduce IntOp.andi x v reducesTo_S8x256x2x64_S_d0_1_2_3 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_v13 main_v16
-- ==== Pre_scores_finite.lean ====
abbrev S8x4096x4x96 : Shape := ⟨4, ![8, 4096, 4, 96]⟩
abbrev S8x4096x4x64 : Shape := ⟨4, ![8, 4096, 4, 64]⟩
abbrev S8x256x4x96 : Shape := ⟨4, ![8, 256, 4, 96]⟩
abbrev S8x256x4x64 : Shape := ⟨4, ![8, 256, 4, 64]⟩
abbrev S_ : Shape := ⟨0, ![]⟩

class Facts : Prop where
  bcast_S_S8x4096x4x96 : S_.BroadcastsInDim S8x4096x4x96 (![] : Fin 0 → Fin S8x4096x4x96.rank)
  reducesTo_S8x4096x4x96_S_d0_1_2_3 : S8x4096x4x96.ReducesTo [0, 1, 2, 3] S_
  h_S_ : 0 < S_.numel
  bcast_S_S8x256x4x96 : S_.BroadcastsInDim S8x256x4x96 (![] : Fin 0 → Fin S8x256x4x96.rank)
  reducesTo_S8x256x4x96_S_d0_1_2_3 : S8x256x4x96.ReducesTo [0, 1, 2, 3] S_

variable [Facts]

def fn_part1 {F : FTy → Type} [FloatOps F] (main_v13 : IVec S_ 1) (main_v16 : IVec S8x256x4x96 1) : IVec S_ 1 :=
  let main_c_5 : IVec S_ 1 := constantI S_ 1 1#1
  let main_v17 : IVec S_ 1 := (fun x v => Host.reduce IntOp.andi x v reducesTo_S8x256x4x96_S_d0_1_2_3 h_S_) main_v16 main_c_5
  let main_v18 : IVec S_ 1 := andi main_v13 main_v17
  main_v18

def fn {F : FTy → Type} [FloatOps F] (main_arg0 : FVec F S8x4096x4x96 .f32) (main_arg1 : FVec F S8x4096x4x96 .f32) (main_arg2 : FVec F S8x4096x4x64 .f32) (main_arg3 : FVec F S8x256x4x96 .f32) (main_arg4 : FVec F S8x256x4x96 .f32) (main_arg5 : FVec F S8x256x4x64 .f32) : IVec S_ 1 :=
  let main_v0 : FVec F S8x4096x4x96 .f32 := Host.absf main_arg0
  let main_cst : FVec F S_ .f32 := constant S_ .f32 0x7F800000#32
  let main_v1 : FVec F S8x4096x4x96 .f32 := broadcastInDim S8x4096x4x96 ![] bcast_S_S8x4096x4x96 main_cst
  let main_v2 : IVec S8x4096x4x96 1 := cmpf .olt main_v0 main_v1
  let main_c : IVec S_ 1 := constantI S_ 1 1#1
  let main_v3 : IVec S_ 1 := (fun x v => Host.reduce IntOp.andi x v reducesTo_S8x4096x4x96_S_d0_1_2_3 h_S_) main_v2 main_c
  let main_v4 : FVec F S8x4096x4x96 .f32 := Host.absf main_arg1
  let main_cst_0 : FVec F S_ .f32 := constant S_ .f32 0x7F800000#32
  let main_v5 : FVec F S8x4096x4x96 .f32 := broadcastInDim S8x4096x4x96 ![] bcast_S_S8x4096x4x96 main_cst_0
  let main_v6 : IVec S8x4096x4x96 1 := cmpf .olt main_v4 main_v5
  let main_c_1 : IVec S_ 1 := constantI S_ 1 1#1
  let main_v7 : IVec S_ 1 := (fun x v => Host.reduce IntOp.andi x v reducesTo_S8x4096x4x96_S_d0_1_2_3 h_S_) main_v6 main_c_1
  let main_v8 : IVec S_ 1 := andi main_v3 main_v7
  let main_v9 : FVec F S8x256x4x96 .f32 := Host.absf main_arg3
  let main_cst_2 : FVec F S_ .f32 := constant S_ .f32 0x7F800000#32
  let main_v10 : FVec F S8x256x4x96 .f32 := broadcastInDim S8x256x4x96 ![] bcast_S_S8x256x4x96 main_cst_2
  let main_v11 : IVec S8x256x4x96 1 := cmpf .olt main_v9 main_v10
  let main_c_3 : IVec S_ 1 := constantI S_ 1 1#1
  let main_v12 : IVec S_ 1 := (fun x v => Host.reduce IntOp.andi x v reducesTo_S8x256x4x96_S_d0_1_2_3 h_S_) main_v11 main_c_3
  let main_v13 : IVec S_ 1 := andi main_v8 main_v12
  let main_v14 : FVec F S8x256x4x96 .f32 := Host.absf main_arg4
  let main_cst_4 : FVec F S_ .f32 := constant S_ .f32 0x7F800000#32
  let main_v15 : FVec F S8x256x4x96 .f32 := broadcastInDim S8x256x4x96 ![] bcast_S_S8x256x4x96 main_cst_4
  let main_v16 : IVec S8x256x4x96 1 := cmpf .olt main_v14 main_v15
  fn_part1 (F := F) main_v13 main_v16
-- ==== Kernel.lean ====
abbrev S8x4096x4x96 : Shape := ⟨4, ![8, 4096, 4, 96]⟩
abbrev S8x4096x4x64 : Shape := ⟨4, ![8, 4096, 4, 64]⟩
abbrev S8x256x4x96 : Shape := ⟨4, ![8, 256, 4, 96]⟩
abbrev S8x256x4x64 : Shape := ⟨4, ![8, 256, 4, 64]⟩
abbrev S8x4352x4x96 : Shape := ⟨4, ![8, 4352, 4, 96]⟩
abbrev S_ : Shape := ⟨0, ![]⟩
abbrev S8x4352x4x128 : Shape := ⟨4, ![8, 4352, 4, 128]⟩
abbrev S8x4352x4 : Shape := ⟨3, ![8, 4352, 4]⟩
abbrev S8x4 : Shape := ⟨2, ![8, 4]⟩
abbrev S128 : Shape := ⟨1, ![128]⟩
abbrev S1x1x128 : Shape := ⟨3, ![1, 1, 128]⟩
abbrev S8x4x1 : Shape := ⟨3, ![8, 4, 1]⟩
abbrev S8x4x128 : Shape := ⟨3, ![8, 4, 128]⟩
abbrev S8x4352x512 : Shape := ⟨3, ![8, 4352, 512]⟩
abbrev S1x1x1x128 : Shape := ⟨4, ![1, 1, 1, 128]⟩
abbrev S8x4352x4x64 : Shape := ⟨4, ![8, 4352, 4, 64]⟩
abbrev S8x4096x256 : Shape := ⟨3, ![8, 4096, 256]⟩
abbrev S1x512x512 : Shape := ⟨3, ![1, 512, 512]⟩
abbrev S1x4352x512 : Shape := ⟨3, ![1, 4352, 512]⟩
abbrev S1x4x128 : Shape := ⟨3, ![1, 4, 128]⟩
abbrev S1x512x256 : Shape := ⟨3, ![1, 512, 256]⟩
abbrev S512x128 : Shape := ⟨2, ![512, 128]⟩
abbrev S1x512x128 : Shape := ⟨3, ![1, 512, 128]⟩
abbrev S1x128 : Shape := ⟨2, ![1, 128]⟩
abbrev S1x256x128 : Shape := ⟨3, ![1, 256, 128]⟩
abbrev S256x128 : Shape := ⟨2, ![256, 128]⟩
abbrev S512x256 : Shape := ⟨2, ![512, 256]⟩
abbrev S512x512 : Shape := ⟨2, ![512, 512]⟩

abbrev nBuf : Space → Nat
  | .hbm => 72
  | .vmem => 10
  | .smem => 0
  | _ => 0

abbrev bufTy : (tb : Table) → Fin (tcTables nBuf tb) → BufTy
  | .hbm, ⟨0, _⟩ => ⟨S8x4096x4x96, .f32⟩
  | .hbm, ⟨1, _⟩ => ⟨S8x4096x4x96, .f32⟩
  | .hbm, ⟨2, _⟩ => ⟨S8x4096x4x64, .f32⟩
  | .hbm, ⟨3, _⟩ => ⟨S8x256x4x96, .f32⟩
  | .hbm, ⟨4, _⟩ => ⟨S8x256x4x96, .f32⟩
  | .hbm, ⟨5, _⟩ => ⟨S8x256x4x64, .f32⟩
  | .hbm, ⟨6, _⟩ => ⟨S8x4352x4x96, .f32⟩
  | .hbm, ⟨7, _⟩ => ⟨S_, .f32⟩
  | .hbm, ⟨8, _⟩ => ⟨S_, .f32⟩
  | .hbm, ⟨9, _⟩ => ⟨S8x4352x4x128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8x4352x4x128, .f32⟩
  | .hbm, ⟨18, _⟩ => ⟨S8x4352x4x128, .f32⟩
  | .hbm, ⟨19, _⟩ => ⟨S8x4352x4x96, .f32⟩
  | .hbm, ⟨20, _⟩ => ⟨S_, .f32⟩
  | .hbm, ⟨21, _⟩ => ⟨S_, .f32⟩
  | .hbm, ⟨22, _⟩ => ⟨S8x4352x4x128, .f32⟩
  | .hbm, ⟨23, _⟩ => ⟨S8x4352x4x128, .f32⟩
  | .hbm, ⟨24, _⟩ => ⟨S_, .f32⟩
  | .hbm, ⟨25, _⟩ => ⟨S8x4352x4, .f32⟩
  | .hbm, ⟨26, _⟩ => ⟨S_, .f32⟩
  | .hbm, ⟨27, _⟩ => ⟨S8x4, .f32⟩
  | .hbm, ⟨28, _⟩ => ⟨S8x4352x4x128, .f32⟩
  | .hbm, ⟨29, _⟩ => ⟨S_, .f32⟩
  | .hbm, ⟨30, _⟩ => ⟨S8x4352x4, .f32⟩
  | .hbm, ⟨31, _⟩ => ⟨S_, .f32⟩
  | .hbm, ⟨32, _⟩ => ⟨S8x4, .f32⟩
  | .hbm, ⟨33, _⟩ => ⟨S8x4, .f32⟩
  | .hbm, ⟨34, _⟩ => ⟨S8x4, .f32⟩
  | .hbm, ⟨35, _⟩ => ⟨S_, .f32⟩
  | .hbm, ⟨36, _⟩ => ⟨S8x4, .f32⟩
  | .hbm, ⟨37, _⟩ => ⟨S8x4, .f32⟩
  | .hbm, ⟨38, _⟩ => ⟨S128, .i32⟩
  | .hbm, ⟨39, _⟩ => ⟨S_, .i32⟩
  | .hbm, ⟨40, _⟩ => ⟨S128, .i32⟩
  | .hbm, ⟨41, _⟩ => ⟨S128, .i1⟩
  | .hbm, ⟨42, _⟩ => ⟨S1x1x128, .i1⟩
  | .hbm, ⟨43, _⟩ => ⟨S8x4x1, .f32⟩
  | .hbm, ⟨44, _⟩ => ⟨S8x4x1, .f32⟩
  | .hbm, ⟨45, _⟩ => ⟨S_, .f32⟩
  | .hbm, ⟨46, _⟩ => ⟨S_, .f32⟩
  | .hbm, ⟨47, _⟩ => ⟨S8x4x128, .i1⟩
  | .hbm, ⟨48, _⟩ => ⟨S8x4x128, .f32⟩
  | .hbm, ⟨49, _⟩ => ⟨S8x4x128, .f32⟩
  | .hbm, ⟨50, _⟩ => ⟨S8x4x128, .f32⟩
  | .hbm, ⟨51, _⟩ => ⟨S8x4x128, .bf16⟩
  | .hbm, ⟨52, _⟩ => ⟨S_, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S8x4352x4x128, .bf16⟩
  | .hbm, ⟨58, _⟩ => ⟨S8x4352x512, .bf16⟩
  | .hbm, ⟨59, _⟩ => ⟨S128, .f32⟩
  | .hbm, ⟨60, _⟩ => ⟨S1x1x1x128, .f32⟩
  | .hbm, ⟨61, _⟩ => ⟨S8x4352x4x128, .f32⟩
  | .hbm, ⟨62, _⟩ => ⟨S8x4352x4x128, .f32⟩
  | .hbm, ⟨63, _⟩ => ⟨S8x4352x4x128, .bf16⟩
  | .hbm, ⟨64, _⟩ => ⟨S8x4352x512, .bf16⟩
  | .hbm, ⟨65, _⟩ => ⟨S8x4352x4x64, .f32⟩
  | .hbm, ⟨66, _⟩ => ⟨S_, .f32⟩
  | .hbm, ⟨67, _⟩ => ⟨S_, .f32⟩
  | .hbm, ⟨68, _⟩ => ⟨S8x4352x4x128, .f32⟩
  | .hbm, ⟨69, _⟩ => ⟨S8x4352x4x128, .bf16⟩
  | .hbm, ⟨70, _⟩ => ⟨S8x4352x512, .bf16⟩
  | .hbm, ⟨71, _⟩ => ⟨S8x4096x256, .bf16⟩
  | .local _ .vmem, ⟨0, _⟩ => ⟨S1x512x512, .bf16⟩
  | .local _ .vmem, ⟨1, _⟩ => ⟨S1x512x512, .bf16⟩
  | .local _ .vmem, ⟨2, _⟩ => ⟨S1x4352x512, .bf16⟩
  | .local _ .vmem, ⟨3, _⟩ => ⟨S1x4352x512, .bf16⟩
  | .local _ .vmem, ⟨4, _⟩ => ⟨S1x4352x512, .bf16⟩
  | .local _ .vmem, ⟨5, _⟩ => ⟨S1x4352x512, .bf16⟩
  | .local _ .vmem, ⟨6, _⟩ => ⟨S1x4x128, .bf16⟩
  | .local _ .vmem, ⟨7, _⟩ => ⟨S1x4x128, .bf16⟩
  | .local _ .vmem, ⟨8, _⟩ => ⟨S1x512x256, .bf16⟩
  | .local _ .vmem, ⟨9, _⟩ => ⟨S1x512x256, .bf16⟩
  | _, _ => ⟨S8x4096x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_call0_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_cst_5 : Ref sig .tc := ⟨.hbm, 26, rfl⟩
abbrev main_v12 : Ref sig .tc := ⟨.hbm, 27, rfl⟩
abbrev main_v13 : Ref sig .tc := ⟨.hbm, 28, rfl⟩
abbrev main_cst_6 : Ref sig .tc := ⟨.hbm, 29, rfl⟩
abbrev main_v14 : Ref sig .tc := ⟨.hbm, 30, rfl⟩
abbrev main_cst_7 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_8 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_9 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_v26 : Ref sig .tc := ⟨.hbm, 50, rfl⟩
abbrev main_v27 : Ref sig .tc := ⟨.hbm, 51, rfl⟩
abbrev main_cst_10 : Ref sig .tc := ⟨.hbm, 52, rfl⟩
abbrev main_cst_11 : Ref sig .tc := ⟨.hbm, 53, rfl⟩
abbrev main_call3_v0 : Ref sig .tc := ⟨.hbm, 54, rfl⟩
abbrev main_call3_v1 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_12 : Ref sig .tc := ⟨.hbm, 66, rfl⟩
abbrev main_call4_v0 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4352x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x4096x4x96 : Shape := ⟨4, ![8, 4096, 4, 96]⟩
abbrev S8x4096x4x64 : Shape := ⟨4, ![8, 4096, 4, 64]⟩
abbrev S8x256x4x96 : Shape := ⟨4, ![8, 256, 4, 96]⟩
abbrev S8x256x4x64 : Shape := ⟨4, ![8, 256, 4, 64]⟩
abbrev S8x4352x4x96 : Shape := ⟨4, ![8, 4352, 4, 96]⟩
abbrev S8x4352x4x64 : Shape := ⟨4, ![8, 4352, 4, 64]⟩
abbrev S_ : Shape := ⟨0, ![]⟩
abbrev S8x4x4096x4352 : Shape := ⟨4, ![8, 4, 4096, 4352]⟩
abbrev S8x4x4096 : Shape := ⟨3, ![8, 4, 4096]⟩
abbrev S8x4x4096x1 : Shape := ⟨4, ![8, 4, 4096, 1]⟩
abbrev S8x4x64x4096 : Shape := ⟨4, ![8, 4, 64, 4096]⟩
abbrev S8x4096x256 : Shape := ⟨3, ![8, 4096, 256]⟩

abbrev nBuf : Space → Nat
  | .hbm => 33
  | .vmem => 0
  | .smem => 0
  | _ => 0

abbrev bufTy : (tb : Table) → Fin (tcTables nBuf tb) → BufTy
  | .hbm, ⟨0, _⟩ => ⟨S8x4096x4x96, .f32⟩
  | .hbm, ⟨1, _⟩ => ⟨S8x4096x4x96, .f32⟩
  | .hbm, ⟨2, _⟩ => ⟨S8x4096x4x64, .f32⟩
  | .hbm, ⟨3, _⟩ => ⟨S8x256x4x96, .f32⟩
  | .hbm, ⟨4, _⟩ => ⟨S8x256x4x96, .f32⟩
  | .hbm, ⟨5, _⟩ => ⟨S8x256x4x64, .f32⟩
  | .hbm, ⟨6, _⟩ => ⟨S8x4352x4x96, .f32⟩
  | .hbm, ⟨7, _⟩ => ⟨S8x4352x4x64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x4x4096x4352, .f32⟩
  | .hbm, ⟨13, _⟩ => ⟨S8x4x4096x4352, .f32⟩
  | .hbm, ⟨14, _⟩ => ⟨S8x4x4096x4352, .f32⟩
  | .hbm, ⟨15, _⟩ => ⟨S_, .f32⟩
  | .hbm, ⟨16, _⟩ => ⟨S8x4x4096, .f32⟩
  | .hbm, ⟨17, _⟩ => ⟨S_, .f32⟩
  | .hbm, ⟨18, _⟩ => ⟨S8x4x4096, .f32⟩
  | .hbm, ⟨19, _⟩ => ⟨S8x4x4096, .f32⟩
  | .hbm, ⟨20, _⟩ => ⟨S8x4x4096x1, .f32⟩
  | .hbm, ⟨21, _⟩ => ⟨S8x4x4096x4352, .f32⟩
  | .hbm, ⟨22, _⟩ => ⟨S8x4x4096x4352, .f32⟩
  | .hbm, ⟨23, _⟩ => ⟨S8x4x4096x4352, .f32⟩
  | .hbm, ⟨24, _⟩ => ⟨S_, .f32⟩
  | .hbm, ⟨25, _⟩ => ⟨S8x4x4096, .f32⟩
  | .hbm, ⟨26, _⟩ => ⟨S8x4x4096x1, .f32⟩
  | .hbm, ⟨27, _⟩ => ⟨S8x4x4096x4352, .f32⟩
  | .hbm, ⟨28, _⟩ => ⟨S8x4x4096x4352, .f32⟩
  | .hbm, ⟨29, _⟩ => ⟨S8x4x64x4096, .f32⟩
  | .hbm, ⟨30, _⟩ => ⟨S8x4096x4x64, .f32⟩
  | .hbm, ⟨31, _⟩ => ⟨S8x4096x256, .f32⟩
  | .hbm, ⟨32, _⟩ => ⟨S8x4096x256, .bf16⟩
  | _, _ => ⟨S8x4096x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Grouped.lean ====
abbrev S8x4096x2x4x64 : Shape := ⟨5, ![8, 4096, 2, 4, 64]⟩
abbrev S8x4096x2x64 : Shape := ⟨4, ![8, 4096, 2, 64]⟩
abbrev S8x256x2x4x64 : Shape := ⟨5, ![8, 256, 2, 4, 64]⟩
abbrev S8x256x2x64 : Shape := ⟨4, ![8, 256, 2, 64]⟩
abbrev S64 : Shape := ⟨1, ![64]⟩
abbrev S_ : Shape := ⟨0, ![]⟩
abbrev S8x8 : Shape := ⟨2, ![8, 8]⟩
abbrev S128 : Shape := ⟨1, ![128]⟩
abbrev S1x1x128 : Shape := ⟨3, ![1, 1, 128]⟩
abbrev S8x8x1 : Shape := ⟨3, ![8, 8, 1]⟩
abbrev S8x8x128 : Shape := ⟨3, ![8, 8, 128]⟩
abbrev S8x4352x2x4x64 : Shape := ⟨5, ![8, 4352, 2, 4, 64]⟩
abbrev S8x4352x2x64 : Shape := ⟨4, ![8, 4352, 2, 64]⟩
abbrev S8x4352x2x128 : Shape := ⟨4, ![8, 4352, 2, 128]⟩
abbrev S8x4352x512 : Shape := ⟨3, ![8, 4352, 512]⟩
abbrev S1x1x1x128 : Shape := ⟨4, ![1, 1, 1, 128]⟩
abbrev S8x4352x256 : Shape := ⟨3, ![8, 4352, 256]⟩
abbrev S8x4096x512 : Shape := ⟨3, ![8, 4096, 512]⟩
abbrev S1x512x512 : Shape := ⟨3, ![1, 512, 512]⟩
abbrev S1x4352x256 : Shape := ⟨3, ![1, 4352, 256]⟩
abbrev S1x8x128 : Shape := ⟨3, ![1, 8, 128]⟩
abbrev S512x128 : Shape := ⟨2, ![512, 128]⟩
abbrev S1x512x128 : Shape := ⟨3, ![1, 512, 128]⟩
abbrev S1x128 : Shape := ⟨2, ![1, 128]⟩
abbrev S2048x128 : Shape := ⟨2, ![2048, 128]⟩
abbrev S1x256x128 : Shape := ⟨3, ![1, 256, 128]⟩
abbrev S256x128 : Shape := ⟨2, ![256, 128]⟩
abbrev S2048x256 : Shape := ⟨2, ![2048, 256]⟩
abbrev S2048x512 : Shape := ⟨2, ![2048, 512]⟩

abbrev nBuf : Space → Nat
  | .hbm => 69
  | .vmem => 10
  | .smem => 0
  | _ => 0

abbrev bufTy : (tb : Table) → Fin (tcTables nBuf tb) → BufTy
  | .hbm, ⟨0, _⟩ => ⟨S8x4096x2x4x64, .f32⟩
  | .hbm, ⟨1, _⟩ => ⟨S8x4096x2x64, .f32⟩
  | .hbm, ⟨2, _⟩ => ⟨S8x4096x2x64, .f32⟩
  | .hbm, ⟨3, _⟩ => ⟨S8x256x2x4x64, .f32⟩
  | .hbm, ⟨4, _⟩ => ⟨S8x256x2x64, .f32⟩
  | .hbm, ⟨5, _⟩ => ⟨S8x256x2x64, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8x8, .f32⟩
  | .hbm, ⟨21, _⟩ => ⟨S_, .f32⟩
  | .hbm, ⟨22, _⟩ => ⟨S8x8, .f32⟩
  | .hbm, ⟨23, _⟩ => ⟨S8x8, .f32⟩
  | .hbm, ⟨24, _⟩ => ⟨S128, .i32⟩
  | .hbm, ⟨25, _⟩ => ⟨S_, .i32⟩
  | .hbm, ⟨26, _⟩ => ⟨S128, .i32⟩
  | .hbm, ⟨27, _⟩ => ⟨S128, .i1⟩
  | .hbm, ⟨28, _⟩ => ⟨S1x1x128, .i1⟩
  | .hbm, ⟨29, _⟩ => ⟨S8x8x1, .f32⟩
  | .hbm, ⟨30, _⟩ => ⟨S8x8x1, .f32⟩
  | .hbm, ⟨31, _⟩ => ⟨S_, .f32⟩
  | .hbm, ⟨32, _⟩ => ⟨S_, .f32⟩
  | .hbm, ⟨33, _⟩ => ⟨S8x8x128, .i1⟩
  | .hbm, ⟨34, _⟩ => ⟨S8x8x128, .f32⟩
  | .hbm, ⟨35, _⟩ => ⟨S8x8x128, .f32⟩
  | .hbm, ⟨36, _⟩ => ⟨S8x8x128, .f32⟩
  | .hbm, ⟨37, _⟩ => ⟨S8x8x128, .bf16⟩
  | .hbm, ⟨38, _⟩ => ⟨S_, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S8x4352x2x4x64, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8x4352x2x4x64, .f32⟩
  | .hbm, ⟨49, _⟩ => ⟨S8x4352x2x4x64, .f32⟩
  | .hbm, ⟨50, _⟩ => ⟨S8x4352x2x64, .f32⟩
  | .hbm, ⟨51, _⟩ => ⟨S_, .f32⟩
  | .hbm, ⟨52, _⟩ => ⟨S_, .f32⟩
  | .hbm, ⟨53, _⟩ => ⟨S8x4352x2x128, .f32⟩
  | .hbm, ⟨54, _⟩ => ⟨S8x4352x2x4x64, .bf16⟩
  | .hbm, ⟨55, _⟩ => ⟨S8x4352x512, .bf16⟩
  | .hbm, ⟨56, _⟩ => ⟨S128, .f32⟩
  | .hbm, ⟨57, _⟩ => ⟨S1x1x1x128, .f32⟩
  | .hbm, ⟨58, _⟩ => ⟨S8x4352x2x128, .f32⟩
  | .hbm, ⟨59, _⟩ => ⟨S8x4352x2x128, .f32⟩
  | .hbm, ⟨60, _⟩ => ⟨S8x4352x2x128, .bf16⟩
  | .hbm, ⟨61, _⟩ => ⟨S8x4352x256, .bf16⟩
  | .hbm, ⟨62, _⟩ => ⟨S8x4352x2x64, .f32⟩
  | .hbm, ⟨63, _⟩ => ⟨S_, .f32⟩
  | .hbm, ⟨64, _⟩ => ⟨S_, .f32⟩
  | .hbm, ⟨65, _⟩ => ⟨S8x4352x2x128, .f32⟩
  | .hbm, ⟨66, _⟩ => ⟨S8x4352x2x128, .bf16⟩
  | .hbm, ⟨67, _⟩ => ⟨S8x4352x256, .bf16⟩
  | .hbm, ⟨68, _⟩ => ⟨S8x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x4352x256, .bf16⟩
  | .local _ .vmem, ⟨3, _⟩ => ⟨S1x4352x256, .bf16⟩
  | .local _ .vmem, ⟨4, _⟩ => ⟨S1x4352x256, .bf16⟩
  | .local _ .vmem, ⟨5, _⟩ => ⟨S1x4352x256, .bf16⟩
  | .local _ .vmem, ⟨6, _⟩ => ⟨S1x8x128, .bf16⟩
  | .local _ .vmem, ⟨7, _⟩ => ⟨S1x8x128, .bf16⟩
  | .local _ .vmem, ⟨8, _⟩ => ⟨S1x512x512, .bf16⟩
  | .local _ .vmem, ⟨9, _⟩ => ⟨S1x512x512, .bf16⟩
  | _, _ => ⟨S8x4096x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_v17 : Ref sig .tc := ⟨.hbm, 36, rfl⟩
abbrev main_v18 : Ref sig .tc := ⟨.hbm, 37, rfl⟩
abbrev main_cst_5 : Ref sig .tc := ⟨.hbm, 38, rfl⟩
abbrev main_cst_6 : Ref sig .tc := ⟨.hbm, 39, rfl⟩
abbrev main_call1_v0 : Ref sig .tc := ⟨.hbm, 40, rfl⟩
abbrev main_call1_v1 : Ref sig .tc := ⟨.hbm, 41, rfl⟩
abbrev main_v19 : Ref sig .tc := ⟨.hbm, 42, rfl⟩
abbrev main_v20 : Ref sig .tc := ⟨.hbm, 43, rfl⟩
abbrev main_cst_7 : Ref sig .tc := ⟨.hbm, 44, rfl⟩
abbrev main_v21 : Ref sig .tc := ⟨.hbm, 45, rfl⟩
abbrev main_cst_8 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_9 : Ref sig .tc := ⟨.hbm, 51, rfl⟩
abbrev main_call2_v0 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_10 : Ref sig .tc := ⟨.hbm, 63, rfl⟩
abbrev main_call3_v0 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GroupedReferenceIdeal.lean ====
abbrev S8x4096x2x4x64 : Shape := ⟨5, ![8, 4096, 2, 4, 64]⟩
abbrev S8x4096x2x64 : Shape := ⟨4, ![8, 4096, 2, 64]⟩
abbrev S8x256x2x4x64 : Shape := ⟨5, ![8, 256, 2, 4, 64]⟩
abbrev S8x256x2x64 : Shape := ⟨4, ![8, 256, 2, 64]⟩
abbrev S64 : Shape := ⟨1, ![64]⟩
abbrev S8x4352x2x64 : Shape := ⟨4, ![8, 4352, 2, 64]⟩
abbrev S8x2x4352x4096x4 : Shape := ⟨5, ![8, 2, 4352, 4096, 4]⟩
abbrev S8x2x4x4096x4352 : Shape := ⟨5, ![8, 2, 4, 4096, 4352]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩
abbrev S8x4096x512 : Shape := ⟨3, ![8, 4096, 512]⟩

abbrev nBuf : Space → Nat
  | .hbm => 33
  | .vmem => 0
  | .smem => 0
  | _ => 0

abbrev bufTy : (tb : Table) → Fin (tcTables nBuf tb) → BufTy
  | .hbm, ⟨0, _⟩ => ⟨S8x4096x2x4x64, .f32⟩
  | .hbm, ⟨1, _⟩ => ⟨S8x4096x2x64, .f32⟩
  | .hbm, ⟨2, _⟩ => ⟨S8x4096x2x64, .f32⟩
  | .hbm, ⟨3, _⟩ => ⟨S8x256x2x4x64, .f32⟩
  | .hbm, ⟨4, _⟩ => ⟨S8x256x2x64, .f32⟩
  | .hbm, ⟨5, _⟩ => ⟨S8x256x2x64, .f32⟩
  | .hbm, ⟨6, _⟩ => ⟨S64, .f32⟩
  | .hbm, ⟨7, _⟩ => ⟨S64, .f32⟩
  | .hbm, ⟨8, _⟩ => ⟨S8x4352x2x64, .f32⟩
  | .hbm, ⟨9, _⟩ => ⟨S8x4352x2x64, .f32⟩
  | .hbm, ⟨10, _⟩ => ⟨S8x2x4352x4096x4, .f32⟩
  | .hbm, ⟨11, _⟩ => ⟨S8x2x4x4096x4352, .f32⟩
  | .hbm, ⟨12, _⟩ => ⟨S_, .f32⟩
  | .hbm, ⟨13, _⟩ => ⟨S8x2x4x4096x4352, .f32⟩
  | .hbm, ⟨14, _⟩ => ⟨S8x2x4x4096x4352, .f32⟩
  | .hbm, ⟨15, _⟩ => ⟨S_, .f32⟩
  | .hbm, ⟨16, _⟩ => ⟨S8x2x4x4096, .f32⟩
  | .hbm, ⟨17, _⟩ => ⟨S_, .f32⟩
  | .hbm, ⟨18, _⟩ => ⟨S8x2x4x4096, .f32⟩
  | .hbm, ⟨19, _⟩ => ⟨S8x2x4x4096, .f32⟩
  | .hbm, ⟨20, _⟩ => ⟨S8x2x4x4096x1, .f32⟩
  | .hbm, ⟨21, _⟩ => ⟨S8x2x4x4096x4352, .f32⟩
  | .hbm, ⟨22, _⟩ => ⟨S8x2x4x4096x4352, .f32⟩
  | .hbm, ⟨23, _⟩ => ⟨S8x2x4x4096x4352, .f32⟩
  | .hbm, ⟨24, _⟩ => ⟨S_, .f32⟩
  | .hbm, ⟨25, _⟩ => ⟨S8x2x4x4096, .f32⟩
  | .hbm, ⟨26, _⟩ => ⟨S8x2x4x4096x1, .f32⟩
  | .hbm, ⟨27, _⟩ => ⟨S8x2x4x4096x4352, .f32⟩
  | .hbm, ⟨28, _⟩ => ⟨S8x2x4x4096x4352, .f32⟩
  | .hbm, ⟨29, _⟩ => ⟨S8x2x64x4x4096, .f32⟩
  | .hbm, ⟨30, _⟩ => ⟨S8x4096x2x4x64, .f32⟩
  | .hbm, ⟨31, _⟩ => ⟨S8x4096x512, .f32⟩
  | .hbm, ⟨32, _⟩ => ⟨S8x4096x512, .bf16⟩
  | _, _ => ⟨S8x4096x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Merge.lean ====
abbrev S8x4096x1024 : Shape := ⟨3, ![8, 4096, 1024]⟩
abbrev S8x256x1024 : Shape := ⟨3, ![8, 256, 1024]⟩
abbrev S8x6144 : Shape := ⟨2, ![8, 6144]⟩
abbrev S6144 : Shape := ⟨1, ![6144]⟩
abbrev S1024 : Shape := ⟨1, ![1024]⟩
abbrev S8x4096x256 : Shape := ⟨3, ![8, 4096, 256]⟩
abbrev S8x256x256 : Shape := ⟨3, ![8, 256, 256]⟩
abbrev S8x4096x512 : Shape := ⟨3, ![8, 4096, 512]⟩
abbrev S8x256x512 : Shape := ⟨3, ![8, 256, 512]⟩
abbrev S8x4096x3072 : Shape := ⟨3, ![8, 4096, 3072]⟩
abbrev S8x256x3072 : Shape := ⟨3, ![8, 256, 3072]⟩
abbrev S256x1024 : Shape := ⟨2, ![256, 1024]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S8x1x6x1024 : Shape := ⟨4, ![8, 1, 6, 1024]⟩
abbrev S1x1x6x1024 : Shape := ⟨4, ![1, 1, 6, 1024]⟩
abbrev S8x2x6x1024 : Shape := ⟨4, ![8, 2, 6, 1024]⟩
abbrev S16x6x1024 : Shape := ⟨3, ![16, 6, 1024]⟩
abbrev S1024x2816 : Shape := ⟨2, ![1024, 2816]⟩
abbrev S8x4352x3072 : Shape := ⟨3, ![8, 4352, 3072]⟩
abbrev S_ : Shape := ⟨0, ![]⟩
abbrev S8x4352x1024 : Shape := ⟨3, ![8, 4352, 1024]⟩
abbrev S8x4352x256 : Shape := ⟨3, ![8, 4352, 256]⟩
abbrev S1x1024 : Shape := ⟨2, ![1, 1024]⟩
abbrev S1x256x1024 : Shape := ⟨3, ![1, 256, 1024]⟩
abbrev S1x6x1024 : Shape := ⟨3, ![1, 6, 1024]⟩
abbrev S1x256x256 : Shape := ⟨3, ![1, 256, 256]⟩
abbrev S1x256x512 : Shape := ⟨3, ![1, 256, 512]⟩
abbrev S1x256x3072 : Shape := ⟨3, ![1, 256, 3072]⟩
abbrev S256x512 : Shape := ⟨2, ![256, 512]⟩
abbrev S256x256 : Shape := ⟨2, ![256, 256]⟩
abbrev S6x1024 : Shape := ⟨2, ![6, 1024]⟩
abbrev S256 : Shape := ⟨1, ![256]⟩
abbrev S256x1 : Shape := ⟨2, ![256, 1]⟩
abbrev S256x2816 : Shape := ⟨2, ![256, 2816]⟩

abbrev nBuf : Space → Nat
  | .hbm => 52
  | .vmem => 26
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x6144, .f32⟩
  | .hbm, ⟨3, _⟩ => ⟨S6144, .f32⟩
  | .hbm, ⟨4, _⟩ => ⟨S1024, .f32⟩
  | .hbm, ⟨5, _⟩ => ⟨S8x4096x256, .f32⟩
  | .hbm, ⟨6, _⟩ => ⟨S8x256x256, .f32⟩
  | .hbm, ⟨7, _⟩ => ⟨S8x4096x512, .f32⟩
  | .hbm, ⟨8, _⟩ => ⟨S8x256x512, .f32⟩
  | .hbm, ⟨9, _⟩ => ⟨S8x4096x256, .f32⟩
  | .hbm, ⟨10, _⟩ => ⟨S8x256x256, .f32⟩
  | .hbm, ⟨11, _⟩ => ⟨S8x4096x3072, .f32⟩
  | .hbm, ⟨12, _⟩ => ⟨S8x256x3072, .f32⟩
  | .hbm, ⟨13, _⟩ => ⟨S256x1024, .f32⟩
  | .hbm, ⟨14, _⟩ => ⟨S512x1024, .f32⟩
  | .hbm, ⟨15, _⟩ => ⟨S256x1024, .f32⟩
  | .hbm, ⟨16, _⟩ => ⟨S1024x1024, .f32⟩
  | .hbm, ⟨17, _⟩ => ⟨S1024x5632, .f32⟩
  | .hbm, ⟨18, _⟩ => ⟨S2816x1024, .f32⟩
  | .hbm, ⟨19, _⟩ => ⟨S8x1x6x1024, .f32⟩
  | .hbm, ⟨20, _⟩ => ⟨S1x1x6x1024, .f32⟩
  | .hbm, ⟨21, _⟩ => ⟨S8x1x6x1024, .f32⟩
  | .hbm, ⟨22, _⟩ => ⟨S8x2x6x1024, .f32⟩
  | .hbm, ⟨23, _⟩ => ⟨S16x6x1024, .f32⟩
  | .hbm, ⟨24, _⟩ => ⟨S1024x2816, .f32⟩
  | .hbm, ⟨25, _⟩ => ⟨S1024x2816, .bf16⟩
  | .hbm, ⟨26, _⟩ => ⟨S1024x2816, .f32⟩
  | .hbm, ⟨27, _⟩ => ⟨S1024x2816, .bf16⟩
  | .hbm, ⟨28, _⟩ => ⟨S2816x1024, .bf16⟩
  | .hbm, ⟨29, _⟩ => ⟨S8x4352x3072, .f32⟩
  | .hbm, ⟨30, _⟩ => ⟨S8x4352x3072, .f32⟩
  | .hbm, ⟨31, _⟩ => ⟨S8x4352x3072, .f32⟩
  | .hbm, ⟨32, _⟩ => ⟨S_, .f32⟩
  | .hbm, ⟨33, _⟩ => ⟨S8x4352x3072, .f32⟩
  | .hbm, ⟨34, _⟩ => ⟨S8x4352x3072, .f32⟩
  | .hbm, ⟨35, _⟩ => ⟨S_, .f32⟩
  | .hbm, ⟨36, _⟩ => ⟨S8x4352x3072, .f32⟩
  | .hbm, ⟨37, _⟩ => ⟨S8x4352x3072, .f32⟩
  | .hbm, ⟨38, _⟩ => ⟨S8x4352x3072, .bf16⟩
  | .hbm, ⟨39, _⟩ => ⟨S8x4352x1024, .f32⟩
  | .hbm, ⟨40, _⟩ => ⟨S8x4352x256, .f32⟩
  | .hbm, ⟨41, _⟩ => ⟨S8x4352x256, .bf16⟩
  | .hbm, ⟨42, _⟩ => ⟨S8x4096x512, .bf16⟩
  | .hbm, ⟨43, _⟩ => ⟨S8x256x512, .bf16⟩
  | .hbm, ⟨44, _⟩ => ⟨S8x4096x256, .bf16⟩
  | .hbm, ⟨45, _⟩ => ⟨S8x256x256, .bf16⟩
  | .hbm, ⟨46, _⟩ => ⟨S256x1024, .bf16⟩
  | .hbm, ⟨47, _⟩ => ⟨S512x1024, .bf16⟩
  | .hbm, ⟨48, _⟩ => ⟨S256x1024, .bf16⟩
  | .hbm, ⟨49, _⟩ => ⟨S1024x1024, .bf16⟩
  | .hbm, ⟨50, _⟩ => ⟨S1x1024, .f32⟩
  | .hbm, ⟨51, _⟩ => ⟨S8x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x256x256, .bf16⟩
  | .local _ .vmem, ⟨5, _⟩ => ⟨S1x256x256, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x256, .bf16⟩
  | .local _ .vmem, ⟨11, _⟩ => ⟨S1x256x256, .bf16⟩
  | .local _ .vmem, ⟨12, _⟩ => ⟨S1x256x256, .bf16⟩
  | .local _ .vmem, ⟨13, _⟩ => ⟨S1x256x256, .bf16⟩
  | .local _ .vmem, ⟨14, _⟩ => ⟨S1x256x3072, .bf16⟩
  | .local _ .vmem, ⟨15, _⟩ => ⟨S1x256x3072, .bf16⟩
  | .local _ .vmem, ⟨16, _⟩ => ⟨S256x1024, .bf16⟩
  | .local _ .vmem, ⟨17, _⟩ => ⟨S512x1024, .bf16⟩
  | .local _ .vmem, ⟨18, _⟩ => ⟨S256x1024, .bf16⟩
  | .local _ .vmem, ⟨19, _⟩ => ⟨S1024x1024, .bf16⟩
  | .local _ .vmem, ⟨20, _⟩ => ⟨S1x1024, .f32⟩
  | .local _ .vmem, ⟨21, _⟩ => ⟨S1024x2816, .bf16⟩
  | .local _ .vmem, ⟨22, _⟩ => ⟨S1024x2816, .bf16⟩
  | .local _ .vmem, ⟨23, _⟩ => ⟨S2816x1024, .bf16⟩
  | .local _ .vmem, ⟨24, _⟩ => ⟨S1x256x1024, .f32⟩
  | .local _ .vmem, ⟨25, _⟩ => ⟨S1x256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c16_i32 : BitVec 32 := 16#32
  let v1 : BitVec 1 := Scalar.cmpi .eq arg1 c16_i32
  let v2 : BitVec 32 := Scalar.extui v1
  let v3 : BitVec 32 := Scalar.addi v0 v2
  let c0_i32 : BitVec 32 := 0#32
  let c0_i32_0 : BitVec 32 := 0#32
  let c0_i32_1 : BitVec 32 := 0#32
  ![v3.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x2816 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== MergeReferenceIdeal.lean ====
abbrev S8x4096x1024 : Shape := ⟨3, ![8, 4096, 1024]⟩
abbrev S8x256x1024 : Shape := ⟨3, ![8, 256, 1024]⟩
abbrev S8x6144 : Shape := ⟨2, ![8, 6144]⟩
abbrev S6144 : Shape := ⟨1, ![6144]⟩
abbrev S1024 : Shape := ⟨1, ![1024]⟩
abbrev S8x4096x256 : Shape := ⟨3, ![8, 4096, 256]⟩
abbrev S8x256x256 : Shape := ⟨3, ![8, 256, 256]⟩
abbrev S8x4096x512 : Shape := ⟨3, ![8, 4096, 512]⟩
abbrev S8x256x512 : Shape := ⟨3, ![8, 256, 512]⟩
abbrev S8x4096x3072 : Shape := ⟨3, ![8, 4096, 3072]⟩
abbrev S8x256x3072 : Shape := ⟨3, ![8, 256, 3072]⟩
abbrev S256x1024 : Shape := ⟨2, ![256, 1024]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S8x1x6144 : Shape := ⟨3, ![8, 1, 6144]⟩
abbrev S8x1x1024 : Shape := ⟨3, ![8, 1, 1024]⟩
abbrev S_ : Shape := ⟨0, ![]⟩
abbrev S1x1x1024 : Shape := ⟨3, ![1, 1, 1024]⟩
abbrev S8x4096 : Shape := ⟨2, ![8, 4096]⟩
abbrev S8x4096x1 : Shape := ⟨3, ![8, 4096, 1]⟩
abbrev S8x4096x5632 : Shape := ⟨3, ![8, 4096, 5632]⟩
abbrev S8x4096x2816 : Shape := ⟨3, ![8, 4096, 2816]⟩
abbrev S8x256 : Shape := ⟨2, ![8, 256]⟩
abbrev S8x256x1 : Shape := ⟨3, ![8, 256, 1]⟩
abbrev S8x256x5632 : Shape := ⟨3, ![8, 256, 5632]⟩
abbrev S8x256x2816 : Shape := ⟨3, ![8, 256, 2816]⟩
abbrev S8x4352x1024 : Shape := ⟨3, ![8, 4352, 1024]⟩

abbrev nBuf : Space → Nat
  | .hbm => 163
  | .vmem => 0
  | .smem => 0
  | _ => 0

abbrev hbmTy0_0 (i : Nat) : BufTy := match i % 128 with
  | 0 => ⟨S8x4096x1024, .f32⟩
  | 1 => ⟨S8x256x1024, .f32⟩
  | 2 => ⟨S8x6144, .f32⟩
  | 3 => ⟨S6144, .f32⟩
  | 4 => ⟨S1024, .f32⟩
  | 5 => ⟨S8x4096x256, .f32⟩
  | 6 => ⟨S8x256x256, .f32⟩
  | 7 => ⟨S8x4096x512, .f32⟩
  | 8 => ⟨S8x256x512, .f32⟩
  | 9 => ⟨S8x4096x256, .f32⟩
  | 10 => ⟨S8x256x256, .f32⟩
  | 11 => ⟨S8x4096x3072, .f32⟩
  | 12 => ⟨S8x256x3072, .f32⟩
  | 13 => ⟨S256x1024, .f32⟩
  | 14 => ⟨S512x1024, .f32⟩
  | 15 => ⟨S256x1024, .f32⟩
  | 16 => ⟨S1024x1024, .f32⟩
  | 17 => ⟨S1024x5632, .f32⟩
  | 18 => ⟨S2816x1024, .f32⟩
  | 19 => ⟨S8x1x6144, .f32⟩
  | 20 => ⟨S8x1x1024, .f32⟩
  | 21 => ⟨S8x1x1024, .f32⟩
  | 22 => ⟨S8x1x1024, .f32⟩
  | 23 => ⟨S8x1x1024, .f32⟩
  | 24 => ⟨S8x1x1024, .f32⟩
  | 25 => ⟨S8x1x1024, .f32⟩
  | 26 => ⟨S1024, .f32⟩
  | 27 => ⟨S1024, .f32⟩
  | 28 => ⟨S1024, .f32⟩
  | 29 => ⟨S1024, .f32⟩
  | 30 => ⟨S1024, .f32⟩
  | 31 => ⟨S1024, .f32⟩
  | 32 => ⟨S8x4096x3072, .f32⟩
  | 33 => ⟨S8x4096x3072, .f32⟩
  | 34 => ⟨S_, .f32⟩
  | 35 => ⟨S8x4096x3072, .f32⟩
  | 36 => ⟨S8x4096x3072, .f32⟩
  | 37 => ⟨S_, .f32⟩
  | 38 => ⟨S8x4096x3072, .f32⟩
  | 39 => ⟨S8x4096x3072, .f32⟩
  | 40 => ⟨S8x4096x1024, .f32⟩
  | 41 => ⟨S8x4096x1024, .f32⟩
  | 42 => ⟨S8x4096x1024, .f32⟩
  | 43 => ⟨S8x4096x1024, .f32⟩
  | 44 => ⟨S8x4096x1024, .f32⟩
  | 45 => ⟨S8x4096x1024, .f32⟩
  | 46 => ⟨S8x4096x1024, .f32⟩
  | 47 => ⟨S8x4096x1024, .f32⟩
  | 48 => ⟨S8x4096x1024, .f32⟩
  | 49 => ⟨S8x4096x1024, .f32⟩
  | 50 => ⟨S8x4096x1024, .f32⟩
  | 51 => ⟨S8x4096x1024, .f32⟩
  | 52 => ⟨S8x4096x1024, .f32⟩
  | 53 => ⟨S8x4096x1024, .f32⟩
  | 54 => ⟨S8x4096x1024, .f32⟩
  | 55 => ⟨S8x256x3072, .f32⟩
  | 56 => ⟨S8x256x3072, .f32⟩
  | 57 => ⟨S_, .f32⟩
  | 58 => ⟨S8x256x3072, .f32⟩
  | 59 => ⟨S8x256x3072, .f32⟩
  | 60 => ⟨S_, .f32⟩
  | 61 => ⟨S8x256x3072, .f32⟩
  | 62 => ⟨S8x256x3072, .f32⟩
  | 63 => ⟨S8x256x1024, .f32⟩
  | 64 => ⟨S8x256x1024, .f32⟩
  | 65 => ⟨S8x256x1024, .f32⟩
  | 66 => ⟨S8x256x1024, .f32⟩
  | 67 => ⟨S8x256x1024, .f32⟩
  | 68 => ⟨S8x256x1024, .f32⟩
  | 69 => ⟨S8x256x1024, .f32⟩
  | 70 => ⟨S8x256x1024, .f32⟩
  | 71 => ⟨S8x256x1024, .f32⟩
  | 72 => ⟨S8x256x1024, .f32⟩
  | 73 => ⟨S8x256x1024, .f32⟩
  | 74 => ⟨S8x256x1024, .f32⟩
  | 75 => ⟨S1x1x1024, .f32⟩
  | 76 => ⟨S8x256x1024, .f32⟩
  | 77 => ⟨S8x256x1024, .f32⟩
  | 78 => ⟨S8x256x1024, .f32⟩
  | 79 => ⟨S8x4096x1024, .f32⟩
  | 80 => ⟨S_, .f32⟩
  | 81 => ⟨S8x4096, .f32⟩
  | 82 => ⟨S8x4096x1, .f32⟩
  | 83 => ⟨S_, .f32⟩
  | 84 => ⟨S8x4096x1, .f32⟩
  | 85 => ⟨S8x4096x1, .f32⟩
  | 86 => ⟨S_, .f32⟩
  | 87 => ⟨S8x4096x1, .f32⟩
  | 88 => ⟨S8x4096x1, .f32⟩
  | 89 => ⟨S8x4096x1, .f32⟩
  | 90 => ⟨S8x4096x1024, .f32⟩
  | 91 => ⟨S8x4096x1024, .f32⟩
  | 92 => ⟨S1x1x1024, .f32⟩
  | 93 => ⟨S8x4096x1024, .f32⟩
  | 94 => ⟨S8x4096x1024, .f32⟩
  | 95 => ⟨S_, .f32⟩
  | 96 => ⟨S8x1x1024, .f32⟩
  | 97 => ⟨S8x1x1024, .f32⟩
  | 98 => ⟨S8x4096x1024, .f32⟩
  | 99 => ⟨S8x4096x1024, .f32⟩
  | 100 => ⟨S8x4096x1024, .f32⟩
  | 101 => ⟨S8x4096x1024, .f32⟩
  | 102 => ⟨S8x4096x5632, .f32⟩
  | 103 => ⟨S8x4096x2816, .f32⟩
  | 104 => ⟨S8x4096x2816, .f32⟩
  | 105 => ⟨S8x4096x2816, .f32⟩
  | 106 => ⟨S8x4096x2816, .f32⟩
  | 107 => ⟨S_, .f32⟩
  | 108 => ⟨S8x4096x2816, .f32⟩
  | 109 => ⟨S8x4096x2816, .f32⟩
  | 110 => ⟨S_, .f32⟩
  | 111 => ⟨S8x4096x2816, .f32⟩
  | 112 => ⟨S8x4096x2816, .f32⟩
  | 113 => ⟨S8x4096x2816, .f32⟩
  | 114 => ⟨S8x4096x2816, .f32⟩
  | 115 => ⟨S8x4096x1024, .f32⟩
  | 116 => ⟨S8x4096x1024, .f32⟩
  | 117 => ⟨S8x4096x1024, .f32⟩
  | 118 => ⟨S8x4096x1024, .f32⟩
  | 119 => ⟨S8x256x1024, .f32⟩
  | 120 => ⟨S_, .f32⟩
  | 121 => ⟨S8x256, .f32⟩
  | 122 => ⟨S8x256x1, .f32⟩
  | 123 => ⟨S_, .f32⟩
  | 124 => ⟨S8x256x1, .f32⟩
  | 125 => ⟨S8x256x1, .f32⟩
  | 126 => ⟨S_, .f32⟩
  | 127 => ⟨S8x256x1, .f32⟩
  | _ => ⟨S8x4096x1024, .f32⟩

abbrev hbmTy0_1 (i : Nat) : BufTy := match i % 128 with
  | 0 => ⟨S8x256x1, .f32⟩
  | 1 => ⟨S8x256x1, .f32⟩
  | 2 => ⟨S8x256x1024, .f32⟩
  | 3 => ⟨S8x256x1024, .f32⟩
  | 4 => ⟨S1x1x1024, .f32⟩
  | 5 => ⟨S8x256x1024, .f32⟩
  | 6 => ⟨S8x256x1024, .f32⟩
  | 7 => ⟨S_, .f32⟩
  | 8 => ⟨S1024, .f32⟩
  | 9 => ⟨S1024, .f32⟩
  | 10 => ⟨S1x1x1024, .f32⟩
  | 11 => ⟨S8x256x1024, .f32⟩
  | 12 => ⟨S8x256x1024, .f32⟩
  | 13 => ⟨S1x1x1024, .f32⟩
  | 14 => ⟨S8x256x1024, .f32⟩
  | 15 => ⟨S8x256x1024, .f32⟩
  | 16 => ⟨S8x256x5632, .f32⟩
  | 17 => ⟨S8x256x2816, .f32⟩
  | 18 => ⟨S8x256x2816, .f32⟩
  | 19 => ⟨S8x256x2816, .f32⟩
  | 20 => ⟨S8x256x2816, .f32⟩
  | 21 => ⟨S_, .f32⟩
  | 22 => ⟨S8x256x2816, .f32⟩
  | 23 => ⟨S8x256x2816, .f32⟩
  | 24 => ⟨S_, .f32⟩
  | 25 => ⟨S8x256x2816, .f32⟩
  | 26 => ⟨S8x256x2816, .f32⟩
  | 27 => ⟨S8x256x2816, .f32⟩
  | 28 => ⟨S8x256x2816, .f32⟩
  | 29 => ⟨S8x256x1024, .f32⟩
  | 30 => ⟨S1x1x1024, .f32⟩
  | 31 => ⟨S8x256x1024, .f32⟩
  | 32 => ⟨S8x256x1024, .f32⟩
  | 33 => ⟨S8x256x1024, .f32⟩
  | 34 => ⟨S8x4352x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_cst_0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_1 : Ref sig .tc := ⟨.hbm, 57, rfl⟩
abbrev main_v36 : Ref sig .tc := ⟨.hbm, 58, rfl⟩
abbrev main_v37 : Ref sig .tc := ⟨.hbm, 59, rfl⟩
abbrev main_cst_2 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_3 : Ref sig .tc := ⟨.hbm, 80, rfl⟩
abbrev main_v57 : Ref sig .tc := ⟨.hbm, 81, rfl⟩
abbrev main_v58 : Ref sig .tc := ⟨.hbm, 82, rfl⟩
abbrev main_cst_4 : Ref sig .tc := ⟨.hbm, 83, rfl⟩
abbrev main_v59 : Ref sig .tc := ⟨.hbm, 84, rfl⟩
abbrev main_v60 : Ref sig .tc := ⟨.hbm, 85, rfl⟩
abbrev main_cst_5 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_6 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_call0_v0 : Ref sig .tc := ⟨.hbm, 105, rfl⟩
abbrev main_call0_v1 : Ref sig .tc := ⟨.hbm, 106, rfl⟩
abbrev main_call0_cst : Ref sig .tc := ⟨.hbm, 107, rfl⟩
abbrev main_call0_v2 : Ref sig .tc := ⟨.hbm, 108, rfl⟩
abbrev main_call0_v3 : Ref sig .tc := ⟨.hbm, 109, rfl⟩
abbrev main_call0_cst_0 : Ref sig .tc := ⟨.hbm, 110, rfl⟩
abbrev main_call0_v4 : Ref sig .tc := ⟨.hbm, 111, rfl⟩
abbrev main_call0_v5 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_7 : Ref sig .tc := ⟨.hbm, 120, rfl⟩
abbrev main_v85 : Ref sig .tc := ⟨.hbm, 121, rfl⟩
abbrev main_v86 : Ref sig .tc := ⟨.hbm, 122, rfl⟩
abbrev main_cst_8 : Ref sig .tc := ⟨.hbm, 123, rfl⟩
abbrev main_v87 : Ref sig .tc := ⟨.hbm, 124, rfl⟩
abbrev main_v88 : Ref sig .tc := ⟨.hbm, 125, rfl⟩
abbrev main_cst_9 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_10 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_call1_v0 : Ref sig .tc := ⟨.hbm, 147, rfl⟩
abbrev main_call1_v1 : Ref sig .tc := ⟨.hbm, 148, rfl⟩
abbrev main_call1_cst : Ref sig .tc := ⟨.hbm, 149, rfl⟩
abbrev main_call1_v2 : Ref sig .tc := ⟨.hbm, 150, rfl⟩
abbrev main_call1_v3 : Ref sig .tc := ⟨.hbm, 151, rfl⟩
abbrev main_call1_cst_0 : Ref sig .tc := ⟨.hbm, 152, rfl⟩
abbrev main_call1_v4 : Ref sig .tc := ⟨.hbm, 153, rfl⟩
abbrev main_call1_v5 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩

abbrev nD : Nat := 1
abbrev τ : Topo := Topo.v7x

variable {F : FTy → Type} [FloatOps F]
-- ==== Mixer.lean ====
abbrev S8x4096x1024 : Shape := ⟨3, ![8, 4096, 1024]⟩
abbrev S8x256x1024 : Shape := ⟨3, ![8, 256, 1024]⟩
abbrev S8x6144 : Shape := ⟨2, ![8, 6144]⟩
abbrev S6144 : Shape := ⟨1, ![6144]⟩
abbrev S1024 : Shape := ⟨1, ![1024]⟩
abbrev S1024x5024 : Shape := ⟨2, ![1024, 5024]⟩
abbrev S64 : Shape := ⟨1, ![64]⟩
abbrev S256 : Shape := ⟨1, ![256]⟩
abbrev S128 : Shape := ⟨1, ![128]⟩
abbrev S256x384 : Shape := ⟨2, ![256, 384]⟩
abbrev S128x512 : Shape := ⟨2, ![128, 512]⟩
abbrev S8x1x6x1024 : Shape := ⟨4, ![8, 1, 6, 1024]⟩
abbrev S1x1x6x1024 : Shape := ⟨4, ![1, 1, 6, 1024]⟩
abbrev S8x2x6x1024 : Shape := ⟨4, ![8, 2, 6, 1024]⟩
abbrev S16x6x1024 : Shape := ⟨3, ![16, 6, 1024]⟩
abbrev S1024x256 : Shape := ⟨2, ![1024, 256]⟩
abbrev S1024x128 : Shape := ⟨2, ![1024, 128]⟩
abbrev S1024x32 : Shape := ⟨2, ![1024, 32]⟩
abbrev S1024x512 : Shape := ⟨2, ![1024, 512]⟩
abbrev S1024x3072 : Shape := ⟨2, ![1024, 3072]⟩
abbrev S_ : Shape := ⟨0, ![]⟩
abbrev S1024x2x64 : Shape := ⟨3, ![1024, 2, 64]⟩
abbrev S1024x2x128 : Shape := ⟨3, ![1024, 2, 128]⟩
abbrev S1024x5376 : Shape := ⟨2, ![1024, 5376]⟩
abbrev S256x4x96 : Shape := ⟨3, ![256, 4, 96]⟩
abbrev S256x4x128 : Shape := ⟨3, ![256, 4, 128]⟩
abbrev S256x512 : Shape := ⟨2, ![256, 512]⟩
abbrev S128x4x128 : Shape := ⟨3, ![128, 4, 128]⟩
abbrev S128x4x64 : Shape := ⟨3, ![128, 4, 64]⟩
abbrev S128x256 : Shape := ⟨2, ![128, 256]⟩
abbrev S128x1024 : Shape := ⟨2, ![128, 1024]⟩
abbrev S8x4352x1024 : Shape := ⟨3, ![8, 4352, 1024]⟩
abbrev S1x1024 : Shape := ⟨2, ![1, 1024]⟩
abbrev S1x64 : Shape := ⟨2, ![1, 64]⟩
abbrev S2x64 : Shape := ⟨2, ![2, 64]⟩
abbrev S1x128 : Shape := ⟨2, ![1, 128]⟩
abbrev S1x256 : Shape := ⟨2, ![1, 256]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x64 : Shape := ⟨2, ![4096, 64]⟩
abbrev S4096x128 : Shape := ⟨2, ![4096, 128]⟩
abbrev S4096x0 : Shape := ⟨2, ![4096, 0]⟩
abbrev S256x64 : Shape := ⟨2, ![256, 64]⟩
abbrev S256x128 : Shape := ⟨2, ![256, 128]⟩
abbrev S4352x128 : Shape := ⟨2, ![4352, 128]⟩
abbrev S1x4352x128 : Shape := ⟨3, ![1, 4352, 128]⟩
abbrev S3x4352x128 : Shape := ⟨3, ![3, 4352, 128]⟩
abbrev S3x4352x64 : Shape := ⟨3, ![3, 4352, 64]⟩
abbrev S1x3x1x4352x1x64 : Shape := ⟨6, ![1, 3, 1, 4352, 1, 64]⟩
abbrev S1x3x1x4352x2x64 : Shape := ⟨6, ![1, 3, 1, 4352, 2, 64]⟩
abbrev S8 : Shape := ⟨1, ![8]⟩
abbrev S1x8 : Shape := ⟨2, ![1, 8]⟩
abbrev S4096x8 : Shape := ⟨2, ![4096, 8]⟩
abbrev S256x96 : Shape := ⟨2, ![256, 96]⟩
abbrev S34816x1024 : Shape := ⟨2, ![34816, 1024]⟩
abbrev S34816x256 : Shape := ⟨2, ![34816, 256]⟩
abbrev S34816x512 : Shape := ⟨2, ![34816, 512]⟩
abbrev S34816x3072 : Shape := ⟨2, ![34816, 3072]⟩
abbrev S34816x128 : Shape := ⟨2, ![34816, 128]⟩
abbrev S512x1024 : Shape := ⟨2, ![512, 1024]⟩
abbrev S1x6x1024 : Shape := ⟨3, ![1, 6, 1024]⟩
abbrev S3x256x128 : Shape := ⟨3, ![3, 256, 128]⟩
abbrev S512x256 : Shape := ⟨2, ![512, 256]⟩
abbrev S512x512 : Shape := ⟨2, ![512, 512]⟩
abbrev S512x3072 : Shape := ⟨2, ![512, 3072]⟩
abbrev S512x128 : Shape := ⟨2, ![512, 128]⟩
abbrev S256x1024 : Shape := ⟨2, ![256, 1024]⟩
abbrev S6x1024 : Shape := ⟨2, ![6, 1024]⟩
abbrev S256x1 : Shape := ⟨2, ![256, 1]⟩
abbrev S1x256x128 : Shape := ⟨3, ![1, 256, 128]⟩
abbrev S256x256 : Shape := ⟨2, ![256, 256]⟩
abbrev S1024x768 : Shape := ⟨2, ![1024, 768]⟩
abbrev S256x768 : Shape := ⟨2, ![256, 768]⟩
abbrev S1024x1024 : Shape := ⟨2, ![1024, 1024]⟩

abbrev nBuf : Space → Nat
  | .hbm => 291
  | .vmem => 44
  | .smem => 0
  | _ => 0

abbrev hbmTy0_0 (i : Nat) : BufTy := match i % 128 with
  | 0 => ⟨S8x4096x1024, .f32⟩
  | 1 => ⟨S8x256x1024, .f32⟩
  | 2 => ⟨S8x6144, .f32⟩
  | 3 => ⟨S6144, .f32⟩
  | 4 => ⟨S1024, .f32⟩
  | 5 => ⟨S1024x5024, .f32⟩
  | 6 => ⟨S64, .f32⟩
  | 7 => ⟨S64, .f32⟩
  | 8 => ⟨S256, .f32⟩
  | 9 => ⟨S128, .f32⟩
  | 10 => ⟨S256x384, .f32⟩
  | 11 => ⟨S128x512, .f32⟩
  | 12 => ⟨S8x1x6x1024, .f32⟩
  | 13 => ⟨S1x1x6x1024, .f32⟩
  | 14 => ⟨S8x1x6x1024, .f32⟩
  | 15 => ⟨S8x2x6x1024, .f32⟩
  | 16 => ⟨S16x6x1024, .f32⟩
  | 17 => ⟨S1024x256, .f32⟩
  | 18 => ⟨S1024x256, .f32⟩
  | 19 => ⟨S1024x128, .f32⟩
  | 20 => ⟨S1024x128, .f32⟩
  | 21 => ⟨S1024x128, .f32⟩
  | 22 => ⟨S1024x32, .f32⟩
  | 23 => ⟨S1024x256, .f32⟩
  | 24 => ⟨S1024x512, .f32⟩
  | 25 => ⟨S1024x256, .f32⟩
  | 26 => ⟨S1024x3072, .f32⟩
  | 27 => ⟨S_, .i32⟩
  | 28 => ⟨S_, .f32⟩
  | 29 => ⟨S1024x128, .f32⟩
  | 30 => ⟨S1024x2x64, .f32⟩
  | 31 => ⟨S_, .i32⟩
  | 32 => ⟨S_, .f32⟩
  | 33 => ⟨S1024x2x128, .f32⟩
  | 34 => ⟨S1024x256, .f32⟩
  | 35 => ⟨S1024x2x64, .f32⟩
  | 36 => ⟨S_, .i32⟩
  | 37 => ⟨S_, .f32⟩
  | 38 => ⟨S1024x2x128, .f32⟩
  | 39 => ⟨S1024x256, .f32⟩
  | 40 => ⟨S1024x5376, .f32⟩
  | 41 => ⟨S1024x5376, .bf16⟩
  | 42 => ⟨S256x4x96, .f32⟩
  | 43 => ⟨S_, .i32⟩
  | 44 => ⟨S_, .f32⟩
  | 45 => ⟨S256x4x128, .f32⟩
  | 46 => ⟨S256x512, .f32⟩
  | 47 => ⟨S256x512, .bf16⟩
  | 48 => ⟨S128x4x128, .f32⟩
  | 49 => ⟨S128x4x64, .f32⟩
  | 50 => ⟨S128x256, .f32⟩
  | 51 => ⟨S128x4x64, .f32⟩
  | 52 => ⟨S_, .i32⟩
  | 53 => ⟨S_, .f32⟩
  | 54 => ⟨S128x4x128, .f32⟩
  | 55 => ⟨S128x512, .f32⟩
  | 56 => ⟨S128x4x64, .f32⟩
  | 57 => ⟨S128x256, .f32⟩
  | 58 => ⟨S128x4x64, .f32⟩
  | 59 => ⟨S_, .i32⟩
  | 60 => ⟨S_, .f32⟩
  | 61 => ⟨S128x4x128, .f32⟩
  | 62 => ⟨S128x512, .f32⟩
  | 63 => ⟨S128x1024, .f32⟩
  | 64 => ⟨S128x1024, .bf16⟩
  | 65 => ⟨S8x4352x1024, .f32⟩
  | 66 => ⟨S1x1024, .f32⟩
  | 67 => ⟨S1x64, .f32⟩
  | 68 => ⟨S2x64, .f32⟩
  | 69 => ⟨S128, .f32⟩
  | 70 => ⟨S1x128, .f32⟩
  | 71 => ⟨S1x64, .f32⟩
  | 72 => ⟨S2x64, .f32⟩
  | 73 => ⟨S128, .f32⟩
  | 74 => ⟨S1x128, .f32⟩
  | 75 => ⟨S1x256, .f32⟩
  | 76 => ⟨S1x128, .f32⟩
  | 77 => ⟨S4096, .i32⟩
  | 78 => ⟨S_, .i32⟩
  | 79 => ⟨S_, .i32⟩
  | 80 => ⟨S4096, .i32⟩
  | 81 => ⟨S4096, .i32⟩
  | 82 => ⟨S4096, .i32⟩
  | 83 => ⟨S_, .i32⟩
  | 84 => ⟨S4096, .i32⟩
  | 85 => ⟨S4096, .i1⟩
  | 86 => ⟨S4096, .i32⟩
  | 87 => ⟨S4096, .i32⟩
  | 88 => ⟨S_, .i32⟩
  | 89 => ⟨S4096, .i32⟩
  | 90 => ⟨S4096, .i1⟩
  | 91 => ⟨S4096, .i1⟩
  | 92 => ⟨S_, .i32⟩
  | 93 => ⟨S4096, .i32⟩
  | 94 => ⟨S4096, .i32⟩
  | 95 => ⟨S4096, .i32⟩
  | 96 => ⟨S4096, .f32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S4096, .i32⟩
  | 104 => ⟨S4096, .i32⟩
  | 105 => ⟨S_, .i32⟩
  | 106 => ⟨S4096, .i32⟩
  | 107 => ⟨S4096, .i1⟩
  | 108 => ⟨S_, .i32⟩
  | 109 => ⟨S4096, .i32⟩
  | 110 => ⟨S4096, .i1⟩
  | 111 => ⟨S_, .i32⟩
  | 112 => ⟨S_, .i1⟩
  | 113 => ⟨S4096, .i1⟩
  | 114 => ⟨S4096, .i1⟩
  | 115 => ⟨S4096, .i1⟩
  | 116 => ⟨S4096, .i32⟩
  | 117 => ⟨S4096, .i32⟩
  | 118 => ⟨S4096, .i32⟩
  | 119 => ⟨S4096, .f32⟩
  | 120 => ⟨S16, .f32⟩
  | 121 => ⟨S16, .f32⟩
  | 122 => ⟨S_, .f32⟩
  | 123 => ⟨S16, .f32⟩
  | 124 => ⟨S16, .f32⟩
  | 125 => ⟨S_, .f32⟩
  | 126 => ⟨S16, .f32⟩
  | 127 => ⟨S16, .f32⟩
  | _ => ⟨S8x4096x1024, .f32⟩

abbrev hbmTy0_1 (i : Nat) : BufTy := match i % 128 with
  | 0 => ⟨S4096x1, .f32⟩
  | 1 => ⟨S1x16, .f32⟩
  | 2 => ⟨S4096x16, .f32⟩
  | 3 => ⟨S4096x16, .f32⟩
  | 4 => ⟨S4096x16, .f32⟩
  | 5 => ⟨S4096x1, .f32⟩
  | 6 => ⟨S1x16, .f32⟩
  | 7 => ⟨S4096x16, .f32⟩
  | 8 => ⟨S4096x16, .f32⟩
  | 9 => ⟨S4096x16, .f32⟩
  | 10 => ⟨S4096x32, .f32⟩
  | 11 => ⟨S4096x32, .f32⟩
  | 12 => ⟨S4096x32, .f32⟩
  | 13 => ⟨S_, .f32⟩
  | 14 => ⟨S4096x32, .f32⟩
  | 15 => ⟨S4096x64, .f32⟩
  | 16 => ⟨S_, .i32⟩
  | 17 => ⟨S_, .f32⟩
  | 18 => ⟨S4096x128, .f32⟩
  | 19 => ⟨S_, .f32⟩
  | 20 => ⟨S4096x0, .f32⟩
  | 21 => ⟨S_, .i32⟩
  | 22 => ⟨S_, .f32⟩
  | 23 => ⟨S4096x128, .f32⟩
  | 24 => ⟨S4096x128, .f32⟩
  | 25 => ⟨S4096x32, .f32⟩
  | 26 => ⟨S4096x64, .f32⟩
  | 27 => ⟨S_, .i32⟩
  | 28 => ⟨S_, .f32⟩
  | 29 => ⟨S4096x128, .f32⟩
  | 30 => ⟨S4096x64, .f32⟩
  | 31 => ⟨S_, .i32⟩
  | 32 => ⟨S_, .f32⟩
  | 33 => ⟨S4096x128, .f32⟩
  | 34 => ⟨S_, .f32⟩
  | 35 => ⟨S256x64, .f32⟩
  | 36 => ⟨S_, .i32⟩
  | 37 => ⟨S_, .f32⟩
  | 38 => ⟨S256x128, .f32⟩
  | 39 => ⟨S_, .f32⟩
  | 40 => ⟨S256x128, .f32⟩
  | 41 => ⟨S4352x128, .f32⟩
  | 42 => ⟨S4352x128, .f32⟩
  | 43 => ⟨S4352x128, .f32⟩
  | 44 => ⟨S1x4352x128, .f32⟩
  | 45 => ⟨S1x4352x128, .f32⟩
  | 46 => ⟨S1x4352x128, .f32⟩
  | 47 => ⟨S3x4352x128, .f32⟩
  | 48 => ⟨S3x4352x64, .f32⟩
  | 49 => ⟨S1x3x1x4352x1x64, .f32⟩
  | 50 => ⟨S1x3x1x4352x2x64, .f32⟩
  | 51 => ⟨S3x4352x128, .f32⟩
  | 52 => ⟨S4096, .i32⟩
  | 53 => ⟨S_, .i32⟩
  | 54 => ⟨S_, .i32⟩
  | 55 => ⟨S4096, .i32⟩
  | 56 => ⟨S4096, .i32⟩
  | 57 => ⟨S4096, .i32⟩
  | 58 => ⟨S_, .i32⟩
  | 59 => ⟨S4096, .i32⟩
  | 60 => ⟨S4096, .i1⟩
  | 61 => ⟨S4096, .i32⟩
  | 62 => ⟨S4096, .i32⟩
  | 63 => ⟨S_, .i32⟩
  | 64 => ⟨S4096, .i32⟩
  | 65 => ⟨S4096, .i1⟩
  | 66 => ⟨S4096, .i1⟩
  | 67 => ⟨S_, .i32⟩
  | 68 => ⟨S4096, .i32⟩
  | 69 => ⟨S4096, .i32⟩
  | 70 => ⟨S4096, .i32⟩
  | 71 => ⟨S4096, .f32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S4096, .i32⟩
  | 79 => ⟨S4096, .i32⟩
  | 80 => ⟨S_, .i32⟩
  | 81 => ⟨S4096, .i32⟩
  | 82 => ⟨S4096, .i1⟩
  | 83 => ⟨S_, .i32⟩
  | 84 => ⟨S4096, .i32⟩
  | 85 => ⟨S4096, .i1⟩
  | 86 => ⟨S_, .i32⟩
  | 87 => ⟨S_, .i1⟩
  | 88 => ⟨S4096, .i1⟩
  | 89 => ⟨S4096, .i1⟩
  | 90 => ⟨S4096, .i1⟩
  | 91 => ⟨S4096, .i32⟩
  | 92 => ⟨S4096, .i32⟩
  | 93 => ⟨S4096, .i32⟩
  | 94 => ⟨S4096, .f32⟩
  | 95 => ⟨S8, .f32⟩
  | 96 => ⟨S8, .f32⟩
  | 97 => ⟨S_, .f32⟩
  | 98 => ⟨S8, .f32⟩
  | 99 => ⟨S8, .f32⟩
  | 100 => ⟨S_, .f32⟩
  | 101 => ⟨S8, .f32⟩
  | 102 => ⟨S8, .f32⟩
  | 103 => ⟨S4096x1, .f32⟩
  | 104 => ⟨S1x8, .f32⟩
  | 105 => ⟨S4096x8, .f32⟩
  | 106 => ⟨S4096x8, .f32⟩
  | 107 => ⟨S4096x8, .f32⟩
  | 108 => ⟨S4096x1, .f32⟩
  | 109 => ⟨S1x8, .f32⟩
  | 110 => ⟨S4096x8, .f32⟩
  | 111 => ⟨S4096x8, .f32⟩
  | 112 => ⟨S4096x8, .f32⟩
  | 113 => ⟨S4096x16, .f32⟩
  | 114 => ⟨S4096x16, .f32⟩
  | 115 => ⟨S4096x16, .f32⟩
  | 116 => ⟨S_, .f32⟩
  | 117 => ⟨S4096x16, .f32⟩
  | 118 => ⟨S4096x32, .f32⟩
  | 119 => ⟨S_, .i32⟩
  | 120 => ⟨S_, .f32⟩
  | 121 => ⟨S4096x128, .f32⟩
  | 122 => ⟨S_, .f32⟩
  | 123 => ⟨S4096x64, .f32⟩
  | 124 => ⟨S_, .i32⟩
  | 125 => ⟨S_, .f32⟩
  | 126 => ⟨S4096x128, .f32⟩
  | 127 => ⟨S4096x128, .f32⟩
  | _ => ⟨S8x4096x1024, .f32⟩

abbrev hbmTy0_2 (i : Nat) : BufTy := match i % 128 with
  | 0 => ⟨S4096x16, .f32⟩
  | 1 => ⟨S4096x32, .f32⟩
  | 2 => ⟨S_, .i32⟩
  | 3 => ⟨S_, .f32⟩
  | 4 => ⟨S4096x128, .f32⟩
  | 5 => ⟨S4096x32, .f32⟩
  | 6 => ⟨S_, .i32⟩
  | 7 => ⟨S_, .f32⟩
  | 8 => ⟨S4096x128, .f32⟩
  | 9 => ⟨S_, .f32⟩
  | 10 => ⟨S256x96, .f32⟩
  | 11 => ⟨S_, .i32⟩
  | 12 => ⟨S_, .f32⟩
  | 13 => ⟨S256x128, .f32⟩
  | 14 => ⟨S_, .f32⟩
  | 15 => ⟨S256x128, .f32⟩
  | 16 => ⟨S4352x128, .f32⟩
  | 17 => ⟨S4352x128, .f32⟩
  | 18 => ⟨S4352x128, .f32⟩
  | 19 => ⟨S1x4352x128, .f32⟩
  | 20 => ⟨S1x4352x128, .f32⟩
  | 21 => ⟨S1x4352x128, .f32⟩
  | 22 => ⟨S3x4352x128, .f32⟩
  | 23 => ⟨S34816x1024, .f32⟩
  | 24 => ⟨S34816x256, .bf16⟩
  | 25 => ⟨S34816x256, .bf16⟩
  | 26 => ⟨S34816x256, .bf16⟩
  | 27 => ⟨S34816x512, .bf16⟩
  | 28 => ⟨S34816x256, .bf16⟩
  | 29 => ⟨S34816x256, .bf16⟩
  | 30 => ⟨S34816x512, .bf16⟩
  | 31 => ⟨S34816x512, .bf16⟩
  | 32 => ⟨S34816x512, .bf16⟩
  | 33 => ⟨S34816x3072, .bf16⟩
  | 34 => ⟨S34816x128, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S1024x5376, .bf16⟩
  | .local _ .vmem, ⟨8, _⟩ => ⟨S1x128, .f32⟩
  | .local _ .vmem, ⟨9, _⟩ => ⟨S1x128, .f32⟩
  | .local _ .vmem, ⟨10, _⟩ => ⟨S1x256, .f32⟩
  | .local _ .vmem, ⟨11, _⟩ => ⟨S1x128, .f32⟩
  | .local _ .vmem, ⟨12, _⟩ => ⟨S256x512, .bf16⟩
  | .local _ .vmem, ⟨13, _⟩ => ⟨S128x1024, .bf16⟩
  | .local _ .vmem, ⟨14, _⟩ => ⟨S3x256x128, .f32⟩
  | .local _ .vmem, ⟨15, _⟩ => ⟨S3x256x128, .f32⟩
  | .local _ .vmem, ⟨16, _⟩ => ⟨S3x256x128, .f32⟩
  | .local _ .vmem, ⟨17, _⟩ => ⟨S3x256x128, .f32⟩
  | .local _ .vmem, ⟨18, _⟩ => ⟨S3x256x128, .f32⟩
  | .local _ .vmem, ⟨19, _⟩ => ⟨S3x256x128, .f32⟩
  | .local _ .vmem, ⟨20, _⟩ => ⟨S3x256x128, .f32⟩
  | .local _ .vmem, ⟨21, _⟩ => ⟨S3x256x128, .f32⟩
  | .local _ .vmem, ⟨22, _⟩ => ⟨S512x256, .bf16⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | .local _ .vmem, ⟨27, _⟩ => ⟨S512x256, .bf16⟩
  | .local _ .vmem, ⟨28, _⟩ => ⟨S512x512, .bf16⟩
  | .local _ .vmem, ⟨29, _⟩ => ⟨S512x512, .bf16⟩
  | .local _ .vmem, ⟨30, _⟩ => ⟨S512x256, .bf16⟩
  | .local _ .vmem, ⟨31, _⟩ => ⟨S512x256, .bf16⟩
  | .local _ .vmem, ⟨32, _⟩ => ⟨S512x256, .bf16⟩
  | .local _ .vmem, ⟨33, _⟩ => ⟨S512x256, .bf16⟩
  | .local _ .vmem, ⟨34, _⟩ => ⟨S512x512, .bf16⟩
  | .local _ .vmem, ⟨35, _⟩ => ⟨S512x512, .bf16⟩
  | .local _ .vmem, ⟨36, _⟩ => ⟨S512x512, .bf16⟩
  | .local _ .vmem, ⟨37, _⟩ => ⟨S512x512, .bf16⟩
  | .local _ .vmem, ⟨38, _⟩ => ⟨S512x512, .bf16⟩
  | .local _ .vmem, ⟨39, _⟩ => ⟨S512x512, .bf16⟩
  | .local _ .vmem, ⟨40, _⟩ => ⟨S512x3072, .bf16⟩
  | .local _ .vmem, ⟨41, _⟩ => ⟨S512x3072, .bf16⟩
  | .local _ .vmem, ⟨42, _⟩ => ⟨S512x128, .f32⟩
  | .local _ .vmem, ⟨43, _⟩ => ⟨S512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_call0_v0 : Ref sig .tc := ⟨.hbm, 28, rfl⟩
abbrev main_v15 : Ref sig .tc := ⟨.hbm, 29, rfl⟩
abbrev main_v16 : Ref sig .tc := ⟨.hbm, 30, rfl⟩
abbrev main_c_0 : Ref sig .tc := ⟨.hbm, 31, rfl⟩
abbrev main_call1_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_1 : Ref sig .tc := ⟨.hbm, 36, rfl⟩
abbrev main_call2_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_2 : Ref sig .tc := ⟨.hbm, 43, rfl⟩
abbrev main_call3_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_3 : Ref sig .tc := ⟨.hbm, 52, rfl⟩
abbrev main_call4_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_4 : Ref sig .tc := ⟨.hbm, 59, rfl⟩
abbrev main_call5_v0 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_5 : Ref sig .tc := ⟨.hbm, 78, rfl⟩
abbrev main_call6_v0 : Ref sig .tc := ⟨.hbm, 79, rfl⟩
abbrev main_call6_v1 : Ref sig .tc := ⟨.hbm, 80, rfl⟩
abbrev main_call6_v2 : Ref sig .tc := ⟨.hbm, 81, rfl⟩
abbrev main_call6_v3 : Ref sig .tc := ⟨.hbm, 82, rfl⟩
abbrev main_call6_v4 : Ref sig .tc := ⟨.hbm, 83, rfl⟩
abbrev main_call6_v5 : Ref sig .tc := ⟨.hbm, 84, rfl⟩
abbrev main_call6_v6 : Ref sig .tc := ⟨.hbm, 85, rfl⟩
abbrev main_call6_v7 : Ref sig .tc := ⟨.hbm, 86, rfl⟩
abbrev main_call6_v8 : Ref sig .tc := ⟨.hbm, 87, rfl⟩
abbrev main_call6_c : Ref sig .tc := ⟨.hbm, 88, rfl⟩
abbrev main_call6_v9 : Ref sig .tc := ⟨.hbm, 89, rfl⟩
abbrev main_call6_v10 : Ref sig .tc := ⟨.hbm, 90, rfl⟩
abbrev main_call6_v11 : Ref sig .tc := ⟨.hbm, 91, rfl⟩
abbrev main_call6_c_0 : Ref sig .tc := ⟨.hbm, 92, rfl⟩
abbrev main_call6_v12 : Ref sig .tc := ⟨.hbm, 93, rfl⟩
abbrev main_call6_v13 : Ref sig .tc := ⟨.hbm, 94, rfl⟩
abbrev main_v54 : Ref sig .tc := ⟨.hbm, 95, rfl⟩
abbrev main_v55 : Ref sig .tc := ⟨.hbm, 96, rfl⟩
abbrev main_c_6 : Ref sig .tc := ⟨.hbm, 97, rfl⟩
abbrev main_call7_v0 : Ref sig .tc := ⟨.hbm, 98, rfl⟩
abbrev main_call7_c : Ref sig .tc := ⟨.hbm, 99, rfl⟩
abbrev main_call7_v1 : Ref sig .tc := ⟨.hbm, 100, rfl⟩
abbrev main_call7_c_0 : Ref sig .tc := ⟨.hbm, 101, rfl⟩
abbrev main_call7_v2 : Ref sig .tc := ⟨.hbm, 102, rfl⟩
abbrev main_call7_v3 : Ref sig .tc := ⟨.hbm, 103, rfl⟩
abbrev main_call7_v4 : Ref sig .tc := ⟨.hbm, 104, rfl⟩
abbrev main_call7_c_1 : Ref sig .tc := ⟨.hbm, 105, rfl⟩
abbrev main_call7_v5 : Ref sig .tc := ⟨.hbm, 106, rfl⟩
abbrev main_call7_v6 : Ref sig .tc := ⟨.hbm, 107, rfl⟩
abbrev main_call7_c_2 : Ref sig .tc := ⟨.hbm, 108, rfl⟩
abbrev main_call7_v7 : Ref sig .tc := ⟨.hbm, 109, rfl⟩
abbrev main_call7_v8 : Ref sig .tc := ⟨.hbm, 110, rfl⟩
abbrev main_call7_c_3 : Ref sig .tc := ⟨.hbm, 111, rfl⟩
abbrev main_call7_v9 : Ref sig .tc := ⟨.hbm, 112, rfl⟩
abbrev main_call7_v10 : Ref sig .tc := ⟨.hbm, 113, rfl⟩
abbrev main_call7_v11 : Ref sig .tc := ⟨.hbm, 114, rfl⟩
abbrev main_call7_v12 : Ref sig .tc := ⟨.hbm, 115, rfl⟩
abbrev main_call7_v13 : Ref sig .tc := ⟨.hbm, 116, rfl⟩
abbrev main_call7_v14 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_cst : Ref sig .tc := ⟨.hbm, 122, rfl⟩
abbrev main_v60 : Ref sig .tc := ⟨.hbm, 123, rfl⟩
abbrev main_v61 : Ref sig .tc := ⟨.hbm, 124, rfl⟩
abbrev main_cst_7 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_cst_8 : Ref sig .tc := ⟨.hbm, 141, rfl⟩
abbrev main_v77 : Ref sig .tc := ⟨.hbm, 142, rfl⟩
abbrev main_v78 : Ref sig .tc := ⟨.hbm, 143, rfl⟩
abbrev main_c_9 : Ref sig .tc := ⟨.hbm, 144, rfl⟩
abbrev main_call8_v0 : Ref sig .tc := ⟨.hbm, 145, rfl⟩
abbrev main_v79 : Ref sig .tc := ⟨.hbm, 146, rfl⟩
abbrev main_cst_10 : Ref sig .tc := ⟨.hbm, 147, rfl⟩
abbrev main_v80 : Ref sig .tc := ⟨.hbm, 148, rfl⟩
abbrev main_c_11 : Ref sig .tc := ⟨.hbm, 149, rfl⟩
abbrev main_call9_v0 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_c_12 : Ref sig .tc := ⟨.hbm, 155, rfl⟩
abbrev main_call10_v0 : Ref sig .tc := ⟨.hbm, 156, rfl⟩
abbrev main_v85 : Ref sig .tc := ⟨.hbm, 157, rfl⟩
abbrev main_v86 : Ref sig .tc := ⟨.hbm, 158, rfl⟩
abbrev main_c_13 : Ref sig .tc := ⟨.hbm, 159, rfl⟩
abbrev main_call11_v0 : Ref sig .tc := ⟨.hbm, 160, rfl⟩
abbrev main_v87 : Ref sig .tc := ⟨.hbm, 161, rfl⟩
abbrev main_cst_14 : Ref sig .tc := ⟨.hbm, 162, rfl⟩
abbrev main_v88 : Ref sig .tc := ⟨.hbm, 163, rfl⟩
abbrev main_c_15 : Ref sig .tc := ⟨.hbm, 164, rfl⟩
abbrev main_call12_v0 : Ref sig .tc := ⟨.hbm, 165, rfl⟩
abbrev main_v89 : Ref sig .tc := ⟨.hbm, 166, rfl⟩
abbrev main_cst_16 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_c_17 : Ref sig .tc := ⟨.hbm, 181, rfl⟩
abbrev main_call13_v0 : Ref sig .tc := ⟨.hbm, 182, rfl⟩
abbrev main_call13_v1 : Ref sig .tc := ⟨.hbm, 183, rfl⟩
abbrev main_call13_v2 : Ref sig .tc := ⟨.hbm, 184, rfl⟩
abbrev main_call13_v3 : Ref sig .tc := ⟨.hbm, 185, rfl⟩
abbrev main_call13_v4 : Ref sig .tc := ⟨.hbm, 186, rfl⟩
abbrev main_call13_v5 : Ref sig .tc := ⟨.hbm, 187, rfl⟩
abbrev main_call13_v6 : Ref sig .tc := ⟨.hbm, 188, rfl⟩
abbrev main_call13_v7 : Ref sig .tc := ⟨.hbm, 189, rfl⟩
abbrev main_call13_v8 : Ref sig .tc := ⟨.hbm, 190, rfl⟩
abbrev main_call13_c : Ref sig .tc := ⟨.hbm, 191, rfl⟩
abbrev main_call13_v9 : Ref sig .tc := ⟨.hbm, 192, rfl⟩
abbrev main_call13_v10 : Ref sig .tc := ⟨.hbm, 193, rfl⟩
abbrev main_call13_v11 : Ref sig .tc := ⟨.hbm, 194, rfl⟩
abbrev main_call13_c_0 : Ref sig .tc := ⟨.hbm, 195, rfl⟩
abbrev main_call13_v12 : Ref sig .tc := ⟨.hbm, 196, rfl⟩
abbrev main_call13_v13 : Ref sig .tc := ⟨.hbm, 197, rfl⟩
abbrev main_v103 : Ref sig .tc := ⟨.hbm, 198, rfl⟩
abbrev main_v104 : Ref sig .tc := ⟨.hbm, 199, rfl⟩
abbrev main_c_18 : Ref sig .tc := ⟨.hbm, 200, rfl⟩
abbrev main_call14_v0 : Ref sig .tc := ⟨.hbm, 201, rfl⟩
abbrev main_call14_c : Ref sig .tc := ⟨.hbm, 202, rfl⟩
abbrev main_call14_v1 : Ref sig .tc := ⟨.hbm, 203, rfl⟩
abbrev main_call14_c_0 : Ref sig .tc := ⟨.hbm, 204, rfl⟩
abbrev main_call14_v2 : Ref sig .tc := ⟨.hbm, 205, rfl⟩
abbrev main_call14_v3 : Ref sig .tc := ⟨.hbm, 206, rfl⟩
abbrev main_call14_v4 : Ref sig .tc := ⟨.hbm, 207, rfl⟩
abbrev main_call14_c_1 : Ref sig .tc := ⟨.hbm, 208, rfl⟩
abbrev main_call14_v5 : Ref sig .tc := ⟨.hbm, 209, rfl⟩
abbrev main_call14_v6 : Ref sig .tc := ⟨.hbm, 210, rfl⟩
abbrev main_call14_c_2 : Ref sig .tc := ⟨.hbm, 211, rfl⟩
abbrev main_call14_v7 : Ref sig .tc := ⟨.hbm, 212, rfl⟩
abbrev main_call14_v8 : Ref sig .tc := ⟨.hbm, 213, rfl⟩
abbrev main_call14_c_3 : Ref sig .tc := ⟨.hbm, 214, rfl⟩
abbrev main_call14_v9 : Ref sig .tc := ⟨.hbm, 215, rfl⟩
abbrev main_call14_v10 : Ref sig .tc := ⟨.hbm, 216, rfl⟩
abbrev main_call14_v11 : Ref sig .tc := ⟨.hbm, 217, rfl⟩
abbrev main_call14_v12 : Ref sig .tc := ⟨.hbm, 218, rfl⟩
abbrev main_call14_v13 : Ref sig .tc := ⟨.hbm, 219, rfl⟩
abbrev main_call14_v14 : Ref sig .tc := ⟨.hbm, 220, rfl⟩
abbrev main_v105 : Ref sig .tc := ⟨.hbm, 221, rfl⟩
abbrev main_v106 : Ref sig .tc := ⟨.hbm, 222, rfl⟩
abbrev main_v107 : Ref sig .tc := ⟨.hbm, 223, rfl⟩
abbrev main_v108 : Ref sig .tc := ⟨.hbm, 224, rfl⟩
abbrev main_cst_19 : Ref sig .tc := ⟨.hbm, 225, rfl⟩
abbrev main_v109 : Ref sig .tc := ⟨.hbm, 226, rfl⟩
abbrev main_v110 : Ref sig .tc := ⟨.hbm, 227, rfl⟩
abbrev main_cst_20 : Ref sig .tc := ⟨.hbm, 228, rfl⟩
abbrev main_v111 : Ref sig .tc := ⟨.hbm, 229, rfl⟩
abbrev main_v112 : Ref sig .tc := ⟨.hbm, 230, rfl⟩
abbrev main_v113 : Ref sig .tc := ⟨.hbm, 231, rfl⟩
abbrev main_v114 : Ref sig .tc := ⟨.hbm, 232, rfl⟩
abbrev main_v115 : Ref sig .tc := ⟨.hbm, 233, rfl⟩
abbrev main_v116 : Ref sig .tc := ⟨.hbm, 234, rfl⟩
abbrev main_v117 : Ref sig .tc := ⟨.hbm, 235, rfl⟩
abbrev main_v118 : Ref sig .tc := ⟨.hbm, 236, rfl⟩
abbrev main_v119 : Ref sig .tc := ⟨.hbm, 237, rfl⟩
abbrev main_v120 : Ref sig .tc := ⟨.hbm, 238, rfl⟩
abbrev main_v121 : Ref sig .tc := ⟨.hbm, 239, rfl⟩
abbrev main_v122 : Ref sig .tc := ⟨.hbm, 240, rfl⟩
abbrev main_v123 : Ref sig .tc := ⟨.hbm, 241, rfl⟩
abbrev main_v124 : Ref sig .tc := ⟨.hbm, 242, rfl⟩
abbrev main_v125 : Ref sig .tc := ⟨.hbm, 243, rfl⟩
abbrev main_cst_21 : Ref sig .tc := ⟨.hbm, 244, rfl⟩
abbrev main_v126 : Ref sig .tc := ⟨.hbm, 245, rfl⟩
abbrev main_v127 : Ref sig .tc := ⟨.hbm, 246, rfl⟩
abbrev main_c_22 : Ref sig .tc := ⟨.hbm, 247, rfl⟩
abbrev main_call15_v0 : Ref sig .tc := ⟨.hbm, 248, rfl⟩
abbrev main_v128 : Ref sig .tc := ⟨.hbm, 249, rfl⟩
abbrev main_cst_23 : Ref sig .tc := ⟨.hbm, 250, rfl⟩
abbrev main_v129 : Ref sig .tc := ⟨.hbm, 251, rfl⟩
abbrev main_c_24 : Ref sig .tc := ⟨.hbm, 252, rfl⟩
abbrev main_call16_v0 : Ref sig .tc := ⟨.hbm, 253, rfl⟩
abbrev main_v130 : Ref sig .tc := ⟨.hbm, 254, rfl⟩
abbrev main_v131 : Ref sig .tc := ⟨.hbm, 255, rfl⟩
abbrev main_v132 : Ref sig .tc := ⟨.hbm, 256, rfl⟩
abbrev main_v133 : Ref sig .tc := ⟨.hbm, 257, rfl⟩
abbrev main_c_25 : Ref sig .tc := ⟨.hbm, 258, rfl⟩
abbrev main_call17_v0 : Ref sig .tc := ⟨.hbm, 259, rfl⟩
abbrev main_v134 : Ref sig .tc := ⟨.hbm, 260, rfl⟩
abbrev main_v135 : Ref sig .tc := ⟨.hbm, 261, rfl⟩
abbrev main_c_26 : Ref sig .tc := ⟨.hbm, 262, rfl⟩
abbrev main_call18_v0 : Ref sig .tc := ⟨.hbm, 263, rfl⟩
abbrev main_v136 : Ref sig .tc := ⟨.hbm, 264, rfl⟩
abbrev main_cst_27 : Ref sig .tc := ⟨.hbm, 265, rfl⟩
abbrev main_v137 : Ref sig .tc := ⟨.hbm, 266, rfl⟩
abbrev main_c_28 : Ref sig .tc := ⟨.hbm, 267, rfl⟩
abbrev main_call19_v0 : Ref sig .tc := ⟨.hbm, 268, rfl⟩
abbrev main_v138 : Ref sig .tc := ⟨.hbm, 269, rfl⟩
abbrev main_cst_29 : Ref sig .tc := ⟨.hbm, 270, rfl⟩
abbrev main_v139 : Ref sig .tc := ⟨.hbm, 271, rfl⟩
abbrev main_v140 : Ref sig .tc := ⟨.hbm, 272, rfl⟩
abbrev main_v141 : Ref sig .tc := ⟨.hbm, 273, rfl⟩
abbrev main_v142 : Ref sig .tc := ⟨.hbm, 274, rfl⟩
abbrev main_v143 : Ref sig .tc := ⟨.hbm, 275, rfl⟩
abbrev main_v144 : Ref sig .tc := ⟨.hbm, 276, rfl⟩
abbrev main_v145 : Ref sig .tc := ⟨.hbm, 277, rfl⟩
abbrev main_v146 : Ref sig .tc := ⟨.hbm, 278, rfl⟩
abbrev main_v147 : Ref sig .tc := ⟨.hbm, 279, rfl⟩
abbrev main_v148_0 : Ref sig .tc := ⟨.hbm, 280, rfl⟩
abbrev main_v148_1 : Ref sig .tc := ⟨.hbm, 281, rfl⟩
abbrev main_v148_2 : Ref sig .tc := ⟨.hbm, 282, rfl⟩
abbrev main_v148_3 : Ref sig .tc := ⟨.hbm, 283, rfl⟩
abbrev main_v148_4 : Ref sig .tc := ⟨.hbm, 284, rfl⟩
abbrev main_v148_5 : Ref sig .tc := ⟨.hbm, 285, rfl⟩
abbrev main_v148_6 : Ref sig .tc := ⟨.hbm, 286, rfl⟩
abbrev main_v148_7 : Ref sig .tc := ⟨.hbm, 287, rfl⟩
abbrev main_v148_8 : Ref sig .tc := ⟨.hbm, 288, rfl⟩
abbrev main_v148_9 : Ref sig .tc := ⟨.hbm, 289, rfl⟩
abbrev main_v148_10 : Ref sig .tc := ⟨.hbm, 290, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg23_1 : Ref sig .tc := ⟨.vmem, 39, rfl⟩
abbrev cc0_stg24_0 : Ref sig .tc := ⟨.vmem, 40, rfl⟩
abbrev cc0_stg24_1 : Ref sig .tc := ⟨.vmem, 41, rfl⟩
abbrev cc0_stg25_0 : Ref sig .tc := ⟨.vmem, 42, rfl⟩
abbrev cc0_stg25_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc0_sem23_0 : DmaSem sig := 38
abbrev cc0_sem23_1 : DmaSem sig := 39
abbrev cc0_sem24_0 : DmaSem sig := 40
abbrev cc0_sem24_1 : DmaSem sig := 41
abbrev cc0_sem25_0 : DmaSem sig := 42
abbrev cc0_sem25_1 : DmaSem sig := 43

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 32 := Scalar.muli c2_i32_5 v18
  let c2_i32_6 : BitVec 32 := 2#32
  let v20 : BitVec 32 := Scalar.muli c2_i32_6 arg0
  let c0_i32_7 : BitVec 32 := 0#32
  let v21 : BitVec 32 := Scalar.addi v20 c0_i32_7
  let c17_i32_8 : BitVec 32 := 17#32
  let c0_i32_9 : BitVec 32 := 0#32
  let v22 : BitVec 1 := Scalar.cmpi .eq c17_i32_8 c0_i32_9
  let c1_i32_10 : BitVec 32 := 1#32
  let v23 : BitVec 32 := Scalar.select v22 c1_i32_10 c17_i32_8
  let v24 : BitVec 32 := Scalar.remsi v21 v23
  let c0_i32_11 : BitVec 32 := 0#32
  let v25 : BitVec 1 := Scalar.cmpi .ne v24 c0_i32_11
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let v29 : BitVec 1 := Scalar.andi v28 v25
  let v30 : BitVec 32 := Scalar.addi v24 v23
  let v31 : BitVec 32 := Scalar.select v29 v30 v24
  let c16_i32 : BitVec 32 := 16#32
  let v32 : BitVec 1 := Scalar.cmpi .eq v31 c16_i32
  let v33 : BitVec 32 := Scalar.extui v32
  let v34 : BitVec 32 := Scalar.addi v19 v33
  let c0_i32_14 : BitVec 32 := 0#32
  let c0_i32_15 : BitVec 32 := 0#32
  let c0_i32_16 : BitVec 32 := 0#32
  ![v34.toNat, c0_i32_14.toNat, c0_i32_15.toNat]

def cc0_transform_2 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c2_i32_5 : BitVec 32 := 2#32
  let v19 : BitVec 32 := Scalar.muli c2_i32_5 v18
  let c2_i32_6 : BitVec 32 := 2#32
  let v20 : BitVec 32 := Scalar.muli c2_i32_6 arg0
  let c1_i32_7 : BitVec 32 := 1#32
  let v21 : BitVec 32 := Scalar.addi v20 c1_i32_7
  let c17_i32_8 : BitVec 32 := 17#32
  let c0_i32_9 : BitVec 32 := 0#32
  let v22 : BitVec 1 := Scalar.cmpi .eq c17_i32_8 c0_i32_9
  let c1_i32_10 : BitVec 32 := 1#32
  let v23 : BitVec 32 := Scalar.select v22 c1_i32_10 c17_i32_8
  let v24 : BitVec 32 := Scalar.remsi v21 v23
  let c0_i32_11 : BitVec 32 := 0#32
  let v25 : BitVec 1 := Scalar.cmpi .ne v24 c0_i32_11
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let v29 : BitVec 1 := Scalar.andi v28 v25
  let v30 : BitVec 32 := Scalar.addi v24 v23
  let v31 : BitVec 32 := Scalar.select v29 v30 v24
  let c16_i32 : BitVec 32 := 16#32
  let v32 : BitVec 1 := Scalar.cmpi .eq v31 c16_i32
  let v33 : BitVec 32 := Scalar.extui v32
  let v34 : BitVec 32 := Scalar.addi v19 v33
  let c0_i32_14 : BitVec 32 := 0#32
  let c0_i32_15 : BitVec 32 := 0#32
  let c0_i32_16 : BitVec 32 := 0#32
  ![v34.toNat, c0_i32_14.toNat, c0_i32_15.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c17_i32 : BitVec 32 := 17#32
  let c0_i32_0 : BitVec 32 := 0#32
  let v2 : BitVec 1 := Scalar.cmpi .eq c17_i32 c0_i32_0
  let c1_i32 : BitVec 32 := 1#32
  let v3 : BitVec 32 := Scalar.select v2 c1_i32 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  let c0_i32_6 : BitVec 32 := 0#32
  ![c0_i32_4.toNat, v11.toNat, c0_i32_5.toNat]

def cc0_transform_12 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c17_i32 : BitVec 32 := 17#32
  let c0_i32 : BitVec 32 := 0#32
  let v2 : BitVec 1 := Scalar.cmpi .eq c17_i32 c0_i32
  let c1_i32_0 : BitVec 32 := 1#32
  let v3 : BitVec 32 := Scalar.select v2 c1_i32_0 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  let c0_i32_6 : BitVec 32 := 0#32
  ![c0_i32_4.toNat, v11.toNat, c0_i32_5.toNat]

def cc0_transform_13 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c17_i32 : BitVec 32 := 17#32
  let c0_i32_0 : BitVec 32 := 0#32
  let v2 : BitVec 1 := Scalar.cmpi .eq c17_i32 c0_i32_0
  let c1_i32 : BitVec 32 := 1#32
  let v3 : BitVec 32 := Scalar.select v2 c1_i32 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  let c0_i32_6 : BitVec 32 := 0#32
  ![c0_i32_4.toNat, v11.toNat, c0_i32_5.toNat]

def cc0_transform_14 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c17_i32 : BitVec 32 := 17#32
  let c0_i32 : BitVec 32 := 0#32
  let v2 : BitVec 1 := Scalar.cmpi .eq c17_i32 c0_i32
  let c1_i32_0 : BitVec 32 := 1#32
  let v3 : BitVec 32 := Scalar.select v2 c1_i32_0 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  let c0_i32_6 : BitVec 32 := 0#32
  ![c0_i32_4.toNat, v11.toNat, c0_i32_5.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5376 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S3x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S3x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S3x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S3x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x3072 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== MixerReferenceIdeal.lean ====
abbrev S8x4096x1024 : Shape := ⟨3, ![8, 4096, 1024]⟩
abbrev S8x256x1024 : Shape := ⟨3, ![8, 256, 1024]⟩
abbrev S8x6144 : Shape := ⟨2, ![8, 6144]⟩
abbrev S6144 : Shape := ⟨1, ![6144]⟩
abbrev S1024 : Shape := ⟨1, ![1024]⟩
abbrev S1024x5024 : Shape := ⟨2, ![1024, 5024]⟩
abbrev S64 : Shape := ⟨1, ![64]⟩
abbrev S256 : Shape := ⟨1, ![256]⟩
abbrev S128 : Shape := ⟨1, ![128]⟩
abbrev S256x384 : Shape := ⟨2, ![256, 384]⟩
abbrev S128x512 : Shape := ⟨2, ![128, 512]⟩
abbrev S8x1x6144 : Shape := ⟨3, ![8, 1, 6144]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5024 : Shape := ⟨3, ![8, 4096, 5024]⟩
abbrev S8x4096x256 : Shape := ⟨3, ![8, 4096, 256]⟩
abbrev S8x4096x3072 : Shape := ⟨3, ![8, 4096, 3072]⟩
abbrev S8x256 : Shape := ⟨2, ![8, 256]⟩
abbrev S8x256x1 : Shape := ⟨3, ![8, 256, 1]⟩
abbrev S8x256x5024 : Shape := ⟨3, ![8, 256, 5024]⟩
abbrev S8x256x256 : Shape := ⟨3, ![8, 256, 256]⟩
abbrev S8x256x3072 : Shape := ⟨3, ![8, 256, 3072]⟩
abbrev S8x4352x256 : Shape := ⟨3, ![8, 4352, 256]⟩
abbrev S34816x256 : Shape := ⟨2, ![34816, 256]⟩
abbrev S8x4352x3072 : Shape := ⟨3, ![8, 4352, 3072]⟩
abbrev S34816x3072 : Shape := ⟨2, ![34816, 3072]⟩
abbrev S8x4096x128 : Shape := ⟨3, ![8, 4096, 128]⟩
abbrev S8x4096x2x64 : Shape := ⟨4, ![8, 4096, 2, 64]⟩
abbrev S1x1x128 : Shape := ⟨3, ![1, 1, 128]⟩
abbrev S8x4096x512 : Shape := ⟨3, ![8, 4096, 512]⟩
abbrev S8x4096x4x128 : Shape := ⟨4, ![8, 4096, 4, 128]⟩
abbrev S8x4096x2x128 : Shape := ⟨4, ![8, 4096, 2, 128]⟩
abbrev S8x4096x4x64 : Shape := ⟨4, ![8, 4096, 4, 64]⟩
abbrev S8x256x128 : Shape := ⟨3, ![8, 256, 128]⟩
abbrev S8x256x2x64 : Shape := ⟨4, ![8, 256, 2, 64]⟩
abbrev S8x256x512 : Shape := ⟨3, ![8, 256, 512]⟩
abbrev S8x256x4x128 : Shape := ⟨4, ![8, 256, 4, 128]⟩
abbrev S8x256x2x128 : Shape := ⟨4, ![8, 256, 2, 128]⟩
abbrev S8x256x4x64 : Shape := ⟨4, ![8, 256, 4, 64]⟩
abbrev S8x4352x512 : Shape := ⟨3, ![8, 4352, 512]⟩
abbrev S34816x512 : Shape := ⟨2, ![34816, 512]⟩
abbrev S4096 : Shape := ⟨1, ![4096]⟩
abbrev S8x4096x2 : Shape := ⟨3, ![8, 4096, 2]⟩
abbrev S8x4096x2x1 : Shape := ⟨4, ![8, 4096, 2, 1]⟩
abbrev S1x1x1x64 : Shape := ⟨4, ![1, 1, 1, 64]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S1x4096x1x32 : Shape := ⟨4, ![1, 4096, 1, 32]⟩
abbrev S8x4096x2x32 : Shape := ⟨4, ![8, 4096, 2, 32]⟩
abbrev S8x4096x2x63 : Shape := ⟨4, ![8, 4096, 2, 63]⟩
abbrev S8x256x2 : Shape := ⟨3, ![8, 256, 2]⟩
abbrev S8x256x2x1 : Shape := ⟨4, ![8, 256, 2, 1]⟩
abbrev S8x256x2x63 : Shape := ⟨4, ![8, 256, 2, 63]⟩

abbrev nBuf : Space → Nat
  | .hbm => 313
  | .vmem => 0
  | .smem => 0
  | _ => 0

abbrev hbmTy0_0 (i : Nat) : BufTy := match i % 128 with
  | 0 => ⟨S8x4096x1024, .f32⟩
  | 1 => ⟨S8x256x1024, .f32⟩
  | 2 => ⟨S8x6144, .f32⟩
  | 3 => ⟨S6144, .f32⟩
  | 4 => ⟨S1024, .f32⟩
  | 5 => ⟨S1024x5024, .f32⟩
  | 6 => ⟨S64, .f32⟩
  | 7 => ⟨S64, .f32⟩
  | 8 => ⟨S256, .f32⟩
  | 9 => ⟨S128, .f32⟩
  | 10 => ⟨S256x384, .f32⟩
  | 11 => ⟨S128x512, .f32⟩
  | 12 => ⟨S8x1x6144, .f32⟩
  | 13 => ⟨S8x1x1024, .f32⟩
  | 14 => ⟨S8x1x1024, .f32⟩
  | 15 => ⟨S8x1x1024, .f32⟩
  | 16 => ⟨S8x1x1024, .f32⟩
  | 17 => ⟨S8x1x1024, .f32⟩
  | 18 => ⟨S8x1x1024, .f32⟩
  | 19 => ⟨S1024, .f32⟩
  | 20 => ⟨S1024, .f32⟩
  | 21 => ⟨S1024, .f32⟩
  | 22 => ⟨S1024, .f32⟩
  | 23 => ⟨S1024, .f32⟩
  | 24 => ⟨S1024, .f32⟩
  | 25 => ⟨S8x4096x1024, .f32⟩
  | 26 => ⟨S_, .f32⟩
  | 27 => ⟨S8x4096, .f32⟩
  | 28 => ⟨S8x4096x1, .f32⟩
  | 29 => ⟨S_, .f32⟩
  | 30 => ⟨S8x4096x1, .f32⟩
  | 31 => ⟨S8x4096x1, .f32⟩
  | 32 => ⟨S_, .f32⟩
  | 33 => ⟨S8x4096x1, .f32⟩
  | 34 => ⟨S8x4096x1, .f32⟩
  | 35 => ⟨S8x4096x1, .f32⟩
  | 36 => ⟨S8x4096x1024, .f32⟩
  | 37 => ⟨S8x4096x1024, .f32⟩
  | 38 => ⟨S1x1x1024, .f32⟩
  | 39 => ⟨S8x4096x1024, .f32⟩
  | 40 => ⟨S8x4096x1024, .f32⟩
  | 41 => ⟨S_, .f32⟩
  | 42 => ⟨S8x1x1024, .f32⟩
  | 43 => ⟨S8x1x1024, .f32⟩
  | 44 => ⟨S8x4096x1024, .f32⟩
  | 45 => ⟨S8x4096x1024, .f32⟩
  | 46 => ⟨S8x4096x1024, .f32⟩
  | 47 => ⟨S8x4096x1024, .f32⟩
  | 48 => ⟨S8x4096x5024, .f32⟩
  | 49 => ⟨S8x4096x256, .f32⟩
  | 50 => ⟨S_, .f32⟩
  | 51 => ⟨S8x4096x256, .f32⟩
  | 52 => ⟨S8x4096x256, .f32⟩
  | 53 => ⟨S8x4096x256, .f32⟩
  | 54 => ⟨S8x4096x256, .f32⟩
  | 55 => ⟨S8x4096x3072, .f32⟩
  | 56 => ⟨S8x4096x3072, .f32⟩
  | 57 => ⟨S8x4096x3072, .f32⟩
  | 58 => ⟨S_, .f32⟩
  | 59 => ⟨S8x4096x3072, .f32⟩
  | 60 => ⟨S8x4096x3072, .f32⟩
  | 61 => ⟨S_, .f32⟩
  | 62 => ⟨S8x4096x3072, .f32⟩
  | 63 => ⟨S8x4096x3072, .f32⟩
  | 64 => ⟨S8x256x1024, .f32⟩
  | 65 => ⟨S_, .f32⟩
  | 66 => ⟨S8x256, .f32⟩
  | 67 => ⟨S8x256x1, .f32⟩
  | 68 => ⟨S_, .f32⟩
  | 69 => ⟨S8x256x1, .f32⟩
  | 70 => ⟨S8x256x1, .f32⟩
  | 71 => ⟨S_, .f32⟩
  | 72 => ⟨S8x256x1, .f32⟩
  | 73 => ⟨S8x256x1, .f32⟩
  | 74 => ⟨S8x256x1, .f32⟩
  | 75 => ⟨S8x256x1024, .f32⟩
  | 76 => ⟨S8x256x1024, .f32⟩
  | 77 => ⟨S1x1x1024, .f32⟩
  | 78 => ⟨S8x256x1024, .f32⟩
  | 79 => ⟨S8x256x1024, .f32⟩
  | 80 => ⟨S_, .f32⟩
  | 81 => ⟨S1024, .f32⟩
  | 82 => ⟨S1024, .f32⟩
  | 83 => ⟨S1x1x1024, .f32⟩
  | 84 => ⟨S8x256x1024, .f32⟩
  | 85 => ⟨S8x256x1024, .f32⟩
  | 86 => ⟨S1x1x1024, .f32⟩
  | 87 => ⟨S8x256x1024, .f32⟩
  | 88 => ⟨S8x256x1024, .f32⟩
  | 89 => ⟨S8x256x5024, .f32⟩
  | 90 => ⟨S8x256x256, .f32⟩
  | 91 => ⟨S_, .f32⟩
  | 92 => ⟨S8x256x256, .f32⟩
  | 93 => ⟨S8x256x256, .f32⟩
  | 94 => ⟨S8x256x256, .f32⟩
  | 95 => ⟨S8x256x256, .f32⟩
  | 96 => ⟨S8x256x3072, .f32⟩
  | 97 => ⟨S8x256x3072, .f32⟩
  | 98 => ⟨S8x256x3072, .f32⟩
  | 99 => ⟨S_, .f32⟩
  | 100 => ⟨S8x256x3072, .f32⟩
  | 101 => ⟨S8x256x3072, .f32⟩
  | 102 => ⟨S_, .f32⟩
  | 103 => ⟨S8x256x3072, .f32⟩
  | 104 => ⟨S8x256x3072, .f32⟩
  | 105 => ⟨S8x4352x256, .f32⟩
  | 106 => ⟨S34816x256, .f32⟩
  | 107 => ⟨S34816x256, .bf16⟩
  | 108 => ⟨S8x4352x256, .f32⟩
  | 109 => ⟨S34816x256, .f32⟩
  | 110 => ⟨S34816x256, .bf16⟩
  | 111 => ⟨S8x4352x256, .f32⟩
  | 112 => ⟨S34816x256, .f32⟩
  | 113 => ⟨S34816x256, .bf16⟩
  | 114 => ⟨S8x4352x3072, .f32⟩
  | 115 => ⟨S34816x3072, .f32⟩
  | 116 => ⟨S34816x3072, .bf16⟩
  | 117 => ⟨S8x4096x128, .f32⟩
  | 118 => ⟨S8x4096x2x64, .f32⟩
  | 119 => ⟨S8x4096x128, .f32⟩
  | 120 => ⟨S8x4096x128, .f32⟩
  | 121 => ⟨S_, .f32⟩
  | 122 => ⟨S8x4096, .f32⟩
  | 123 => ⟨S8x4096x1, .f32⟩
  | 124 => ⟨S_, .f32⟩
  | 125 => ⟨S8x4096x1, .f32⟩
  | 126 => ⟨S8x4096x1, .f32⟩
  | 127 => ⟨S_, .f32⟩
  | _ => ⟨S8x4096x1024, .f32⟩

abbrev hbmTy0_1 (i : Nat) : BufTy := match i % 128 with
  | 0 => ⟨S8x4096x1, .f32⟩
  | 1 => ⟨S8x4096x1, .f32⟩
  | 2 => ⟨S8x4096x1, .f32⟩
  | 3 => ⟨S8x4096x128, .f32⟩
  | 4 => ⟨S8x4096x128, .f32⟩
  | 5 => ⟨S1x1x128, .f32⟩
  | 6 => ⟨S8x4096x128, .f32⟩
  | 7 => ⟨S8x4096x128, .f32⟩
  | 8 => ⟨S8x4096x512, .f32⟩
  | 9 => ⟨S8x4096x4x128, .f32⟩
  | 10 => ⟨S_, .f32⟩
  | 11 => ⟨S8x4096x2x64, .f32⟩
  | 12 => ⟨S8x4096x2x128, .f32⟩
  | 13 => ⟨S8x4096x256, .f32⟩
  | 14 => ⟨S8x4096x4x64, .f32⟩
  | 15 => ⟨S_, .f32⟩
  | 16 => ⟨S8x4096x4x64, .f32⟩
  | 17 => ⟨S8x4096x4x128, .f32⟩
  | 18 => ⟨S8x4096x512, .f32⟩
  | 19 => ⟨S8x256x128, .f32⟩
  | 20 => ⟨S8x256x2x64, .f32⟩
  | 21 => ⟨S8x256x128, .f32⟩
  | 22 => ⟨S8x256x128, .f32⟩
  | 23 => ⟨S_, .f32⟩
  | 24 => ⟨S8x256, .f32⟩
  | 25 => ⟨S8x256x1, .f32⟩
  | 26 => ⟨S_, .f32⟩
  | 27 => ⟨S8x256x1, .f32⟩
  | 28 => ⟨S8x256x1, .f32⟩
  | 29 => ⟨S_, .f32⟩
  | 30 => ⟨S8x256x1, .f32⟩
  | 31 => ⟨S8x256x1, .f32⟩
  | 32 => ⟨S8x256x1, .f32⟩
  | 33 => ⟨S8x256x128, .f32⟩
  | 34 => ⟨S8x256x128, .f32⟩
  | 35 => ⟨S1x1x128, .f32⟩
  | 36 => ⟨S8x256x128, .f32⟩
  | 37 => ⟨S8x256x128, .f32⟩
  | 38 => ⟨S8x256x512, .f32⟩
  | 39 => ⟨S8x256x4x128, .f32⟩
  | 40 => ⟨S_, .f32⟩
  | 41 => ⟨S8x256x2x64, .f32⟩
  | 42 => ⟨S8x256x2x128, .f32⟩
  | 43 => ⟨S8x256x256, .f32⟩
  | 44 => ⟨S8x256x4x64, .f32⟩
  | 45 => ⟨S_, .f32⟩
  | 46 => ⟨S8x256x4x64, .f32⟩
  | 47 => ⟨S8x256x4x128, .f32⟩
  | 48 => ⟨S8x256x512, .f32⟩
  | 49 => ⟨S8x4352x256, .f32⟩
  | 50 => ⟨S34816x256, .f32⟩
  | 51 => ⟨S34816x256, .bf16⟩
  | 52 => ⟨S8x4352x512, .f32⟩
  | 53 => ⟨S34816x512, .f32⟩
  | 54 => ⟨S34816x512, .bf16⟩
  | 55 => ⟨S4096, .i32⟩
  | 56 => ⟨S_, .i32⟩
  | 57 => ⟨S_, .i32⟩
  | 58 => ⟨S4096, .i32⟩
  | 59 => ⟨S4096, .i32⟩
  | 60 => ⟨S4096, .i32⟩
  | 61 => ⟨S_, .i32⟩
  | 62 => ⟨S4096, .i32⟩
  | 63 => ⟨S4096, .i1⟩
  | 64 => ⟨S4096, .i32⟩
  | 65 => ⟨S4096, .i32⟩
  | 66 => ⟨S_, .i32⟩
  | 67 => ⟨S4096, .i32⟩
  | 68 => ⟨S4096, .i1⟩
  | 69 => ⟨S4096, .i1⟩
  | 70 => ⟨S_, .i32⟩
  | 71 => ⟨S4096, .i32⟩
  | 72 => ⟨S4096, .i32⟩
  | 73 => ⟨S4096, .i32⟩
  | 74 => ⟨S4096, .f32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S4096, .i32⟩
  | 82 => ⟨S4096, .i32⟩
  | 83 => ⟨S_, .i32⟩
  | 84 => ⟨S4096, .i32⟩
  | 85 => ⟨S4096, .i1⟩
  | 86 => ⟨S_, .i32⟩
  | 87 => ⟨S4096, .i32⟩
  | 88 => ⟨S4096, .i1⟩
  | 89 => ⟨S_, .i32⟩
  | 90 => ⟨S_, .i1⟩
  | 91 => ⟨S4096, .i1⟩
  | 92 => ⟨S4096, .i1⟩
  | 93 => ⟨S4096, .i1⟩
  | 94 => ⟨S4096, .i32⟩
  | 95 => ⟨S4096, .i32⟩
  | 96 => ⟨S4096, .i32⟩
  | 97 => ⟨S4096, .f32⟩
  | 98 => ⟨S8x4096x128, .f32⟩
  | 99 => ⟨S8x4096x2x64, .f32⟩
  | 100 => ⟨S8x4096x2x64, .f32⟩
  | 101 => ⟨S_, .f32⟩
  | 102 => ⟨S8x4096x2, .f32⟩
  | 103 => ⟨S8x4096x2x1, .f32⟩
  | 104 => ⟨S_, .f32⟩
  | 105 => ⟨S8x4096x2x1, .f32⟩
  | 106 => ⟨S8x4096x2x1, .f32⟩
  | 107 => ⟨S_, .f32⟩
  | 108 => ⟨S8x4096x2x1, .f32⟩
  | 109 => ⟨S8x4096x2x1, .f32⟩
  | 110 => ⟨S8x4096x2x1, .f32⟩
  | 111 => ⟨S8x4096x2x64, .f32⟩
  | 112 => ⟨S8x4096x2x64, .f32⟩
  | 113 => ⟨S1x1x1x64, .f32⟩
  | 114 => ⟨S8x4096x2x64, .f32⟩
  | 115 => ⟨S8x4096x2x64, .f32⟩
  | 116 => ⟨S16, .f32⟩
  | 117 => ⟨S16, .f32⟩
  | 118 => ⟨S_, .f32⟩
  | 119 => ⟨S16, .f32⟩
  | 120 => ⟨S16, .f32⟩
  | 121 => ⟨S_, .f32⟩
  | 122 => ⟨S16, .f32⟩
  | 123 => ⟨S16, .f32⟩
  | 124 => ⟨S4096x1, .f32⟩
  | 125 => ⟨S1x16, .f32⟩
  | 126 => ⟨S4096x16, .f32⟩
  | 127 => ⟨S4096x16, .f32⟩
  | _ => ⟨S8x4096x1024, .f32⟩

abbrev hbmTy0_2 (i : Nat) : BufTy := match i % 128 with
  | 0 => ⟨S4096x16, .f32⟩
  | 1 => ⟨S4096x1, .f32⟩
  | 2 => ⟨S1x16, .f32⟩
  | 3 => ⟨S4096x16, .f32⟩
  | 4 => ⟨S4096x16, .f32⟩
  | 5 => ⟨S4096x16, .f32⟩
  | 6 => ⟨S4096x32, .f32⟩
  | 7 => ⟨S4096x32, .f32⟩
  | 8 => ⟨S1x4096x1x32, .f32⟩
  | 9 => ⟨S4096x32, .f32⟩
  | 10 => ⟨S1x4096x1x32, .f32⟩
  | 11 => ⟨S8x4096x2x32, .f32⟩
  | 12 => ⟨S8x4096x2x32, .f32⟩
  | 13 => ⟨S8x4096x2x32, .f32⟩
  | 14 => ⟨S8x4096x2x32, .f32⟩
  | 15 => ⟨S8x4096x2x32, .f32⟩
  | 16 => ⟨S8x4096x2x32, .f32⟩
  | 17 => ⟨S8x4096x2x32, .f32⟩
  | 18 => ⟨S8x4096x2x32, .f32⟩
  | 19 => ⟨S8x4096x2x32, .f32⟩
  | 20 => ⟨S8x4096x2x32, .f32⟩
  | 21 => ⟨S8x4096x2x32, .f32⟩
  | 22 => ⟨S8x4096x2x32, .f32⟩
  | 23 => ⟨S8x4096x2x64, .f32⟩
  | 24 => ⟨S_, .f32⟩
  | 25 => ⟨S8x4096x2x1, .f32⟩
  | 26 => ⟨S_, .f32⟩
  | 27 => ⟨S8x4096x2x63, .f32⟩
  | 28 => ⟨S8x4096x2x128, .f32⟩
  | 29 => ⟨S8x4096x256, .f32⟩
  | 30 => ⟨S8x256x128, .f32⟩
  | 31 => ⟨S8x256x2x64, .f32⟩
  | 32 => ⟨S8x256x2x64, .f32⟩
  | 33 => ⟨S_, .f32⟩
  | 34 => ⟨S8x256x2, .f32⟩
  | 35 => ⟨S8x256x2x1, .f32⟩
  | 36 => ⟨S_, .f32⟩
  | 37 => ⟨S8x256x2x1, .f32⟩
  | 38 => ⟨S8x256x2x1, .f32⟩
  | 39 => ⟨S_, .f32⟩
  | 40 => ⟨S8x256x2x1, .f32⟩
  | 41 => ⟨S8x256x2x1, .f32⟩
  | 42 => ⟨S8x256x2x1, .f32⟩
  | 43 => ⟨S8x256x2x64, .f32⟩
  | 44 => ⟨S8x256x2x64, .f32⟩
  | 45 => ⟨S1x1x1x64, .f32⟩
  | 46 => ⟨S8x256x2x64, .f32⟩
  | 47 => ⟨S8x256x2x64, .f32⟩
  | 48 => ⟨S_, .f32⟩
  | 49 => ⟨S8x256x2x1, .f32⟩
  | 50 => ⟨S_, .f32⟩
  | 51 => ⟨S8x256x2x63, .f32⟩
  | 52 => ⟨S8x256x2x128, .f32⟩
  | 53 => ⟨S8x256x256, .f32⟩
  | 54 => ⟨S8x4352x256, .f32⟩
  | 55 => ⟨S34816x256, .f32⟩
  | 56 => ⟨S34816x256, .bf16⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_6 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_9 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_10 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_11 : Ref sig .tc := ⟨.hbm, 99, rfl⟩
abbrev main_v75 : Ref sig .tc := ⟨.hbm, 100, rfl⟩
abbrev main_v76 : Ref sig .tc := ⟨.hbm, 101, rfl⟩
abbrev main_cst_12 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_13 : Ref sig .tc := ⟨.hbm, 121, rfl⟩
abbrev main_v95 : Ref sig .tc := ⟨.hbm, 122, rfl⟩
abbrev main_v96 : Ref sig .tc := ⟨.hbm, 123, rfl⟩
abbrev main_cst_14 : Ref sig .tc := ⟨.hbm, 124, rfl⟩
abbrev main_v97 : Ref sig .tc := ⟨.hbm, 125, rfl⟩
abbrev main_v98 : Ref sig .tc := ⟨.hbm, 126, rfl⟩
abbrev main_cst_15 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_cst_16 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_17 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_cst_18 : Ref sig .tc := ⟨.hbm, 151, rfl⟩
abbrev main_v120 : Ref sig .tc := ⟨.hbm, 152, rfl⟩
abbrev main_v121 : Ref sig .tc := ⟨.hbm, 153, rfl⟩
abbrev main_cst_19 : Ref sig .tc := ⟨.hbm, 154, rfl⟩
abbrev main_v122 : Ref sig .tc := ⟨.hbm, 155, rfl⟩
abbrev main_v123 : Ref sig .tc := ⟨.hbm, 156, rfl⟩
abbrev main_cst_20 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_cst_21 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_cst_22 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_c : Ref sig .tc := ⟨.hbm, 184, rfl⟩
abbrev main_call0_v0 : Ref sig .tc := ⟨.hbm, 185, rfl⟩
abbrev main_call0_v1 : Ref sig .tc := ⟨.hbm, 186, rfl⟩
abbrev main_call0_v2 : Ref sig .tc := ⟨.hbm, 187, rfl⟩
abbrev main_call0_v3 : Ref sig .tc := ⟨.hbm, 188, rfl⟩
abbrev main_call0_v4 : Ref sig .tc := ⟨.hbm, 189, rfl⟩
abbrev main_call0_v5 : Ref sig .tc := ⟨.hbm, 190, rfl⟩
abbrev main_call0_v6 : Ref sig .tc := ⟨.hbm, 191, rfl⟩
abbrev main_call0_v7 : Ref sig .tc := ⟨.hbm, 192, rfl⟩
abbrev main_call0_v8 : Ref sig .tc := ⟨.hbm, 193, rfl⟩
abbrev main_call0_c : Ref sig .tc := ⟨.hbm, 194, rfl⟩
abbrev main_call0_v9 : Ref sig .tc := ⟨.hbm, 195, rfl⟩
abbrev main_call0_v10 : Ref sig .tc := ⟨.hbm, 196, rfl⟩
abbrev main_call0_v11 : Ref sig .tc := ⟨.hbm, 197, rfl⟩
abbrev main_call0_c_0 : Ref sig .tc := ⟨.hbm, 198, rfl⟩
abbrev main_call0_v12 : Ref sig .tc := ⟨.hbm, 199, rfl⟩
abbrev main_call0_v13 : Ref sig .tc := ⟨.hbm, 200, rfl⟩
abbrev main_v148 : Ref sig .tc := ⟨.hbm, 201, rfl⟩
abbrev main_v149 : Ref sig .tc := ⟨.hbm, 202, rfl⟩
abbrev main_c_23 : Ref sig .tc := ⟨.hbm, 203, rfl⟩
abbrev main_call1_v0 : Ref sig .tc := ⟨.hbm, 204, rfl⟩
abbrev main_call1_c : Ref sig .tc := ⟨.hbm, 205, rfl⟩
abbrev main_call1_v1 : Ref sig .tc := ⟨.hbm, 206, rfl⟩
abbrev main_call1_c_0 : Ref sig .tc := ⟨.hbm, 207, rfl⟩
abbrev main_call1_v2 : Ref sig .tc := ⟨.hbm, 208, rfl⟩
abbrev main_call1_v3 : Ref sig .tc := ⟨.hbm, 209, rfl⟩
abbrev main_call1_v4 : Ref sig .tc := ⟨.hbm, 210, rfl⟩
abbrev main_call1_c_1 : Ref sig .tc := ⟨.hbm, 211, rfl⟩
abbrev main_call1_v5 : Ref sig .tc := ⟨.hbm, 212, rfl⟩
abbrev main_call1_v6 : Ref sig .tc := ⟨.hbm, 213, rfl⟩
abbrev main_call1_c_2 : Ref sig .tc := ⟨.hbm, 214, rfl⟩
abbrev main_call1_v7 : Ref sig .tc := ⟨.hbm, 215, rfl⟩
abbrev main_call1_v8 : Ref sig .tc := ⟨.hbm, 216, rfl⟩
abbrev main_call1_c_3 : Ref sig .tc := ⟨.hbm, 217, rfl⟩
abbrev main_call1_v9 : Ref sig .tc := ⟨.hbm, 218, rfl⟩
abbrev main_call1_v10 : Ref sig .tc := ⟨.hbm, 219, rfl⟩
abbrev main_call1_v11 : Ref sig .tc := ⟨.hbm, 220, rfl⟩
abbrev main_call1_v12 : Ref sig .tc := ⟨.hbm, 221, rfl⟩
abbrev main_call1_v13 : Ref sig .tc := ⟨.hbm, 222, rfl⟩
abbrev main_call1_v14 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_cst_24 : Ref sig .tc := ⟨.hbm, 229, rfl⟩
abbrev main_v155 : Ref sig .tc := ⟨.hbm, 230, rfl⟩
abbrev main_v156 : Ref sig .tc := ⟨.hbm, 231, rfl⟩
abbrev main_cst_25 : Ref sig .tc := ⟨.hbm, 232, rfl⟩
abbrev main_v157 : Ref sig .tc := ⟨.hbm, 233, rfl⟩
abbrev main_v158 : Ref sig .tc := ⟨.hbm, 234, rfl⟩
abbrev main_cst_26 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_cst_27 : Ref sig .tc := ⟨.hbm, 246, rfl⟩
abbrev main_v169 : Ref sig .tc := ⟨.hbm, 247, rfl⟩
abbrev main_v170 : Ref sig .tc := ⟨.hbm, 248, rfl⟩
abbrev main_cst_28 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_v196 : Ref sig .tc := ⟨.hbm, 275, rfl⟩
abbrev main_v197 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩
abbrev main_cst_29 : Ref sig .tc := ⟨.hbm, 280, rfl⟩
abbrev main_v201 : Ref sig .tc := ⟨.hbm, 281, rfl⟩
abbrev main_cst_30 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_cst_31 : Ref sig .tc := ⟨.hbm, 289, rfl⟩
abbrev main_v208 : Ref sig .tc := ⟨.hbm, 290, rfl⟩
abbrev main_v209 : Ref sig .tc := ⟨.hbm, 291, rfl⟩
abbrev main_cst_32 : Ref sig .tc := ⟨.hbm, 292, rfl⟩
abbrev main_v210 : Ref sig .tc := ⟨.hbm, 293, rfl⟩
abbrev main_v211 : Ref sig .tc := ⟨.hbm, 294, rfl⟩
abbrev main_cst_33 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_cst_34 : Ref sig .tc := ⟨.hbm, 304, rfl⟩
abbrev main_v220 : Ref sig .tc := ⟨.hbm, 305, rfl⟩
abbrev main_cst_35 : Ref sig .tc := ⟨.hbm, 306, rfl⟩
abbrev main_v221 : Ref sig .tc := ⟨.hbm, 307, rfl⟩
abbrev main_v222 : Ref sig .tc := ⟨.hbm, 308, rfl⟩
abbrev main_v223 : Ref sig .tc := ⟨.hbm, 309, rfl⟩
abbrev main_v224 : Ref sig .tc := ⟨.hbm, 310, rfl⟩
abbrev main_v225 : Ref sig .tc := ⟨.hbm, 311, rfl⟩
abbrev main_v226 : Ref sig .tc := ⟨.hbm, 312, rfl⟩

abbrev nD : Nat := 1
abbrev τ : Topo := Topo.v7x

variable {F : FTy → Type} [FloatOps F]
-- ==== Router.lean ====
abbrev S8x4096x1024 : Shape := ⟨3, ![8, 4096, 1024]⟩
abbrev S8x256x1024 : Shape := ⟨3, ![8, 256, 1024]⟩
abbrev S8x6144 : Shape := ⟨2, ![8, 6144]⟩
abbrev S6144 : Shape := ⟨1, ![6144]⟩
abbrev S1024 : Shape := ⟨1, ![1024]⟩
abbrev S8x4096x256 : Shape := ⟨3, ![8, 4096, 256]⟩
abbrev S8x256x256 : Shape := ⟨3, ![8, 256, 256]⟩
abbrev S8x4096x512 : Shape := ⟨3, ![8, 4096, 512]⟩
abbrev S8x256x512 : Shape := ⟨3, ![8, 256, 512]⟩
abbrev S8x4096x3072 : Shape := ⟨3, ![8, 4096, 3072]⟩
abbrev S8x256x3072 : Shape := ⟨3, ![8, 256, 3072]⟩
abbrev S256x1024 : Shape := ⟨2, ![256, 1024]⟩
abbrev S512x1024 : Shape := ⟨2, ![512, 1024]⟩
abbrev S1024x1024 : Shape := ⟨2, ![1024, 1024]⟩
abbrev S1024x8 : Shape := ⟨2, ![1024, 8]⟩
abbrev S8x1x6x1024 : Shape := ⟨4, ![8, 1, 6, 1024]⟩
abbrev S1x1x6x1024 : Shape := ⟨4, ![1, 1, 6, 1024]⟩
abbrev S8x2x6x1024 : Shape := ⟨4, ![8, 2, 6, 1024]⟩
abbrev S16x6x1024 : Shape := ⟨3, ![16, 6, 1024]⟩
abbrev S_ : Shape := ⟨0, ![]⟩
abbrev S1024x128 : Shape := ⟨2, ![1024, 128]⟩
abbrev S1x1024x128 : Shape := ⟨3, ![1, 1024, 128]⟩
abbrev S2x1024x128 : Shape := ⟨3, ![2, 1024, 128]⟩
abbrev S8x4352x3072 : Shape := ⟨3, ![8, 4352, 3072]⟩
abbrev S8x4352x1024 : Shape := ⟨3, ![8, 4352, 1024]⟩
abbrev S8x4352x256 : Shape := ⟨3, ![8, 4352, 256]⟩
abbrev S1x1024 : Shape := ⟨2, ![1, 1024]⟩
abbrev S8x4352x128 : Shape := ⟨3, ![8, 4352, 128]⟩
abbrev S8x128 : Shape := ⟨2, ![8, 128]⟩
abbrev S1x256x1024 : Shape := ⟨3, ![1, 256, 1024]⟩
abbrev S1x6x1024 : Shape := ⟨3, ![1, 6, 1024]⟩
abbrev S1x256x256 : Shape := ⟨3, ![1, 256, 256]⟩
abbrev S1x256x512 : Shape := ⟨3, ![1, 256, 512]⟩
abbrev S1x256x3072 : Shape := ⟨3, ![1, 256, 3072]⟩
abbrev S1x256x128 : Shape := ⟨3, ![1, 256, 128]⟩
abbrev S256x512 : Shape := ⟨2, ![256, 512]⟩
abbrev S256x256 : Shape := ⟨2, ![256, 256]⟩
abbrev S6x1024 : Shape := ⟨2, ![6, 1024]⟩
abbrev S256 : Shape := ⟨1, ![256]⟩
abbrev S256x1 : Shape := ⟨2, ![256, 1]⟩
abbrev S256x128 : Shape := ⟨2, ![256, 128]⟩
abbrev S1x128 : Shape := ⟨2, ![1, 128]⟩
abbrev S128 : Shape := ⟨1, ![128]⟩

abbrev nBuf : Space → Nat
  | .hbm => 59
  | .vmem => 30
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x6144, .f32⟩
  | .hbm, ⟨3, _⟩ => ⟨S6144, .f32⟩
  | .hbm, ⟨4, _⟩ => ⟨S1024, .f32⟩
  | .hbm, ⟨5, _⟩ => ⟨S8x4096x256, .f32⟩
  | .hbm, ⟨6, _⟩ => ⟨S8x256x256, .f32⟩
  | .hbm, ⟨7, _⟩ => ⟨S8x4096x512, .f32⟩
  | .hbm, ⟨8, _⟩ => ⟨S8x256x512, .f32⟩
  | .hbm, ⟨9, _⟩ => ⟨S8x4096x256, .f32⟩
  | .hbm, ⟨10, _⟩ => ⟨S8x256x256, .f32⟩
  | .hbm, ⟨11, _⟩ => ⟨S8x4096x3072, .f32⟩
  | .hbm, ⟨12, _⟩ => ⟨S8x256x3072, .f32⟩
  | .hbm, ⟨13, _⟩ => ⟨S256x1024, .f32⟩
  | .hbm, ⟨14, _⟩ => ⟨S512x1024, .f32⟩
  | .hbm, ⟨15, _⟩ => ⟨S256x1024, .f32⟩
  | .hbm, ⟨16, _⟩ => ⟨S1024x1024, .f32⟩
  | .hbm, ⟨17, _⟩ => ⟨S1024x8, .f32⟩
  | .hbm, ⟨18, _⟩ => ⟨S8x1x6x1024, .f32⟩
  | .hbm, ⟨19, _⟩ => ⟨S1x1x6x1024, .f32⟩
  | .hbm, ⟨20, _⟩ => ⟨S8x1x6x1024, .f32⟩
  | .hbm, ⟨21, _⟩ => ⟨S8x2x6x1024, .f32⟩
  | .hbm, ⟨22, _⟩ => ⟨S16x6x1024, .f32⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S1024x128, .bf16⟩
  | .hbm, ⟨27, _⟩ => ⟨S1024x128, .f32⟩
  | .hbm, ⟨28, _⟩ => ⟨S1024x128, .f32⟩
  | .hbm, ⟨29, _⟩ => ⟨S1024x128, .bf16⟩
  | .hbm, ⟨30, _⟩ => ⟨S1x1024x128, .bf16⟩
  | .hbm, ⟨31, _⟩ => ⟨S1x1024x128, .bf16⟩
  | .hbm, ⟨32, _⟩ => ⟨S2x1024x128, .bf16⟩
  | .hbm, ⟨33, _⟩ => ⟨S8x4352x3072, .f32⟩
  | .hbm, ⟨34, _⟩ => ⟨S8x4352x3072, .f32⟩
  | .hbm, ⟨35, _⟩ => ⟨S8x4352x3072, .f32⟩
  | .hbm, ⟨36, _⟩ => ⟨S_, .f32⟩
  | .hbm, ⟨37, _⟩ => ⟨S8x4352x3072, .f32⟩
  | .hbm, ⟨38, _⟩ => ⟨S8x4352x3072, .f32⟩
  | .hbm, ⟨39, _⟩ => ⟨S_, .f32⟩
  | .hbm, ⟨40, _⟩ => ⟨S8x4352x3072, .f32⟩
  | .hbm, ⟨41, _⟩ => ⟨S8x4352x3072, .f32⟩
  | .hbm, ⟨42, _⟩ => ⟨S8x4352x3072, .bf16⟩
  | .hbm, ⟨43, _⟩ => ⟨S8x4352x1024, .f32⟩
  | .hbm, ⟨44, _⟩ => ⟨S8x4352x256, .f32⟩
  | .hbm, ⟨45, _⟩ => ⟨S8x4352x256, .bf16⟩
  | .hbm, ⟨46, _⟩ => ⟨S8x4096x512, .bf16⟩
  | .hbm, ⟨47, _⟩ => ⟨S8x256x512, .bf16⟩
  | .hbm, ⟨48, _⟩ => ⟨S8x4096x256, .bf16⟩
  | .hbm, ⟨49, _⟩ => ⟨S8x256x256, .bf16⟩
  | .hbm, ⟨50, _⟩ => ⟨S256x1024, .bf16⟩
  | .hbm, ⟨51, _⟩ => ⟨S512x1024, .bf16⟩
  | .hbm, ⟨52, _⟩ => ⟨S256x1024, .bf16⟩
  | .hbm, ⟨53, _⟩ => ⟨S1024x1024, .bf16⟩
  | .hbm, ⟨54, _⟩ => ⟨S1x1024, .f32⟩
  | .hbm, ⟨55, _⟩ => ⟨S8x4352x1024, .f32⟩
  | .hbm, ⟨56, _⟩ => ⟨S8x4352x128, .i32⟩
  | .hbm, ⟨57, _⟩ => ⟨S8x4352x128, .f32⟩
  | .hbm, ⟨58, _⟩ => ⟨S8x128, .f32⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x256x256, .bf16⟩
  | .local _ .vmem, ⟨5, _⟩ => ⟨S1x256x256, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x256, .bf16⟩
  | .local _ .vmem, ⟨11, _⟩ => ⟨S1x256x256, .bf16⟩
  | .local _ .vmem, ⟨12, _⟩ => ⟨S1x256x256, .bf16⟩
  | .local _ .vmem, ⟨13, _⟩ => ⟨S1x256x256, .bf16⟩
  | .local _ .vmem, ⟨14, _⟩ => ⟨S1x256x3072, .bf16⟩
  | .local _ .vmem, ⟨15, _⟩ => ⟨S1x256x3072, .bf16⟩
  | .local _ .vmem, ⟨16, _⟩ => ⟨S256x1024, .bf16⟩
  | .local _ .vmem, ⟨17, _⟩ => ⟨S512x1024, .bf16⟩
  | .local _ .vmem, ⟨18, _⟩ => ⟨S256x1024, .bf16⟩
  | .local _ .vmem, ⟨19, _⟩ => ⟨S1024x1024, .bf16⟩
  | .local _ .vmem, ⟨20, _⟩ => ⟨S1x1024, .f32⟩
  | .local _ .vmem, ⟨21, _⟩ => ⟨S2x1024x128, .bf16⟩
  | .local _ .vmem, ⟨22, _⟩ => ⟨S1x256x1024, .f32⟩
  | .local _ .vmem, ⟨23, _⟩ => ⟨S1x256x1024, .f32⟩
  | .local _ .vmem, ⟨24, _⟩ => ⟨S1x256x128, .i32⟩
  | .local _ .vmem, ⟨25, _⟩ => ⟨S1x256x128, .i32⟩
  | .local _ .vmem, ⟨26, _⟩ => ⟨S1x256x128, .f32⟩
  | .local _ .vmem, ⟨27, _⟩ => ⟨S1x256x128, .f32⟩
  | .local _ .vmem, ⟨28, _⟩ => ⟨S8x128, .f32⟩
  | .local _ .vmem, ⟨29, _⟩ => ⟨S8x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_call0_v0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev main_cst_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33_0 : Ref sig .tc := ⟨.hbm, 55, rfl⟩
abbrev main_v33_1 : Ref sig .tc := ⟨.hbm, 56, rfl⟩
abbrev main_v33_2 : Ref sig .tc := ⟨.hbm, 57, rfl⟩
abbrev main_v33_3 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c16_i32 : BitVec 32 := 16#32
  let v1 : BitVec 1 := Scalar.cmpi .eq arg1 c16_i32
  let v2 : BitVec 32 := Scalar.extui v1
  let v3 : BitVec 32 := Scalar.addi v0 v2
  let c0_i32 : BitVec 32 := 0#32
  let c0_i32_0 : BitVec 32 := 0#32
  let c0_i32_1 : BitVec 32 := 0#32
  ![v3.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2x1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x128 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== RouterReferenceIdeal.lean ====
abbrev S8x4096x1024 : Shape := ⟨3, ![8, 4096, 1024]⟩
abbrev S8x256x1024 : Shape := ⟨3, ![8, 256, 1024]⟩
abbrev S8x6144 : Shape := ⟨2, ![8, 6144]⟩
abbrev S6144 : Shape := ⟨1, ![6144]⟩
abbrev S1024 : Shape := ⟨1, ![1024]⟩
abbrev S8x4096x256 : Shape := ⟨3, ![8, 4096, 256]⟩
abbrev S8x256x256 : Shape := ⟨3, ![8, 256, 256]⟩
abbrev S8x4096x512 : Shape := ⟨3, ![8, 4096, 512]⟩
abbrev S8x256x512 : Shape := ⟨3, ![8, 256, 512]⟩
abbrev S8x4096x3072 : Shape := ⟨3, ![8, 4096, 3072]⟩
abbrev S8x256x3072 : Shape := ⟨3, ![8, 256, 3072]⟩
abbrev S256x1024 : Shape := ⟨2, ![256, 1024]⟩
abbrev S512x1024 : Shape := ⟨2, ![512, 1024]⟩
abbrev S1024x1024 : Shape := ⟨2, ![1024, 1024]⟩
abbrev S1024x8 : Shape := ⟨2, ![1024, 8]⟩
abbrev S8x1x6144 : Shape := ⟨3, ![8, 1, 6144]⟩
abbrev S8x1x1024 : Shape := ⟨3, ![8, 1, 1024]⟩
abbrev S_ : Shape := ⟨0, ![]⟩
abbrev S1x1x1024 : Shape := ⟨3, ![1, 1, 1024]⟩
abbrev S8x4352x1024 : Shape := ⟨3, ![8, 4352, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x6144, .f32⟩
  | .hbm, ⟨3, _⟩ => ⟨S6144, .f32⟩
  | .hbm, ⟨4, _⟩ => ⟨S1024, .f32⟩
  | .hbm, ⟨5, _⟩ => ⟨S8x4096x256, .f32⟩
  | .hbm, ⟨6, _⟩ => ⟨S8x256x256, .f32⟩
  | .hbm, ⟨7, _⟩ => ⟨S8x4096x512, .f32⟩
  | .hbm, ⟨8, _⟩ => ⟨S8x256x512, .f32⟩
  | .hbm, ⟨9, _⟩ => ⟨S8x4096x256, .f32⟩
  | .hbm, ⟨10, _⟩ => ⟨S8x256x256, .f32⟩
  | .hbm, ⟨11, _⟩ => ⟨S8x4096x3072, .f32⟩
  | .hbm, ⟨12, _⟩ => ⟨S8x256x3072, .f32⟩
  | .hbm, ⟨13, _⟩ => ⟨S256x1024, .f32⟩
  | .hbm, ⟨14, _⟩ => ⟨S512x1024, .f32⟩
  | .hbm, ⟨15, _⟩ => ⟨S256x1024, .f32⟩
  | .hbm, ⟨16, _⟩ => ⟨S1024x1024, .f32⟩
  | .hbm, ⟨17, _⟩ => ⟨S1024x8, .f32⟩
  | .hbm, ⟨18, _⟩ => ⟨S8x1x6144, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x1x1024, .f32⟩
  | .hbm, ⟨23, _⟩ => ⟨S8x1x1024, .f32⟩
  | .hbm, ⟨24, _⟩ => ⟨S8x1x1024, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S1024, .f32⟩
  | .hbm, ⟨31, _⟩ => ⟨S8x4096x3072, .f32⟩
  | .hbm, ⟨32, _⟩ => ⟨S8x4096x3072, .f32⟩
  | .hbm, ⟨33, _⟩ => ⟨S_, .f32⟩
  | .hbm, ⟨34, _⟩ => ⟨S8x4096x3072, .f32⟩
  | .hbm, ⟨35, _⟩ => ⟨S8x4096x3072, .f32⟩
  | .hbm, ⟨36, _⟩ => ⟨S_, .f32⟩
  | .hbm, ⟨37, _⟩ => ⟨S8x4096x3072, .f32⟩
  | .hbm, ⟨38, _⟩ => ⟨S8x4096x3072, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S8x4096x1024, .f32⟩
  | .hbm, ⟨54, _⟩ => ⟨S8x256x3072, .f32⟩
  | .hbm, ⟨55, _⟩ => ⟨S8x256x3072, .f32⟩
  | .hbm, ⟨56, _⟩ => ⟨S_, .f32⟩
  | .hbm, ⟨57, _⟩ => ⟨S8x256x3072, .f32⟩
  | .hbm, ⟨58, _⟩ => ⟨S8x256x3072, .f32⟩
  | .hbm, ⟨59, _⟩ => ⟨S_, .f32⟩
  | .hbm, ⟨60, _⟩ => ⟨S8x256x3072, .f32⟩
  | .hbm, ⟨61, _⟩ => ⟨S8x256x3072, .f32⟩
  | .hbm, ⟨62, _⟩ => ⟨S8x256x1024, .f32⟩
  | .hbm, ⟨63, _⟩ => ⟨S8x256x1024, .f32⟩
  | .hbm, ⟨64, _⟩ => ⟨S8x256x1024, .f32⟩
  | .hbm, ⟨65, _⟩ => ⟨S8x256x1024, .f32⟩
  | .hbm, ⟨66, _⟩ => ⟨S8x256x1024, .f32⟩
  | .hbm, ⟨67, _⟩ => ⟨S8x256x1024, .f32⟩
  | .hbm, ⟨68, _⟩ => ⟨S8x256x1024, .f32⟩
  | .hbm, ⟨69, _⟩ => ⟨S8x256x1024, .f32⟩
  | .hbm, ⟨70, _⟩ => ⟨S8x256x1024, .f32⟩
  | .hbm, ⟨71, _⟩ => ⟨S8x256x1024, .f32⟩
  | .hbm, ⟨72, _⟩ => ⟨S8x256x1024, .f32⟩
  | .hbm, ⟨73, _⟩ => ⟨S8x256x1024, .f32⟩
  | .hbm, ⟨74, _⟩ => ⟨S1x1x1024, .f32⟩
  | .hbm, ⟨75, _⟩ => ⟨S8x256x1024, .f32⟩
  | .hbm, ⟨76, _⟩ => ⟨S8x256x1024, .f32⟩
  | .hbm, ⟨77, _⟩ => ⟨S8x256x1024, .f32⟩
  | .hbm, ⟨78, _⟩ => ⟨S8x4352x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_cst_0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_1 : Ref sig .tc := ⟨.hbm, 56, rfl⟩
abbrev main_v36 : Ref sig .tc := ⟨.hbm, 57, rfl⟩
abbrev main_v37 : Ref sig .tc := ⟨.hbm, 58, rfl⟩
abbrev main_cst_2 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Proof.Softmax.lean ====
module

public import Idealize.ShloMosaic.Lib.Pipeline.ValueKit
public import Idealize.ShloMosaic.Lib.Pointwise
public import Idealize.ShloMosaic.Lib.Claim

@[expose] public section

/-! Extended-real arithmetic of the attention: real values, the two softmaxes, the score's
    lanes, and the order of the keys. -/

set_option maxRecDepth 16384
noncomputable section
namespace Cert.Softmax
open Idealize.ShloMosaic
open scoped BigOperators

/-- The value is a real number. -/
def Rl (x : EReal) : Prop := ∃ r : ℝ, x = (r : EReal)

/-- The value is a real number that is not negative. -/
def Rn (x : EReal) : Prop := ∃ r : ℝ, 0 ≤ r ∧ x = (r : EReal)

/-- A nonnegative real is real. -/
theorem Rn.rl {x : EReal} (h : Rn x) : Rl x := let ⟨r, _, e⟩ := h; ⟨r, e⟩

/-- Zero is real. -/
theorem rl_zero : Rl 0 := ⟨0, rfl⟩

/-- A sum of two reals is real. -/
theorem Rl.add {x y : EReal} (hx : Rl x) (hy : Rl y) : Rl (x + y) := by
  obtain ⟨a, rfl⟩ := hx; obtain ⟨b, rfl⟩ := hy; exact ⟨a + b, by simp⟩

/-- A product of two reals is real. -/
theorem Rl.mul {x y : EReal} (hx : Rl x) (hy : Rl y) : Rl (x * y) := by
  obtain ⟨a, rfl⟩ := hx; obtain ⟨b, rfl⟩ := hy; exact ⟨a * b, by simp⟩

/-- A sum of two nonnegative reals is one. -/
theorem Rn.add {x y : EReal} (hx : Rn x) (hy : Rn y) : Rn (x + y) := by
  obtain ⟨a, ha, rfl⟩ := hx; obtain ⟨b, hb, rfl⟩ := hy; exact ⟨a + b, add_nonneg ha hb, by simp⟩

/-- A real's square is a nonnegative real. -/
theorem Rl.sq {x : EReal} (hx : Rl x) : Rn (x * x) := by
  obtain ⟨a, rfl⟩ := hx; exact ⟨a * a, mul_self_nonneg a, by simp⟩

/-- A product of two nonnegative reals is one. -/
theorem Rn.mul {x y : EReal} (hx : Rn x) (hy : Rn y) : Rn (x * y) := by
  obtain ⟨a, ha, rfl⟩ := hx; obtain ⟨b, hb, rfl⟩ := hy; exact ⟨a * b, mul_nonneg ha hb, by simp⟩

/-- The negative of a real is real. -/
theorem Rl.neg {x : EReal} (hx : Rl x) : Rl (-x) := by
  obtain ⟨a, rfl⟩ := hx; exact ⟨-a, by simp⟩

/-- A finite sum of reals, taken in the extended reals. -/
theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem Rl.sum {ι : Type} (s : Finset ι) {f : ι → EReal} (h : ∀ i, Rl (f i)) : Rl (∑ i ∈ s, f i) := by
  choose g hg using h
  exact ⟨∑ i ∈ s, g i, by simp only [hg, coe_sum]⟩

/-- A finite sum of nonnegative reals is one. -/
theorem Rn.sum {ι : Type} (s : Finset ι) {f : ι → EReal} (h : ∀ i, Rn (f i)) : Rn (∑ i ∈ s, f i) := by
  choose g hg using h
  exact ⟨∑ i ∈ s, g i, Finset.sum_nonneg fun i _ => (hg i).1, by simp only [fun i => (hg i).2, coe_sum]⟩

/-- The square root of a nonnegative real is one. -/
theorem Rn.sqrt {x : EReal} (hx : Rn x) : Rn (Ideal.sqrt x) := by
  obtain ⟨a, ha, rfl⟩ := hx
  exact ⟨Real.sqrt a, Real.sqrt_nonneg a, by rw [Ideal.sqrt_coe, if_neg (not_lt.2 ha)]⟩

/-- The larger of two reals is real. -/
theorem Rl.max {x y : EReal} (hx : Rl x) (hy : Rl y) : Rl (max x y) := by
  rcases max_choice x y with h | h <;> rw [h] <;> assumption

/-- The larger of two nonnegative reals is one. -/
theorem Rn.max {x y : EReal} (hx : Rn x) (hy : Rn y) : Rn (max x y) := by
  rcases max_choice x y with h | h <;> rw [h] <;> assumption

/-- A maximum started at minus infinity over a set that is not empty keeps what its entries
    share. -/
theorem fold_max {ι : Type} {P : EReal → Prop} (hP : ∀ {x y}, P x → P y → P (max x y))
    (s : Finset ι) (hs : s.Nonempty) {f : ι → EReal} (h : ∀ i ∈ s, P (f i)) :
    P (s.fold max ⊥ f) := by
  classical
  induction hs using Finset.Nonempty.cons_induction with
  | singleton a => simpa using h a (Finset.mem_singleton_self a)
  | cons a s ha hs ih =>
    rw [Finset.fold_cons]
    exact hP (h a (Finset.mem_cons_self a s)) (ih fun i hi => h i (Finset.mem_cons.2 (.inr hi)))

/-- The f32 pattern `0xFF800000` is minus infinity. -/
theorem ofBits_ninf : Ideal.ofBits .f32 0xFF800000#32 = (⊥ : EReal) := by
  simp [Ideal.ofBits, Ideal.ieee]

/-- The f32 pattern `0x40000000` is 2. -/
theorem ofBits_two : Ideal.ofBits .f32 0x40000000#32 = ((2 : ℝ) : EReal) := by
  simp [Ideal.ofBits, Ideal.ieee, -EReal.coe_mul]; norm_num

/-- The f32 pattern `0x42C00000` is 96. -/
theorem ofBits_96 : Ideal.ofBits .f32 0x42C00000#32 = ((96 : ℝ) : EReal) := by
  simp [Ideal.ofBits, Ideal.ieee, -EReal.coe_mul]; norm_num

/-- The bound's slack is a real number. -/
theorem ofBits_slack : Rl (Ideal.ofBits .f32 0x3F828F5C#32) := by
  simp [Ideal.ofBits, Ideal.ieee, -EReal.coe_mul, Rl]

/-- A maximum along the last axis of a rank-4 array, started at minus infinity, keeps what the
    row's entries share. -/
theorem reduce_max_last {P : EReal → Prop} (hP : ∀ {x y}, P x → P y → P (max x y))
    {n0 n1 n2 n3 : Nat} {u : Shape} (h0 : 0 < n3)
    (x : (⟨4, ![n0, n1, n2, n3]⟩ : Shape).Idx → EReal) (init : u.Idx → EReal)
    (h : (⟨4, ![n0, n1, n2, n3]⟩ : Shape).ReducesTo [3] ⟨3, ![n0, n1, n2]⟩)
    (hu : 0 < u.numel) (hi : init (Shape.Idx.first hu) = ⊥) (j) (hx : ∀ i, P (x i)) :
    P (Host.reduce (FloatOps.maximumf (F := Ideal) (φ := .f32)) x init h hu j) := by
  rw [Host.reduce_eq_fold, hi]
  refine fold_max hP _ ?_ fun i _ => hx i
  refine ⟨_, Finset.mem_filter.2 ⟨Finset.mem_univ _, (h.fiber_r4_a3 j _).2 ⟨⟨0, h0⟩, rfl⟩⟩⟩

/-- Multiplying a sum by a nonnegative real multiplies its terms. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.2 hr) (EReal.coe_ne_top r), ih]

/-- **The two softmaxes agree.** Powers of two of the scaled scores under any real shift,
    divided at the end by their sum, are the exponentials under any other real shift, divided
    first. The values averaged may be any extended reals. -/
theorem shifted {n : ℕ} (hn : 0 < n) (s : Fin n → ℝ) (w : Fin n → EReal) (β M : ℝ) :
    Ideal.div (∑ j, Ideal.exp2 ((s j * (1 / Real.log 2) - β : ℝ) : EReal) * w j)
        (∑ j, Ideal.exp2 ((s j * (1 / Real.log 2) - β : ℝ) : EReal) * 1)
      = ∑ j, w j * Ideal.div (Ideal.exp ((s j : EReal) - (M : EReal)))
          (∑ i, Ideal.exp ((s i : EReal) - (M : EReal))) := by
  have hl : Real.log 2 ≠ 0 := (Real.log_pos (by norm_num)).ne'
  have e2 : ∀ j, Ideal.exp2 ((s j * (1 / Real.log 2) - β : ℝ) : EReal)
      = ((Real.exp (s j) * Real.exp (-(Real.log 2 * β)) : ℝ) : EReal) := fun j => by
    rw [Ideal.exp2_coe]
    change ((((2 : ℝ) ^ (s j * (1 / Real.log 2) - β) : ℝ)) : EReal) = _
    rw [Real.rpow_def_of_pos (by norm_num), ← Real.exp_add]
    congr 2; field_simp; ring
  have e1 : ∀ j, Ideal.exp ((s j : EReal) - (M : EReal)) = ((Real.exp (s j) * Real.exp (-M) : ℝ) : EReal) :=
    fun j => by rw [← EReal.coe_sub, Ideal.exp_coe, ← Real.exp_add, sub_eq_add_neg]
  simp only [e2, e1, mul_one, coe_sum, ← Finset.sum_mul]
  set A := ∑ j, Real.exp (s j)
  have hA : 0 < A := Finset.sum_pos (fun j _ => Real.exp_pos _) ⟨⟨0, hn⟩, Finset.mem_univ _⟩
  have hκ := Real.exp_pos (-(Real.log 2 * β))
  have hμ := Real.exp_pos (-M)
  rw [Ideal.div_coe (mul_pos hA hκ).ne', sum_mul_coe _ _ (by positivity)]
  refine Finset.sum_congr rfl fun j _ => ?_
  rw [Ideal.div_coe (mul_pos hA hμ).ne', mul_comm _ (w j), mul_assoc, ← EReal.coe_mul, ← EReal.coe_mul]
  congr 2; field_simp

/-- The kernel's score, `a` lanes of a head padded to 128, with the shift carried by the lane
    after the head's own: the scaled inner product less the shift. -/
theorem score_lanes {a z : ℕ} (h : a + (1 + z) = 128) (q k : Fin a → ℝ) (c β : ℝ)
    (Q K : Fin 128 → EReal)
    (hQ : ∀ d : Fin 128, Q d = (if h : d.val < a then (q ⟨d, h⟩ : EReal) else 0) * (c : EReal)
      + (if d.val = a then ((-β : ℝ) : EReal) else 0))
    (hK : ∀ d : Fin 128, K d = (if h : d.val < a then (k ⟨d, h⟩ : EReal) else 0)
      + (if d.val = a then 1 else 0)) :
    (∑ d, Q d * K d) = (((∑ x, q x * k x) * c - β : ℝ) : EReal) := by
  rw [Fin.sum_univ_two_halves a (1 + z) h, Fin.sum_univ_two_halves 1 z rfl]
  simp only [hQ, hK]
  have l : ∀ x : Fin a, (x : ℕ) ≠ a := fun x => x.2.ne
  simp [l, ← EReal.coe_mul, ← EReal.coe_add, ← EReal.coe_neg, coe_sum, -neg_mul]
  rw [Finset.sum_mul, sub_eq_add_neg]
  rw [Finset.sum_congr rfl fun x _ => mul_right_comm (q x) c (k x), EReal.coe_add, EReal.coe_neg]

/-- A sum over 4352 keys taken in nine chunks, the last 256 first. -/
theorem chunk_sum (f : Fin 4352 → EReal) :
    (((((((((∑ k : Fin 256, f ⟨4096 + k, by omega⟩) + ∑ k : Fin 512, f ⟨k, by omega⟩)
      + ∑ k : Fin 512, f ⟨512 + k, by omega⟩) + ∑ k : Fin 512, f ⟨1024 + k, by omega⟩)
      + ∑ k : Fin 512, f ⟨1536 + k, by omega⟩) + ∑ k : Fin 512, f ⟨2048 + k, by omega⟩)
      + ∑ k : Fin 512, f ⟨2560 + k, by omega⟩) + ∑ k : Fin 512, f ⟨3072 + k, by omega⟩)
      + ∑ k : Fin 512, f ⟨3584 + k, by omega⟩) = ∑ k, f k := by
  rw [Fin.sum_univ_two_halves 4096 256 rfl f, Fin.sum_univ_tiles 8 512 rfl, Fin.sum_univ_eight]
  simp only [Fin.val_zero, Fin.val_one, Fin.isValue, zero_mul, one_mul]
  norm_num [add_assoc]
  rw [add_comm]
  simp only [add_assoc]

/-- The place of the reference's key `k` in the kernel's order: the reference has the 256 keys
    of the context first, the kernel has them last. -/
def place (k : Fin 4352) : Fin 4352 :=
  if h : k.val < 256 then ⟨4096 + k, by omega⟩ else ⟨k - 256, by omega⟩

/-- A sum over the keys does not depend on which of the two orders it is taken in. -/
theorem sum_place (f : Fin 4352 → EReal) : ∑ k, f k = ∑ k, f (place k) := by
  rw [Fin.sum_univ_two_halves 4096 256 rfl f, Fin.sum_univ_two_halves 256 4096 rfl fun k => f (place k),
    add_comm]
  congr 1

end Cert.Softmax
-- ==== Proof.Block.lean ====
module

public import proofs.«01_k».proof.Proof.Gen.KernelIdeal.Value
public import proofs.«01_k».proof.Proof.Softmax

@[expose] public section

/-! One grid point of the kernel: the chunked sums of a head, and the lanes of a stored pair. -/

set_option maxRecDepth 16384
noncomputable section
namespace Cert.KernelIdeal.Hand
open Cert.KernelIdeal Cert.KernelIdeal.Gen Idealize.ShloMosaic Idealize.ShloMosaic.TcCoe Idealize.SL.Sem
open scoped BigOperators

/-- A head's queries with the shift added. -/
theorem head_apply (q : Vec Ideal S1x512x128 .bf16) (u : Vec Ideal S1x1x128 .bf16) (r : Fin 512) (l : Fin 128) :
    k0_pay4 q u (ix2 r l) = q (ix3 0 r l) + u (ix3 0 0 l) := by
  pointwise [k0_pay4]

/-- The chunk of the context's keys. -/
theorem first_apply (q : FVec Ideal S512x128 .bf16)
    (K V : Vec Ideal S1x256x128 .bf16) (r : Fin 512) (l : Fin 128) :
    k0_pay10 q K V (ix2 r l)
      = ∑ k : Fin 256, Ideal.exp2 (∑ d : Fin 128, q (ix2 r d) * K (ix3 0 k d)) * V (ix3 0 k l) := by
  pointwise [k0_pay10]
  rfl

/-- A chunk of the latents' keys, added to the sum so far. -/
theorem step_apply (q : FVec Ideal S512x128 .bf16) (acc : FVec Ideal S512x128 .f32)
    (K V : Vec Ideal S1x512x128 .bf16) (r : Fin 512) (l : Fin 128) :
    k0_pay13 q acc K V (ix2 r l)
      = acc (ix2 r l) + ∑ k : Fin 512, Ideal.exp2 (∑ d : Fin 128, q (ix2 r d) * K (ix3 0 k d)) * V (ix3 0 k l) := by
  pointwise [k0_pay13]
  rfl

/-- The lower half of a stored pair: the first head's values over its ones. -/
theorem lane_low (x y : FVec Ideal S512x128 .f32) (r : Fin 512) (l : Fin 128) (h : (l : ℕ) < 64) :
    k0_pay1 k0_pay3 x y (ix3 0 r l) = Ideal.div (x (ix2 r l)) (x (ix2 r ⟨l + 64, by omega⟩)) := by
  have c : ∀ l : Fin 128, (l : ℕ) < 64 → IntOp.cmpi .slt (BitVec.ofNat 32 l) 64#32 = 1#1 := by decide
  pointwise [k0_pay1, k0_pay3]
  rw [c l h]
  have e : ((l : ℕ) + 128 - 64) % 128 = l + 64 := by omega
  simp only [e]
  rfl

/-- The upper half of a stored pair: the second head's. -/
theorem lane_high (x y : FVec Ideal S512x128 .f32) (r : Fin 512) (l : Fin 128) (h : 64 ≤ (l : ℕ)) :
    k0_pay1 k0_pay3 x y (ix3 0 r l) = Ideal.div (y (ix2 r ⟨l - 64, by omega⟩)) (y (ix2 r l)) := by
  have c : ∀ l : Fin 128, 64 ≤ (l : ℕ) → IntOp.cmpi .slt (BitVec.ofNat 32 l) 64#32 = 0#1 := by decide
  pointwise [k0_pay1, k0_pay3]
  rw [c l h]
  have e : ((l : ℕ) + 128 - 64) % 128 = l - 64 := by omega
  have e' : ((l : ℕ) - 64 + 128 - 64) % 128 = l := by omega
  simp only [e, e']
  rfl

variable (m : (ℓ : Loc nD τ sig) → Buf (Elt Ideal) ℓ)
open Cert.Softmax

/-- A box lies inside a rank-3 array when it does on every axis. -/
theorem inb3 {a b c o0 o1 o2 s0 s1 s2 : ℕ} (h0 : o0 + s0 ≤ a) (h1 : o1 + s1 ≤ b) (h2 : o2 + s2 ≤ c) :
    ∀ i, (![o0, o1, o2] : Fin 3 → ℕ) i + (![s0, s1, s2] : Fin 3 → ℕ) i ≤ (⟨3, ![a, b, c]⟩ : Shape).size i := by
  intro i
  match i with
  | ⟨0, _⟩ => exact h0
  | ⟨1, _⟩ => exact h1
  | ⟨2, _⟩ => exact h2

/-- The keys (or values) `st … st + n - 1` of head `h`, as the kernel loads them. -/
def cut (n : ℕ) (X : Vec Ideal S1x4352x512 .bf16) (st h : ℕ) (hb : st + n ≤ 4352) (hh : 128 * h + 128 ≤ 512) :
    Vec Ideal ⟨3, ![1, n, 128]⟩ .bf16 :=
  View.ld X (Rect.unit (s := S1x4352x512) ![0, st, 128 * h] ![1, n, 128] (inb3 (by decide) hb hh))

/-- A loaded chunk's entries. -/
theorem cut_apply (n : ℕ) (X : Vec Ideal S1x4352x512 .bf16) (st h : ℕ) (hb) (hh) (k : Fin n) (l : Fin 128) :
    cut n X st h hb hh (ix3 0 k l) = X (ix3 0 ⟨st + k, by omega⟩ ⟨128 * h + l, by omega⟩) := by
  refine congrArg X (funext fun i => Fin.ext ?_)
  match i with
  | ⟨0, _⟩ => rfl
  | ⟨1, _⟩ => change st + 1 * (k : ℕ) = st + k; omega
  | ⟨2, _⟩ => change 128 * h + 1 * (l : ℕ) = 128 * h + l; omega

/-- The queries of head `h`, as the kernel loads them. -/
def cutQ (X : Vec Ideal S1x512x512 .bf16) (h : ℕ) (hh : 128 * h + 128 ≤ 512) : Vec Ideal S1x512x128 .bf16 :=
  View.ld X (Rect.unit (s := S1x512x512) ![0, 0, 128 * h] ![1, 512, 128] (inb3 (by decide) (by decide) hh))

/-- Their entries. -/
theorem cutQ_apply (X : Vec Ideal S1x512x512 .bf16) (h : ℕ) (hh) (r : Fin 512) (l : Fin 128) :
    cutQ X h hh (ix3 0 r l) = X (ix3 0 r ⟨128 * h + l, by omega⟩) := by
  refine congrArg X (funext fun i => Fin.ext ?_)
  match i with
  | ⟨0, _⟩ => rfl
  | ⟨1, _⟩ => change 0 + 1 * (r : ℕ) = r; omega
  | ⟨2, _⟩ => change 128 * h + 1 * (l : ℕ) = 128 * h + l; omega

/-- The shift of head `h`, as the kernel loads it. -/
def cutU (X : Vec Ideal S1x4x128 .bf16) (h : ℕ) (hh : 128 * h + 128 ≤ 512) : Vec Ideal S1x1x128 .bf16 :=
  View.ld X (Rect.unit (s := S1x4x128) ![0, h, 0] ![1, 1, 128]
    (inb3 (by decide) (show h + 1 ≤ 4 by omega) (by decide)))

/-- Its entries. -/
theorem cutU_apply (X : Vec Ideal S1x4x128 .bf16) (h : ℕ) (hh) (l : Fin 128) :
    cutU X h hh (ix3 0 0 l) = X (ix3 0 ⟨h, by omega⟩ l) := by
  refine congrArg X (funext fun i => Fin.ext ?_)
  match i with
  | ⟨0, _⟩ => rfl
  | ⟨1, _⟩ => rfl
  | ⟨2, _⟩ => change 0 + 1 * (l : ℕ) = l; omega

/-- Head `h` of a grid point: its sums over all keys, chunk by chunk. -/
def headAcc (X : Vec Ideal S1x512x512 .bf16) (K V : Vec Ideal S1x4352x512 .bf16) (u : Vec Ideal S1x4x128 .bf16)
    (h : ℕ) (hh : 128 * h + 128 ≤ 512) : FVec Ideal S512x128 .f32 :=
  let Q := k0_pay4 (cutQ X h hh) (cutU u h hh)
  let s (acc : FVec Ideal S512x128 .f32) (st : ℕ) (hb : st + 512 ≤ 4352) :=
    k0_pay13 Q acc (cut 512 K st h hb hh) (cut 512 V st h hb hh)
  s (s (s (s (s (s (s (s (k0_pay10 Q (cut 256 K 4096 h (by decide) hh) (cut 256 V 4096 h (by decide) hh))
    0 (by decide)) 512 (by decide)) 1024 (by decide)) 1536 (by decide)) 2048 (by decide)) 2560 (by decide))
    3072 (by decide)) 3584 (by decide)

/-- They are the sums over all keys of the powers of two of the scores, times the values. -/
theorem headAcc_apply (X : Vec Ideal S1x512x512 .bf16) (K V : Vec Ideal S1x4352x512 .bf16)
    (u : Vec Ideal S1x4x128 .bf16) (h : ℕ) (hh : 128 * h + 128 ≤ 512) (r : Fin 512) (l : Fin 128) :
    headAcc X K V u h hh (ix2 r l)
      = ∑ k : Fin 4352, Ideal.exp2 (∑ d : Fin 128, (X (ix3 0 r ⟨128 * h + d, by omega⟩) + u (ix3 0 ⟨h, by omega⟩ d))
            * K (ix3 0 k ⟨128 * h + d, by omega⟩))
          * V (ix3 0 k ⟨128 * h + l, by omega⟩) := by
  rw [← chunk_sum]
  unfold headAcc
  simp only [step_apply, first_apply, head_apply, cut_apply, cutQ_apply, cutU_apply, zero_add]

/-- A head's sums depend on the head's number alone. -/
theorem headAcc_congr (X K V u) {h h' : ℕ} (e : h = h') (hh hh') (r : Fin 512) {l l' : Fin 128} (el : (l : ℕ) = l') :
    headAcc X K V u h hh (ix2 r l) = headAcc X K V u h' hh' (ix2 r l') := by
  obtain rfl := e; obtain rfl := Fin.ext el; rfl

/-- A stored pair of heads: every head's value lanes over the lane of its ones. -/
theorem pair_apply (X : Vec Ideal S1x512x512 .bf16) (K V : Vec Ideal S1x4352x512 .bf16) (u : Vec Ideal S1x4x128 .bf16)
    (n : ℕ) (hn : n < 256) (p : ℕ) (hp : p < 2) (r : Fin 512) (l : Fin 128) (h2 : n = 128 * p + l) :
    k0_pay1 k0_pay3 (headAcc X K V u (2 * p) (by omega)) (headAcc X K V u (2 * p + 1) (by omega)) (ix3 0 r l)
      = Ideal.div (headAcc X K V u (n / 64) (by omega) (ix2 r ⟨n % 64, by omega⟩))
          (headAcc X K V u (n / 64) (by omega) (ix2 r ⟨64 + n % 64, by omega⟩)) := by
  have hl := l.2
  rcases Nat.lt_or_ge (l : ℕ) 64 with hl | hl
  · rw [lane_low _ _ _ _ hl]
    exact congrArg₂ Ideal.div (headAcc_congr _ _ _ _ (by omega) _ _ _ (by simp only []; omega))
      (headAcc_congr _ _ _ _ (by omega) _ _ _ (by simp only []; omega))
  · rw [lane_high _ _ _ _ hl]
    exact congrArg₂ Ideal.div (headAcc_congr _ _ _ _ (by omega) _ _ _ (by simp only []; omega))
      (headAcc_congr _ _ _ _ (by omega) _ _ _ (by simp only []; omega))

/-- What a grid point writes. -/
theorem out_apply (c : Dev nD) (t : Fin cfg0.N) (r : Fin 512) (n : Fin 256) :
    outsAt0 m c t (ix3 0 r n)
      = Ideal.div
          (headAcc (X0_0 m c t) (iblk m c 1 t) (iblk m c 2 t) (iblk m c 3 t) ((n : ℕ) / 64) (by omega)
            (ix2 r ⟨(n : ℕ) % 64, by omega⟩))
          (headAcc (X0_0 m c t) (iblk m c 1 t) (iblk m c 2 t) (iblk m c 3 t) ((n : ℕ) / 64) (by omega)
            (ix2 r ⟨64 + (n : ℕ) % 64, by omega⟩)) := by
  rw [outsAt0]
  frame_out
  canon_tiles x h
  all_goals obtain ⟨a, r', l, rfl⟩ : ∃ (a : Fin 1) (r : Fin 512) (l : Fin 128), x = ix3 a r l := ⟨x 0, x 1, x 2, by blk_ext []⟩
  all_goals obtain rfl := Subsingleton.elim a 0
  · obtain rfl : r = r' := Fin.ext (by simpa using h1)
    exact pair_apply _ _ _ _ n n.2 1 (by decide) r l (by simpa using h2)
  · obtain rfl : r = r' := Fin.ext (by simpa using h1)
    exact pair_apply _ _ _ _ n n.2 0 (by decide) r l (by simpa using h2)

end Cert.KernelIdeal.Hand
end
-- ==== Proof.Final.lean ====
module

public import proofs.«01_k».proof.Proof.Block

@[expose] public section

/-! From a grid point's blocks to the array the call leaves. -/

set_option maxRecDepth 16384
noncomputable section
namespace Cert.KernelIdeal.Hand
open Cert.KernelIdeal Cert.KernelIdeal.Gen Idealize.ShloMosaic Idealize.ShloMosaic.TcCoe Idealize.SL.Sem
open Idealize.ShloMosaic.Pipeline (Dat)
open scoped BigOperators
variable (m : (ℓ : Loc nD τ sig) → Buf (Elt Ideal) ℓ)

/-- Where each window's block lies at a grid point. -/
theorem idx : ∀ t : Fin cfg0.N, win0_0.index t = ![t.val / 8, t.val % 8, 0] ∧ win0_1.index t = ![t.val / 8, 0, 0]
    ∧ win0_2.index t = ![t.val / 8, 0, 0] ∧ win0_3.index t = ![t.val / 8, 0, 0]
    ∧ win0_4.index t = ![t.val / 8, t.val % 8, 0] :=
  (by decide +kernel : ∀ t : Fin grid0.N, _)

/-- A grid point's batch entry. -/
theorem div_lt (t : Fin cfg0.N) : t.val / 8 < 8 := by
  have h : t.val < 64 := lt_of_lt_of_eq t.isLt (by decide)
  omega

/-- A grid point's rows. -/
theorem row_lt (t : Fin cfg0.N) (r : Fin 512) : 512 * (t.val % 8) + r < 4352 := by omega

/-- The read of a block of keys. -/
theorem read_k (t : Fin cfg0.N) (A : FVec Ideal S8x4352x512 .bf16) (k : Fin 4352) (j : Fin 512) :
    ((cfg0.win 1).blk t).view.read (Elt Ideal) A (ix3 0 k j) = A (ix3 ⟨t.val / 8, div_lt t⟩ k j) := by
  blk_simp
  blk_ext [idx t]

/-- The read of a block of values. -/
theorem read_v (t : Fin cfg0.N) (A : FVec Ideal S8x4352x512 .bf16) (k : Fin 4352) (j : Fin 512) :
    ((cfg0.win 2).blk t).view.read (Elt Ideal) A (ix3 0 k j) = A (ix3 ⟨t.val / 8, div_lt t⟩ k j) := by
  blk_simp
  blk_ext [idx t]

/-- The read of a block of shifts. -/
theorem read_u (t : Fin cfg0.N) (A : FVec Ideal S8x4x128 .bf16) (k : Fin 4) (j : Fin 128) :
    ((cfg0.win 3).blk t).view.read (Elt Ideal) A (ix3 0 k j) = A (ix3 ⟨t.val / 8, div_lt t⟩ k j) := by
  blk_simp
  blk_ext [idx t]

/-- The read of a block of queries. -/
theorem read_q (t : Fin cfg0.N) (A : FVec Ideal S8x4352x512 .bf16) (r : Fin 512) (j : Fin 512) :
    ((cfg0.win 0).fill (cfg0.grid.coords t) dflt0_0 (((cfg0.win 0).blk t).view.read (Elt Ideal) A)) (ix3 0 r j)
      = A (ix3 ⟨t.val / 8, div_lt t⟩ ⟨512 * (t.val % 8) + r, row_lt t r⟩ j) := by
  unfold Pipeline.Window.fill
  rw [dif_pos (moved0_0 t _)]
  blk_simp
  blk_ext [idx t]

/-- A head's sums over all keys at a batch entry and a query row, over the call's four operands. -/
def sums (Q K W : FVec Ideal S8x4352x512 .bf16) (U : FVec Ideal S8x4x128 .bf16) (b : Fin 8) (t : Fin 4352) (h : Fin 4)
    (l : Fin 128) : EReal :=
  ∑ k : Fin 4352, Ideal.exp2 (∑ d : Fin 128, (Q (ix3 b t ⟨128 * h + d, by omega⟩) + U (ix3 b h d))
      * K (ix3 b k ⟨128 * h + d, by omega⟩)) * W (ix3 b k ⟨128 * h + l, by omega⟩)

/-- The call's result over its four operands. -/
def out (Q K W : FVec Ideal S8x4352x512 .bf16) (U : FVec Ideal S8x4x128 .bf16) : FVec Ideal S8x4096x256 .bf16 := fun i =>
  Ideal.div
    (sums Q K W U (i 0) ⟨i 1, lt_trans (show (i 1 : ℕ) < 4096 from (i 1).2) (by decide)⟩
      ⟨(i 2 : ℕ) / 64, by have : (i 2 : ℕ) < 256 := (i 2).2; omega⟩ ⟨(i 2 : ℕ) % 64, by omega⟩)
    (sums Q K W U (i 0) ⟨i 1, lt_trans (show (i 1 : ℕ) < 4096 from (i 1).2) (by decide)⟩
      ⟨(i 2 : ℕ) / 64, by have : (i 2 : ℕ) < 256 := (i 2).2; omega⟩ ⟨64 + (i 2 : ℕ) % 64, by omega⟩)

/-- A head's sums in a grid point are the sums over the operands at the point's rows. -/
theorem headAcc_sums (c : Dev nD) (t : Fin cfg0.N) (h : ℕ) (hh : 128 * h + 128 ≤ 512) (r : Fin 512) (l : Fin 128) :
    headAcc (X0_0 m c t) (iblk m c 1 t) (iblk m c 2 t) (iblk m c 3 t) h hh (ix2 r l)
      = sums (V m c main_v30) (V m c main_v36) (V m c main_v40) (V m c main_v27) ⟨t.val / 8, div_lt t⟩
          ⟨512 * (t.val % 8) + r, row_lt t r⟩ ⟨h, by omega⟩ l := by
  refine (headAcc_apply _ _ _ _ h hh r l).trans ?_
  have eq : ∀ j, (X0_0 m c t : Vec Ideal S1x512x512 .bf16) (ix3 0 r j) = _ := read_q t (V m c main_v30) r
  have ek : ∀ k j, (iblk m c 1 t : Vec Ideal S1x4352x512 .bf16) (ix3 0 k j) = _ := read_k t (V m c main_v36)
  have ev : ∀ k j, (iblk m c 2 t : Vec Ideal S1x4352x512 .bf16) (ix3 0 k j) = _ := read_v t (V m c main_v40)
  have eu : ∀ k j, (iblk m c 3 t : Vec Ideal S1x4x128 .bf16) (ix3 0 k j) = _ := read_u t (V m c main_v27)
  simp only [eq, ek, ev, eu]
  rfl

/-- The array the call leaves. -/
theorem final (c : Dev nD) : (dats m 0 c).arrAt 4 (cfgs 0).N
    = out (V m c main_v30) (V m c main_v36) (V m c main_v40) (V m c main_v27) := by
  refine (dats m 0 c).arrAt_eq_of_covers 4 _ (by decide +kernel) fun t _ y => ?_
  blk_simp
  rw [after0_4]
  obtain ⟨a, r, n, rfl⟩ : ∃ (a : Fin 1) (r : Fin 512) (n : Fin 256), y = ix3 a r n := ⟨y 0, y 1, y 2, by blk_ext []⟩
  obtain rfl := Subsingleton.elim a 0
  refine (out_apply m c t r n).trans ?_
  rw [headAcc_sums, headAcc_sums]
  have e : (win0_4.blk t).view.emb (ix3 0 r n) = ix3 ⟨t.val / 8, div_lt t⟩ ⟨512 * (t.val % 8) + r, by omega⟩ n := by
    blk_ext [idx t]
  rw [e]
  rfl

end Cert.KernelIdeal.Hand
end
-- ==== Proof.Operands.lean ====
module

public import proofs.«01_k».proof.Proof.Gen.KernelIdeal.Value
public import proofs.«01_k».proof.Proof.Softmax

@[expose] public section

/-! The operands the host code prepares for the call. -/

set_option maxRecDepth 16384
noncomputable section
namespace Cert.KernelIdeal.Hand
open Cert.KernelIdeal Cert.KernelIdeal.Gen Idealize.ShloMosaic Idealize.ShloMosaic.TcCoe Idealize.SL.Sem
open Cert.Softmax
open scoped BigOperators
variable (m : (ℓ : Loc nD τ sig) → Buf (Elt Ideal) ℓ)

/-- Two arrays of 96 lanes per head, one after the other along the tokens: the latents, then the context. -/
def joined {w : ℕ} (X : FVec Ideal ⟨4, ![8, 4096, 4, w]⟩ .f32) (C : FVec Ideal ⟨4, ![8, 256, 4, w]⟩ .f32) (b : Fin 8) (t : Fin 4352)
    (h : Fin 4) (x : Fin w) : EReal :=
  if ht : t.val < 4096 then X (ix4 b ⟨t, ht⟩ h x) else C (ix4 b ⟨t - 4096, by omega⟩ h x)

/-- The scale of the scores with the change of base: one over the root of 96 and the logarithm of 2. -/
def scale : EReal := Ideal.div 1 (Ideal.sqrt (Ideal.ofBits .f32 0x42C00000#32) * Ideal.log (Ideal.ofBits .f32 0x40000000#32))

/-- The test for lane 96. -/
theorem lane_eq : ∀ l : Fin 128, IntOp.cmpi .eq (BitVec.ofNat 32 l) 96#32 = if l.val = 96 then 1#1 else 0#1 := by decide

/-- A selection on a test's word is the choice on the test. -/
theorem select_ite (p : Prop) [Decidable p] (x y : EReal) :
    Scalar.select (if p then 1#1 else 0#1) x y = if p then x else y := by
  by_cases h : p <;> simp only [h, if_true, if_false] <;> rfl

/-- The operand of queries. -/
theorem V_q (c : Dev nD) (b : Fin 8) (t : Fin 4352) (h : Fin 4) (l : Fin 128) :
    (V m c main_v30 : FVec Ideal S8x4352x512 .bf16) (ix3 b t ⟨128 * h + l, by omega⟩)
      = (if hl : l.val < 96 then joined (m ((c : Thread nD τ).loc main_arg0)) (m ((c : Thread nD τ).loc main_arg3)) b t h ⟨l, hl⟩ else 0)
        * scale := by
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil, StableHlo.TRef.unary, StableHlo.TRef.binary, StableHlo.TRef.ternary]
  after_results_simp
  after_results_loop
  simp only [StableHlo.TRef.toBuf, StableHlo.TRef.ofBuf, cast_eq, id_eq]
  pointwise
  unfold joined scale
  rfl

/-- The operand of keys. -/
theorem V_k (c : Dev nD) (b : Fin 8) (t : Fin 4352) (h : Fin 4) (l : Fin 128) :
    (V m c main_v36 : FVec Ideal S8x4352x512 .bf16) (ix3 b t ⟨128 * h + l, by omega⟩)
      = (if hl : l.val < 96 then joined (m ((c : Thread nD τ).loc main_arg1)) (m ((c : Thread nD τ).loc main_arg4)) b t h ⟨l, hl⟩ else 0)
        + if l.val = 96 then 1 else 0 := by
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil, StableHlo.TRef.unary, StableHlo.TRef.binary, StableHlo.TRef.ternary]
  after_results_simp
  after_results_loop
  simp only [StableHlo.TRef.toBuf, StableHlo.TRef.ofBuf, cast_eq, id_eq]
  pointwise
  unfold joined
  rw [lane_eq]
  rw [select_ite]

/-- The operand of values. -/
theorem V_v (c : Dev nD) (b : Fin 8) (t : Fin 4352) (h : Fin 4) (l : Fin 128) :
    (V m c main_v40 : FVec Ideal S8x4352x512 .bf16) (ix3 b t ⟨128 * h + l, by omega⟩)
      = if hl : l.val < 64 then joined (m ((c : Thread nD τ).loc main_arg2)) (m ((c : Thread nD τ).loc main_arg5)) b t h ⟨l, hl⟩ else 1 := by
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil, StableHlo.TRef.unary, StableHlo.TRef.binary, StableHlo.TRef.ternary]
  after_results_simp
  after_results_loop
  simp only [StableHlo.TRef.toBuf, StableHlo.TRef.ofBuf, cast_eq, id_eq]
  pointwise
  unfold joined
  rfl

/-- The largest squared norm of a head's rows, over 96 lanes and 32 lanes of padding. -/
def sqMax (f : Fin 4352 → Fin 96 → EReal) (z : EReal) : EReal :=
  Finset.univ.fold max (Ideal.ofBits .f32 0xFF800000#32) fun t => (∑ x, f t x * f t x) + ∑ _x : Fin 32, z * z

/-- The bound on a head's scores that the kernel shifts by. -/
def bound (q k : FVec Ideal S8x4096x4x96 .f32) (qc kc : FVec Ideal S8x256x4x96 .f32) (b : Fin 8) (h : Fin 4) : EReal :=
  Ideal.sqrt (sqMax (fun t x => joined q qc b t h x * scale) (0 * scale) * sqMax (fun t x => joined k kc b t h x) 0)
    * Ideal.ofBits .f32 0x3F828F5C#32

/-- The shift operand: minus the bound at the lane after the head's own. -/
theorem V_u (c : Dev nD) (b : Fin 8) (h : Fin 4) (l : Fin 128) :
    (V m c main_v27 : FVec Ideal S8x4x128 .bf16) (ix3 b h l)
      = if l.val = 96 then -bound (m ((c : Thread nD τ).loc main_arg0)) (m ((c : Thread nD τ).loc main_arg1))
          (m ((c : Thread nD τ).loc main_arg3)) (m ((c : Thread nD τ).loc main_arg4)) b h else 0 := by
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil, StableHlo.TRef.unary, StableHlo.TRef.binary, StableHlo.TRef.ternary]
  after_results_simp
  after_results_loop
  simp only [StableHlo.TRef.toBuf, StableHlo.TRef.ofBuf, cast_eq, id_eq]
  pointwise
  rw [lane_eq, select_ite]
  rfl

/-- The scale is a real number. -/
theorem scale_coe : scale = ((1 / Real.sqrt 96 * (1 / Real.log 2) : ℝ) : EReal) := by
  have h96 : Real.sqrt 96 ≠ 0 := (Real.sqrt_pos.2 (by norm_num)).ne'
  have hl : Real.log 2 ≠ 0 := (Real.log_pos (by norm_num)).ne'
  unfold scale
  rw [ofBits_96, ofBits_two, Ideal.sqrt_coe, if_neg (by norm_num), Ideal.log_coe, if_neg (by norm_num), ← EReal.coe_mul,
    Ideal.div_coe (mul_ne_zero h96 hl), one_mul]
  congr 1
  field_simp

/-- Joined real arrays are real. -/
theorem Rl.joined {w : ℕ} {X : FVec Ideal ⟨4, ![8, 4096, 4, w]⟩ .f32} {C : FVec Ideal ⟨4, ![8, 256, 4, w]⟩ .f32}
    (hX : ∀ i, Rl (X i)) (hC : ∀ i, Rl (C i)) (b t h x) : Rl (joined X C b t h x) := by
  unfold Hand.joined
  split
  · exact hX _
  · exact hC _

/-- The largest squared norm of real rows is a nonnegative real. -/
theorem sqMax_rn {f : Fin 4352 → Fin 96 → EReal} {z : EReal} (hf : ∀ t x, Rl (f t x)) (hz : Rl z) : Rn (sqMax f z) := by
  unfold sqMax
  rw [ofBits_ninf]
  exact fold_max (P := Rn) (fun h h' => h.max h') _ ⟨0, Finset.mem_univ _⟩
    fun t _ => (Rn.sum _ fun x => (hf t x).sq).add (Rn.sum _ fun _ => hz.sq)

/-- The bound is a real number. -/
theorem bound_rl {q k : FVec Ideal S8x4096x4x96 .f32} {qc kc : FVec Ideal S8x256x4x96 .f32} (hq : ∀ i, Rl (q i))
    (hk : ∀ i, Rl (k i)) (hqc : ∀ i, Rl (qc i)) (hkc : ∀ i, Rl (kc i)) (b : Fin 8) (h : Fin 4) :
    Rl (bound q k qc kc b h) := by
  have hs : Rl scale := ⟨_, scale_coe⟩
  exact ((((sqMax_rn (fun t x => (Rl.joined hq hqc b t h x).mul hs) (rl_zero.mul hs)).mul
    (sqMax_rn (fun t x => Rl.joined hk hkc b t h x) rl_zero)).sqrt).rl).mul ofBits_slack

end Cert.KernelIdeal.Hand
end
-- ==== Proof.RefRead.lean ====
module

public import proofs.«01_k».proof.Proof.Gen.ReferenceIdeal.Read
public import proofs.«01_k».proof.Proof.Gen.ReferenceIdeal.Run
public import proofs.«01_k».proof.Proof.Softmax

@[expose] public section

/-! The reference's result at an index. -/

set_option maxRecDepth 16384
noncomputable section
namespace Cert.ReferenceIdeal.Hand
open Cert.ReferenceIdeal Cert.ReferenceIdeal.Gen Cert.ReferenceIdeal.Read Idealize.ShloMosaic Idealize.ShloMosaic.TcCoe Idealize.SL.Sem
open Cert.Softmax
open scoped BigOperators

/-- An entry of the joined keys or values, in the reference's order: the context's 256 tokens, then the latents. -/
def rowOf {w : ℕ} (X : FVec Ideal ⟨4, ![8, 4096, 4, w]⟩ .f32) (C : FVec Ideal ⟨4, ![8, 256, 4, w]⟩ .f32) (b : Fin 8)
    (h : Fin 4) (k : Fin 4352) (x : Fin w) : EReal :=
  if hk : k.val < 256 then C (ix4 b ⟨k, hk⟩ h x) else X (ix4 b ⟨k - 256, by omega⟩ h x)

/-- The scaled score of a query row and a key. -/
theorem score_apply (x0 x1 : FVec Ideal S8x4096x4x96 .f32) (x4 : FVec Ideal S8x256x4x96 .f32) (b : Fin 8) (h : Fin 4)
    (t : Fin 4096) (k : Fin 4352) :
    val_main_v6 (F := Ideal) x0 x1 x4 (ix4 b h t k)
      = (∑ x, x0 (ix4 b t h x) * rowOf x1 x4 b h k x) * Ideal.div 1 (Ideal.sqrt (Ideal.ofBits .f32 0x42C00000#32)) := by
  pointwise [val_main_v6, val_main_v5, val_main_v4, val_main_v3, val_main_v2, val_main_v0, val_main_cst, val_main_cst_0]
  rfl

/-- The larger of minus infinity and an array, carried along the keys. -/
theorem spread_apply (y : FVec Ideal S8x4x4096 .f32) (b : Fin 8) (h : Fin 4) (t : Fin 4096) (k : Fin 4352) :
    broadcastInDim S8x4x4096x4352 ![0, 1, 2, 3] bcast_S8x4x4096x1_S8x4x4096x4352_0_1_2_3
      (broadcastInDim S8x4x4096x1 ![0, 1, 2] bcast_S8x4x4096_S8x4x4096x1_0_1_2 (maximumf (val_main_v8 (F := Ideal)) y)) (ix4 b h t k)
      = max (Ideal.ofBits .f32 0xFF800000#32) (y (ix3 b h t)) := by
  pointwise [val_main_v8, val_main_cst_2]

/-- The row maximum the softmax subtracts. -/
theorem max_apply (x0 x1 : FVec Ideal S8x4096x4x96 .f32) (x4 : FVec Ideal S8x256x4x96 .f32) (b : Fin 8) (h : Fin 4)
    (t : Fin 4096) (k : Fin 4352) :
    val_main_v11 (F := Ideal) x0 x1 x4 (ix4 b h t k)
      = max (Ideal.ofBits .f32 0xFF800000#32) (val_main_v7 (F := Ideal) x0 x1 x4 (ix3 b h t)) := by
  unfold val_main_v11 val_main_v10 val_main_v9
  exact spread_apply (val_main_v7 (F := Ideal) x0 x1 x4) b h t k

/-- The weight of a key. -/
theorem weight_apply (x0 x1 : FVec Ideal S8x4096x4x96 .f32) (x4 : FVec Ideal S8x256x4x96 .f32) (b : Fin 8) (h : Fin 4)
    (t : Fin 4096) (k : Fin 4352) :
    val_main_v17 (F := Ideal) x0 x1 x4 (ix4 b h t k)
      = Ideal.div (Ideal.exp (val_main_v6 (F := Ideal) x0 x1 x4 (ix4 b h t k) - val_main_v11 (F := Ideal) x0 x1 x4 (ix4 b h t k)))
          (∑ i, Ideal.exp (val_main_v6 (F := Ideal) x0 x1 x4 (ix4 b h t i) - val_main_v11 (F := Ideal) x0 x1 x4 (ix4 b h t i))) := by
  pointwise [val_main_v17, val_main_v16, val_main_v15, val_main_v14, val_main_v13, val_main_v12, val_main_cst_3]

/-- The result: the weighted sum of the values. -/
theorem out_apply (x0 x1 : FVec Ideal S8x4096x4x96 .f32) (x2 : FVec Ideal S8x4096x4x64 .f32)
    (x4 : FVec Ideal S8x256x4x96 .f32) (x5 : FVec Ideal S8x256x4x64 .f32) (b : Fin 8) (h : Fin 4) (t : Fin 4096) (d : Fin 64) :
    val_main_v21 (F := Ideal) x0 x1 x2 x4 x5 (ix3 b t ⟨64 * h + d, by omega⟩)
      = ∑ k, rowOf x2 x5 b h k d * val_main_v17 (F := Ideal) x0 x1 x4 (ix4 b h t k) := by
  rw [Fin.sum_univ_two_halves 256 4096 rfl fun k : Fin 4352 => rowOf x2 x5 b h k d * val_main_v17 (F := Ideal) x0 x1 x4 (ix4 b h t k)]
  pointwise [val_main_v21, val_main_v20, val_main_v19, val_main_v18, val_main_v1]
  simp [rowOf]

/-- On real queries and keys the row maximum is real. -/
theorem max_rl {x0 x1 : FVec Ideal S8x4096x4x96 .f32} {x4 : FVec Ideal S8x256x4x96 .f32} (h0 : ∀ i, Rl (x0 i))
    (h1 : ∀ i, Rl (x1 i)) (h4 : ∀ i, Rl (x4 i)) (j) : Rl (val_main_v7 (F := Ideal) x0 x1 x4 j) := by
  refine reduce_max_last (P := Rl) (fun h h' => h.max h') (by decide) (val_main_v6 (F := Ideal) x0 x1 x4) (val_main_cst_1 (F := Ideal)) _ _ ofBits_ninf j fun i => ?_
  obtain ⟨b, h, t, k, rfl⟩ : ∃ (b : Fin 8) (h : Fin 4) (t : Fin 4096) (k : Fin 4352), i = ix4 b h t k := ⟨i 0, i 1, i 2, i 3, by blk_ext []⟩
  rw [score_apply]
  refine (Rl.sum _ fun x => (h0 _).mul ?_).mul ?_
  · unfold rowOf
    split
    · exact h4 _
    · exact h1 _
  · have h96 : Real.sqrt 96 ≠ 0 := (Real.sqrt_pos.2 (by norm_num)).ne'
    rw [ofBits_96, Ideal.sqrt_coe, if_neg (by norm_num), Ideal.div_coe h96]
    exact ⟨1 * (1 / Real.sqrt 96), by rw [EReal.coe_mul]; rfl⟩

end Cert.ReferenceIdeal.Hand
end
-- ==== Proof.Attention.lean ====
module

public import proofs.«01_k».proof.Proof.Final
public import proofs.«01_k».proof.Proof.Operands
public import proofs.«01_k».proof.Proof.RefRead

@[expose] public section

/-! The kernel's attention is the reference's. -/

set_option maxRecDepth 16384
noncomputable section
namespace Cert.KernelIdeal.Hand
open Cert.KernelIdeal Cert.KernelIdeal.Gen Idealize.ShloMosaic Idealize.ShloMosaic.TcCoe Idealize.SL.Sem
open Cert.Softmax
open scoped BigOperators
variable (m : (ℓ : Loc nD τ sig) → Buf (Elt Ideal) ℓ)

/-- A query row's quotient of sums, over operands of the prepared form, is the softmax average of the values, in the
    reference's order of the keys and under any real shift. -/
theorem quotient (Q K W : FVec Ideal S8x4352x512 .bf16) (U : FVec Ideal S8x4x128 .bf16) (b : Fin 8) (t : Fin 4352) (h : Fin 4)
    (d : Fin 64) (q : Fin 96 → ℝ) (k : Fin 4352 → Fin 96 → ℝ) (v : Fin 4352 → EReal) (β M : ℝ)
    (hQ : ∀ l : Fin 128, Q (ix3 b t ⟨128 * h + l, by omega⟩) = (if hl : l.val < 96 then (q ⟨l, hl⟩ : EReal) else 0) * scale)
    (hK : ∀ (j) (l : Fin 128), K (ix3 b j ⟨128 * h + l, by omega⟩)
      = (if hl : l.val < 96 then (k j ⟨l, hl⟩ : EReal) else 0) + if l.val = 96 then 1 else 0)
    (hW : ∀ j, W (ix3 b j ⟨128 * h + d, by omega⟩) = v j) (hW' : ∀ j, W (ix3 b j ⟨128 * h + (64 + d), by omega⟩) = 1)
    (hU : ∀ l : Fin 128, U (ix3 b h l) = if l.val = 96 then ((-β : ℝ) : EReal) else 0) :
    Ideal.div (sums Q K W U b t h ⟨d, by omega⟩) (sums Q K W U b t h ⟨64 + d, by omega⟩)
      = ∑ j, v (place j) * Ideal.div (Ideal.exp ((((∑ x, q x * k (place j) x) * (1 / Real.sqrt 96) : ℝ) : EReal) - (M : EReal)))
          (∑ i, Ideal.exp ((((∑ x, q x * k (place i) x) * (1 / Real.sqrt 96) : ℝ) : EReal) - (M : EReal))) := by
  have sc : ∀ j : Fin 4352, (∑ l : Fin 128, (Q (ix3 b t ⟨128 * h + l, by omega⟩) + U (ix3 b h l)) * K (ix3 b j ⟨128 * h + l, by omega⟩))
      = (((∑ x, q x * k j x) * (1 / Real.sqrt 96) * (1 / Real.log 2) - β : ℝ) : EReal) := fun j => by
    rw [score_lanes (a := 96) (z := 31) rfl q (k j) (1 / Real.sqrt 96 * (1 / Real.log 2)) β _ _
      (fun l => by rw [hQ, hU, scale_coe]) (fun l => hK j l), mul_assoc]
  unfold sums
  simp only [sc, hW, hW']
  rw [sum_place, sum_place fun j => _ * (1 : EReal)]
  exact shifted (by decide) (fun j => (∑ x, q x * k (place j) x) * (1 / Real.sqrt 96)) (fun j => v (place j)) β M

/-- In the reference's order of the keys, the joined arrays are the reference's. -/
theorem joined_place {w : ℕ} (X : FVec Ideal ⟨4, ![8, 4096, 4, w]⟩ .f32) (C : FVec Ideal ⟨4, ![8, 256, 4, w]⟩ .f32) (b : Fin 8)
    (h : Fin 4) (k : Fin 4352) (x : Fin w) : joined X C b (place k) h x = ReferenceIdeal.Hand.rowOf X C b h k x := by
  unfold joined place ReferenceIdeal.Hand.rowOf
  by_cases hk : k.val < 256
  · simp [hk]
  · have : k.val - 256 < 4096 := by omega
    simp [hk, this]

/-- On real queries and keys the call's result is the reference's. -/
theorem value (c : Dev nD)
    (h0 : ∀ i, Rl ((m ((c : Thread nD τ).loc main_arg0) : FVec Ideal S8x4096x4x96 .f32) i))
    (h1 : ∀ i, Rl ((m ((c : Thread nD τ).loc main_arg1) : FVec Ideal S8x4096x4x96 .f32) i))
    (h3 : ∀ i, Rl ((m ((c : Thread nD τ).loc main_arg3) : FVec Ideal S8x256x4x96 .f32) i))
    (h4 : ∀ i, Rl ((m ((c : Thread nD τ).loc main_arg4) : FVec Ideal S8x256x4x96 .f32) i)) :
    out (V m c main_v30) (V m c main_v36) (V m c main_v40) (V m c main_v27)
      = ReferenceIdeal.Read.val_main_v21 (F := Ideal) (m ((c : Thread nD τ).loc main_arg0)) (m ((c : Thread nD τ).loc main_arg1))
          (m ((c : Thread nD τ).loc main_arg2)) (m ((c : Thread nD τ).loc main_arg4)) (m ((c : Thread nD τ).loc main_arg5)) := by
  funext i
  obtain ⟨b, t, n, rfl⟩ : ∃ (b : Fin 8) (t : Fin 4096) (n : Fin 256), i = ix3 b t n := ⟨i 0, i 1, i 2, by blk_ext []⟩
  obtain ⟨h, d, rfl⟩ : ∃ (h : Fin 4) (d : Fin 64), n = ⟨64 * h + d, by omega⟩ :=
    ⟨⟨n / 64, by omega⟩, ⟨n % 64, by omega⟩, Fin.ext (by simp only []; omega)⟩
  have jk := fun j x => Rl.joined h1 h4 b j h x
  choose q hq using fun x => h0 (ix4 b t h x)
  choose k hk using jk
  obtain ⟨β, hβ⟩ := bound_rl h0 h1 h3 h4 b h
  obtain ⟨M, hM⟩ := ReferenceIdeal.Hand.max_rl h0 h1 h4 (ix3 b h t)
  have e := quotient (V m c main_v30) (V m c main_v36) (V m c main_v40) (V m c main_v27) b ⟨t, by omega⟩ h d q k
    (fun j => joined (m ((c : Thread nD τ).loc main_arg2)) (m ((c : Thread nD τ).loc main_arg5)) b j h d) β M
    (fun l => by
      rw [V_q]
      simp only [joined, t.2, dif_pos, hq])
    (fun j l => by rw [V_k]; simp only [hk])
    (fun j => (V_v m c b j h ⟨d, by omega⟩).trans (dif_pos d.2))
    (fun j => (V_v m c b j h ⟨64 + d, by omega⟩).trans (dif_neg (by simp)))
    (fun l => by rw [V_u, hβ, EReal.coe_neg])
  have el : out (V m c main_v30) (V m c main_v36) (V m c main_v40) (V m c main_v27) (ix3 b t ⟨64 * h + d, by omega⟩)
      = Ideal.div (sums (V m c main_v30) (V m c main_v36) (V m c main_v40) (V m c main_v27) b ⟨t, by omega⟩ h ⟨d, by omega⟩)
        (sums (V m c main_v30) (V m c main_v36) (V m c main_v40) (V m c main_v27) b ⟨t, by omega⟩ h ⟨64 + d, by omega⟩) := by
    have a1 : (64 * (h : ℕ) + d) / 64 = h := by omega
    have a2 : (64 * (h : ℕ) + d) % 64 = d := by omega
    unfold out
    exact congrArg₂ Ideal.div (congrArg₂ _ (Fin.ext a1) (Fin.ext a2)) (congrArg₂ _ (Fin.ext a1) (Fin.ext (congrArg (64 + ·) a2)))
  rw [el, e, ReferenceIdeal.Hand.out_apply]
  have h96 : Real.sqrt 96 ≠ 0 := (Real.sqrt_pos.2 (by norm_num)).ne'
  have es : ∀ j, ReferenceIdeal.Read.val_main_v6 (F := Ideal) (m ((c : Thread nD τ).loc main_arg0)) (m ((c : Thread nD τ).loc main_arg1))
      (m ((c : Thread nD τ).loc main_arg4)) (ix4 b h t j) = (((∑ x, q x * k (place j) x) * (1 / Real.sqrt 96) : ℝ) : EReal) := fun j => by
    rw [ReferenceIdeal.Hand.score_apply, ofBits_96, Ideal.sqrt_coe, if_neg (by norm_num), Ideal.div_coe h96, one_mul]
    simp only [← joined_place, hk, hq, ← EReal.coe_mul, coe_sum]
  refine Finset.sum_congr rfl fun j _ => ?_
  rw [joined_place, ReferenceIdeal.Hand.weight_apply]
  simp only [ReferenceIdeal.Hand.max_apply, ofBits_ninf, bot_le, max_eq_right, hM, es]

end Cert.KernelIdeal.Hand
end
-- ==== Proof.Pre.lean ====
module

public import proofs.«01_k».proof.Proof.Gen.Pre_scores_finite
public import Idealize.ShloMosaic.Lib.ReduceAll
public import proofs.«01_k».proof.Proof.Softmax

@[expose] public section

/-! What the precondition says: the queries and keys are real numbers. -/

set_option maxRecDepth 16384
noncomputable section
namespace Cert.Softmax
open Idealize.ShloMosaic Idealize.ShloMosaic.TcCoe

/-- The f32 pattern `0x7F800000` is plus infinity. -/
theorem ofBits_inf : Ideal.ofBits .f32 0x7F800000#32 = (⊤ : EReal) := by
  simp [Ideal.ofBits, Ideal.ieee]

/-- A value whose magnitude is below infinity is real. -/
theorem rl_of_abs_lt {x : EReal} (h : max x (-x) < ⊤) : Rl x := by
  induction x with
  | bot => simp at h
  | top => simp at h
  | coe r => exact ⟨r, rfl⟩

/-- An array whose every magnitude tests below infinity is real. -/
theorem rl_of_all {s t u : Shape} {axes : List (Fin s.rank)} [Subsingleton t.Idx] (x : FVec Ideal s .f32)
    (bc : (⟨0, ![]⟩ : Shape).BroadcastsInDim s ![]) (v : u.Idx → BitVec 1) (h : s.ReducesTo axes t) (hu : 0 < u.numel) (j : t.Idx)
    (e : Host.reduce IntOp.andi (cmpf .olt (Host.absf x) (broadcastInDim s ![] bc (constant ⟨0, ![]⟩ .f32 0x7F800000#32))) v h hu j = 1#1)
    (i : s.Idx) : Rl (x i) := by
  have e := Host.reduce_andi_all _ _ h hu j e i
  have e : BitVec.ofBool (decide (max (x i) (-(x i)) < Ideal.ofBits .f32 0x7F800000#32)) = 1#1 := e
  rw [ofBits_inf] at e
  refine rl_of_abs_lt ?_
  by_contra hn
  rw [decide_eq_false hn] at e
  exact absurd e (by decide)

/-- The conjunction of two bits is set when both are. -/
theorem and_one : ∀ {a b : BitVec 1}, IntOp.andi a b = 1#1 → a = 1#1 ∧ b = 1#1 := by decide

end Cert.Softmax
namespace Cert.Pre_scores_finite
open Idealize.ShloMosaic Idealize.ShloMosaic.TcCoe Cert.Softmax Cert.Pre_scores_finite.Gen

/-- Under the precondition the queries and keys, latents' and context's, are real numbers. -/
theorem real_of_pre (x0 x1 : FVec Ideal S8x4096x4x96 .f32) (x2 : FVec Ideal S8x4096x4x64 .f32)
    (x3 x4 : FVec Ideal S8x256x4x96 .f32) (x5 : FVec Ideal S8x256x4x64 .f32)
    (h : fn (F := Ideal) x0 x1 x2 x3 x4 x5 = fun _ => 1#1) :
    (∀ i, Rl (x0 i)) ∧ (∀ i, Rl (x1 i)) ∧ (∀ i, Rl (x3 i)) ∧ ∀ i, Rl (x4 i) := by
  have e := congrFun h (fun a => a.elim0)
  obtain ⟨e, e4⟩ := and_one e
  obtain ⟨e, e3⟩ := and_one e
  obtain ⟨e0, e1⟩ := and_one e
  haveI : Subsingleton S_.Idx := ⟨fun a b => funext fun i => Fin.elim0 i⟩
  exact ⟨rl_of_all x0 _ _ _ _ _ e0, rl_of_all x1 _ _ _ _ _ e1, rl_of_all x3 _ _ _ _ _ e3, rl_of_all x4 _ _ _ _ _ e4⟩

end Cert.Pre_scores_finite
end
-- ==== Proof.MergeRow.lean ====
module

public import proofs.«01_k».proof.Proof.Softmax

@[expose] public section

/-! One token of the merge of the attention branches and the feed-forward block, as both programs compute it. -/

noncomputable section
namespace Cert.MergeRow
open Idealize.ShloMosaic Idealize.SL.Sem
open scoped BigOperators

/-- Two arrays of rows, one after the other along the tokens: the latents, then the context. -/
def joined {w : ℕ} (X : (⟨3, ![8, 4096, w]⟩ : Shape).Idx → EReal) (C : (⟨3, ![8, 256, w]⟩ : Shape).Idx → EReal) (b : Fin 8)
    (t : Fin 4352) (x : Fin w) : EReal :=
  if ht : t.val < 4096 then X (ix3 b ⟨t, ht⟩ x) else C (ix3 b ⟨t - 4096, by omega⟩ x)

theorem joined_lat {w : ℕ} (X : (⟨3, ![8, 4096, w]⟩ : Shape).Idx → EReal) (C : (⟨3, ![8, 256, w]⟩ : Shape).Idx → EReal) (b : Fin 8)
    (t : Fin 4352) (ht : t.val < 4096) (x : Fin w) : joined X C b t x = X (ix3 b ⟨t, ht⟩ x) := dif_pos ht

theorem joined_ctx {w : ℕ} (X : (⟨3, ![8, 4096, w]⟩ : Shape).Idx → EReal) (C : (⟨3, ![8, 256, w]⟩ : Shape).Idx → EReal) (b : Fin 8)
    (t : Fin 4352) (ht : ¬t.val < 4096) (x : Fin w) : joined X C b t x = C (ix3 b ⟨t - 4096, by omega⟩ x) := dif_neg ht

/-- The gated sum of the three branches' projections. -/
def mixed (ga gb gc : Fin 1024 → EReal) (ya : Fin 256 → EReal) (yg : Fin 512 → EReal) (ym : Fin 256 → EReal)
    (wa : Fin 256 → Fin 1024 → EReal) (wg : Fin 512 → Fin 1024 → EReal) (wm : Fin 256 → Fin 1024 → EReal)
    (n : Fin 1024) : EReal :=
  ga n * (∑ k, ya k * wa k n) + gb n * (∑ k, yg k * wg k n) + gc n * ∑ k, ym k * wm k n

/-- A token plus its scaled projection. -/
def resid {a : ℕ} (x g : Fin 1024 → EReal) (y : Fin a → EReal) (w : Fin a → Fin 1024 → EReal) (n : Fin 1024) : EReal :=
  x n + g n * ∑ k, y k * w k n

/-- The normalised and modulated token. -/
def normed (x gain sc sh : Fin 1024 → EReal) (n : Fin 1024) : EReal :=
  x n * Ideal.rsqrt ((∑ k, x k * x k) * Ideal.ofBits .f32 0x3A800000#32 + Ideal.ofBits .f32 0x358637BD#32) * gain n
    * (1 + sc n) + sh n

/-- The gated hidden activation of the feed-forward block. -/
def act (h : Fin 1024 → EReal) (wg wu : Fin 1024 → Fin 2816 → EReal) (f : Fin 2816) : EReal :=
  (∑ k, h k * wg k f) * Ideal.logistic (∑ k, h k * wg k f) * ∑ k, h k * wu k f

/-- A whole token. -/
def token (x g1 sh sc g2 gain ga gb gc : Fin 1024 → EReal) (ya : Fin 256 → EReal) (yg : Fin 512 → EReal) (ym : Fin 256 → EReal)
    (wa : Fin 256 → Fin 1024 → EReal) (wg : Fin 512 → Fin 1024 → EReal) (wm : Fin 256 → Fin 1024 → EReal)
    (wo : Fin 1024 → Fin 1024 → EReal) (w1 w2 : Fin 1024 → Fin 2816 → EReal) (wd : Fin 2816 → Fin 1024 → EReal) :
    Fin 1024 → EReal :=
  resid (resid x g1 (mixed ga gb gc ya yg ym wa wg wm) wo) g2
    (act (normed (resid x g1 (mixed ga gb gc ya yg ym wa wg wm) wo) gain sc sh) w1 w2) wd

/-- A token depends on its inputs' entries alone. -/
theorem token_congr
    {x x' : Fin 1024 → EReal}
    {g1 g1' : Fin 1024 → EReal}
    {sh sh' : Fin 1024 → EReal}
    {sc sc' : Fin 1024 → EReal}
    {g2 g2' : Fin 1024 → EReal}
    {gain gain' : Fin 1024 → EReal}
    {ga ga' : Fin 1024 → EReal}
    {gb gb' : Fin 1024 → EReal}
    {gc gc' : Fin 1024 → EReal}
    {ya ya' : Fin 256 → EReal}
    {yg yg' : Fin 512 → EReal}
    {ym ym' : Fin 256 → EReal}
    {wa wa' : Fin 256 → Fin 1024 → EReal}
    {wg wg' : Fin 512 → Fin 1024 → EReal}
    {wm wm' : Fin 256 → Fin 1024 → EReal}
    {wo wo' : Fin 1024 → Fin 1024 → EReal}
    {w1 w1' : Fin 1024 → Fin 2816 → EReal}
    {w2 w2' : Fin 1024 → Fin 2816 → EReal}
    {wd wd' : Fin 2816 → Fin 1024 → EReal}
    (h_x : ∀ i, x i = x' i)
    (h_g1 : ∀ i, g1 i = g1' i)
    (h_sh : ∀ i, sh i = sh' i)
    (h_sc : ∀ i, sc i = sc' i)
    (h_g2 : ∀ i, g2 i = g2' i)
    (h_gain : ∀ i, gain i = gain' i)
    (h_ga : ∀ i, ga i = ga' i)
    (h_gb : ∀ i, gb i = gb' i)
    (h_gc : ∀ i, gc i = gc' i)
    (h_ya : ∀ i, ya i = ya' i)
    (h_yg : ∀ i, yg i = yg' i)
    (h_ym : ∀ i, ym i = ym' i)
    (h_wa : ∀ i j, wa i j = wa' i j)
    (h_wg : ∀ i j, wg i j = wg' i j)
    (h_wm : ∀ i j, wm i j = wm' i j)
    (h_wo : ∀ i j, wo i j = wo' i j)
    (h_w1 : ∀ i j, w1 i j = w1' i j)
    (h_w2 : ∀ i j, w2 i j = w2' i j)
    (h_wd : ∀ i j, wd i j = wd' i j)
    (n : Fin 1024) : token x g1 sh sc g2 gain ga gb gc ya yg ym wa wg wm wo w1 w2 wd n = token x' g1' sh' sc' g2' gain' ga' gb' gc' ya' yg' ym' wa' wg' wm' wo' w1' w2' wd' n := by
  obtain rfl : x = x' := funext h_x
  obtain rfl : g1 = g1' := funext h_g1
  obtain rfl : sh = sh' := funext h_sh
  obtain rfl : sc = sc' := funext h_sc
  obtain rfl : g2 = g2' := funext h_g2
  obtain rfl : gain = gain' := funext h_gain
  obtain rfl : ga = ga' := funext h_ga
  obtain rfl : gb = gb' := funext h_gb
  obtain rfl : gc = gc' := funext h_gc
  obtain rfl : ya = ya' := funext h_ya
  obtain rfl : yg = yg' := funext h_yg
  obtain rfl : ym = ym' := funext h_ym
  obtain rfl : wa = wa' := funext fun i => funext fun j => h_wa i j
  obtain rfl : wg = wg' := funext fun i => funext fun j => h_wg i j
  obtain rfl : wm = wm' := funext fun i => funext fun j => h_wm i j
  obtain rfl : wo = wo' := funext fun i => funext fun j => h_wo i j
  obtain rfl : w1 = w1' := funext fun i => funext fun j => h_w1 i j
  obtain rfl : w2 = w2' := funext fun i => funext fun j => h_w2 i j
  obtain rfl : wd = wd' := funext fun i => funext fun j => h_wd i j
  rfl

end Cert.MergeRow
end
-- ==== Proof.MergeBlock.lean ====
module

public import proofs.«01_k».proof.Proof.Gen.MergeIdeal.Value
public import proofs.«01_k».proof.Proof.MergeRow

@[expose] public section

/-! One grid point of the merge: a row of the stored block. -/

set_option maxRecDepth 16384
noncomputable section
namespace Cert.MergeIdeal.Hand
open Cert.MergeIdeal Cert.MergeIdeal.Gen Idealize.ShloMosaic Idealize.ShloMosaic.TcCoe Idealize.SL.Sem
open Cert.MergeRow
open scoped BigOperators

/-- The first two branches. -/
theorem two_apply (i : grid0.Coords) (v1 v3 : Vec Ideal S1x256x512 .bf16) (v11 : Vec Ideal S1x256x1024 .bf16)
    (v14 : Vec Ideal S1x256x256 .bf16) (v16 : Vec Ideal S256x1024 .bf16) (v20 : Vec Ideal S1x256x1024 .bf16)
    (v23 : Vec Ideal S512x1024 .bf16) (r : Fin 256) (n : Fin 1024) :
    k0_pay3 i v1 v3 v11 v14 v16 v20 v23 (ix2 r n)
      = v11 (ix3 0 r n) * (∑ k : Fin 256, v14 (ix3 0 r k) * v16 (ix2 k n))
        + v20 (ix3 0 r n) * ∑ k : Fin 512, (if 16 ≤ (i 1).val then v1 else v3) (ix3 0 r k) * v23 (ix2 k n) := by
  by_cases h : 16 ≤ (i 1).val
  · have c : Scalar.cmpi .sge (BitVec.ofNat 32 (i 1).val) 16#32 = 1#1 := by
      revert h; generalize i 1 = j; revert j; decide
    pointwise [k0_pay3]
    rw [c, if_pos h]
    pointwise
  · have c : Scalar.cmpi .sge (BitVec.ofNat 32 (i 1).val) 16#32 = 0#1 := by
      revert h; generalize i 1 = j; revert j; decide
    pointwise [k0_pay3]
    rw [c, if_neg h]
    pointwise

/-- The latent branch's rows. -/
theorem third_apply (i : grid0.Coords) (v6 v8 : Vec Ideal S1x256x256 .bf16) (r : Fin 256) (k : Fin 256) :
    k0_pay2 i v6 v8 (ix2 r k) = (if 16 ≤ (i 1).val then v6 else v8) (ix3 0 r k) := by
  by_cases h : 16 ≤ (i 1).val
  · have c : Scalar.cmpi .sge (BitVec.ofNat 32 (i 1).val) 16#32 = 1#1 := by
      revert h; generalize i 1 = j; revert j; decide
    simp only [k0_pay2]
    rw [c, if_pos h]
    pointwise
  · have c : Scalar.cmpi .sge (BitVec.ofNat 32 (i 1).val) 16#32 = 0#1 := by
      revert h; generalize i 1 = j; revert j; decide
    simp only [k0_pay2]
    rw [c, if_neg h]
    pointwise

/-- The merged residual. -/
theorem resid_apply (v10 : FVec Ideal S256x256 .bf16) (v27 : FVec Ideal S256x1024 .f32) (v28 : Vec Ideal S1x256x1024 .bf16)
    (v31 : Vec Ideal S256x1024 .bf16) (v37 : Vec Ideal S1024x1024 .bf16) (v40 : Vec Ideal S1x256x1024 .f32)
    (v42 : Vec Ideal S1x6x1024 .f32) (r : Fin 256) (n : Fin 1024) :
    k0_pay4 v10 v27 v28 v31 v37 v40 v42 (ix2 r n)
      = v40 (ix3 0 r n) + v42 (ix3 0 2 n) * ∑ k : Fin 1024,
          (v27 (ix2 r k) + v28 (ix3 0 r k) * ∑ j : Fin 256, v10 (ix2 r j) * v31 (ix2 j k)) * v37 (ix2 k n) := by
  pointwise [k0_pay4]

/-- The normalised row. -/
theorem normed_apply (v10 : FVec Ideal S256x256 .bf16) (v27 : FVec Ideal S256x1024 .f32) (v28 : Vec Ideal S1x256x1024 .bf16)
    (v31 : Vec Ideal S256x1024 .bf16) (v37 : Vec Ideal S1024x1024 .bf16) (v40 : Vec Ideal S1x256x1024 .f32)
    (v42 : Vec Ideal S1x6x1024 .f32) (v50 : Vec Ideal S1x1024 .f32) (r : Fin 256) (n : Fin 1024) :
    k0_pay6 v10 v27 v28 v31 v37 v40 v42 v50 (ix2 r n)
      = k0_pay4 v10 v27 v28 v31 v37 v40 v42 (ix2 r n)
        * Ideal.rsqrt ((∑ k : Fin 1024, k0_pay4 v10 v27 v28 v31 v37 v40 v42 (ix2 r k) * k0_pay4 v10 v27 v28 v31 v37 v40 v42 (ix2 r k))
            * Ideal.ofBits .f32 0x3A800000#32 + Ideal.ofBits .f32 0x358637BD#32)
        * v50 (ix2 0 n) := by
  unfold k0_pay6
  generalize k0_pay4 v10 v27 v28 v31 v37 v40 v42 = y
  pointwise

/-- The feed-forward block. -/
theorem ffn_apply (v47 : FVec Ideal S256x1024 .f32) (v48 : Vec Ideal S1x6x1024 .f32) (v63 : FVec Ideal S256x1024 .f32)
    (v73 v78 : Vec Ideal S1024x2816 .bf16) (v84 : Vec Ideal S2816x1024 .bf16) (r : Fin 256) (n : Fin 1024) :
    k0_pay1 v47 (k0_pay5 v48) v63 (k0_pay7 v48) (k0_pay8 (F := Ideal)) v73 v78 v84 (ix3 0 r n)
      = resid (fun k => v47 (ix2 r k)) (fun k => v48 (ix3 0 5 k))
          (act (fun k => v63 (ix2 r k) * (1 + v48 (ix3 0 4 k)) + v48 (ix3 0 3 k)) (fun k f => v73 (ix2 k f)) fun k f => v78 (ix2 k f))
          (fun f k => v84 (ix2 f k)) n := by
  pointwise [k0_pay1, k0_pay5, k0_pay7, k0_pay8]
  unfold resid act
  rfl

/-- A load of a whole buffer is the buffer. -/
theorem ld_whole {s : Shape} {e : EltTy} (X : Vec Ideal s e) (o : Fin s.rank → ℕ) (h) (ho : ∀ i, o i = 0) :
    View.ld X (Rect.unit (s := s) o s.size h) = X := by
  funext j
  refine congrArg X (funext fun i => Fin.ext ?_)
  change o i + 1 * (j i : ℕ) = j i
  rw [ho i]
  omega

/-- A load of some lanes of a block's rows. -/
theorem ld_lanes {a b w o : ℕ} {e : EltTy} (X : Vec Ideal ⟨3, ![1, a, b]⟩ e) (h) (r : Fin a) (k : Fin w) (hk : o + (k : ℕ) < b) :
    View.ld X (Rect.unit (s := ⟨3, ![1, a, b]⟩) ![0, 0, o] ![1, a, w] h) (ix3 0 r k) = X (ix3 0 r ⟨o + k, hk⟩) := by
  refine congrArg X (funext fun i => Fin.ext ?_)
  match i with
  | ⟨0, _⟩ => rfl
  | ⟨1, _⟩ => change 0 + 1 * (r : ℕ) = r; omega
  | ⟨2, _⟩ => change o + 1 * (k : ℕ) = o + k; omega

/-- What a grid point writes, from the blocks it holds. -/
theorem out_apply (i : grid0.Coords) (x0 : Vec Ideal S1x256x1024 .f32) (x1 : Vec Ideal S1x6x1024 .f32) (x2 : Vec Ideal S1x256x256 .bf16)
    (x3 x4 : Vec Ideal S1x256x512 .bf16) (x5 x6 : Vec Ideal S1x256x256 .bf16) (x7 : Vec Ideal S1x256x3072 .bf16)
    (x8 : Vec Ideal S256x1024 .bf16) (x9 : Vec Ideal S512x1024 .bf16) (x10 : Vec Ideal S256x1024 .bf16) (x11 : Vec Ideal S1024x1024 .bf16)
    (x12 : Vec Ideal S1x1024 .f32) (x13 x14 : Vec Ideal S1024x2816 .bf16) (x15 : Vec Ideal S2816x1024 .bf16) (r : Fin 256) (n : Fin 1024) :
    out0_16 i x0 x1 x2 x3 x4 x5 x6 x7 x8 x9 x10 x11 x12 x13 x14 x15 (ix3 0 r n)
      = token (fun k => x0 (ix3 0 r k)) (fun k => x1 (ix3 0 2 k)) (fun k => x1 (ix3 0 3 k)) (fun k => x1 (ix3 0 4 k))
          (fun k => x1 (ix3 0 5 k)) (fun k => x12 (ix2 0 k))
          (fun k => x7 (ix3 0 r ⟨k, by omega⟩)) (fun k => x7 (ix3 0 r ⟨1024 + k, by omega⟩)) (fun k => x7 (ix3 0 r ⟨2048 + k, by omega⟩))
          (fun k => x2 (ix3 0 r k)) (fun k => (if 16 ≤ (i 1).val then x4 else x3) (ix3 0 r k))
          (fun k => (if 16 ≤ (i 1).val then x6 else x5) (ix3 0 r k))
          (fun k n => x8 (ix2 k n)) (fun k n => x9 (ix2 k n)) (fun k n => x10 (ix2 k n)) (fun k n => x11 (ix2 k n))
          (fun k n => x13 (ix2 k n)) (fun k n => x14 (ix2 k n)) (fun k n => x15 (ix2 k n)) n := by
  have e0 : View.ld x0 r0_8 = x0 := ld_whole _ _ _ (by decide)
  have e1 : View.ld x1 r0_9 = x1 := ld_whole _ _ _ (by decide)
  have e2 : View.ld x2 r0_1 = x2 := ld_whole _ _ _ (by decide)
  have e3 : View.ld x3 r0_0 = x3 := ld_whole _ _ _ (by decide)
  have e4 : View.ld x4 r0_0 = x4 := ld_whole _ _ _ (by decide)
  have e5 : View.ld x5 r0_1 = x5 := ld_whole _ _ _ (by decide)
  have e6 : View.ld x6 r0_1 = x6 := ld_whole _ _ _ (by decide)
  have e8 : View.ld x8 r0_3 = x8 := ld_whole _ _ _ (by decide)
  have e9 : View.ld x9 r0_5 = x9 := ld_whole _ _ _ (by decide)
  have e10 : View.ld x10 r0_3 = x10 := ld_whole _ _ _ (by decide)
  have e11 : View.ld x11 r0_7 = x11 := ld_whole _ _ _ (by decide)
  have e12 : View.ld x12 r0_10 = x12 := ld_whole _ _ _ (by decide)
  have e13 : View.ld x13 r0_11 = x13 := ld_whole _ _ _ (by decide)
  have e14 : View.ld x14 r0_11 = x14 := ld_whole _ _ _ (by decide)
  have e15 : View.ld x15 r0_12 = x15 := ld_whole _ _ _ (by decide)
  have g0 : ∀ k : Fin 1024, View.ld x7 r0_2 (ix3 0 r k) = x7 (ix3 0 r ⟨k, by omega⟩) :=
    fun k => (ld_lanes x7 _ r k (by omega)).trans (by simp only [zero_add])
  have g1 : ∀ k : Fin 1024, View.ld x7 r0_4 (ix3 0 r k) = x7 (ix3 0 r ⟨1024 + k, by omega⟩) :=
    fun k => ld_lanes x7 _ r k (by omega)
  have g2 : ∀ k : Fin 1024, View.ld x7 r0_6 (ix3 0 r k) = x7 (ix3 0 r ⟨2048 + k, by omega⟩) :=
    fun k => ld_lanes x7 _ r k (by omega)
  unfold_out out0_16
  rw [e0, e1, e2, e3, e4, e5, e6, e8, e9, e10, e11, e12, e13, e14, e15]
  canon_tiles x h
  obtain ⟨a, r', l, rfl⟩ : ∃ (a : Fin 1) (r : Fin 256) (l : Fin 1024), x = ix3 a r l := ⟨x 0, x 1, x 2, by blk_ext []⟩
  obtain rfl := Subsingleton.elim a 0
  obtain rfl : r = r' := Fin.ext (by simpa using h1)
  obtain rfl : n = l := Fin.ext (by simpa using h2)
  refine (ffn_apply _ _ _ _ _ _ _ _).trans ?_
  simp only [normed_apply, resid_apply, two_apply, third_apply, g0, g1, g2]
  rfl

end Cert.MergeIdeal.Hand
end
-- ==== Proof.MergeFinal.lean ====
module

public import proofs.«01_k».proof.Proof.MergeBlock

@[expose] public section

/-! From a grid point's blocks to the array the merge leaves. -/

set_option maxRecDepth 16384
noncomputable section
namespace Cert.MergeIdeal.Hand
open Cert.MergeIdeal Cert.MergeIdeal.Gen Idealize.ShloMosaic Idealize.ShloMosaic.TcCoe Idealize.SL.Sem
open Idealize.ShloMosaic.Pipeline (Dat)
open Cert.MergeRow
open scoped BigOperators
variable (m : (ℓ : Loc nD τ sig) → Buf (Elt Ideal) ℓ)

/-- Where each window's block lies at a grid point. -/
theorem idx : ∀ t : Fin cfg0.N, win0_0.index t = ![t.val / 17, t.val % 17, 0]
    ∧ win0_1.index t = ![2 * (t.val / 17) + t.val % 17 / 16, 0, 0]
    ∧ win0_2.index t = ![t.val / 17, t.val % 17, 0]
    ∧ win0_3.index t = ![t.val / 17, min (t.val % 17) 15, 0] ∧ win0_4.index t = ![t.val / 17, 0, 0]
    ∧ win0_5.index t = ![t.val / 17, min (t.val % 17) 15, 0] ∧ win0_6.index t = ![t.val / 17, 0, 0]
    ∧ win0_7.index t = ![t.val / 17, t.val % 17, 0] ∧ win0_16.index t = ![t.val / 17, t.val % 17, 0] :=
  (by decide +kernel : ∀ t : Fin grid0.N, _)

/-- The resident windows' blocks are whole arrays. -/
theorem idx' : ∀ t : Fin cfg0.N, win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] :=
  (by decide +kernel : ∀ t : Fin grid0.N, _)

/-- The second grid coordinate is the point's tile. -/
theorem coord_one : ∀ t : Fin cfg0.N, (grid0.coords t 1).val = t.val % 17 :=
  (by decide +kernel : ∀ t : Fin grid0.N, _)

/-- The number of grid points. -/
theorem lt_N (t : Fin cfg0.N) : t.val < 136 := lt_of_lt_of_eq t.isLt (by decide)

/-- A grid point's batch entry. -/
def bat (t : Fin cfg0.N) : Fin 8 := ⟨t.val / 17, by have := lt_N t; omega⟩

/-- A grid point's rows. -/
def row (t : Fin cfg0.N) (r : Fin 256) : Fin 4352 := ⟨256 * (t.val % 17) + r, by omega⟩

/-- A token's modulation row. -/
def mrow (b : Fin 8) (t : Fin 4352) : Fin 16 := ⟨2 * b + t / 4096, by omega⟩

theorem read_0 (t : Fin cfg0.N) (A : FVec Ideal S8x4352x1024 .f32) (r : Fin 256) (k : Fin 1024) :
    ((cfg0.win 0).blk t).view.read (Elt Ideal) A (ix3 0 r k) = A (ix3 (bat t) (row t r) k) := by
  unfold bat row
  blk_simp
  blk_ext [idx t]

theorem read_1 (t : Fin cfg0.N) (A : FVec Ideal S16x6x1024 .f32) (r : Fin 256) (j : Fin 6) (k : Fin 1024) :
    ((cfg0.win 1).blk t).view.read (Elt Ideal) A (ix3 0 j k) = A (ix3 (mrow (bat t) (row t r)) j k) := by
  have e : (mrow (bat t) (row t r)) = ⟨2 * (t.val / 17) + t.val % 17 / 16, by have := lt_N t; omega⟩ := by
    refine Fin.ext ?_
    change 2 * (t.val / 17) + (256 * (t.val % 17) + (r : ℕ)) / 4096 = 2 * (t.val / 17) + t.val % 17 / 16
    omega
  rw [e]
  blk_simp
  blk_ext [idx t]

theorem read_2 (t : Fin cfg0.N) (A : FVec Ideal S8x4352x256 .bf16) (r : Fin 256) (k : Fin 256) :
    ((cfg0.win 2).blk t).view.read (Elt Ideal) A (ix3 0 r k) = A (ix3 (bat t) (row t r) k) := by
  unfold bat row
  blk_simp
  blk_ext [idx t]

theorem read_7 (t : Fin cfg0.N) (A : FVec Ideal S8x4352x3072 .bf16) (r : Fin 256) (k : Fin 3072) :
    ((cfg0.win 7).blk t).view.read (Elt Ideal) A (ix3 0 r k) = A (ix3 (bat t) (row t r) k) := by
  unfold bat row
  blk_simp
  blk_ext [idx t]

theorem read_3 (t : Fin cfg0.N) (A : FVec Ideal S8x4096x512 .bf16) (r : Fin 256) (k : Fin 512) :
    ((cfg0.win 3).blk t).view.read (Elt Ideal) A (ix3 0 r k) = A (ix3 (bat t) ⟨256 * min (t.val % 17) 15 + r, by omega⟩ k) := by
  unfold bat
  blk_simp
  blk_ext [idx t]

theorem read_4 (t : Fin cfg0.N) (A : FVec Ideal S8x256x512 .bf16) (r : Fin 256) (k : Fin 512) :
    ((cfg0.win 4).blk t).view.read (Elt Ideal) A (ix3 0 r k) = A (ix3 (bat t) r k) := by
  unfold bat
  blk_simp
  blk_ext [idx t]

theorem read_5 (t : Fin cfg0.N) (A : FVec Ideal S8x4096x256 .bf16) (r : Fin 256) (k : Fin 256) :
    ((cfg0.win 5).blk t).view.read (Elt Ideal) A (ix3 0 r k) = A (ix3 (bat t) ⟨256 * min (t.val % 17) 15 + r, by omega⟩ k) := by
  unfold bat
  blk_simp
  blk_ext [idx t]

theorem read_6 (t : Fin cfg0.N) (A : FVec Ideal S8x256x256 .bf16) (r : Fin 256) (k : Fin 256) :
    ((cfg0.win 6).blk t).view.read (Elt Ideal) A (ix3 0 r k) = A (ix3 (bat t) r k) := by
  unfold bat
  blk_simp
  blk_ext [idx t]

theorem read_8 (t : Fin cfg0.N) (A : FVec Ideal S256x1024 .bf16) (k : Fin 256) (n : Fin 1024) :
    ((cfg0.win 8).blk t).view.read (Elt Ideal) A (ix2 k n) = A (ix2 k n) := by
  blk_simp
  blk_ext [idx' t]

theorem read_9 (t : Fin cfg0.N) (A : FVec Ideal S512x1024 .bf16) (k : Fin 512) (n : Fin 1024) :
    ((cfg0.win 9).blk t).view.read (Elt Ideal) A (ix2 k n) = A (ix2 k n) := by
  blk_simp
  blk_ext [idx' t]

theorem read_10 (t : Fin cfg0.N) (A : FVec Ideal S256x1024 .bf16) (k : Fin 256) (n : Fin 1024) :
    ((cfg0.win 10).blk t).view.read (Elt Ideal) A (ix2 k n) = A (ix2 k n) := by
  blk_simp
  blk_ext [idx' t]

theorem read_11 (t : Fin cfg0.N) (A : FVec Ideal S1024x1024 .bf16) (k : Fin 1024) (n : Fin 1024) :
    ((cfg0.win 11).blk t).view.read (Elt Ideal) A (ix2 k n) = A (ix2 k n) := by
  blk_simp
  blk_ext [idx' t]

theorem read_12 (t : Fin cfg0.N) (A : FVec Ideal S1x1024 .f32) (n : Fin 1024) :
    ((cfg0.win 12).blk t).view.read (Elt Ideal) A (ix2 0 n) = A (ix2 0 n) := by
  blk_simp
  blk_ext [idx' t]

theorem read_13 (t : Fin cfg0.N) (A : FVec Ideal S1024x2816 .bf16) (k : Fin 1024) (n : Fin 2816) :
    ((cfg0.win 13).blk t).view.read (Elt Ideal) A (ix2 k n) = A (ix2 k n) := by
  blk_simp
  blk_ext [idx' t]

theorem read_14 (t : Fin cfg0.N) (A : FVec Ideal S1024x2816 .bf16) (k : Fin 1024) (n : Fin 2816) :
    ((cfg0.win 14).blk t).view.read (Elt Ideal) A (ix2 k n) = A (ix2 k n) := by
  blk_simp
  blk_ext [idx' t]

theorem read_15 (t : Fin cfg0.N) (A : FVec Ideal S2816x1024 .bf16) (k : Fin 2816) (n : Fin 1024) :
    ((cfg0.win 15).blk t).view.read (Elt Ideal) A (ix2 k n) = A (ix2 k n) := by
  blk_simp
  blk_ext [idx' t]

/-- The rows a grid point takes of a branch whose latents and context are separate arrays. -/
theorem rows_joined {w : ℕ} (L : FVec Ideal ⟨3, ![8, 4096, w]⟩ .bf16) (C : FVec Ideal ⟨3, ![8, 256, w]⟩ .bf16)
    (x y : Vec Ideal ⟨3, ![1, 256, w]⟩ .bf16) (t : Fin cfg0.N) (r : Fin 256) (k : Fin w)
    (hx : x (ix3 0 r k) = L (ix3 (bat t) ⟨256 * min (t.val % 17) 15 + r, by omega⟩ k)) (hy : y (ix3 0 r k) = C (ix3 (bat t) r k)) :
    (if 16 ≤ (grid0.coords t 1).val then y else x) (ix3 0 r k) = joined L C (bat t) (row t r) k := by
  rw [coord_one t]
  unfold joined
  by_cases h : 16 ≤ t.val % 17
  · rw [if_pos h, hy, dif_neg (by change ¬256 * (t.val % 17) + (r : ℕ) < 4096; omega)]
    refine congrArg (fun s => C (ix3 (bat t) s k)) (Fin.ext ?_)
    change (r : ℕ) = 256 * (t.val % 17) + (r : ℕ) - 4096
    omega
  · rw [if_neg h, hx, dif_pos (by change 256 * (t.val % 17) + (r : ℕ) < 4096; omega)]
    refine congrArg (fun s => L (ix3 (bat t) s k)) (Fin.ext ?_)
    change 256 * min (t.val % 17) 15 + (r : ℕ) = 256 * (t.val % 17) + (r : ℕ)
    omega

/-- A token of the merge's result, over its operands. -/
def tok (X : FVec Ideal S8x4352x1024 .f32) (M : FVec Ideal S16x6x1024 .f32) (Na : FVec Ideal S8x4352x256 .bf16)
    (Lg : FVec Ideal S8x4096x512 .bf16) (Cg : FVec Ideal S8x256x512 .bf16) (Lm : FVec Ideal S8x4096x256 .bf16)
    (Cm : FVec Ideal S8x256x256 .bf16) (G : FVec Ideal S8x4352x3072 .bf16) (Wa : FVec Ideal S256x1024 .bf16)
    (Wg : FVec Ideal S512x1024 .bf16) (Wm : FVec Ideal S256x1024 .bf16) (Wo : FVec Ideal S1024x1024 .bf16)
    (Gn : FVec Ideal S1x1024 .f32) (W1 W2 : FVec Ideal S1024x2816 .bf16) (Wd : FVec Ideal S2816x1024 .bf16)
    (b : Fin 8) (t : Fin 4352) : Fin 1024 → EReal :=
  token (fun k => X (ix3 b t k)) (fun k => M (ix3 (mrow b t) 2 k)) (fun k => M (ix3 (mrow b t) 3 k)) (fun k => M (ix3 (mrow b t) 4 k))
    (fun k => M (ix3 (mrow b t) 5 k)) (fun k => Gn (ix2 0 k))
    (fun k => G (ix3 b t ⟨k, by omega⟩)) (fun k => G (ix3 b t ⟨1024 + k, by omega⟩)) (fun k => G (ix3 b t ⟨2048 + k, by omega⟩))
    (fun k => Na (ix3 b t k)) (joined Lg Cg b t) (joined Lm Cm b t)
    (fun k n => Wa (ix2 k n)) (fun k n => Wg (ix2 k n)) (fun k n => Wm (ix2 k n)) (fun k n => Wo (ix2 k n))
    (fun k n => W1 (ix2 k n)) (fun k n => W2 (ix2 k n)) (fun k n => Wd (ix2 k n))

/-- The array the merge leaves. -/
theorem final (c : Dev nD) : (dats m 0 c).arrAt 16 (cfgs 0).N
    = fun i : S8x4352x1024.Idx => tok (V m c main_v18) (V m c main_v4) (V m c main_v20) (V m c main_v21) (V m c main_v22) (V m c main_v23)
        (V m c main_v24) (V m c main_v17) (V m c main_v25) (V m c main_v26) (V m c main_v27) (V m c main_v28)
        (V m c main_v29) (V m c main_v6) (V m c main_v8) (V m c main_v9) (i 0) (i 1) (i 2) := by
  refine (dats m 0 c).arrAt_eq_of_covers 16 _ (by decide +kernel) fun t _ y => ?_
  blk_simp
  rw [after0_16]
  obtain ⟨a, r, n, rfl⟩ : ∃ (a : Fin 1) (r : Fin 256) (n : Fin 1024), y = ix3 a r n := ⟨y 0, y 1, y 2, by blk_ext []⟩
  obtain rfl := Subsingleton.elim a 0
  refine (out_apply _ _ _ _ _ _ _ _ _ _ _ _ _ _ _ _ _ r n).trans ?_
  have e : (win0_16.blk t).view.emb (ix3 0 r n) = ix3 (bat t) (row t r) n := by
    unfold bat row
    blk_ext [idx t]
  rw [e]
  have e0 : ∀ k, (iblk m c 0 t : Vec Ideal S1x256x1024 .f32) (ix3 0 r k) = _ := read_0 t (V m c main_v18) r
  have e1 : ∀ j k, (iblk m c 1 t : Vec Ideal S1x6x1024 .f32) (ix3 0 j k) = _ := read_1 t (V m c main_v4) r
  have e2 : ∀ k, (iblk m c 2 t : Vec Ideal S1x256x256 .bf16) (ix3 0 r k) = _ := read_2 t (V m c main_v20) r
  have e7 : ∀ k, (iblk m c 7 t : Vec Ideal S1x256x3072 .bf16) (ix3 0 r k) = _ := read_7 t (V m c main_v17) r
  have e8 : ∀ k n, (iblk m c 8 t : Vec Ideal S256x1024 .bf16) (ix2 k n) = _ := read_8 t (V m c main_v25)
  have e9 : ∀ k n, (iblk m c 9 t : Vec Ideal S512x1024 .bf16) (ix2 k n) = _ := read_9 t (V m c main_v26)
  have e10 : ∀ k n, (iblk m c 10 t : Vec Ideal S256x1024 .bf16) (ix2 k n) = _ := read_10 t (V m c main_v27)
  have e11 : ∀ k n, (iblk m c 11 t : Vec Ideal S1024x1024 .bf16) (ix2 k n) = _ := read_11 t (V m c main_v28)
  have e12 : ∀ n, (iblk m c 12 t : Vec Ideal S1x1024 .f32) (ix2 0 n) = _ := read_12 t (V m c main_v29)
  have e13 : ∀ k n, (iblk m c 13 t : Vec Ideal S1024x2816 .bf16) (ix2 k n) = _ := read_13 t (V m c main_v6)
  have e14 : ∀ k n, (iblk m c 14 t : Vec Ideal S1024x2816 .bf16) (ix2 k n) = _ := read_14 t (V m c main_v8)
  have e15 : ∀ k n, (iblk m c 15 t : Vec Ideal S2816x1024 .bf16) (ix2 k n) = _ := read_15 t (V m c main_v9)
  have eg : ∀ k, (if 16 ≤ (grid0.coords t 1).val then (iblk m c 4 t : Vec Ideal S1x256x512 .bf16) else iblk m c 3 t) (ix3 0 r k) = _ :=
    fun k => rows_joined (V m c main_v21) (V m c main_v22) _ _ t r k (read_3 t (V m c main_v21) r k) (read_4 t (V m c main_v22) r k)
  have em : ∀ k, (if 16 ≤ (grid0.coords t 1).val then (iblk m c 6 t : Vec Ideal S1x256x256 .bf16) else iblk m c 5 t) (ix3 0 r k) = _ :=
    fun k => rows_joined (V m c main_v23) (V m c main_v24) _ _ t r k (read_5 t (V m c main_v23) r k) (read_6 t (V m c main_v24) r k)
  simp only [e0, e1, e2, e7, e8, e9, e10, e11, e12, e13, e14, e15, eg, em]
  rfl

end Cert.MergeIdeal.Hand
end
-- ==== Proof.MergeOperands.lean ====
module

public import proofs.«01_k».proof.Proof.Gen.MergeIdeal.Value
public import proofs.«01_k».proof.Proof.MergeRow

@[expose] public section

/-! The operands the host code prepares for the merge. -/

set_option maxRecDepth 16384
noncomputable section
namespace Cert.MergeIdeal.Hand
open Cert.MergeIdeal Cert.MergeIdeal.Gen Idealize.ShloMosaic Idealize.ShloMosaic.TcCoe Idealize.SL.Sem
open Cert.MergeRow
open scoped BigOperators
variable (m : (ℓ : Loc nD τ sig) → Buf (Elt Ideal) ℓ)

/-- The tokens. -/
theorem V_x (c : Dev nD) (b : Fin 8) (t : Fin 4352) (k : Fin 1024) :
    (V m c main_v18 : FVec Ideal S8x4352x1024 .f32) (ix3 b t k)
      = joined (m ((c : Thread nD τ).loc main_arg0)) (m ((c : Thread nD τ).loc main_arg1)) b t k := by
  unfold V
  simp only [hostOps0]
  after_results_simp
  pointwise
  rfl

/-- The neighbourhood branch's rows. -/
theorem V_na (c : Dev nD) (b : Fin 8) (t : Fin 4352) (k : Fin 256) :
    (V m c main_v20 : FVec Ideal S8x4352x256 .bf16) (ix3 b t k)
      = joined (m ((c : Thread nD τ).loc main_arg5)) (m ((c : Thread nD τ).loc main_arg6)) b t k := by
  unfold V
  simp only [hostOps0]
  after_results_simp
  pointwise
  rfl

/-- The gates. -/
theorem V_gate (c : Dev nD) (b : Fin 8) (t : Fin 4352) (k : Fin 3072) :
    (V m c main_v17 : FVec Ideal S8x4352x3072 .bf16) (ix3 b t k)
      = Ideal.logistic (joined (m ((c : Thread nD τ).loc main_arg11)) (m ((c : Thread nD τ).loc main_arg12)) b t k) := by
  unfold V
  simp only [hostOps0]
  after_results_simp
  pointwise
  rfl

/-- The latents' modulation. -/
theorem V_mod (c : Dev nD) (b : Fin 8) (j : Fin 6) (k : Fin 1024) :
    (V m c main_v4 : FVec Ideal S16x6x1024 .f32) (ix3 ⟨2 * b, by omega⟩ j k)
      = (m ((c : Thread nD τ).loc main_arg2) : FVec Ideal S8x6144 .f32) (ix2 b ⟨j * 1024 + k, by omega⟩) := by
  unfold V
  simp only [hostOps0]
  after_results_simp
  pointwise
  rw [dif_pos (by omega)]
  after_results_loop
  pointwise

/-- The context's modulation. -/
theorem V_modc (c : Dev nD) (b : Fin 8) (j : Fin 6) (k : Fin 1024) :
    (V m c main_v4 : FVec Ideal S16x6x1024 .f32) (ix3 ⟨2 * b + 1, by omega⟩ j k)
      = (m ((c : Thread nD τ).loc main_arg3) : FVec Ideal S6144 .f32) (ix1 ⟨j * 1024 + k, by omega⟩) := by
  unfold V
  simp only [hostOps0]
  after_results_simp
  pointwise
  rw [dif_neg (by omega)]
  after_results_loop
  pointwise

/-- The gain. -/
theorem V_gain (c : Dev nD) (k : Fin 1024) :
    (V m c main_v29 : FVec Ideal S1x1024 .f32) (ix2 0 k)
      = (m ((c : Thread nD τ).loc main_arg4) : FVec Ideal S1024 .f32) (ix1 k) := by
  unfold V
  simp only [hostOps0]
  after_results_simp
  pointwise

/-- The gate half of the feed-forward weights. -/
theorem V_w1 (c : Dev nD) (k : Fin 1024) (f : Fin 2816) :
    (V m c main_v6 : FVec Ideal S1024x2816 .bf16) (ix2 k f)
      = (m ((c : Thread nD τ).loc main_arg17) : FVec Ideal S1024x5632 .f32) (ix2 k ⟨f, by omega⟩) := by
  unfold V
  simp only [hostOps0]
  after_results_simp
  pointwise

/-- The other half. -/
theorem V_w2 (c : Dev nD) (k : Fin 1024) (f : Fin 2816) :
    (V m c main_v8 : FVec Ideal S1024x2816 .bf16) (ix2 k f)
      = (m ((c : Thread nD τ).loc main_arg17) : FVec Ideal S1024x5632 .f32) (ix2 k ⟨2816 + f, by omega⟩) := by
  unfold V
  simp only [hostOps0]
  after_results_simp
  pointwise

/-- The grouped branch, latents. -/
theorem V_g (c : Dev nD) (i : S8x4096x512.Idx) :
    (V m c main_v21 : FVec Ideal S8x4096x512 .bf16) i = (m ((c : Thread nD τ).loc main_arg7) : FVec Ideal S8x4096x512 .f32) i := by
  unfold V
  simp only [hostOps0]
  after_results_simp
  rfl

/-- The grouped branch, context. -/
theorem V_gc (c : Dev nD) (i : S8x256x512.Idx) :
    (V m c main_v22 : FVec Ideal S8x256x512 .bf16) i = (m ((c : Thread nD τ).loc main_arg8) : FVec Ideal S8x256x512 .f32) i := by
  unfold V
  simp only [hostOps0]
  after_results_simp
  rfl

/-- The latent branch, latents. -/
theorem V_m (c : Dev nD) (i : S8x4096x256.Idx) :
    (V m c main_v23 : FVec Ideal S8x4096x256 .bf16) i = (m ((c : Thread nD τ).loc main_arg9) : FVec Ideal S8x4096x256 .f32) i := by
  unfold V
  simp only [hostOps0]
  after_results_simp
  rfl

/-- The latent branch, context. -/
theorem V_mc (c : Dev nD) (i : S8x256x256.Idx) :
    (V m c main_v24 : FVec Ideal S8x256x256 .bf16) i = (m ((c : Thread nD τ).loc main_arg10) : FVec Ideal S8x256x256 .f32) i := by
  unfold V
  simp only [hostOps0]
  after_results_simp
  rfl

/-- The neighbourhood projection. -/
theorem V_wa (c : Dev nD) (i : S256x1024.Idx) :
    (V m c main_v25 : FVec Ideal S256x1024 .bf16) i = (m ((c : Thread nD τ).loc main_arg13) : FVec Ideal S256x1024 .f32) i := by
  unfold V
  simp only [hostOps0]
  after_results_simp
  rfl

/-- The grouped projection. -/
theorem V_wg (c : Dev nD) (i : S512x1024.Idx) :
    (V m c main_v26 : FVec Ideal S512x1024 .bf16) i = (m ((c : Thread nD τ).loc main_arg14) : FVec Ideal S512x1024 .f32) i := by
  unfold V
  simp only [hostOps0]
  after_results_simp
  rfl

/-- The latent projection. -/
theorem V_wm (c : Dev nD) (i : S256x1024.Idx) :
    (V m c main_v27 : FVec Ideal S256x1024 .bf16) i = (m ((c : Thread nD τ).loc main_arg15) : FVec Ideal S256x1024 .f32) i := by
  unfold V
  simp only [hostOps0]
  after_results_simp
  rfl

/-- The output projection. -/
theorem V_wo (c : Dev nD) (i : S1024x1024.Idx) :
    (V m c main_v28 : FVec Ideal S1024x1024 .bf16) i = (m ((c : Thread nD τ).loc main_arg16) : FVec Ideal S1024x1024 .f32) i := by
  unfold V
  simp only [hostOps0]
  after_results_simp
  rfl

/-- The down projection. -/
theorem V_wd (c : Dev nD) (i : S2816x1024.Idx) :
    (V m c main_v9 : FVec Ideal S2816x1024 .bf16) i = (m ((c : Thread nD τ).loc main_arg18) : FVec Ideal S2816x1024 .f32) i := by
  unfold V
  simp only [hostOps0]
  after_results_simp
  rfl

end Cert.MergeIdeal.Hand
end
-- ==== Proof.MergeRef.lean ====
module

public import proofs.«01_k».proof.Proof.Gen.MergeReferenceIdeal.Read
public import proofs.«01_k».proof.Proof.Gen.MergeReferenceIdeal.Run
public import proofs.«01_k».proof.Proof.MergeRow

@[expose] public section

/-! The merge reference's result at an index. -/

set_option maxRecDepth 16384
noncomputable section
namespace Cert.MergeReferenceIdeal.Hand
open Cert.MergeReferenceIdeal Cert.MergeReferenceIdeal.Gen Cert.MergeReferenceIdeal.Read Idealize.ShloMosaic Idealize.ShloMosaic.TcCoe Idealize.SL.Sem
open Cert.MergeRow
open scoped BigOperators

/-- A mean over 1024 lanes is the sum times the reciprocal of 1024. -/
theorem div_1024 (x : EReal) :
    Ideal.div x (Ideal.ofBits .f32 0x44800000#32) = x * Ideal.ofBits .f32 0x3A800000#32 := by
  have e : Ideal.ofBits .f32 0x44800000#32 = ((1024 : ℝ) : EReal) := by
    simp [Ideal.ofBits, Ideal.ieee, -EReal.coe_mul]; norm_num
  have e' : Ideal.ofBits .f32 0x3A800000#32 = ((1 / 1024 : ℝ) : EReal) := by
    simp [Ideal.ofBits, Ideal.ieee, -EReal.coe_mul]; norm_num
  rw [e, e', Ideal.div_coe (by norm_num)]

variable (x0 : FVec Ideal S8x4096x1024 .f32) (x1 : FVec Ideal S8x256x1024 .f32) (x2 : FVec Ideal S8x6144 .f32)
  (x3 : FVec Ideal S6144 .f32) (x4 : FVec Ideal S1024 .f32) (x5 : FVec Ideal S8x4096x256 .f32) (x6 : FVec Ideal S8x256x256 .f32)
  (x7 : FVec Ideal S8x4096x512 .f32) (x8 : FVec Ideal S8x256x512 .f32) (x9 : FVec Ideal S8x4096x256 .f32)
  (x10 : FVec Ideal S8x256x256 .f32) (x11 : FVec Ideal S8x4096x3072 .f32) (x12 : FVec Ideal S8x256x3072 .f32)
  (x13 : FVec Ideal S256x1024 .f32) (x14 : FVec Ideal S512x1024 .f32) (x15 : FVec Ideal S256x1024 .f32)
  (x16 : FVec Ideal S1024x1024 .f32) (x17 : FVec Ideal S1024x5632 .f32) (x18 : FVec Ideal S2816x1024 .f32)

/-- The latents' merged branches. -/
theorem mixed_apply (b : Fin 8) (t : Fin 4096) (n : Fin 1024) :
    val_main_v29 (F := Ideal) x5 x7 x9 x11 x13 x14 x15 (ix3 b t n)
      = mixed (fun k => Ideal.logistic (x11 (ix3 b t ⟨k, by omega⟩))) (fun k => Ideal.logistic (x11 (ix3 b t ⟨1024 + k, by omega⟩)))
          (fun k => Ideal.logistic (x11 (ix3 b t ⟨2048 + k, by omega⟩))) (fun k => x5 (ix3 b t k)) (fun k => x7 (ix3 b t k))
          (fun k => x9 (ix3 b t k)) (fun k n => x13 (ix2 k n)) (fun k n => x14 (ix2 k n)) (fun k n => x15 (ix2 k n)) n := by
  pointwise [val_main_v29, val_main_v28, val_main_v27, val_main_v26, val_main_v25, val_main_v24, val_main_v23, val_main_v22,
    val_main_v21, val_main_v20, val_main_v19, val_main_v18, val_main_v17, val_main_v16, val_main_v15, val_main_v14, val_main_v13,
    val_main_cst, val_main_cst_0]
  unfold mixed
  rfl

/-- The latents' residual. -/
theorem resid_apply (b : Fin 8) (t : Fin 4096) (n : Fin 1024) :
    val_main_v33 (F := Ideal) x0 x2 x5 x7 x9 x11 x13 x14 x15 x16 (ix3 b t n)
      = resid (fun k => x0 (ix3 b t k)) (fun k => x2 (ix2 b ⟨2048 + k, by omega⟩))
          (fun k => val_main_v29 (F := Ideal) x5 x7 x9 x11 x13 x14 x15 (ix3 b t k)) (fun k n => x16 (ix2 k n)) n := by
  pointwise [val_main_v33, val_main_v32, val_main_v31, val_main_v30, val_main_v3, val_main_v0]
  unfold resid
  rfl

/-- The latents' normalised and modulated rows. -/
theorem normed_apply (b : Fin 8) (t : Fin 4096) (n : Fin 1024) :
    val_main_v74 (F := Ideal) x0 x2 x4 x5 x7 x9 x11 x13 x14 x15 x16 (ix3 b t n)
      = normed (fun k => val_main_v33 (F := Ideal) x0 x2 x5 x7 x9 x11 x13 x14 x15 x16 (ix3 b t k)) (fun k => x4 (ix1 k))
          (fun k => x2 (ix2 b ⟨4096 + k, by omega⟩)) (fun k => x2 (ix2 b ⟨3072 + k, by omega⟩)) n := by
  unfold normed
  rw [← div_1024]
  pointwise [val_main_v74, val_main_v73, val_main_v72, val_main_v71, val_main_v70, val_main_v69, val_main_v68, val_main_v67, val_main_v66,
    val_main_v65, val_main_v64, val_main_v63, val_main_v62, val_main_v61, val_main_v60, val_main_v59, val_main_v58, val_main_v57,
    val_main_v56, val_main_v5, val_main_v4, val_main_v0, val_main_cst_3, val_main_cst_4, val_main_cst_5, val_main_cst_6]

/-- The latents' result. -/
theorem out_apply (b : Fin 8) (t : Fin 4096) (n : Fin 1024) :
    val_main_v83 (F := Ideal) x0 x2 x4 x5 x7 x9 x11 x13 x14 x15 x16 x17 x18 (ix3 b t n)
      = resid (fun k => val_main_v33 (F := Ideal) x0 x2 x5 x7 x9 x11 x13 x14 x15 x16 (ix3 b t k)) (fun k => x2 (ix2 b ⟨5120 + k, by omega⟩))
          (act (fun k => val_main_v74 (F := Ideal) x0 x2 x4 x5 x7 x9 x11 x13 x14 x15 x16 (ix3 b t k))
            (fun k f => x17 (ix2 k ⟨f, by omega⟩)) (fun k f => x17 (ix2 k ⟨2816 + f, by omega⟩)))
          (fun k n => x18 (ix2 k n)) n := by
  pointwise [val_main_v83, val_main_v82, val_main_v81, val_main_v80, val_main_v79, val_main_v78, val_main_v77, val_main_v76, val_main_v75,
    val_main_call0_v0, val_main_call0_v1, val_main_call0_v2, val_main_call0_v3, val_main_call0_v4, val_main_call0_v5,
    val_main_call0_cst, val_main_call0_cst_0, val_main_v6, val_main_v0]
  unfold resid act
  rfl

/-- The context's merged branches. -/
theorem mixed_apply' (b : Fin 8) (t : Fin 256) (n : Fin 1024) :
    val_main_v50 (F := Ideal) x6 x8 x10 x12 x13 x14 x15 (ix3 b t n)
      = mixed (fun k => Ideal.logistic (x12 (ix3 b t ⟨k, by omega⟩))) (fun k => Ideal.logistic (x12 (ix3 b t ⟨1024 + k, by omega⟩)))
          (fun k => Ideal.logistic (x12 (ix3 b t ⟨2048 + k, by omega⟩))) (fun k => x6 (ix3 b t k)) (fun k => x8 (ix3 b t k))
          (fun k => x10 (ix3 b t k)) (fun k n => x13 (ix2 k n)) (fun k n => x14 (ix2 k n)) (fun k n => x15 (ix2 k n)) n := by
  pointwise [val_main_v50, val_main_v49, val_main_v48, val_main_v47, val_main_v46, val_main_v45, val_main_v44, val_main_v43,
    val_main_v42, val_main_v41, val_main_v40, val_main_v39, val_main_v38, val_main_v37, val_main_v36, val_main_v35, val_main_v34,
    val_main_cst_1, val_main_cst_2]
  unfold mixed
  rfl

/-- The context's residual. -/
theorem resid_apply' (b : Fin 8) (t : Fin 256) (n : Fin 1024) :
    val_main_v55 (F := Ideal) x1 x3 x6 x8 x10 x12 x13 x14 x15 x16 (ix3 b t n)
      = resid (fun k => x1 (ix3 b t k)) (fun k => x3 (ix1 ⟨2048 + k, by omega⟩))
          (fun k => val_main_v50 (F := Ideal) x6 x8 x10 x12 x13 x14 x15 (ix3 b t k)) (fun k n => x16 (ix2 k n)) n := by
  pointwise [val_main_v55, val_main_v54, val_main_v53, val_main_v52, val_main_v51, val_main_v9]
  unfold resid
  rfl

/-- The context's normalised and modulated rows. -/
theorem normed_apply' (b : Fin 8) (t : Fin 256) (n : Fin 1024) :
    val_main_v104 (F := Ideal) x1 x3 x4 x6 x8 x10 x12 x13 x14 x15 x16 (ix3 b t n)
      = normed (fun k => val_main_v55 (F := Ideal) x1 x3 x6 x8 x10 x12 x13 x14 x15 x16 (ix3 b t k)) (fun k => x4 (ix1 k))
          (fun k => x3 (ix1 ⟨4096 + k, by omega⟩)) (fun k => x3 (ix1 ⟨3072 + k, by omega⟩)) n := by
  unfold normed
  rw [← div_1024]
  pointwise [val_main_v104, val_main_v103, val_main_v102, val_main_v101, val_main_v100, val_main_v99, val_main_v98, val_main_v97, val_main_v96,
    val_main_v95, val_main_v94, val_main_v93, val_main_v92, val_main_v91, val_main_v90, val_main_v89, val_main_v88, val_main_v87,
    val_main_v86, val_main_v85, val_main_v84, val_main_v11, val_main_v10, val_main_cst_7, val_main_cst_8, val_main_cst_9, val_main_cst_10]

/-- The context's result. -/
theorem out_apply' (b : Fin 8) (t : Fin 256) (n : Fin 1024) :
    val_main_v114 (F := Ideal) x1 x3 x4 x6 x8 x10 x12 x13 x14 x15 x16 x17 x18 (ix3 b t n)
      = resid (fun k => val_main_v55 (F := Ideal) x1 x3 x6 x8 x10 x12 x13 x14 x15 x16 (ix3 b t k)) (fun k => x3 (ix1 ⟨5120 + k, by omega⟩))
          (act (fun k => val_main_v104 (F := Ideal) x1 x3 x4 x6 x8 x10 x12 x13 x14 x15 x16 (ix3 b t k))
            (fun k f => x17 (ix2 k ⟨f, by omega⟩)) (fun k f => x17 (ix2 k ⟨2816 + f, by omega⟩)))
          (fun k n => x18 (ix2 k n)) n := by
  pointwise [val_main_v114, val_main_v113, val_main_v112, val_main_v111, val_main_v110, val_main_v109, val_main_v108, val_main_v107,
    val_main_v106, val_main_v105, val_main_call1_v0, val_main_call1_v1, val_main_call1_v2, val_main_call1_v3, val_main_call1_v4,
    val_main_call1_v5, val_main_call1_cst, val_main_call1_cst_0, val_main_v12]
  unfold resid act
  rfl

/-- A token of the latents. -/
theorem token_apply (b : Fin 8) (t : Fin 4096) (n : Fin 1024) :
    val_main_v83 (F := Ideal) x0 x2 x4 x5 x7 x9 x11 x13 x14 x15 x16 x17 x18 (ix3 b t n)
      = token (fun k => x0 (ix3 b t k)) (fun k => x2 (ix2 b ⟨2048 + k, by omega⟩)) (fun k => x2 (ix2 b ⟨3072 + k, by omega⟩))
          (fun k => x2 (ix2 b ⟨4096 + k, by omega⟩)) (fun k => x2 (ix2 b ⟨5120 + k, by omega⟩)) (fun k => x4 (ix1 k))
          (fun k => Ideal.logistic (x11 (ix3 b t ⟨k, by omega⟩))) (fun k => Ideal.logistic (x11 (ix3 b t ⟨1024 + k, by omega⟩)))
          (fun k => Ideal.logistic (x11 (ix3 b t ⟨2048 + k, by omega⟩))) (fun k => x5 (ix3 b t k)) (fun k => x7 (ix3 b t k))
          (fun k => x9 (ix3 b t k)) (fun k n => x13 (ix2 k n)) (fun k n => x14 (ix2 k n)) (fun k n => x15 (ix2 k n))
          (fun k n => x16 (ix2 k n)) (fun k f => x17 (ix2 k ⟨f, by omega⟩)) (fun k f => x17 (ix2 k ⟨2816 + f, by omega⟩))
          (fun k n => x18 (ix2 k n)) n := by
  rw [out_apply]
  simp only [normed_apply, resid_apply, mixed_apply]
  rfl

/-- A token of the context. -/
theorem token_apply' (b : Fin 8) (t : Fin 256) (n : Fin 1024) :
    val_main_v114 (F := Ideal) x1 x3 x4 x6 x8 x10 x12 x13 x14 x15 x16 x17 x18 (ix3 b t n)
      = token (fun k => x1 (ix3 b t k)) (fun k => x3 (ix1 ⟨2048 + k, by omega⟩)) (fun k => x3 (ix1 ⟨3072 + k, by omega⟩))
          (fun k => x3 (ix1 ⟨4096 + k, by omega⟩)) (fun k => x3 (ix1 ⟨5120 + k, by omega⟩)) (fun k => x4 (ix1 k))
          (fun k => Ideal.logistic (x12 (ix3 b t ⟨k, by omega⟩))) (fun k => Ideal.logistic (x12 (ix3 b t ⟨1024 + k, by omega⟩)))
          (fun k => Ideal.logistic (x12 (ix3 b t ⟨2048 + k, by omega⟩))) (fun k => x6 (ix3 b t k)) (fun k => x8 (ix3 b t k))
          (fun k => x10 (ix3 b t k)) (fun k n => x13 (ix2 k n)) (fun k n => x14 (ix2 k n)) (fun k n => x15 (ix2 k n))
          (fun k n => x16 (ix2 k n)) (fun k f => x17 (ix2 k ⟨f, by omega⟩)) (fun k f => x17 (ix2 k ⟨2816 + f, by omega⟩))
          (fun k n => x18 (ix2 k n)) n := by
  rw [out_apply']
  simp only [normed_apply', resid_apply', mixed_apply']
  rfl

/-- Two arrays one after the other along the tokens, at an index. -/
theorem joined_apply (X : FVec Ideal S8x4096x1024 .f32) (C : FVec Ideal S8x256x1024 .f32) (b : Fin 8) (t : Fin 4352) (n : Fin 1024) :
    concatenate (α := Ideal .f32) S8x4352x1024 1 [⟨S8x4096x1024, X⟩, ⟨S8x256x1024, C⟩]
      concatenates_S8x4096x1024_S8x256x1024_S8x4352x1024_d1 (ix3 b t n) = joined X C b t n := by
  pointwise
  rfl

end Cert.MergeReferenceIdeal.Hand
end
-- ==== Proof.MergeValue.lean ====
module

public import proofs.«01_k».proof.Proof.MergeFinal
public import proofs.«01_k».proof.Proof.MergeOperands
public import proofs.«01_k».proof.Proof.MergeRef

@[expose] public section

/-! The array the merge leaves is the reference's result. -/

set_option maxRecDepth 16384
noncomputable section
namespace Cert.MergeIdeal.Hand
open Cert.MergeIdeal Cert.MergeIdeal.Gen Idealize.ShloMosaic Idealize.ShloMosaic.TcCoe Idealize.SL.Sem
open Cert.MergeRow
open scoped BigOperators
variable (m : (ℓ : Loc nD τ sig) → Buf (Elt Ideal) ℓ)

/-- A token of the latents. -/
theorem tok_lat (c : Dev nD) (b : Fin 8) (t : Fin 4352) (ht : t.val < 4096) (n : Fin 1024) :
    tok (V m c main_v18) (V m c main_v4) (V m c main_v20) (V m c main_v21) (V m c main_v22) (V m c main_v23)
        (V m c main_v24) (V m c main_v17) (V m c main_v25) (V m c main_v26) (V m c main_v27) (V m c main_v28)
        (V m c main_v29) (V m c main_v6) (V m c main_v8) (V m c main_v9) b t n
      = Cert.MergeReferenceIdeal.Read.val_main_v83 (F := Ideal) (m ((c : Thread nD τ).loc main_arg0)) (m ((c : Thread nD τ).loc main_arg2))
          (m ((c : Thread nD τ).loc main_arg4)) (m ((c : Thread nD τ).loc main_arg5)) (m ((c : Thread nD τ).loc main_arg7))
          (m ((c : Thread nD τ).loc main_arg9)) (m ((c : Thread nD τ).loc main_arg11)) (m ((c : Thread nD τ).loc main_arg13))
          (m ((c : Thread nD τ).loc main_arg14)) (m ((c : Thread nD τ).loc main_arg15)) (m ((c : Thread nD τ).loc main_arg16))
          (m ((c : Thread nD τ).loc main_arg17)) (m ((c : Thread nD τ).loc main_arg18)) (ix3 b ⟨t, ht⟩ n) := by
  rw [Cert.MergeReferenceIdeal.Hand.token_apply]
  have hm : mrow b t = ⟨2 * b, by omega⟩ := Fin.ext (by change 2 * (b : ℕ) + (t : ℕ) / 4096 = 2 * b; omega)
  unfold tok
  rw [hm]
  exact token_congr (fun k => (V_x m c b t k).trans (dif_pos ht)) (fun k => V_mod m c b 2 k) (fun k => V_mod m c b 3 k)
    (fun k => V_mod m c b 4 k) (fun k => V_mod m c b 5 k) (fun k => V_gain m c k)
    (fun k => (V_gate m c b t _).trans (congrArg Ideal.logistic (dif_pos ht)))
    (fun k => (V_gate m c b t _).trans (congrArg Ideal.logistic (dif_pos ht)))
    (fun k => (V_gate m c b t _).trans (congrArg Ideal.logistic (dif_pos ht)))
    (fun k => (V_na m c b t k).trans (dif_pos ht)) (fun k => (dif_pos ht).trans (V_g m c _)) (fun k => (dif_pos ht).trans (V_m m c _))
    (fun k n => V_wa m c _) (fun k n => V_wg m c _) (fun k n => V_wm m c _) (fun k n => V_wo m c _)
    (fun k n => V_w1 m c k n) (fun k n => V_w2 m c k n) (fun k n => V_wd m c _) n

/-- A token of the context. -/
theorem tok_ctx (c : Dev nD) (b : Fin 8) (t : Fin 4352) (ht : ¬t.val < 4096) (n : Fin 1024) :
    tok (V m c main_v18) (V m c main_v4) (V m c main_v20) (V m c main_v21) (V m c main_v22) (V m c main_v23)
        (V m c main_v24) (V m c main_v17) (V m c main_v25) (V m c main_v26) (V m c main_v27) (V m c main_v28)
        (V m c main_v29) (V m c main_v6) (V m c main_v8) (V m c main_v9) b t n
      = Cert.MergeReferenceIdeal.Read.val_main_v114 (F := Ideal) (m ((c : Thread nD τ).loc main_arg1)) (m ((c : Thread nD τ).loc main_arg3))
          (m ((c : Thread nD τ).loc main_arg4)) (m ((c : Thread nD τ).loc main_arg6)) (m ((c : Thread nD τ).loc main_arg8))
          (m ((c : Thread nD τ).loc main_arg10)) (m ((c : Thread nD τ).loc main_arg12)) (m ((c : Thread nD τ).loc main_arg13))
          (m ((c : Thread nD τ).loc main_arg14)) (m ((c : Thread nD τ).loc main_arg15)) (m ((c : Thread nD τ).loc main_arg16))
          (m ((c : Thread nD τ).loc main_arg17)) (m ((c : Thread nD τ).loc main_arg18)) (ix3 b ⟨t - 4096, by omega⟩ n) := by
  rw [Cert.MergeReferenceIdeal.Hand.token_apply']
  have hm : mrow b t = ⟨2 * b + 1, by omega⟩ := Fin.ext (by change 2 * (b : ℕ) + (t : ℕ) / 4096 = 2 * b + 1; omega)
  unfold tok
  rw [hm]
  exact token_congr (fun k => (V_x m c b t k).trans (dif_neg ht)) (fun k => V_modc m c b 2 k) (fun k => V_modc m c b 3 k)
    (fun k => V_modc m c b 4 k) (fun k => V_modc m c b 5 k) (fun k => V_gain m c k)
    (fun k => (V_gate m c b t _).trans (congrArg Ideal.logistic (dif_neg ht)))
    (fun k => (V_gate m c b t _).trans (congrArg Ideal.logistic (dif_neg ht)))
    (fun k => (V_gate m c b t _).trans (congrArg Ideal.logistic (dif_neg ht)))
    (fun k => (V_na m c b t k).trans (dif_neg ht)) (fun k => (dif_neg ht).trans (V_gc m c _)) (fun k => (dif_neg ht).trans (V_mc m c _))
    (fun k n => V_wa m c _) (fun k n => V_wg m c _) (fun k n => V_wm m c _) (fun k n => V_wo m c _)
    (fun k n => V_w1 m c k n) (fun k n => V_w2 m c k n) (fun k n => V_wd m c _) n

/-- The array the merge leaves is the reference's result. -/
theorem value (c : Dev nD) :
    (fun i : S8x4352x1024.Idx => tok (V m c main_v18) (V m c main_v4) (V m c main_v20) (V m c main_v21) (V m c main_v22) (V m c main_v23)
        (V m c main_v24) (V m c main_v17) (V m c main_v25) (V m c main_v26) (V m c main_v27) (V m c main_v28)
        (V m c main_v29) (V m c main_v6) (V m c main_v8) (V m c main_v9) (i 0) (i 1) (i 2))
      = Cert.MergeReferenceIdeal.Read.val_main_v115 (F := Ideal) (m ((c : Thread nD τ).loc main_arg0))
          (m ((c : Thread nD τ).loc main_arg1))
          (m ((c : Thread nD τ).loc main_arg2))
          (m ((c : Thread nD τ).loc main_arg3))
          (m ((c : Thread nD τ).loc main_arg4))
          (m ((c : Thread nD τ).loc main_arg5))
          (m ((c : Thread nD τ).loc main_arg6))
          (m ((c : Thread nD τ).loc main_arg7))
          (m ((c : Thread nD τ).loc main_arg8))
          (m ((c : Thread nD τ).loc main_arg9))
          (m ((c : Thread nD τ).loc main_arg10))
          (m ((c : Thread nD τ).loc main_arg11))
          (m ((c : Thread nD τ).loc main_arg12))
          (m ((c : Thread nD τ).loc main_arg13))
          (m ((c : Thread nD τ).loc main_arg14))
          (m ((c : Thread nD τ).loc main_arg15))
          (m ((c : Thread nD τ).loc main_arg16))
          (m ((c : Thread nD τ).loc main_arg17))
          (m ((c : Thread nD τ).loc main_arg18)) := by
  funext i
  obtain ⟨b, t, n, rfl⟩ : ∃ (b : Fin 8) (t : Fin 4352) (n : Fin 1024), i = ix3 b t n := ⟨i 0, i 1, i 2, by blk_ext []⟩
  refine Eq.trans ?_ (Cert.MergeReferenceIdeal.Hand.joined_apply _ _ b t n).symm
  by_cases ht : t.val < 4096
  · exact (tok_lat m c b t ht n).trans (joined_lat _ _ b t ht n).symm
  · exact (tok_ctx m c b t ht n).trans (joined_ctx _ _ b t ht n).symm

end Cert.MergeIdeal.Hand
end
-- ==== Proof.MixerBlock.lean ====
module

public import proofs.«01_k».proof.Proof.Gen.MixerIdeal.Value
public import proofs.«01_k».proof.Proof.MergeRow

@[expose] public section

/-! One grid point of the input projection: a row of each stored block. -/

set_option maxRecDepth 16384
noncomputable section
namespace Cert.MixerIdeal.Hand
open Cert.MixerIdeal Cert.MixerIdeal.Gen Idealize.ShloMosaic Idealize.ShloMosaic.TcCoe Idealize.SL.Sem
open Cert.MergeRow
open scoped BigOperators

/-- The first tile's normalised and modulated rows. -/
theorem normed_apply (v0 : Vec Ideal S256x1024 .f32) (v2 : Vec Ideal S1x6x1024 .f32) (v14 : Vec Ideal S1x1024 .f32)
    (r : Fin 256) (n : Fin 1024) :
    k0_pay2 v0 v2 v14 (ix2 r n)
      = normed (fun k => v0 (ix2 r k)) (fun k => v14 (ix2 0 k)) (fun k => v2 (ix3 0 1 k)) (fun k => v2 (ix3 0 0 k)) n := by
  unfold normed
  pointwise [k0_pay2]

/-- The second tile's normalised and modulated rows. -/
theorem normed_apply' (v0 : Vec Ideal S256x1024 .f32) (v2 : Vec Ideal S1x6x1024 .f32) (v14 : Vec Ideal S1x1024 .f32)
    (r : Fin 256) (n : Fin 1024) :
    k0_pay110 (k0_pay106 v2) (k0_pay107 v0 v14) (k0_pay108 v2) (k0_pay109 (F := Ideal)) (ix2 r n)
      = normed (fun k => v0 (ix2 r k)) (fun k => v14 (ix2 0 k)) (fun k => v2 (ix3 0 1 k)) (fun k => v2 (ix3 0 0 k)) n := by
  unfold normed
  pointwise [k0_pay110, k0_pay106, k0_pay107, k0_pay108, k0_pay109]

/-- The neighbourhood branch's projection. -/
theorem proj_apply (h : FVec Ideal S256x1024 .bf16) (w : Vec Ideal S1024x768 .bf16) (r : Fin 256) (n : Fin 768) :
    k0_pay81 h w (ix2 r n) = ∑ k : Fin 1024, h (ix2 r k) * w (ix2 k n) := by
  pointwise [k0_pay81]

theorem query_apply (h : FVec Ideal S256x1024 .bf16) (w : Vec Ideal S1024x768 .bf16) (r : Fin 256) (n : Fin 256) :
    k0_pay83 h w (ix2 r n) = k0_pay81 h w (ix2 r ⟨n, by omega⟩) * Ideal.ofBits .f32 0x3E38AA3B#32 := by
  unfold k0_pay83 k0_pay82
  generalize k0_pay81 h w = y
  pointwise

theorem key_apply (h : FVec Ideal S256x1024 .bf16) (w : Vec Ideal S1024x768 .bf16) (r : Fin 256) (n : Fin 256) :
    k0_pay84 h w (ix2 r n) = k0_pay81 h w (ix2 r ⟨256 + n, by omega⟩) := by
  unfold k0_pay84
  generalize k0_pay81 h w = y
  pointwise

theorem value_apply (h : FVec Ideal S256x1024 .bf16) (w : Vec Ideal S1024x768 .bf16) (r : Fin 256) (n : Fin 256) :
    k0_pay85 h w (ix2 r n) = k0_pay81 h w (ix2 r ⟨512 + n, by omega⟩) := by
  unfold k0_pay85
  generalize k0_pay81 h w = y
  pointwise

/-- A third of the gates. -/
theorem gate_apply (h : FVec Ideal S256x1024 .bf16) (w : Vec Ideal S1024x1024 .bf16) (r : Fin 256) (n : Fin 1024) :
    k0_pay1 h w (ix2 r n) = Ideal.logistic (∑ k : Fin 1024, h (ix2 r k) * w (ix2 k n)) := by
  pointwise [k0_pay1]

/-- A load of some rows and lanes of a matrix. -/
theorem ld_part {a b p q o o' : ℕ} {e : EltTy} (X : Vec Ideal ⟨2, ![a, b]⟩ e) (h) (r : Fin p) (k : Fin q) (hr : o + (r : ℕ) < a)
    (hk : o' + (k : ℕ) < b) :
    View.ld X (Rect.unit (s := ⟨2, ![a, b]⟩) ![o, o'] ![p, q] h) (ix2 r k) = X (ix2 ⟨o + r, hr⟩ ⟨o' + k, hk⟩) := by
  refine congrArg X (funext fun i => Fin.ext ?_)
  match i with
  | ⟨0, _⟩ => change o + 1 * (r : ℕ) = o + r; omega
  | ⟨1, _⟩ => change o' + 1 * (k : ℕ) = o' + k; omega

/-- A load of a whole buffer is the buffer. -/
theorem ld_whole {s : Shape} {e : EltTy} (X : Vec Ideal s e) (o : Fin s.rank → ℕ) (h) (ho : ∀ i, o i = 0) :
    View.ld X (Rect.unit (s := s) o s.size h) = X := by
  funext j
  refine congrArg X (funext fun i => Fin.ext ?_)
  change o i + 1 * (j i : ℕ) = j i
  rw [ho i]
  omega

/-- A row of the first tile. -/
def lo (r : Fin 256) : Fin 512 := ⟨r, by omega⟩

/-- A row of the second tile. -/
def hi (r : Fin 256) : Fin 512 := ⟨256 + r, by omega⟩

/-- A lane of the first third of the gates. -/
def g1 (n : Fin 1024) : Fin 3072 := ⟨n, by omega⟩

/-- A lane of the second third. -/
def g2 (n : Fin 1024) : Fin 3072 := ⟨1024 + n, by omega⟩

/-- A lane of the last third. -/
def g3 (n : Fin 1024) : Fin 3072 := ⟨2048 + n, by omega⟩

/-- A row of a grid point's two tiles, normalised and modulated. -/
def hrow (x0 : Vec Ideal S512x1024 .f32) (x1 x2 : Vec Ideal S1x6x1024 .f32) (x3 : Vec Ideal S1x1024 .f32) (r : Fin 512) :
    Fin 1024 → EReal :=
  normed (fun k => x0 (ix2 r k)) (fun k => x3 (ix2 0 k)) (fun k => (if r.val < 256 then x1 else x2) (ix3 0 1 k))
    (fun k => (if r.val < 256 then x1 else x2) (ix3 0 0 k))

variable (x0 : Vec Ideal S512x1024 .f32) (x1 x2 : Vec Ideal S1x6x1024 .f32) (x3 : Vec Ideal S1x1024 .f32)
  (x4 : Vec Ideal S1024x5376 .bf16) (x5 x6 : Vec Ideal S1x128 .f32) (x7 : Vec Ideal S1x256 .f32) (x8 : Vec Ideal S1x128 .f32)
  (x9 : Vec Ideal S256x512 .bf16) (x10 : Vec Ideal S128x1024 .bf16) (x11 x12 x13 x14 : Vec Ideal S3x256x128 .f32)

theorem first_apply (r : Fin 256) (n : Fin 1024) :
    k0_pay205 x0 x1 x2 x3 x4 x5 x6 x7 x8 x9 x10 x11 x12 x13 x14 (ix2 r n) = hrow x0 x1 x2 x3 (lo r) n := by
  have e1 : View.ld x1 r0_1 = x1 := ld_whole _ _ _ (by decide)
  have e3 : View.ld x3 r0_2 = x3 := ld_whole _ _ _ (by decide)
  have e0 : ∀ k : Fin 1024, View.ld x0 r0_0 (ix2 r k) = x0 (ix2 (lo r) k) :=
    fun k => (ld_part x0 _ r k (by omega) (by omega)).trans (by simp only [zero_add]; rfl)
  unfold k0_pay205
  rw [normed_apply, e1, e3]
  unfold hrow
  rw [if_pos (show (lo r).val < 256 from r.isLt)]
  simp only [e0]

theorem second_apply (r : Fin 256) (n : Fin 1024) :
    k0_pay233 x0 x1 x2 x3 x4 x5 x6 x7 x8 x9 x10 x11 x12 x13 x14 (ix2 r n) = hrow x0 x1 x2 x3 (hi r) n := by
  have e1 : View.ld x2 r0_1 = x2 := ld_whole _ _ _ (by decide)
  have e3 : View.ld x3 r0_2 = x3 := ld_whole _ _ _ (by decide)
  have e0 : ∀ k : Fin 1024, View.ld x0 r0_22 (ix2 r k) = x0 (ix2 (hi r) k) :=
    fun k => (ld_part x0 _ r k (by omega) (by omega)).trans (by simp only [zero_add]; rfl)
  unfold k0_pay233 k0_pay228 k0_pay229 k0_pay230 k0_pay231
  rw [normed_apply', e1, e3]
  unfold hrow
  rw [if_neg (by change ¬256 + (r : ℕ) < 256; omega)]
  simp only [e0]

/-- A column of the projection. -/
def colsum (r : Fin 512) (j : Fin 5376) : EReal := ∑ k : Fin 1024, hrow x0 x1 x2 x3 r k * x4 (ix2 k j)

theorem first_proj (r : Fin 256) (n : Fin 768) :
    k0_pay81 (k0_pay205 x0 x1 x2 x3 x4 x5 x6 x7 x8 x9 x10 x11 x12 x13 x14) (View.ld x4 r0_19) (ix2 r n)
      = colsum x0 x1 x2 x3 x4 (lo r) ⟨n, by omega⟩ := by
  have e4 : ∀ k : Fin 1024, View.ld x4 r0_19 (ix2 k n) = x4 (ix2 k ⟨n, by omega⟩) :=
    fun k => (ld_part x4 _ k n (by omega) (by omega)).trans (by simp only [zero_add])
  rw [proj_apply]
  simp only [first_apply, e4]
  rfl

theorem second_proj (r : Fin 256) (n : Fin 768) :
    k0_pay81 (k0_pay233 x0 x1 x2 x3 x4 x5 x6 x7 x8 x9 x10 x11 x12 x13 x14) (View.ld x4 r0_19) (ix2 r n)
      = colsum x0 x1 x2 x3 x4 (hi r) ⟨n, by omega⟩ := by
  have e4 : ∀ k : Fin 1024, View.ld x4 r0_19 (ix2 k n) = x4 (ix2 k ⟨n, by omega⟩) :=
    fun k => (ld_part x4 _ k n (by omega) (by omega)).trans (by simp only [zero_add])
  rw [proj_apply]
  simp only [second_apply, e4]
  rfl

/-- The queries a grid point writes. -/
theorem out_query (r : Fin 512) (n : Fin 256) :
    out0_15 x0 x1 x2 x3 x4 x5 x6 x7 x8 x9 x10 x11 x12 x13 x14 (ix2 r n)
      = colsum x0 x1 x2 x3 x4 r ⟨n, by omega⟩ * Ideal.ofBits .f32 0x3E38AA3B#32 := by
  unfold_out out0_15
  canon_tiles x h
  all_goals obtain ⟨r', l, rfl⟩ : ∃ (r : Fin 256) (l : Fin 256), x = ix2 r l := ⟨x 0, x 1, by blk_ext []⟩
  · obtain rfl : r = hi r' := Fin.ext h0
    obtain rfl : n = l := Fin.ext h1
    exact (query_apply _ _ _ _).trans (congrArg (· * _) (second_proj x0 x1 x2 x3 x4 x5 x6 x7 x8 x9 x10 x11 x12 x13 x14 _ _))
  · obtain rfl : r = lo r' := Fin.ext h0
    obtain rfl : n = l := Fin.ext h1
    exact (query_apply _ _ _ _).trans (congrArg (· * _) (first_proj x0 x1 x2 x3 x4 x5 x6 x7 x8 x9 x10 x11 x12 x13 x14 _ _))

/-- The keys a grid point writes. -/
theorem out_key (r : Fin 512) (n : Fin 256) :
    out0_16 x0 x1 x2 x3 x4 x5 x6 x7 x8 x9 x10 x11 x12 x13 x14 (ix2 r n)
      = colsum x0 x1 x2 x3 x4 r ⟨256 + n, by omega⟩ := by
  unfold_out out0_16
  canon_tiles x h
  all_goals obtain ⟨r', l, rfl⟩ : ∃ (r : Fin 256) (l : Fin 256), x = ix2 r l := ⟨x 0, x 1, by blk_ext []⟩
  · obtain rfl : r = hi r' := Fin.ext h0
    obtain rfl : n = l := Fin.ext h1
    exact (key_apply _ _ _ _).trans (second_proj x0 x1 x2 x3 x4 x5 x6 x7 x8 x9 x10 x11 x12 x13 x14 _ _)
  · obtain rfl : r = lo r' := Fin.ext h0
    obtain rfl : n = l := Fin.ext h1
    exact (key_apply _ _ _ _).trans (first_proj x0 x1 x2 x3 x4 x5 x6 x7 x8 x9 x10 x11 x12 x13 x14 _ _)

/-- The values a grid point writes. -/
theorem out_value (r : Fin 512) (n : Fin 256) :
    out0_17 x0 x1 x2 x3 x4 x5 x6 x7 x8 x9 x10 x11 x12 x13 x14 (ix2 r n)
      = colsum x0 x1 x2 x3 x4 r ⟨512 + n, by omega⟩ := by
  unfold_out out0_17
  canon_tiles x h
  all_goals obtain ⟨r', l, rfl⟩ : ∃ (r : Fin 256) (l : Fin 256), x = ix2 r l := ⟨x 0, x 1, by blk_ext []⟩
  · obtain rfl : r = hi r' := Fin.ext h0
    obtain rfl : n = l := Fin.ext h1
    exact (value_apply _ _ _ _).trans (second_proj x0 x1 x2 x3 x4 x5 x6 x7 x8 x9 x10 x11 x12 x13 x14 _ _)
  · obtain rfl : r = lo r' := Fin.ext h0
    obtain rfl : n = l := Fin.ext h1
    exact (value_apply _ _ _ _).trans (first_proj x0 x1 x2 x3 x4 x5 x6 x7 x8 x9 x10 x11 x12 x13 x14 _ _)

/-- A third of the first tile's gates. -/
theorem first_gate {o : ℕ} (h) (r : Fin 256) (n : Fin 1024) (hn : o + (n : ℕ) < 5376) :
    k0_pay1 (k0_pay205 x0 x1 x2 x3 x4 x5 x6 x7 x8 x9 x10 x11 x12 x13 x14)
        (View.ld x4 (Rect.unit (s := S1024x5376) ![0, o] S1024x1024.size h)) (ix2 r n)
      = Ideal.logistic (colsum x0 x1 x2 x3 x4 (lo r) ⟨o + n, hn⟩) := by
  have e4 : ∀ k : Fin 1024, View.ld x4 (Rect.unit (s := S1024x5376) ![0, o] S1024x1024.size h) (ix2 k n) = x4 (ix2 k ⟨o + n, hn⟩) :=
    fun k => (ld_part x4 _ k n (by omega) hn).trans (by simp only [zero_add])
  rw [gate_apply]
  simp only [first_apply, e4]
  rfl

/-- A third of the second tile's gates. -/
theorem second_gate {o : ℕ} (h) (r : Fin 256) (n : Fin 1024) (hn : o + (n : ℕ) < 5376) :
    k0_pay1 (k0_pay233 x0 x1 x2 x3 x4 x5 x6 x7 x8 x9 x10 x11 x12 x13 x14)
        (View.ld x4 (Rect.unit (s := S1024x5376) ![0, o] S1024x1024.size h)) (ix2 r n)
      = Ideal.logistic (colsum x0 x1 x2 x3 x4 (hi r) ⟨o + n, hn⟩) := by
  have e4 : ∀ k : Fin 1024, View.ld x4 (Rect.unit (s := S1024x5376) ![0, o] S1024x1024.size h) (ix2 k n) = x4 (ix2 k ⟨o + n, hn⟩) :=
    fun k => (ld_part x4 _ k n (by omega) hn).trans (by simp only [zero_add])
  rw [gate_apply]
  simp only [second_apply, e4]
  rfl

/-- The gates a grid point writes. -/
theorem out_gate (r : Fin 512) (n : Fin 3072) :
    out0_24 x0 x1 x2 x3 x4 x5 x6 x7 x8 x9 x10 x11 x12 x13 x14 (ix2 r n)
      = Ideal.logistic (colsum x0 x1 x2 x3 x4 r ⟨2304 + n, by omega⟩) := by
  unfold_out out0_24
  canon_tiles x h
  all_goals obtain ⟨r', l, rfl⟩ : ∃ (r : Fin 256) (l : Fin 1024), x = ix2 r l := ⟨x 0, x 1, by blk_ext []⟩
  · obtain rfl : r = hi r' := Fin.ext h0
    obtain rfl : n = g3 l := Fin.ext h1
    exact (second_gate x0 x1 x2 x3 x4 x5 x6 x7 x8 x9 x10 x11 x12 x13 x14 _ _ _ (by omega)).trans
      (congrArg (fun j => Ideal.logistic (colsum x0 x1 x2 x3 x4 _ j)) (Fin.ext (by simp only [g2, g3]; omega)))
  · obtain rfl : r = hi r' := Fin.ext h0
    obtain rfl : n = g2 l := Fin.ext h1
    exact (second_gate x0 x1 x2 x3 x4 x5 x6 x7 x8 x9 x10 x11 x12 x13 x14 _ _ _ (by omega)).trans
      (congrArg (fun j => Ideal.logistic (colsum x0 x1 x2 x3 x4 _ j)) (Fin.ext (by simp only [g2, g3]; omega)))
  · obtain rfl : r = hi r' := Fin.ext h0
    obtain rfl : n = g1 l := Fin.ext h1
    exact second_gate x0 x1 x2 x3 x4 x5 x6 x7 x8 x9 x10 x11 x12 x13 x14 _ _ _ (by omega)
  · obtain rfl : r = lo r' := Fin.ext h0
    obtain rfl : n = g3 l := Fin.ext h1
    exact (first_gate x0 x1 x2 x3 x4 x5 x6 x7 x8 x9 x10 x11 x12 x13 x14 _ _ _ (by omega)).trans
      (congrArg (fun j => Ideal.logistic (colsum x0 x1 x2 x3 x4 _ j)) (Fin.ext (by simp only [g2, g3]; omega)))
  · obtain rfl : r = lo r' := Fin.ext h0
    obtain rfl : n = g2 l := Fin.ext h1
    exact (first_gate x0 x1 x2 x3 x4 x5 x6 x7 x8 x9 x10 x11 x12 x13 x14 _ _ _ (by omega)).trans
      (congrArg (fun j => Ideal.logistic (colsum x0 x1 x2 x3 x4 _ j)) (Fin.ext (by simp only [g2, g3]; omega)))
  · obtain rfl : r = lo r' := Fin.ext h0
    obtain rfl : n = g1 l := Fin.ext h1
    exact first_gate x0 x1 x2 x3 x4 x5 x6 x7 x8 x9 x10 x11 x12 x13 x14 _ _ _ (by omega)

end Cert.MixerIdeal.Hand
end
-- ==== Proof.MixerFinal.lean ====
module

public import proofs.«01_k».proof.Proof.MixerBlock

@[expose] public section

/-! From a grid point's blocks to the arrays the input projection leaves. -/

set_option maxRecDepth 16384
noncomputable section
namespace Cert.MixerIdeal.Hand
open Cert.MixerIdeal Cert.MixerIdeal.Gen Idealize.ShloMosaic Idealize.ShloMosaic.TcCoe Idealize.SL.Sem
open Idealize.ShloMosaic.Pipeline (Dat)
open Cert.MergeRow
open scoped BigOperators
variable (m : (ℓ : Loc nD τ sig) → Buf (Elt Ideal) ℓ)

/-- Where each window's block lies at a grid point. -/
theorem idx : ∀ t : Fin cfg0.N, win0_0.index t = ![t.val, 0]
    ∧ win0_1.index t = ![2 * (2 * t.val / 17) + 2 * t.val % 17 / 16, 0, 0]
    ∧ win0_2.index t = ![2 * ((2 * t.val + 1) / 17) + (2 * t.val + 1) % 17 / 16, 0, 0]
    ∧ win0_3.index t = ![0, 0] ∧ win0_4.index t = ![0, 0]
    ∧ win0_15.index t = ![t.val, 0] ∧ win0_16.index t = ![t.val, 0] ∧ win0_17.index t = ![t.val, 0]
    ∧ win0_24.index t = ![t.val, 0] :=
  (by decide +kernel : ∀ t : Fin grid0.N, _)

/-- The number of grid points. -/
theorem lt_N (t : Fin cfg0.N) : t.val < 68 := lt_of_lt_of_eq t.isLt (by decide)

/-- A grid point's rows. -/
def row (t : Fin cfg0.N) (r : Fin 512) : Fin 34816 := ⟨512 * t.val + r, by have := lt_N t; omega⟩

/-- A token's modulation row. -/
def mrow (R : Fin 34816) : Fin 16 := ⟨2 * (R / 4352) + R % 4352 / 4096, by omega⟩

theorem read_0 (t : Fin cfg0.N) (A : FVec Ideal S34816x1024 .f32) (r : Fin 512) (k : Fin 1024) :
    ((cfg0.win 0).blk t).view.read (Elt Ideal) A (ix2 r k) = A (ix2 (row t r) k) := by
  unfold row
  blk_simp
  blk_ext [idx t]

/-- The modulation row of a tile's token. -/
theorem tile_row (s r : ℕ) (hr : r < 256) : 2 * ((256 * s + r) / 4352) + (256 * s + r) % 4352 / 4096 = 2 * (s / 17) + s % 17 / 16 := by
  have h1 : (256 * s + r) / 4352 = s / 17 := by omega
  have h2 : (256 * s + r) % 4352 = 256 * (s % 17) + r := by omega
  rw [h1, h2]
  have h3 : s % 17 < 17 := Nat.mod_lt _ (by decide)
  omega

theorem read_1 (t : Fin cfg0.N) (A : FVec Ideal S16x6x1024 .f32) (r : Fin 512) (hr : r.val < 256) (j : Fin 6) (k : Fin 1024) :
    ((cfg0.win 1).blk t).view.read (Elt Ideal) A (ix3 0 j k) = A (ix3 (mrow (row t r)) j k) := by
  have e : mrow (row t r) = ⟨2 * (2 * t.val / 17) + 2 * t.val % 17 / 16, by have := lt_N t; omega⟩ := by
    refine Fin.ext ?_
    have h := tile_row (2 * t.val) r hr
    rw [show 256 * (2 * t.val) + (r : ℕ) = 512 * t.val + r by omega] at h
    exact h
  rw [e]
  blk_simp
  blk_ext [idx t]

theorem read_2 (t : Fin cfg0.N) (A : FVec Ideal S16x6x1024 .f32) (r : Fin 512) (hr : ¬r.val < 256) (j : Fin 6) (k : Fin 1024) :
    ((cfg0.win 2).blk t).view.read (Elt Ideal) A (ix3 0 j k) = A (ix3 (mrow (row t r)) j k) := by
  have e : mrow (row t r) = ⟨2 * ((2 * t.val + 1) / 17) + (2 * t.val + 1) % 17 / 16, by have := lt_N t; omega⟩ := by
    refine Fin.ext ?_
    have h := tile_row (2 * t.val + 1) (r - 256) (by omega)
    rw [show 256 * (2 * t.val + 1) + ((r : ℕ) - 256) = 512 * t.val + r by omega] at h
    exact h
  rw [e]
  blk_simp
  blk_ext [idx t]

theorem read_3 (t : Fin cfg0.N) (A : FVec Ideal S1x1024 .f32) (n : Fin 1024) :
    ((cfg0.win 3).blk t).view.read (Elt Ideal) A (ix2 0 n) = A (ix2 0 n) := by
  blk_simp
  blk_ext [idx t]

theorem read_4 (t : Fin cfg0.N) (A : FVec Ideal S1024x5376 .bf16) (k : Fin 1024) (n : Fin 5376) :
    ((cfg0.win 4).blk t).view.read (Elt Ideal) A (ix2 k n) = A (ix2 k n) := by
  blk_simp
  blk_ext [idx t]

/-- A row's product with a column of the joined weights, over the operands. -/
def cell (X : FVec Ideal S34816x1024 .f32) (M : FVec Ideal S16x6x1024 .f32) (G : FVec Ideal S1x1024 .f32)
    (W : FVec Ideal S1024x5376 .bf16) (R : Fin 34816) (j : Fin 5376) : EReal :=
  ∑ k : Fin 1024, normed (fun k => X (ix2 R k)) (fun k => G (ix2 0 k)) (fun k => M (ix3 (mrow R) 1 k))
    (fun k => M (ix3 (mrow R) 0 k)) k * W (ix2 k j)

/-- The joined weights' column of a query lane. -/
def qcol (n : Fin 256) : Fin 5376 := ⟨n, by omega⟩

/-- The column of a key lane. -/
def kcol (n : Fin 256) : Fin 5376 := ⟨256 + n, by omega⟩

/-- The column of a value lane. -/
def vcol (n : Fin 256) : Fin 5376 := ⟨512 + n, by omega⟩

/-- The column of a gate lane. -/
def gcol (n : Fin 3072) : Fin 5376 := ⟨2304 + n, by omega⟩

/-- A grid point's product is the row's. -/
theorem colsum_eq (c : Dev nD) (t : Fin cfg0.N) (r : Fin 512) (j : Fin 5376) :
    colsum (iblk m c 0 t : Vec Ideal S512x1024 .f32) (iblk m c 1 t : Vec Ideal S1x6x1024 .f32) (iblk m c 2 t : Vec Ideal S1x6x1024 .f32)
        (iblk m c 3 t : Vec Ideal S1x1024 .f32) (iblk m c 4 t : Vec Ideal S1024x5376 .bf16) r j
      = cell (V m c main_v147) (V m c main_v4) (V m c main_v42) (V m c main_v23) (row t r) j := by
  have e0 : ∀ k, (iblk m c 0 t : Vec Ideal S512x1024 .f32) (ix2 r k) = _ := read_0 t (V m c main_v147) r
  have e3 : ∀ n, (iblk m c 3 t : Vec Ideal S1x1024 .f32) (ix2 0 n) = _ := read_3 t (V m c main_v42)
  have e4 : ∀ k n, (iblk m c 4 t : Vec Ideal S1024x5376 .bf16) (ix2 k n) = _ := read_4 t (V m c main_v23)
  unfold colsum hrow cell
  by_cases hr : r.val < 256
  · have e1 : ∀ j k, (iblk m c 1 t : Vec Ideal S1x6x1024 .f32) (ix3 0 j k) = _ := read_1 t (V m c main_v4) r hr
    rw [if_pos hr]
    simp only [e0, e1, e3, e4]
  · have e2 : ∀ j k, (iblk m c 2 t : Vec Ideal S1x6x1024 .f32) (ix3 0 j k) = _ := read_2 t (V m c main_v4) r hr
    rw [if_neg hr]
    simp only [e0, e2, e3, e4]

/-- The queries. -/
theorem final_query (c : Dev nD) : (dats m 0 c).arrAt 15 (cfgs 0).N
    = fun i : S34816x256.Idx => cell (V m c main_v147) (V m c main_v4) (V m c main_v42) (V m c main_v23) (i 0)
        (qcol (i 1)) * Ideal.ofBits .f32 0x3E38AA3B#32 := by
  refine (dats m 0 c).arrAt_eq_of_covers 15 _ (by decide +kernel) fun t _ y => ?_
  blk_simp
  rw [after0_15]
  obtain ⟨r, n, rfl⟩ : ∃ (r : Fin 512) (n : Fin 256), y = ix2 r n := ⟨y 0, y 1, by blk_ext []⟩
  refine (out_query _ _ _ _ _ _ _ _ _ _ _ _ _ _ _ r n).trans ?_
  have e : (win0_15.blk t).view.emb (ix2 r n) = ix2 (row t r) n := by
    unfold row
    blk_ext [idx t]
  rw [e, colsum_eq]
  rfl

/-- The keys. -/
theorem final_key (c : Dev nD) : (dats m 0 c).arrAt 16 (cfgs 0).N
    = fun i : S34816x256.Idx => cell (V m c main_v147) (V m c main_v4) (V m c main_v42) (V m c main_v23) (i 0)
        (kcol (i 1)) := by
  refine (dats m 0 c).arrAt_eq_of_covers 16 _ (by decide +kernel) fun t _ y => ?_
  blk_simp
  rw [after0_16]
  obtain ⟨r, n, rfl⟩ : ∃ (r : Fin 512) (n : Fin 256), y = ix2 r n := ⟨y 0, y 1, by blk_ext []⟩
  refine (out_key _ _ _ _ _ _ _ _ _ _ _ _ _ _ _ r n).trans ?_
  have e : (win0_16.blk t).view.emb (ix2 r n) = ix2 (row t r) n := by
    unfold row
    blk_ext [idx t]
  rw [e, colsum_eq]
  rfl

/-- The values. -/
theorem final_value (c : Dev nD) : (dats m 0 c).arrAt 17 (cfgs 0).N
    = fun i : S34816x256.Idx => cell (V m c main_v147) (V m c main_v4) (V m c main_v42) (V m c main_v23) (i 0)
        (vcol (i 1)) := by
  refine (dats m 0 c).arrAt_eq_of_covers 17 _ (by decide +kernel) fun t _ y => ?_
  blk_simp
  rw [after0_17]
  obtain ⟨r, n, rfl⟩ : ∃ (r : Fin 512) (n : Fin 256), y = ix2 r n := ⟨y 0, y 1, by blk_ext []⟩
  refine (out_value _ _ _ _ _ _ _ _ _ _ _ _ _ _ _ r n).trans ?_
  have e : (win0_17.blk t).view.emb (ix2 r n) = ix2 (row t r) n := by
    unfold row
    blk_ext [idx t]
  rw [e, colsum_eq]
  rfl

/-- The gates. -/
theorem final_gate (c : Dev nD) : (dats m 0 c).arrAt 24 (cfgs 0).N
    = fun i : S34816x3072.Idx => Ideal.logistic (cell (V m c main_v147) (V m c main_v4) (V m c main_v42) (V m c main_v23) (i 0)
        (gcol (i 1))) := by
  refine (dats m 0 c).arrAt_eq_of_covers 24 _ (by decide +kernel) fun t _ y => ?_
  blk_simp
  rw [after0_24]
  obtain ⟨r, n, rfl⟩ : ∃ (r : Fin 512) (n : Fin 3072), y = ix2 r n := ⟨y 0, y 1, by blk_ext []⟩
  refine (out_gate _ _ _ _ _ _ _ _ _ _ _ _ _ _ _ r n).trans ?_
  have e : (win0_24.blk t).view.emb (ix2 r n) = ix2 (row t r) n := by
    unfold row
    blk_ext [idx t]
  rw [e, colsum_eq]
  rfl

end Cert.MixerIdeal.Hand
end
-- ==== Proof.MixerOperands.lean ====
module

public import proofs.«01_k».proof.Proof.Gen.MixerIdeal.Value
public import proofs.«01_k».proof.Proof.MergeRow

@[expose] public section

/-! The operands the host code prepares for the input projection. -/

set_option maxRecDepth 16384
noncomputable section
namespace Cert.MixerIdeal.Hand
open Cert.MixerIdeal Cert.MixerIdeal.Gen Idealize.ShloMosaic Idealize.ShloMosaic.TcCoe Idealize.SL.Sem
open Cert.MergeRow
open scoped BigOperators
variable (m : (ℓ : Loc nD τ sig) → Buf (Elt Ideal) ℓ)

/-- The gain. -/
theorem V_gain (c : Dev nD) (k : Fin 1024) :
    (V m c main_v42 : FVec Ideal S1x1024 .f32) (ix2 0 k)
      = (m ((c : Thread nD τ).loc main_arg4) : FVec Ideal S1024 .f32) (ix1 k) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  pointwise

/-- The tokens. -/
theorem V_x (c : Dev nD) (b : Fin 8) (t : Fin 4352) (k : Fin 1024) :
    (V m c main_v147 : FVec Ideal S34816x1024 .f32) (ix2 ⟨4352 * b + t, by omega⟩ k)
      = joined (m ((c : Thread nD τ).loc main_arg0)) (m ((c : Thread nD τ).loc main_arg1)) b t k := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  after_results_loop
  pointwise
  rfl

/-- The latents' modulation. -/
theorem V_mod (c : Dev nD) (b : Fin 8) (j : Fin 6) (k : Fin 1024) :
    (V m c main_v4 : FVec Ideal S16x6x1024 .f32) (ix3 ⟨2 * b, by omega⟩ j k)
      = (m ((c : Thread nD τ).loc main_arg2) : FVec Ideal S8x6144 .f32) (ix2 b ⟨j * 1024 + k, by omega⟩) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  pointwise
  rw [dif_pos (by omega)]
  after_results_loop
  pointwise

/-- The context's modulation. -/
theorem V_modc (c : Dev nD) (b : Fin 8) (j : Fin 6) (k : Fin 1024) :
    (V m c main_v4 : FVec Ideal S16x6x1024 .f32) (ix3 ⟨2 * b + 1, by omega⟩ j k)
      = (m ((c : Thread nD τ).loc main_arg3) : FVec Ideal S6144 .f32) (ix1 ⟨j * 1024 + k, by omega⟩) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  pointwise
  rw [dif_neg (by omega)]
  after_results_loop
  pointwise

/-- The queries' columns of the joined weights. -/
theorem cat_0 (y0 y1 y2 : FVec Ideal S1024x256 .f32) (y3 : FVec Ideal S1024x512 .f32) (y4 y5 y6 : FVec Ideal S1024x256 .f32)
    (y7 y8 : FVec Ideal S1024x128 .f32) (y9 : FVec Ideal S1024x3072 .f32) (h) (k : Fin 1024) (n : Fin 256) :
    (truncf .bf16 (concatenate S1024x5376 1 [⟨S1024x256, y0⟩, ⟨S1024x256, y1⟩, ⟨S1024x256, y2⟩, ⟨S1024x512, y3⟩, ⟨S1024x256, y4⟩,
      ⟨S1024x256, y5⟩, ⟨S1024x256, y6⟩, ⟨S1024x128, y7⟩, ⟨S1024x128, y8⟩, ⟨S1024x3072, y9⟩] h) bitsLt_bf16_f32 : FVec Ideal S1024x5376 .bf16) (ix2 k ⟨n, by omega⟩) = y0 (ix2 k n) := by
  pointwise

/-- The keys' columns of the joined weights. -/
theorem cat_1 (y0 y1 y2 : FVec Ideal S1024x256 .f32) (y3 : FVec Ideal S1024x512 .f32) (y4 y5 y6 : FVec Ideal S1024x256 .f32)
    (y7 y8 : FVec Ideal S1024x128 .f32) (y9 : FVec Ideal S1024x3072 .f32) (h) (k : Fin 1024) (n : Fin 256) :
    (truncf .bf16 (concatenate S1024x5376 1 [⟨S1024x256, y0⟩, ⟨S1024x256, y1⟩, ⟨S1024x256, y2⟩, ⟨S1024x512, y3⟩, ⟨S1024x256, y4⟩,
      ⟨S1024x256, y5⟩, ⟨S1024x256, y6⟩, ⟨S1024x128, y7⟩, ⟨S1024x128, y8⟩, ⟨S1024x3072, y9⟩] h) bitsLt_bf16_f32 : FVec Ideal S1024x5376 .bf16) (ix2 k ⟨256 + n, by omega⟩) = y1 (ix2 k n) := by
  pointwise

/-- The values' columns of the joined weights. -/
theorem cat_2 (y0 y1 y2 : FVec Ideal S1024x256 .f32) (y3 : FVec Ideal S1024x512 .f32) (y4 y5 y6 : FVec Ideal S1024x256 .f32)
    (y7 y8 : FVec Ideal S1024x128 .f32) (y9 : FVec Ideal S1024x3072 .f32) (h) (k : Fin 1024) (n : Fin 256) :
    (truncf .bf16 (concatenate S1024x5376 1 [⟨S1024x256, y0⟩, ⟨S1024x256, y1⟩, ⟨S1024x256, y2⟩, ⟨S1024x512, y3⟩, ⟨S1024x256, y4⟩,
      ⟨S1024x256, y5⟩, ⟨S1024x256, y6⟩, ⟨S1024x128, y7⟩, ⟨S1024x128, y8⟩, ⟨S1024x3072, y9⟩] h) bitsLt_bf16_f32 : FVec Ideal S1024x5376 .bf16) (ix2 k ⟨512 + n, by omega⟩) = y2 (ix2 k n) := by
  pointwise
  rw [dif_neg (show ¬512 + (n : ℕ) < 256 by omega), dif_neg (show ¬512 + (n : ℕ) - 256 < 256 by omega), dif_pos (show 512 + (n : ℕ) - 256 - 256 < 256 by omega)]
  refine congrArg (fun s => y2 (ix2 k s)) (Fin.ext ?_)
  change 512 + (n : ℕ) - 256 - 256 = n
  omega

/-- The gates' columns of the joined weights. -/
theorem cat_9 (y0 y1 y2 : FVec Ideal S1024x256 .f32) (y3 : FVec Ideal S1024x512 .f32) (y4 y5 y6 : FVec Ideal S1024x256 .f32)
    (y7 y8 : FVec Ideal S1024x128 .f32) (y9 : FVec Ideal S1024x3072 .f32) (h) (k : Fin 1024) (n : Fin 3072) :
    (truncf .bf16 (concatenate S1024x5376 1 [⟨S1024x256, y0⟩, ⟨S1024x256, y1⟩, ⟨S1024x256, y2⟩, ⟨S1024x512, y3⟩, ⟨S1024x256, y4⟩,
      ⟨S1024x256, y5⟩, ⟨S1024x256, y6⟩, ⟨S1024x128, y7⟩, ⟨S1024x128, y8⟩, ⟨S1024x3072, y9⟩] h) bitsLt_bf16_f32 : FVec Ideal S1024x5376 .bf16) (ix2 k ⟨2304 + n, by omega⟩) = y9 (ix2 k n) := by
  pointwise
  rw [dif_neg (show ¬2304 + (n : ℕ) < 256 by omega),
    dif_neg (show ¬2304 + (n : ℕ) - 256 < 256 by omega),
    dif_neg (show ¬2304 + (n : ℕ) - 256 - 256 < 256 by omega),
    dif_neg (show ¬2304 + (n : ℕ) - 256 - 256 - 256 < 512 by omega),
    dif_neg (show ¬2304 + (n : ℕ) - 256 - 256 - 256 - 512 < 256 by omega),
    dif_neg (show ¬2304 + (n : ℕ) - 256 - 256 - 256 - 512 - 256 < 256 by omega),
    dif_neg (show ¬2304 + (n : ℕ) - 256 - 256 - 256 - 512 - 256 - 256 < 256 by omega),
    dif_neg (show ¬2304 + (n : ℕ) - 256 - 256 - 256 - 512 - 256 - 256 - 256 < 128 by omega),
    dif_neg (show ¬2304 + (n : ℕ) - 256 - 256 - 256 - 512 - 256 - 256 - 256 - 128 < 128 by omega)]
  refine congrArg (fun s => y9 (ix2 k s)) (Fin.ext ?_)
  change 2304 + (n : ℕ) - 256 - 256 - 256 - 512 - 256 - 256 - 256 - 128 - 128 = n
  omega

/-- The columns of the queries. -/
theorem V_wq (c : Dev nD) (k : Fin 1024) (n : Fin 256) :
    (V m c main_v23 : FVec Ideal S1024x5376 .bf16) (ix2 k ⟨n, by omega⟩)
      = (m ((c : Thread nD τ).loc main_arg5) : FVec Ideal S1024x5024 .f32) (ix2 k ⟨928 + n, by omega⟩) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  refine (cat_0 _ _ _ _ _ _ _ _ _ _ _ k n).trans ?_
  pointwise
  after_results_loop
  pointwise

/-- The columns of the keys. -/
theorem V_wk (c : Dev nD) (k : Fin 1024) (n : Fin 256) :
    (V m c main_v23 : FVec Ideal S1024x5376 .bf16) (ix2 k ⟨256 + n, by omega⟩)
      = (m ((c : Thread nD τ).loc main_arg5) : FVec Ideal S1024x5024 .f32) (ix2 k ⟨n, by omega⟩) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  refine (cat_1 _ _ _ _ _ _ _ _ _ _ _ k n).trans ?_
  pointwise
  after_results_loop
  pointwise

/-- The columns of the values. -/
theorem V_wv (c : Dev nD) (k : Fin 1024) (n : Fin 256) :
    (V m c main_v23 : FVec Ideal S1024x5376 .bf16) (ix2 k ⟨512 + n, by omega⟩)
      = (m ((c : Thread nD τ).loc main_arg5) : FVec Ideal S1024x5024 .f32) (ix2 k ⟨256 + n, by omega⟩) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  refine (cat_2 _ _ _ _ _ _ _ _ _ _ _ k n).trans ?_
  pointwise
  after_results_loop
  pointwise

/-- The columns of the gates. -/
theorem V_wg (c : Dev nD) (k : Fin 1024) (n : Fin 3072) :
    (V m c main_v23 : FVec Ideal S1024x5376 .bf16) (ix2 k ⟨2304 + n, by omega⟩)
      = (m ((c : Thread nD τ).loc main_arg5) : FVec Ideal S1024x5024 .f32) (ix2 k ⟨1952 + n, by omega⟩) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  refine (cat_9 _ _ _ _ _ _ _ _ _ _ _ k n).trans ?_
  pointwise
  after_results_loop
  pointwise

end Cert.MixerIdeal.Hand
end
-- ==== Proof.MixerRef.lean ====
module

public import proofs.«01_k».proof.Proof.Gen.MixerReferenceIdeal.Read
public import proofs.«01_k».proof.Proof.Gen.MixerReferenceIdeal.Run
public import proofs.«01_k».proof.Proof.MergeRef

@[expose] public section

/-! The input projection reference's results at an index. -/

set_option maxRecDepth 16384
noncomputable section
namespace Cert.MixerReferenceIdeal.Hand
open Cert.MixerReferenceIdeal Cert.MixerReferenceIdeal.Gen Cert.MixerReferenceIdeal.Read Idealize.ShloMosaic Idealize.ShloMosaic.TcCoe Idealize.SL.Sem
open Cert.MergeRow Cert.MergeReferenceIdeal.Hand
open scoped BigOperators

variable (x0 : FVec Ideal S8x4096x1024 .f32) (x1 : FVec Ideal S8x256x1024 .f32) (x2 : FVec Ideal S8x6144 .f32)
  (x3 : FVec Ideal S6144 .f32) (x4 : FVec Ideal S1024 .f32) (x5 : FVec Ideal S1024x5024 .f32)

/-- A token of the latents times a column of the weights. -/
def lat (b : Fin 8) (t : Fin 4096) (j : Fin 5024) : EReal :=
  ∑ k : Fin 1024, normed (fun k => x0 (ix3 b t k)) (fun k => x4 (ix1 k)) (fun k => x2 (ix2 b ⟨1024 + k, by omega⟩))
    (fun k => x2 (ix2 b ⟨k, by omega⟩)) k * x5 (ix2 k j)

/-- A token of the context times a column of the weights. -/
def ctx (b : Fin 8) (t : Fin 256) (j : Fin 5024) : EReal :=
  ∑ k : Fin 1024, normed (fun k => x1 (ix3 b t k)) (fun k => x4 (ix1 k)) (fun k => x3 (ix1 ⟨1024 + k, by omega⟩))
    (fun k => x3 (ix1 ⟨k, by omega⟩)) k * x5 (ix2 k j)

/-- The latents' normalised and modulated rows. -/
theorem lat_normed (b : Fin 8) (t : Fin 4096) (n : Fin 1024) :
    val_main_v31 (F := Ideal) x0 x2 x4 (ix3 b t n)
      = normed (fun k => x0 (ix3 b t k)) (fun k => x4 (ix1 k)) (fun k => x2 (ix2 b ⟨1024 + k, by omega⟩))
          (fun k => x2 (ix2 b ⟨k, by omega⟩)) n := by
  unfold normed
  rw [← div_1024]
  pointwise [val_main_v31, val_main_v30, val_main_v29, val_main_v28, val_main_v27, val_main_v26, val_main_v25, val_main_v24,
    val_main_v23, val_main_v22, val_main_v21, val_main_v20, val_main_v19, val_main_v18, val_main_v17, val_main_v16, val_main_v15,
    val_main_v14, val_main_v13, val_main_v2, val_main_v1, val_main_v0, val_main_cst, val_main_cst_0, val_main_cst_1, val_main_cst_2]

/-- The context's. -/
theorem ctx_normed (b : Fin 8) (t : Fin 256) (n : Fin 1024) :
    val_main_v65 (F := Ideal) x1 x3 x4 (ix3 b t n)
      = normed (fun k => x1 (ix3 b t k)) (fun k => x4 (ix1 k)) (fun k => x3 (ix1 ⟨1024 + k, by omega⟩))
          (fun k => x3 (ix1 ⟨k, by omega⟩)) n := by
  unfold normed
  rw [← div_1024]
  pointwise [val_main_v65, val_main_v64, val_main_v63, val_main_v62, val_main_v61, val_main_v60, val_main_v59, val_main_v58,
    val_main_v57, val_main_v56, val_main_v55, val_main_v54, val_main_v53, val_main_v52, val_main_v51, val_main_v50, val_main_v49,
    val_main_v48, val_main_v47, val_main_v46, val_main_v45, val_main_v8, val_main_v7, val_main_cst_6, val_main_cst_7, val_main_cst_8,
    val_main_cst_9]

theorem lat_apply (b : Fin 8) (t : Fin 4096) (j : Fin 5024) :
    val_main_v32 (F := Ideal) x0 x2 x4 x5 (ix3 b t j) = lat x0 x2 x4 x5 b t j := by
  unfold lat
  simp only [← lat_normed]
  pointwise [val_main_v32]

theorem ctx_apply (b : Fin 8) (t : Fin 256) (j : Fin 5024) :
    val_main_v66 (F := Ideal) x1 x3 x4 x5 (ix3 b t j) = ctx x1 x3 x4 x5 b t j := by
  unfold ctx
  simp only [← ctx_normed]
  pointwise [val_main_v66]

/-- The latents' and the context's columns, one after the other along the tokens. -/
def col (b : Fin 8) (t : Fin 4352) (j : Fin 5024) : EReal :=
  if ht : t.val < 4096 then lat x0 x2 x4 x5 b ⟨t, ht⟩ j else ctx x1 x3 x4 x5 b ⟨t - 4096, by omega⟩ j

/-- The queries. -/
theorem query_apply (b : Fin 8) (t : Fin 4352) (n : Fin 256) :
    val_main_v79 (F := Ideal) x0 x1 x2 x3 x4 x5 (ix3 b t n)
      = col x0 x1 x2 x3 x4 x5 b t ⟨928 + n, by omega⟩ * Ideal.ofBits .f32 0x3E38AA3B#32 := by
  unfold col
  pointwise [val_main_v79, val_main_v35, val_main_v34, val_main_v33, val_main_v69, val_main_v68, val_main_v67, val_main_cst_3,
    val_main_cst_10]
  simp only [lat_apply, ctx_apply]
  split <;> rfl

/-- The keys. -/
theorem key_apply (b : Fin 8) (t : Fin 4352) (n : Fin 256) :
    val_main_v82 (F := Ideal) x0 x1 x2 x3 x4 x5 (ix3 b t n) = col x0 x1 x2 x3 x4 x5 b t ⟨n, by omega⟩ := by
  unfold col
  pointwise [val_main_v82, val_main_v36, val_main_v70]
  simp only [lat_apply, ctx_apply]

/-- The values. -/
theorem value_apply (b : Fin 8) (t : Fin 4352) (n : Fin 256) :
    val_main_v85 (F := Ideal) x0 x1 x2 x3 x4 x5 (ix3 b t n) = col x0 x1 x2 x3 x4 x5 b t ⟨256 + n, by omega⟩ := by
  unfold col
  pointwise [val_main_v85, val_main_v37, val_main_v71]
  simp only [lat_apply, ctx_apply]

/-- The gates. -/
theorem gate_apply (b : Fin 8) (t : Fin 4352) (n : Fin 3072) :
    val_main_v88 (F := Ideal) x0 x1 x2 x3 x4 x5 (ix3 b t n) = Ideal.logistic (col x0 x1 x2 x3 x4 x5 b t ⟨1952 + n, by omega⟩) := by
  unfold col
  pointwise [val_main_v88, val_main_v44, val_main_v43, val_main_v42, val_main_v41, val_main_v40, val_main_v39, val_main_v38,
    val_main_v78, val_main_v77, val_main_v76, val_main_v75, val_main_v74, val_main_v73, val_main_v72, val_main_cst_4, val_main_cst_5,
    val_main_cst_11, val_main_cst_12]
  simp only [lat_apply, ctx_apply]
  split <;> rfl

/-- The query result, over the flattened tokens. -/
theorem query_row (b : Fin 8) (t : Fin 4352) (n : Fin 256) :
    val_main_v81 (F := Ideal) x0 x1 x2 x3 x4 x5 (ix2 ⟨4352 * b + t, by omega⟩ n)
      = col x0 x1 x2 x3 x4 x5 b t ⟨928 + n, by omega⟩ * Ideal.ofBits .f32 0x3E38AA3B#32 := by
  have e : idx_main_v80 (ix2 ⟨4352 * b + t, by omega⟩ n) = ix3 b t n := by
    funext a
    match a with
    | ⟨0, _⟩ => exact Fin.ext (by change ((4352 * (b : ℕ) + t) * 256 + n) / 1114112 = b; omega)
    | ⟨1, _⟩ => exact Fin.ext (by change ((4352 * (b : ℕ) + t) * 256 + n) / 256 % 4352 = t; omega)
    | ⟨2, _⟩ => exact Fin.ext (by change ((4352 * (b : ℕ) + t) * 256 + n) % 256 = n; omega)
  change val_main_v80 (F := Ideal) x0 x1 x2 x3 x4 x5 _ = _
  rw [val_main_v80_apply, e, query_apply]

/-- The key result, over the flattened tokens. -/
theorem key_row (b : Fin 8) (t : Fin 4352) (n : Fin 256) :
    val_main_v84 (F := Ideal) x0 x1 x2 x3 x4 x5 (ix2 ⟨4352 * b + t, by omega⟩ n)
      = col x0 x1 x2 x3 x4 x5 b t ⟨n, by omega⟩ := by
  have e : idx_main_v83 (ix2 ⟨4352 * b + t, by omega⟩ n) = ix3 b t n := by
    funext a
    match a with
    | ⟨0, _⟩ => exact Fin.ext (by change ((4352 * (b : ℕ) + t) * 256 + n) / 1114112 = b; omega)
    | ⟨1, _⟩ => exact Fin.ext (by change ((4352 * (b : ℕ) + t) * 256 + n) / 256 % 4352 = t; omega)
    | ⟨2, _⟩ => exact Fin.ext (by change ((4352 * (b : ℕ) + t) * 256 + n) % 256 = n; omega)
  change val_main_v83 (F := Ideal) x0 x1 x2 x3 x4 x5 _ = _
  rw [val_main_v83_apply, e, key_apply]

/-- The value result, over the flattened tokens. -/
theorem value_row (b : Fin 8) (t : Fin 4352) (n : Fin 256) :
    val_main_v87 (F := Ideal) x0 x1 x2 x3 x4 x5 (ix2 ⟨4352 * b + t, by omega⟩ n)
      = col x0 x1 x2 x3 x4 x5 b t ⟨256 + n, by omega⟩ := by
  have e : idx_main_v86 (ix2 ⟨4352 * b + t, by omega⟩ n) = ix3 b t n := by
    funext a
    match a with
    | ⟨0, _⟩ => exact Fin.ext (by change ((4352 * (b : ℕ) + t) * 256 + n) / 1114112 = b; omega)
    | ⟨1, _⟩ => exact Fin.ext (by change ((4352 * (b : ℕ) + t) * 256 + n) / 256 % 4352 = t; omega)
    | ⟨2, _⟩ => exact Fin.ext (by change ((4352 * (b : ℕ) + t) * 256 + n) % 256 = n; omega)
  change val_main_v86 (F := Ideal) x0 x1 x2 x3 x4 x5 _ = _
  rw [val_main_v86_apply, e, value_apply]

/-- The gate result, over the flattened tokens. -/
theorem gate_row (b : Fin 8) (t : Fin 4352) (n : Fin 3072) :
    val_main_v90 (F := Ideal) x0 x1 x2 x3 x4 x5 (ix2 ⟨4352 * b + t, by omega⟩ n)
      = Ideal.logistic (col x0 x1 x2 x3 x4 x5 b t ⟨1952 + n, by omega⟩) := by
  have e : idx_main_v89 (ix2 ⟨4352 * b + t, by omega⟩ n) = ix3 b t n := by
    funext a
    match a with
    | ⟨0, _⟩ => exact Fin.ext (by change ((4352 * (b : ℕ) + t) * 3072 + n) / 13369344 = b; omega)
    | ⟨1, _⟩ => exact Fin.ext (by change ((4352 * (b : ℕ) + t) * 3072 + n) / 3072 % 4352 = t; omega)
    | ⟨2, _⟩ => exact Fin.ext (by change ((4352 * (b : ℕ) + t) * 3072 + n) % 3072 = n; omega)
  change val_main_v89 (F := Ideal) x0 x1 x2 x3 x4 x5 _ = _
  rw [val_main_v89_apply, e, gate_apply]

end Cert.MixerReferenceIdeal.Hand
end
-- ==== Proof.MixerValue.lean ====
module

public import proofs.«01_k».proof.Proof.MixerFinal
public import proofs.«01_k».proof.Proof.MixerOperands
public import proofs.«01_k».proof.Proof.MixerRef

@[expose] public section

/-! The arrays the input projection leaves are the reference's results. -/

set_option maxRecDepth 16384
noncomputable section
namespace Cert.MixerIdeal.Hand
open Cert.MixerIdeal Cert.MixerIdeal.Gen Idealize.ShloMosaic Idealize.ShloMosaic.TcCoe Idealize.SL.Sem
open Cert.MergeRow
open scoped BigOperators
variable (m : (ℓ : Loc nD τ sig) → Buf (Elt Ideal) ℓ)

/-- A sum of products of normalised rows depends on the entries alone. -/
theorem sum_congr {x x' g g' sc sc' sh sh' w w' : Fin 1024 → EReal} (hx : ∀ k, x k = x' k) (hg : ∀ k, g k = g' k)
    (hsc : ∀ k, sc k = sc' k) (hsh : ∀ k, sh k = sh' k) (hw : ∀ k, w k = w' k) :
    ∑ k : Fin 1024, normed x g sc sh k * w k = ∑ k : Fin 1024, normed x' g' sc' sh' k * w' k := by
  obtain rfl := funext hx
  obtain rfl := funext hg
  obtain rfl := funext hsc
  obtain rfl := funext hsh
  obtain rfl := funext hw
  rfl

/-- A token's product with a column is the reference's. -/
theorem cell_eq (c : Dev nD) (b : Fin 8) (t : Fin 4352) (j : Fin 5376) (j' : Fin 5024)
    (hw : ∀ k, (V m c main_v23 : FVec Ideal S1024x5376 .bf16) (ix2 k j)
      = (m ((c : Thread nD τ).loc main_arg5) : FVec Ideal S1024x5024 .f32) (ix2 k j')) :
    cell (V m c main_v147) (V m c main_v4) (V m c main_v42) (V m c main_v23) ⟨4352 * b + t, by omega⟩ j
      = Cert.MixerReferenceIdeal.Hand.col (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) b t j' := by
  have h1 : (4352 * (b : ℕ) + t) / 4352 = b := by omega
  have h2 : (4352 * (b : ℕ) + t) % 4352 = t := by omega
  unfold cell Cert.MixerReferenceIdeal.Hand.col
  by_cases ht : t.val < 4096
  · have hm : mrow ⟨4352 * b + t, by omega⟩ = ⟨2 * b, by omega⟩ := Fin.ext (by
      change 2 * ((4352 * (b : ℕ) + t) / 4352) + (4352 * (b : ℕ) + t) % 4352 / 4096 = 2 * b
      rw [h1, h2]
      omega)
    rw [hm, dif_pos ht]
    exact sum_congr (fun k => (V_x m c b t k).trans (dif_pos ht)) (fun k => V_gain m c k)
      (fun k => (V_mod m c b 1 k).trans rfl)
      (fun k => (V_mod m c b 0 k).trans (congrArg (fun s => (m ((c : Thread nD τ).loc main_arg2) : FVec Ideal S8x6144 .f32) (ix2 b s))
        (Fin.ext (by change 0 * 1024 + (k : ℕ) = k; omega)))) hw
  · have hm : mrow ⟨4352 * b + t, by omega⟩ = ⟨2 * b + 1, by omega⟩ := Fin.ext (by
      change 2 * ((4352 * (b : ℕ) + t) / 4352) + (4352 * (b : ℕ) + t) % 4352 / 4096 = 2 * b + 1
      rw [h1, h2]
      omega)
    rw [hm, dif_neg ht]
    exact sum_congr (fun k => (V_x m c b t k).trans (dif_neg ht)) (fun k => V_gain m c k)
      (fun k => (V_modc m c b 1 k).trans rfl)
      (fun k => (V_modc m c b 0 k).trans (congrArg (fun s => (m ((c : Thread nD τ).loc main_arg3) : FVec Ideal S6144 .f32) (ix1 s))
        (Fin.ext (by change 0 * 1024 + (k : ℕ) = k; omega)))) hw

/-- A row of the flattened tokens is a batch entry and a token. -/
theorem split_row {w : ℕ} (i : (⟨2, ![34816, w]⟩ : Shape).Idx) :
    ∃ (b : Fin 8) (t : Fin 4352) (n : Fin w), i = ix2 ⟨4352 * b + t, by omega⟩ n := by
  have h : (i 0).val < 34816 := (i 0).isLt
  refine ⟨⟨(i 0).val / 4352, by omega⟩, ⟨(i 0).val % 4352, by omega⟩, i 1, ?_⟩
  refine funext fun a => ?_
  match a with
  | ⟨0, _⟩ => exact Fin.ext (by change (i 0).val = 4352 * ((i 0).val / 4352) + (i 0).val % 4352; omega)
  | ⟨1, _⟩ => rfl

/-- The queries. -/
theorem value_query (c : Dev nD) :
    (fun i : S34816x256.Idx => cell (V m c main_v147) (V m c main_v4) (V m c main_v42) (V m c main_v23) (i 0)
        (qcol (i 1)) * Ideal.ofBits .f32 0x3E38AA3B#32)
      = Cert.MixerReferenceIdeal.Read.val_main_v81 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  funext i
  obtain ⟨b, t, n, rfl⟩ := split_row i
  refine Eq.trans ?_ (Cert.MixerReferenceIdeal.Hand.query_row _ _ _ _ _ _ b t n).symm
  exact congrArg (· * _) (cell_eq m c b t _ _ fun k => V_wq m c k n)

/-- The keys. -/
theorem value_key (c : Dev nD) :
    (fun i : S34816x256.Idx => cell (V m c main_v147) (V m c main_v4) (V m c main_v42) (V m c main_v23) (i 0) (kcol (i 1)))
      = Cert.MixerReferenceIdeal.Read.val_main_v84 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  funext i
  obtain ⟨b, t, n, rfl⟩ := split_row i
  refine Eq.trans ?_ (Cert.MixerReferenceIdeal.Hand.key_row _ _ _ _ _ _ b t n).symm
  exact cell_eq m c b t _ _ fun k => V_wk m c k n

/-- The values. -/
theorem value_value (c : Dev nD) :
    (fun i : S34816x256.Idx => cell (V m c main_v147) (V m c main_v4) (V m c main_v42) (V m c main_v23) (i 0) (vcol (i 1)))
      = Cert.MixerReferenceIdeal.Read.val_main_v87 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  funext i
  obtain ⟨b, t, n, rfl⟩ := split_row i
  refine Eq.trans ?_ (Cert.MixerReferenceIdeal.Hand.value_row _ _ _ _ _ _ b t n).symm
  exact cell_eq m c b t _ _ fun k => V_wv m c k n

/-- The gates. -/
theorem value_gate (c : Dev nD) :
    (fun i : S34816x3072.Idx => Ideal.logistic (cell (V m c main_v147) (V m c main_v4) (V m c main_v42) (V m c main_v23) (i 0)
        (gcol (i 1))))
      = Cert.MixerReferenceIdeal.Read.val_main_v90 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  funext i
  obtain ⟨b, t, n, rfl⟩ := split_row i
  refine Eq.trans ?_ (Cert.MixerReferenceIdeal.Hand.gate_row _ _ _ _ _ _ b t n).symm
  exact congrArg Ideal.logistic (cell_eq m c b t _ _ fun k => V_wg m c k n)

end Cert.MixerIdeal.Hand
end
-- ==== Proof.MixerHeadRow.lean ====
module

public import proofs.«01_k».proof.Proof.MergeRow

@[expose] public section

/-! The stored values of the grouped-query and of the latent attention, as both programs compute them. -/

set_option maxRecDepth 16384
noncomputable section
namespace Cert.MixerHead
open Idealize.ShloMosaic Idealize.SL.Sem
open scoped BigOperators

/-- The ones that follow a head's values: nothing on its first half, one on its second. -/
def ones (l : ℕ) : EReal := if l % 128 < 64 then 0 else 1

/-- A compressed token, normalised, times a column of the up-projection. -/
def up (c g w : Fin 128 → EReal) : EReal :=
  ∑ k : Fin 128, c k * Ideal.rsqrt ((∑ j, c j * c j) * Ideal.ofBits .f32 0x3C000000#32 + Ideal.ofBits .f32 0x358637BD#32) * g k * w k

/-- A mean over 128 lanes is the sum times the reciprocal of 128. -/
theorem div_128 (x : EReal) :
    Ideal.div x (Ideal.ofBits .f32 0x43000000#32) = x * Ideal.ofBits .f32 0x3C000000#32 := by
  have e : Ideal.ofBits .f32 0x43000000#32 = ((128 : ℝ) : EReal) := by
    simp [Ideal.ofBits, Ideal.ieee, -EReal.coe_mul]; norm_num
  have e' : Ideal.ofBits .f32 0x3C000000#32 = ((1 / 128 : ℝ) : EReal) := by
    simp [Ideal.ofBits, Ideal.ieee, -EReal.coe_mul]; norm_num
  rw [e, e', Ideal.div_coe (by norm_num)]

theorem up_congr {c c' g g' w w' : Fin 128 → EReal} (hc : ∀ k, c k = c' k) (hg : ∀ k, g k = g' k) (hw : ∀ k, w k = w' k) :
    up c g w = up c' g' w' := by
  obtain rfl := funext hc
  obtain rfl := funext hg
  obtain rfl := funext hw
  rfl

/-- A column of zeros gives nothing, whatever the token. -/
theorem up_zero {c g w : Fin 128 → EReal} (hw : ∀ k, w k = 0) : up c g w = 0 :=
  Finset.sum_eq_zero fun k _ => by rw [hw k, mul_zero]

end Cert.MixerHead
end
-- ==== Proof.MixerHeadBlock.lean ====
module

public import proofs.«01_k».proof.Proof.MixerBlock
public import proofs.«01_k».proof.Proof.MixerHeadRow

@[expose] public section

/-! One grid point of the input projection: a row of the stored values of the grouped-query and of the latent attention. -/

set_option maxRecDepth 16384
noncomputable section
namespace Cert.MixerIdeal.Hand
open Cert.MixerIdeal Cert.MixerIdeal.Gen Idealize.ShloMosaic Idealize.ShloMosaic.TcCoe Idealize.SL.Sem
open Cert.MergeRow Cert.MixerHead
open scoped BigOperators

/-- A lane's number is compared as a number. -/
theorem lane_lt (l : Fin 128) :
    Scalar.select (IntOp.cmpi .slt (BitVec.ofNat 32 (l : ℕ)) 64#32) (0 : EReal) 1 = ones l := by
  have e : ∀ l : Fin 128, IntOp.cmpi .slt (BitVec.ofNat 32 (l : ℕ)) 64#32 = if (l : ℕ) % 128 < 64 then 1#1 else 0#1 := by decide +kernel
  rw [e]
  unfold ones
  split <;> rfl

/-- The ones of the first tile. -/
theorem ones_apply (r : Fin 256) (l : Fin 128) : k0_pay4 (F := Ideal) (ix2 r l) = ones l := by
  rw [← lane_lt]
  pointwise [k0_pay4, k0_pay3]

/-- The ones of the second tile. -/
theorem ones_apply' (r : Fin 256) (l : Fin 128) : k0_pay112 (F := Ideal) (ix2 r l) = ones l := by
  rw [← lane_lt]
  pointwise [k0_pay112, k0_pay111]

theorem gproj_apply (h : FVec Ideal S256x1024 .bf16) (w : Vec Ideal S1024x512 .bf16) (r : Fin 256) (n : Fin 512) :
    k0_pay73 h w (ix2 r n) = ∑ k : Fin 1024, h (ix2 r k) * w (ix2 k n) := by
  pointwise [k0_pay73]

theorem gproj_apply' (h : FVec Ideal S256x1024 .bf16) (w : Vec Ideal S1024x512 .bf16) (r : Fin 256) (n : Fin 512) :
    k0_pay172 h w (ix2 r n) = ∑ k : Fin 1024, h (ix2 r k) * w (ix2 k n) := by
  pointwise [k0_pay172]

theorem mproj_apply (h : FVec Ideal S256x1024 .bf16) (w : Vec Ideal S1024x512 .bf16) (r : Fin 256) (n : Fin 512) :
    k0_pay11 h w (ix2 r n) = ∑ k : Fin 1024, h (ix2 r k) * w (ix2 k n) := by
  pointwise [k0_pay11]

theorem mproj_apply' (a : FVec Ideal S6x1024 .f32) (b : FVec Ideal S256x1024 .f32) (c d : FVec Ideal S1x1024 .f32)
    (w : Vec Ideal S1024x512 .bf16) (r : Fin 256) (n : Fin 512) :
    k0_pay119 a b c d w (ix2 r n) = ∑ k : Fin 1024, k0_pay110 a b c d (ix2 r k) * w (ix2 k n) := by
  unfold k0_pay119
  generalize k0_pay110 a b c d = y
  pointwise

/-- The first tile's compressed rows, normalised, times the up-projection. -/
theorem up_apply (h : FVec Ideal S256x1024 .bf16) (w : Vec Ideal S1024x512 .bf16) (g : Vec Ideal S1x128 .f32)
    (u : Vec Ideal S128x1024 .bf16) (r : Fin 256) (n : Fin 1024) :
    k0_pay15 (k0_pay13 h w) (k0_pay14 h w) (Scalar.ofBits .f32 0x358637BD#32) g u (ix2 r n)
      = up (fun k => k0_pay11 h w (ix2 r ⟨256 + k, by omega⟩)) (fun k => g (ix2 0 k)) (fun k => u (ix2 k n)) := by
  unfold k0_pay14 k0_pay13 up
  generalize k0_pay11 h w = y
  pointwise [k0_pay15]

/-- The second tile's. -/
theorem up_apply' (y : FVec Ideal S256x512 .f32) (g : Vec Ideal S1x128 .f32)
    (u : Vec Ideal S128x1024 .bf16) (r : Fin 256) (n : Fin 1024) :
    k0_pay123 y g u (ix2 r n)
      = up (fun k => y (ix2 r ⟨256 + k, by omega⟩)) (fun k => g (ix2 0 k)) (fun k => u (ix2 k n)) := by
  unfold up
  pointwise [k0_pay123]

variable (x0 : Vec Ideal S512x1024 .f32) (x1 x2 : Vec Ideal S1x6x1024 .f32) (x3 : Vec Ideal S1x1024 .f32)
  (x4 : Vec Ideal S1024x5376 .bf16) (x5 x6 : Vec Ideal S1x128 .f32) (x7 : Vec Ideal S1x256 .f32) (x8 : Vec Ideal S1x128 .f32)
  (x9 : Vec Ideal S256x512 .bf16) (x10 : Vec Ideal S128x1024 .bf16) (x11 x12 x13 x14 : Vec Ideal S3x256x128 .f32)

/-- A load of half a thousand columns of the joined weights. -/
theorem ld_cols {o : ℕ} (h) (k : Fin 1024) (n : Fin 512) (hn : o + (n : ℕ) < 5376) :
    View.ld x4 (Rect.unit (s := S1024x5376) ![0, o] S1024x512.size h) (ix2 k n) = x4 (ix2 k ⟨o + n, hn⟩) :=
  (ld_part x4 _ k n (by omega) hn).trans (by simp only [zero_add])

theorem first_gproj (r : Fin 256) (n : Fin 512) :
    k0_pay73 (k0_pay205 x0 x1 x2 x3 x4 x5 x6 x7 x8 x9 x10 x11 x12 x13 x14) (View.ld x4 r0_16) (ix2 r n)
      = colsum x0 x1 x2 x3 x4 (lo r) ⟨1280 + n, by omega⟩ := by
  have e4 : ∀ k : Fin 1024, View.ld x4 r0_16 (ix2 k n) = x4 (ix2 k ⟨1280 + n, by omega⟩) :=
    fun k => ld_cols x4 _ k n (by omega)
  rw [gproj_apply]
  simp only [first_apply, e4]
  rfl

theorem second_gproj (r : Fin 256) (n : Fin 512) :
    k0_pay172 (k0_pay233 x0 x1 x2 x3 x4 x5 x6 x7 x8 x9 x10 x11 x12 x13 x14) (View.ld x4 r0_16) (ix2 r n)
      = colsum x0 x1 x2 x3 x4 (hi r) ⟨1280 + n, by omega⟩ := by
  have e4 : ∀ k : Fin 1024, View.ld x4 r0_16 (ix2 k n) = x4 (ix2 k ⟨1280 + n, by omega⟩) :=
    fun k => ld_cols x4 _ k n (by omega)
  rw [gproj_apply']
  simp only [second_apply, e4]
  rfl

theorem first_mproj (r : Fin 256) (n : Fin 512) :
    k0_pay11 (k0_pay205 x0 x1 x2 x3 x4 x5 x6 x7 x8 x9 x10 x11 x12 x13 x14) (View.ld x4 r0_6) (ix2 r n)
      = colsum x0 x1 x2 x3 x4 (lo r) ⟨1792 + n, by omega⟩ := by
  have e4 : ∀ k : Fin 1024, View.ld x4 r0_6 (ix2 k n) = x4 (ix2 k ⟨1792 + n, by omega⟩) :=
    fun k => ld_cols x4 _ k n (by omega)
  rw [mproj_apply]
  simp only [first_apply, e4]
  rfl

theorem second_mproj (r : Fin 256) (n : Fin 512) :
    k0_pay242 x0 x1 x2 x3 x4 x5 x6 x7 x8 x9 x10 x11 x12 x13 x14 (ix2 r n)
      = colsum x0 x1 x2 x3 x4 (hi r) ⟨1792 + n, by omega⟩ := by
  have e4 : ∀ k : Fin 1024, View.ld x4 r0_6 (ix2 k n) = x4 (ix2 k ⟨1792 + n, by omega⟩) :=
    fun k => ld_cols x4 _ k n (by omega)
  unfold k0_pay242
  rw [mproj_apply']
  have e : ∀ k : Fin 1024, _ = hrow x0 x1 x2 x3 (hi r) k := second_apply x0 x1 x2 x3 x4 x5 x6 x7 x8 x9 x10 x11 x12 x13 x14 r
  unfold k0_pay233 at e
  simp only [e, e4]
  rfl

/-- A row of a grid point's tiles, compressed, normalised and times a column of the up-projection. -/
def upsum (r : Fin 512) (j : Fin 1024) : EReal :=
  up (fun k => colsum x0 x1 x2 x3 x4 r ⟨2048 + k, by omega⟩) (fun k => x8 (ix2 0 k)) (fun k => x10 (ix2 k j))

theorem first_up (r : Fin 256) (n : Fin 1024) :
    k0_pay218 x0 x1 x2 x3 x4 x5 x6 x7 x8 x9 x10 x11 x12 x13 x14 (ix2 r n) = upsum x0 x1 x2 x3 x4 x8 x10 (lo r) n := by
  have e8 : View.ld x8 r0_9 = x8 := ld_whole _ _ _ (by decide)
  have e10 : View.ld x10 r0_10 = x10 := ld_whole _ _ _ (by decide)
  unfold k0_pay218 k0_pay216 k0_pay217
  rw [up_apply, e8, e10]
  refine up_congr (fun k => ?_) (fun k => rfl) (fun k => rfl)
  exact (first_mproj x0 x1 x2 x3 x4 x5 x6 x7 x8 x9 x10 x11 x12 x13 x14 r _).trans
    (congrArg (colsum x0 x1 x2 x3 x4 _) (Fin.ext (by simp only; omega)))

theorem second_up (r : Fin 256) (n : Fin 1024) :
    k0_pay246 x0 x1 x2 x3 x4 x5 x6 x7 x8 x9 x10 x11 x12 x13 x14 (ix2 r n) = upsum x0 x1 x2 x3 x4 x8 x10 (hi r) n := by
  have e8 : View.ld x8 r0_9 = x8 := ld_whole _ _ _ (by decide)
  have e10 : View.ld x10 r0_10 = x10 := ld_whole _ _ _ (by decide)
  unfold k0_pay246
  rw [up_apply', e8, e10]
  refine up_congr (fun k => ?_) (fun k => rfl) (fun k => rfl)
  exact (second_mproj x0 x1 x2 x3 x4 x5 x6 x7 x8 x9 x10 x11 x12 x13 x14 r _).trans
    (congrArg (colsum x0 x1 x2 x3 x4 _) (Fin.ext (by simp only; omega)))

/-- A head's lane among the stored lanes. -/
def hl {w : ℕ} (o : ℕ) (l : Fin 128) (h : o + 128 ≤ w) : Fin w := ⟨o + l, by omega⟩

theorem ones_hl (a l : ℕ) : ones (128 * a + l) = ones l := by
  unfold ones
  rw [Nat.mul_add_mod]

/-- One head's values: a projection's lanes and the ones. -/
theorem head_gv3 (v : FVec Ideal S256x128 .f32) (y : FVec Ideal S256x512 .f32) (r : Fin 256) (l : Fin 128) :
    k0_pay76 v y (ix2 r l) = y (ix2 r ⟨256 + l, by omega⟩) + v (ix2 r l) := by
  pointwise [k0_pay76]

theorem head_gv2 (v : FVec Ideal S256x128 .f32) (y : FVec Ideal S256x512 .f32) (r : Fin 256) (l : Fin 128) :
    k0_pay80 v y (ix2 r l) = y (ix2 r ⟨384 + l, by omega⟩) + v (ix2 r l) := by
  pointwise [k0_pay80]

theorem head_gv1 (h : FVec Ideal S256x1024 .bf16) (v : FVec Ideal S256x128 .f32) (w : Vec Ideal S1024x512 .bf16) (r : Fin 256)
    (l : Fin 128) : k0_pay174 h v w (ix2 r l) = k0_pay172 h w (ix2 r ⟨256 + l, by omega⟩) + v (ix2 r l) := by
  unfold k0_pay174
  generalize k0_pay172 h w = y
  pointwise

theorem head_gv0 (v : FVec Ideal S256x128 .f32) (y : FVec Ideal S256x512 .f32) (r : Fin 256) (l : Fin 128) :
    k0_pay176 v y (ix2 r l) = y (ix2 r ⟨384 + l, by omega⟩) + v (ix2 r l) := by
  pointwise [k0_pay176]

theorem head_mv0 (v : FVec Ideal S256x128 .f32) (y : FVec Ideal S256x1024 .f32) (r : Fin 256) (l : Fin 128) :
    k0_pay157 v y (ix2 r l) = y (ix2 r ⟨896 + l, by omega⟩) + v (ix2 r l) := by
  pointwise [k0_pay157]

theorem head_mv1 (v : FVec Ideal S256x128 .f32) (y : FVec Ideal S256x1024 .f32) (r : Fin 256) (l : Fin 128) :
    k0_pay149 v y (ix2 r l) = y (ix2 r ⟨768 + l, by omega⟩) + v (ix2 r l) := by
  pointwise [k0_pay149]

theorem head_mv2 (v : FVec Ideal S256x128 .f32) (y : FVec Ideal S256x1024 .f32) (r : Fin 256) (l : Fin 128) :
    k0_pay141 v y (ix2 r l) = y (ix2 r ⟨640 + l, by omega⟩) + v (ix2 r l) := by
  pointwise [k0_pay141]

theorem head_mv3 (v : FVec Ideal S256x128 .f32) (y : FVec Ideal S256x1024 .f32) (r : Fin 256) (l : Fin 128) :
    k0_pay134 v y (ix2 r l) = y (ix2 r ⟨512 + l, by omega⟩) + v (ix2 r l) := by
  pointwise [k0_pay134]

theorem head_mv4 (v : FVec Ideal S256x128 .f32) (y : FVec Ideal S256x1024 .f32) (r : Fin 256) (l : Fin 128) :
    k0_pay49 v y (ix2 r l) = y (ix2 r ⟨896 + l, by omega⟩) + v (ix2 r l) := by
  pointwise [k0_pay49]

theorem head_mv5 (v : FVec Ideal S256x128 .f32) (y : FVec Ideal S256x1024 .f32) (r : Fin 256) (l : Fin 128) :
    k0_pay39 v y (ix2 r l) = y (ix2 r ⟨768 + l, by omega⟩) + v (ix2 r l) := by
  pointwise [k0_pay39]

theorem head_mv6 (v : FVec Ideal S256x128 .f32) (y : FVec Ideal S256x1024 .f32) (r : Fin 256) (l : Fin 128) :
    k0_pay32 v (k0_pay31 y) (ix2 r l) = y (ix2 r ⟨640 + l, by omega⟩) + v (ix2 r l) := by
  pointwise [k0_pay32, k0_pay31]

theorem head_mv7 (v : FVec Ideal S256x128 .f32) (y : FVec Ideal S256x1024 .f32) (r : Fin 256) (l : Fin 128) :
    k0_pay24 v y (ix2 r l) = y (ix2 r ⟨512 + l, by omega⟩) + v (ix2 r l) := by
  pointwise [k0_pay24]

/-- The grouped-query values a grid point writes. -/
theorem out_gval (r : Fin 512) (n : Fin 256) :
    out0_20 x0 x1 x2 x3 x4 x5 x6 x7 x8 x9 x10 x11 x12 x13 x14 (ix2 r n)
      = colsum x0 x1 x2 x3 x4 r ⟨1536 + n, by omega⟩ + ones n := by
  unfold out0_20
  canon_tiles x h
  all_goals obtain ⟨r', l, rfl⟩ : ∃ (r : Fin 256) (l : Fin 128), x = ix2 r l := ⟨x 0, x 1, by blk_ext []⟩
  · obtain rfl : r = hi r' := Fin.ext h0
    obtain rfl : n = hl 128 l (by decide) := Fin.ext h1
    exact (head_gv0 _ _ _ _).trans (congrArg₂ (· + ·) ((second_gproj x0 x1 x2 x3 x4 x5 x6 x7 x8 x9 x10 x11 x12 x13 x14 _ _).trans
      (congrArg (colsum x0 x1 x2 x3 x4 _) (Fin.ext (by simp only [hl]; omega)))) ((ones_apply' _ _).trans (ones_hl 1 l).symm))
  · obtain rfl : r = hi r' := Fin.ext h0
    obtain rfl : n = hl 0 l (by decide) := Fin.ext (by simp only [hl, zero_add]; exact h1)
    exact (head_gv1 _ _ _ _ _).trans (congrArg₂ (· + ·) ((second_gproj x0 x1 x2 x3 x4 x5 x6 x7 x8 x9 x10 x11 x12 x13 x14 _ _).trans
      (congrArg (colsum x0 x1 x2 x3 x4 _) (Fin.ext (by simp only [hl]; omega)))) ((ones_apply' _ _).trans (ones_hl 0 l).symm))
  · obtain rfl : r = lo r' := Fin.ext h0
    obtain rfl : n = hl 128 l (by decide) := Fin.ext h1
    exact (head_gv2 _ _ _ _).trans (congrArg₂ (· + ·) ((first_gproj x0 x1 x2 x3 x4 x5 x6 x7 x8 x9 x10 x11 x12 x13 x14 _ _).trans
      (congrArg (colsum x0 x1 x2 x3 x4 _) (Fin.ext (by simp only [hl]; omega)))) ((ones_apply _ _).trans (ones_hl 1 l).symm))
  · obtain rfl : r = lo r' := Fin.ext h0
    obtain rfl : n = hl 0 l (by decide) := Fin.ext (by simp only [hl, zero_add]; exact h1)
    exact (head_gv3 _ _ _ _).trans (congrArg₂ (· + ·) ((first_gproj x0 x1 x2 x3 x4 x5 x6 x7 x8 x9 x10 x11 x12 x13 x14 _ _).trans
      (congrArg (colsum x0 x1 x2 x3 x4 _) (Fin.ext (by simp only [hl]; omega)))) ((ones_apply _ _).trans (ones_hl 0 l).symm))

/-- The latent attention's values a grid point writes. -/
theorem out_mval (r : Fin 512) (n : Fin 512) :
    out0_23 x0 x1 x2 x3 x4 x5 x6 x7 x8 x9 x10 x11 x12 x13 x14 (ix2 r n)
      = upsum x0 x1 x2 x3 x4 x8 x10 r ⟨512 + n, by omega⟩ + ones n := by
  unfold out0_23
  canon_tiles x h
  all_goals obtain ⟨r', l, rfl⟩ : ∃ (r : Fin 256) (l : Fin 128), x = ix2 r l := ⟨x 0, x 1, by blk_ext []⟩
  · obtain rfl : r = hi r' := Fin.ext h0
    obtain rfl : n = hl 384 l (by decide) := Fin.ext h1
    exact (head_mv0 _ _ _ _).trans (congrArg₂ (· + ·) ((second_up x0 x1 x2 x3 x4 x5 x6 x7 x8 x9 x10 x11 x12 x13 x14 _ _).trans
      (congrArg (upsum x0 x1 x2 x3 x4 x8 x10 _) (Fin.ext (by simp only [hl]; omega)))) ((ones_apply' _ _).trans (ones_hl 3 l).symm))
  · obtain rfl : r = hi r' := Fin.ext h0
    obtain rfl : n = hl 256 l (by decide) := Fin.ext h1
    exact (head_mv1 _ _ _ _).trans (congrArg₂ (· + ·) ((second_up x0 x1 x2 x3 x4 x5 x6 x7 x8 x9 x10 x11 x12 x13 x14 _ _).trans
      (congrArg (upsum x0 x1 x2 x3 x4 x8 x10 _) (Fin.ext (by simp only [hl]; omega)))) ((ones_apply' _ _).trans (ones_hl 2 l).symm))
  · obtain rfl : r = hi r' := Fin.ext h0
    obtain rfl : n = hl 128 l (by decide) := Fin.ext h1
    exact (head_mv2 _ _ _ _).trans (congrArg₂ (· + ·) ((second_up x0 x1 x2 x3 x4 x5 x6 x7 x8 x9 x10 x11 x12 x13 x14 _ _).trans
      (congrArg (upsum x0 x1 x2 x3 x4 x8 x10 _) (Fin.ext (by simp only [hl]; omega)))) ((ones_apply' _ _).trans (ones_hl 1 l).symm))
  · obtain rfl : r = hi r' := Fin.ext h0
    obtain rfl : n = hl 0 l (by decide) := Fin.ext (by simp only [hl, zero_add]; exact h1)
    exact (head_mv3 _ _ _ _).trans (congrArg₂ (· + ·) ((second_up x0 x1 x2 x3 x4 x5 x6 x7 x8 x9 x10 x11 x12 x13 x14 _ _).trans
      (congrArg (upsum x0 x1 x2 x3 x4 x8 x10 _) (Fin.ext (by simp only [hl]; omega)))) ((ones_apply' _ _).trans (ones_hl 0 l).symm))
  · obtain rfl : r = lo r' := Fin.ext h0
    obtain rfl : n = hl 384 l (by decide) := Fin.ext h1
    exact (head_mv4 _ _ _ _).trans (congrArg₂ (· + ·) ((first_up x0 x1 x2 x3 x4 x5 x6 x7 x8 x9 x10 x11 x12 x13 x14 _ _).trans
      (congrArg (upsum x0 x1 x2 x3 x4 x8 x10 _) (Fin.ext (by simp only [hl]; omega)))) ((ones_apply _ _).trans (ones_hl 3 l).symm))
  · obtain rfl : r = lo r' := Fin.ext h0
    obtain rfl : n = hl 256 l (by decide) := Fin.ext h1
    exact (head_mv5 _ _ _ _).trans (congrArg₂ (· + ·) ((first_up x0 x1 x2 x3 x4 x5 x6 x7 x8 x9 x10 x11 x12 x13 x14 _ _).trans
      (congrArg (upsum x0 x1 x2 x3 x4 x8 x10 _) (Fin.ext (by simp only [hl]; omega)))) ((ones_apply _ _).trans (ones_hl 2 l).symm))
  · obtain rfl : r = lo r' := Fin.ext h0
    obtain rfl : n = hl 128 l (by decide) := Fin.ext h1
    exact (head_mv6 _ _ _ _).trans (congrArg₂ (· + ·) ((first_up x0 x1 x2 x3 x4 x5 x6 x7 x8 x9 x10 x11 x12 x13 x14 _ _).trans
      (congrArg (upsum x0 x1 x2 x3 x4 x8 x10 _) (Fin.ext (by simp only [hl]; omega)))) ((ones_apply _ _).trans (ones_hl 1 l).symm))
  · obtain rfl : r = lo r' := Fin.ext h0
    obtain rfl : n = hl 0 l (by decide) := Fin.ext (by simp only [hl, zero_add]; exact h1)
    exact (head_mv7 _ _ _ _).trans (congrArg₂ (· + ·) ((first_up x0 x1 x2 x3 x4 x5 x6 x7 x8 x9 x10 x11 x12 x13 x14 _ _).trans
      (congrArg (upsum x0 x1 x2 x3 x4 x8 x10 _) (Fin.ext (by simp only [hl]; omega)))) ((ones_apply _ _).trans (ones_hl 0 l).symm))

end Cert.MixerIdeal.Hand
end
-- ==== Proof.MixerHeadFinal.lean ====
module

public import proofs.«01_k».proof.Proof.MixerFinal
public import proofs.«01_k».proof.Proof.MixerHeadBlock

@[expose] public section

/-! From a grid point's blocks to the arrays of values of the grouped-query and of the latent attention. -/

set_option maxRecDepth 16384
noncomputable section
namespace Cert.MixerIdeal.Hand
open Cert.MixerIdeal Cert.MixerIdeal.Gen Idealize.ShloMosaic Idealize.ShloMosaic.TcCoe Idealize.SL.Sem
open Idealize.ShloMosaic.Pipeline (Dat)
open Cert.MergeRow Cert.MixerHead
open scoped BigOperators
variable (m : (ℓ : Loc nD τ sig) → Buf (Elt Ideal) ℓ)

/-- Where the blocks of the further windows lie at a grid point. -/
theorem idx_head : ∀ t : Fin cfg0.N, win0_8.index t = ![0, 0] ∧ win0_10.index t = ![0, 0]
    ∧ win0_20.index t = ![t.val, 0] ∧ win0_23.index t = ![t.val, 0] :=
  (by decide +kernel : ∀ t : Fin grid0.N, _)

theorem read_8 (t : Fin cfg0.N) (A : FVec Ideal S1x128 .f32) (n : Fin 128) :
    ((cfg0.win 8).blk t).view.read (Elt Ideal) A (ix2 0 n) = A (ix2 0 n) := by
  blk_simp
  blk_ext [idx_head t]

theorem read_10 (t : Fin cfg0.N) (A : FVec Ideal S128x1024 .bf16) (k : Fin 128) (n : Fin 1024) :
    ((cfg0.win 10).blk t).view.read (Elt Ideal) A (ix2 k n) = A (ix2 k n) := by
  blk_simp
  blk_ext [idx_head t]

/-- The column of a grouped-query value lane. -/
def gvcol (n : Fin 256) : Fin 5376 := ⟨1536 + n, by omega⟩

/-- The column of a compressed lane. -/
def ckcol (k : Fin 128) : Fin 5376 := ⟨2048 + k, by omega⟩

/-- The up-projection's column of a latent value lane. -/
def mvcol (n : Fin 512) : Fin 1024 := ⟨512 + n, by omega⟩

/-- The ones of a stored lane. -/
def lane {w : ℕ} (n : Fin w) : EReal := ones n

/-- A row, compressed, normalised and times a column of the up-projection, over the operands. -/
def upcell (X : FVec Ideal S34816x1024 .f32) (M : FVec Ideal S16x6x1024 .f32) (G : FVec Ideal S1x1024 .f32)
    (W : FVec Ideal S1024x5376 .bf16) (g : FVec Ideal S1x128 .f32) (u : FVec Ideal S128x1024 .bf16) (R : Fin 34816) (j : Fin 1024) :
    EReal :=
  up (fun k => cell X M G W R (ckcol k)) (fun k => g (ix2 0 k)) (fun k => u (ix2 k j))

theorem upsum_eq (c : Dev nD) (t : Fin cfg0.N) (r : Fin 512) (j : Fin 1024) :
    upsum (iblk m c 0 t : Vec Ideal S512x1024 .f32) (iblk m c 1 t : Vec Ideal S1x6x1024 .f32) (iblk m c 2 t : Vec Ideal S1x6x1024 .f32)
        (iblk m c 3 t : Vec Ideal S1x1024 .f32) (iblk m c 4 t : Vec Ideal S1024x5376 .bf16) (iblk m c 8 t : Vec Ideal S1x128 .f32)
        (iblk m c 10 t : Vec Ideal S128x1024 .bf16) r j
      = upcell (V m c main_v147) (V m c main_v4) (V m c main_v42) (V m c main_v23) (V m c main_v52) (V m c main_v40) (row t r) j :=
  up_congr (fun k => colsum_eq m c t r _) (fun k => read_8 t (V m c main_v52) k) (fun k => read_10 t (V m c main_v40) k j)

/-- The grouped-query values. -/
theorem final_gval (c : Dev nD) : (dats m 0 c).arrAt 20 (cfgs 0).N
    = fun i : S34816x256.Idx => cell (V m c main_v147) (V m c main_v4) (V m c main_v42) (V m c main_v23) (i 0)
        (gvcol (i 1)) + lane (i 1) := by
  refine (dats m 0 c).arrAt_eq_of_covers 20 _ (by decide +kernel) fun t _ y => ?_
  blk_simp
  rw [after0_20]
  obtain ⟨r, n, rfl⟩ : ∃ (r : Fin 512) (n : Fin 256), y = ix2 r n := ⟨y 0, y 1, by blk_ext []⟩
  refine (out_gval _ _ _ _ _ _ _ _ _ _ _ _ _ _ _ r n).trans ?_
  have e : (win0_20.blk t).view.emb (ix2 r n) = ix2 (row t r) n := by
    unfold row
    blk_ext [idx_head t]
  rw [e, colsum_eq]
  rfl

/-- The latent attention's values. -/
theorem final_mval (c : Dev nD) : (dats m 0 c).arrAt 23 (cfgs 0).N
    = fun i : S34816x512.Idx => upcell (V m c main_v147) (V m c main_v4) (V m c main_v42) (V m c main_v23) (V m c main_v52)
        (V m c main_v40) (i 0) (mvcol (i 1)) + lane (i 1) := by
  refine (dats m 0 c).arrAt_eq_of_covers 23 _ (by decide +kernel) fun t _ y => ?_
  blk_simp
  rw [after0_23]
  obtain ⟨r, n, rfl⟩ : ∃ (r : Fin 512) (n : Fin 512), y = ix2 r n := ⟨y 0, y 1, by blk_ext []⟩
  refine (out_mval _ _ _ _ _ _ _ _ _ _ _ _ _ _ _ r n).trans ?_
  have e : (win0_23.blk t).view.emb (ix2 r n) = ix2 (row t r) n := by
    unfold row
    blk_ext [idx_head t]
  rw [e, upsum_eq]
  rfl

end Cert.MixerIdeal.Hand
end
-- ==== Proof.MixerHeadOperands.lean ====
module

public import proofs.«01_k».proof.Proof.Gen.MixerIdeal.Value
public import proofs.«01_k».proof.Proof.MergeRow

@[expose] public section

/-! The operands the host code prepares for the values of the grouped-query and of the latent attention. -/

set_option maxRecDepth 16384
noncomputable section
namespace Cert.MixerIdeal.Hand
open Cert.MixerIdeal Cert.MixerIdeal.Gen Idealize.ShloMosaic Idealize.ShloMosaic.TcCoe Idealize.SL.Sem
open scoped BigOperators
variable (m : (ℓ : Loc nD τ sig) → Buf (Elt Ideal) ℓ)

/-- The gain of the compressed keys and values. -/
theorem V_kvgain (c : Dev nD) (k : Fin 128) :
    (V m c main_v52 : FVec Ideal S1x128 .f32) (ix2 0 k) = (m ((c : Thread nD τ).loc main_arg9) : FVec Ideal S128 .f32) (ix1 k) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  pointwise

/-- The grouped-query values' columns of the joined weights. -/
theorem cat_5 (y0 y1 y2 : FVec Ideal S1024x256 .f32) (y3 : FVec Ideal S1024x512 .f32) (y4 y5 y6 : FVec Ideal S1024x256 .f32)
    (y7 y8 : FVec Ideal S1024x128 .f32) (y9 : FVec Ideal S1024x3072 .f32) (h) (k : Fin 1024) (n : Fin 256) :
    (truncf .bf16 (concatenate S1024x5376 1 [⟨S1024x256, y0⟩, ⟨S1024x256, y1⟩, ⟨S1024x256, y2⟩, ⟨S1024x512, y3⟩, ⟨S1024x256, y4⟩,
      ⟨S1024x256, y5⟩, ⟨S1024x256, y6⟩, ⟨S1024x128, y7⟩, ⟨S1024x128, y8⟩, ⟨S1024x3072, y9⟩] h) bitsLt_bf16_f32 : FVec Ideal S1024x5376 .bf16) (ix2 k ⟨1536 + n, by omega⟩) = y5 (ix2 k n) := by
  pointwise
  rw [dif_neg (show ¬1536 + (n : ℕ) < 256 by omega),
    dif_neg (show ¬1536 + (n : ℕ) - 256 < 256 by omega),
    dif_neg (show ¬1536 + (n : ℕ) - 256 - 256 < 256 by omega),
    dif_neg (show ¬1536 + (n : ℕ) - 256 - 256 - 256 < 512 by omega),
    dif_neg (show ¬1536 + (n : ℕ) - 256 - 256 - 256 - 512 < 256 by omega),
    dif_pos (show 1536 + (n : ℕ) - 256 - 256 - 256 - 512 - 256 < 256 by omega)]
  refine congrArg (fun s => y5 (ix2 k s)) (Fin.ext ?_)
  change 1536 + (n : ℕ) - 256 - 256 - 256 - 512 - 256 = n
  omega

/-- The compressed keys and values' columns of the joined weights. -/
theorem cat_7 (y0 y1 y2 : FVec Ideal S1024x256 .f32) (y3 : FVec Ideal S1024x512 .f32) (y4 y5 y6 : FVec Ideal S1024x256 .f32)
    (y7 y8 : FVec Ideal S1024x128 .f32) (y9 : FVec Ideal S1024x3072 .f32) (h) (k : Fin 1024) (n : Fin 128) :
    (truncf .bf16 (concatenate S1024x5376 1 [⟨S1024x256, y0⟩, ⟨S1024x256, y1⟩, ⟨S1024x256, y2⟩, ⟨S1024x512, y3⟩, ⟨S1024x256, y4⟩,
      ⟨S1024x256, y5⟩, ⟨S1024x256, y6⟩, ⟨S1024x128, y7⟩, ⟨S1024x128, y8⟩, ⟨S1024x3072, y9⟩] h) bitsLt_bf16_f32 : FVec Ideal S1024x5376 .bf16) (ix2 k ⟨2048 + n, by omega⟩) = y7 (ix2 k n) := by
  pointwise
  rw [dif_neg (show ¬2048 + (n : ℕ) < 256 by omega),
    dif_neg (show ¬2048 + (n : ℕ) - 256 < 256 by omega),
    dif_neg (show ¬2048 + (n : ℕ) - 256 - 256 < 256 by omega),
    dif_neg (show ¬2048 + (n : ℕ) - 256 - 256 - 256 < 512 by omega),
    dif_neg (show ¬2048 + (n : ℕ) - 256 - 256 - 256 - 512 < 256 by omega),
    dif_neg (show ¬2048 + (n : ℕ) - 256 - 256 - 256 - 512 - 256 < 256 by omega),
    dif_neg (show ¬2048 + (n : ℕ) - 256 - 256 - 256 - 512 - 256 - 256 < 256 by omega),
    dif_pos (show 2048 + (n : ℕ) - 256 - 256 - 256 - 512 - 256 - 256 - 256 < 128 by omega)]
  refine congrArg (fun s => y7 (ix2 k s)) (Fin.ext ?_)
  change 2048 + (n : ℕ) - 256 - 256 - 256 - 512 - 256 - 256 - 256 = n
  omega

/-- Two heads of 64 lanes, each followed by 64 lanes of nothing. -/
theorem pad_2 (x : FVec Ideal S1024x2x64 .f32) (k : Fin 1024) (a : Fin 2) (l : Fin 128) :
    pad S1024x2x128 ![0, 0, 0] ![0, 0, 64] ![0, 0, 0] x (sitofp .f32 (constantI S_ 32 0#32) : FVec Ideal S_ .f32)
      pads_S1024x2x64_S1024x2x128_000_000_0640 h_S_ (ix3 k a l) = (if h : l.val < 64 then x (ix3 k a ⟨l, h⟩) else 0 : EReal) := by
  pointwise
  refine dite_congr rfl (fun _ => rfl) (fun _ => ?_)
  simp [FloatOps.sitofp]

/-- Four. -/
theorem pad_4 (x : FVec Ideal S128x4x64 .f32) (k : Fin 128) (a : Fin 4) (l : Fin 128) :
    pad S128x4x128 ![0, 0, 0] ![0, 0, 64] ![0, 0, 0] x (sitofp .f32 (constantI S_ 32 0#32) : FVec Ideal S_ .f32)
      pads_S128x4x64_S128x4x128_000_000_0640 h_S_ (ix3 k a l) = (if h : l.val < 64 then x (ix3 k a ⟨l, h⟩) else 0 : EReal) := by
  pointwise
  refine dite_congr rfl (fun _ => rfl) (fun _ => ?_)
  simp [FloatOps.sitofp]

/-- The columns of the grouped-query values. -/
theorem V_wgv (c : Dev nD) (k : Fin 1024) (n : Fin 256) :
    (V m c main_v23 : FVec Ideal S1024x5376 .bf16) (ix2 k ⟨1536 + n, by omega⟩)
      = (if h : n.val % 128 < 64 then (m ((c : Thread nD τ).loc main_arg5) : FVec Ideal S1024x5024 .f32)
          (ix2 k ⟨640 + (n.val / 128 * 64 + n.val % 128), by omega⟩) else 0 : EReal) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  refine (cat_5 _ _ _ _ _ _ _ _ _ _ _ k n).trans ?_
  pointwise
  after_results_loop
  pointwise
  refine (pad_2 _ k ⟨n / 128, by omega⟩ ⟨n % 128, by omega⟩).trans ?_
  rfl

/-- The columns of the compressed keys and values. -/
theorem V_wckv (c : Dev nD) (k : Fin 1024) (n : Fin 128) :
    (V m c main_v23 : FVec Ideal S1024x5376 .bf16) (ix2 k ⟨2048 + n, by omega⟩)
      = (m ((c : Thread nD τ).loc main_arg5) : FVec Ideal S1024x5024 .f32) (ix2 k ⟨768 + n, by omega⟩) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  refine (cat_7 _ _ _ _ _ _ _ _ _ _ _ k n).trans ?_
  pointwise
  after_results_loop
  pointwise

/-- The up-projection's value columns. -/
theorem V_wukv (c : Dev nD) (k : Fin 128) (n : Fin 512) :
    (V m c main_v40 : FVec Ideal S128x1024 .bf16) (ix2 k ⟨512 + n, by omega⟩)
      = (if h : n.val % 128 < 64 then (m ((c : Thread nD τ).loc main_arg11) : FVec Ideal S128x512 .f32)
          (ix2 k ⟨n.val / 128 * 128 + (64 + n.val % 128), by omega⟩) else 0 : EReal) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  pointwise
  after_results_loop
  pointwise
  refine (pad_4 _ k ⟨n / 128, by omega⟩ ⟨n % 128, by omega⟩).trans ?_
  refine dite_congr rfl (fun h => ?_) (fun _ => rfl)
  change shapeCast S128x4x64 (extractStridedSlice S128x4x64 ![0, 0, 64] _ (by exact slices_S128x4x128_S128x4x64_0_0_64)) _ _ = _
  pointwise

end Cert.MixerIdeal.Hand
end
-- ==== Proof.MixerHeadRef.lean ====
module

public import proofs.«01_k».proof.Proof.MixerRef
public import proofs.«01_k».proof.Proof.MixerHeadRow

@[expose] public section

/-! The input projection reference's values of the grouped-query and of the latent attention at an index. -/

set_option maxRecDepth 16384
noncomputable section
namespace Cert.MixerReferenceIdeal.Hand
open Cert.MixerReferenceIdeal Cert.MixerReferenceIdeal.Gen Cert.MixerReferenceIdeal.Read Idealize.ShloMosaic Idealize.ShloMosaic.TcCoe Idealize.SL.Sem
open Cert.MergeRow Cert.MixerHead
open scoped BigOperators

variable (x0 : FVec Ideal S8x4096x1024 .f32) (x1 : FVec Ideal S8x256x1024 .f32) (x2 : FVec Ideal S8x6144 .f32)
  (x3 : FVec Ideal S6144 .f32) (x4 : FVec Ideal S1024 .f32) (x5 : FVec Ideal S1024x5024 .f32) (x9 : FVec Ideal S128 .f32)
  (x11 : FVec Ideal S128x512 .f32)

/-- A grouped-query head's lane: its value, then ones. -/
def gval (v : Fin 5024 → EReal) (n : Fin 256) : EReal :=
  if h : n.val % 128 < 64 then v ⟨640 + (n.val / 128 * 64 + n.val % 128), by omega⟩ else 1

/-- A latent head's lane: its value, then ones. -/
def mval (v : Fin 5024 → EReal) (n : Fin 512) : EReal :=
  if h : n.val % 128 < 64 then up (fun k => v ⟨768 + k, by omega⟩) (fun k => x9 (ix1 k))
    (fun k => x11 (ix2 k ⟨n.val / 128 * 128 + (64 + n.val % 128), by omega⟩)) else 1

theorem lat_gval (b : Fin 8) (t : Fin 4096) (n : Fin 256) :
    val_main_v111 (F := Ideal) x0 x2 x4 x5 (ix3 b t n) = gval (fun j => val_main_v32 (F := Ideal) x0 x2 x4 x5 (ix3 b t j)) n := by
  have e : idx_main_v111 (ix3 b t n) = ix4 b t ⟨n / 128, by omega⟩ ⟨n % 128, by omega⟩ := by
    funext a
    match a with
    | ⟨0, _⟩ => exact Fin.ext (by change (((b : ℕ) * 4096 + t) * 256 + n) / 1048576 = b; omega)
    | ⟨1, _⟩ => exact Fin.ext (by change (((b : ℕ) * 4096 + t) * 256 + n) / 256 % 4096 = t; omega)
    | ⟨2, _⟩ => exact Fin.ext (by change (((b : ℕ) * 4096 + t) * 256 + n) / 128 % 2 = n / 128; omega)
    | ⟨3, _⟩ => exact Fin.ext (by change (((b : ℕ) * 4096 + t) * 256 + n) % 128 = n % 128; omega)
  rw [val_main_v111_apply, e]
  unfold gval
  pointwise [val_main_v110, val_main_v92, val_main_v91, val_main_v109, val_main_cst_16]

theorem lat_up (b : Fin 8) (t : Fin 4096) (n : Fin 512) :
    val_main_v107 (F := Ideal) x0 x2 x4 x5 x9 x11 (ix3 b t n)
      = up (fun k => val_main_v32 (F := Ideal) x0 x2 x4 x5 (ix3 b t ⟨768 + k, by omega⟩)) (fun k => x9 (ix1 k)) (fun k => x11 (ix2 k n)) := by
  unfold up
  rw [← div_128]
  pointwise [val_main_v107, val_main_v106, val_main_v105, val_main_v104, val_main_v103, val_main_v102, val_main_v101, val_main_v100,
    val_main_v99, val_main_v98, val_main_v97, val_main_v96, val_main_v95, val_main_v94, val_main_v93, val_main_cst_13, val_main_cst_14,
    val_main_cst_15]

theorem ctx_up (b : Fin 8) (t : Fin 256) (n : Fin 512) :
    val_main_v132 (F := Ideal) x1 x3 x4 x5 x9 x11 (ix3 b t n)
      = up (fun k => val_main_v66 (F := Ideal) x1 x3 x4 x5 (ix3 b t ⟨768 + k, by omega⟩)) (fun k => x9 (ix1 k)) (fun k => x11 (ix2 k n)) := by
  unfold up
  rw [← div_128]
  pointwise [val_main_v132, val_main_v131, val_main_v130, val_main_v129, val_main_v128, val_main_v127, val_main_v126, val_main_v125,
    val_main_v124, val_main_v123, val_main_v122, val_main_v121, val_main_v120, val_main_v119, val_main_v118, val_main_cst_18, val_main_cst_19,
    val_main_cst_20]

theorem lat_mval (b : Fin 8) (t : Fin 4096) (n : Fin 512) :
    val_main_v115 (F := Ideal) x0 x2 x4 x5 x9 x11 (ix3 b t n)
      = mval x9 x11 (fun j => val_main_v32 (F := Ideal) x0 x2 x4 x5 (ix3 b t j)) n := by
  have e : idx_main_v115 (ix3 b t n) = ix4 b t ⟨n / 128, by omega⟩ ⟨n % 128, by omega⟩ := by
    funext a
    match a with
    | ⟨0, _⟩ => exact Fin.ext (by change (((b : ℕ) * 4096 + t) * 512 + n) / 2097152 = b; omega)
    | ⟨1, _⟩ => exact Fin.ext (by change (((b : ℕ) * 4096 + t) * 512 + n) / 512 % 4096 = t; omega)
    | ⟨2, _⟩ => exact Fin.ext (by change (((b : ℕ) * 4096 + t) * 512 + n) / 128 % 4 = n / 128; omega)
    | ⟨3, _⟩ => exact Fin.ext (by change (((b : ℕ) * 4096 + t) * 512 + n) % 128 = n % 128; omega)
  rw [val_main_v115_apply, e]
  unfold mval
  simp only [← lat_up]
  pointwise [val_main_v114, val_main_v112, val_main_v108, val_main_v113, val_main_cst_17]

theorem ctx_gval (b : Fin 8) (t : Fin 256) (n : Fin 256) :
    val_main_v136 (F := Ideal) x1 x3 x4 x5 (ix3 b t n) = gval (fun j => val_main_v66 (F := Ideal) x1 x3 x4 x5 (ix3 b t j)) n := by
  have e : idx_main_v136 (ix3 b t n) = ix4 b t ⟨n / 128, by omega⟩ ⟨n % 128, by omega⟩ := by
    funext a
    match a with
    | ⟨0, _⟩ => exact Fin.ext (by change (((b : ℕ) * 256 + t) * 256 + n) / 65536 = b; omega)
    | ⟨1, _⟩ => exact Fin.ext (by change (((b : ℕ) * 256 + t) * 256 + n) / 256 % 256 = t; omega)
    | ⟨2, _⟩ => exact Fin.ext (by change (((b : ℕ) * 256 + t) * 256 + n) / 128 % 2 = n / 128; omega)
    | ⟨3, _⟩ => exact Fin.ext (by change (((b : ℕ) * 256 + t) * 256 + n) % 128 = n % 128; omega)
  rw [val_main_v136_apply, e]
  unfold gval
  pointwise [val_main_v135, val_main_v117, val_main_v116, val_main_v134, val_main_cst_21]

theorem ctx_mval (b : Fin 8) (t : Fin 256) (n : Fin 512) :
    val_main_v140 (F := Ideal) x1 x3 x4 x5 x9 x11 (ix3 b t n)
      = mval x9 x11 (fun j => val_main_v66 (F := Ideal) x1 x3 x4 x5 (ix3 b t j)) n := by
  have e : idx_main_v140 (ix3 b t n) = ix4 b t ⟨n / 128, by omega⟩ ⟨n % 128, by omega⟩ := by
    funext a
    match a with
    | ⟨0, _⟩ => exact Fin.ext (by change (((b : ℕ) * 256 + t) * 512 + n) / 131072 = b; omega)
    | ⟨1, _⟩ => exact Fin.ext (by change (((b : ℕ) * 256 + t) * 512 + n) / 512 % 256 = t; omega)
    | ⟨2, _⟩ => exact Fin.ext (by change (((b : ℕ) * 256 + t) * 512 + n) / 128 % 4 = n / 128; omega)
    | ⟨3, _⟩ => exact Fin.ext (by change (((b : ℕ) * 256 + t) * 512 + n) % 128 = n % 128; omega)
  rw [val_main_v140_apply, e]
  unfold mval
  simp only [← ctx_up]
  pointwise [val_main_v139, val_main_v137, val_main_v133, val_main_v138, val_main_cst_22]

theorem col_lat (b : Fin 8) (t : Fin 4352) (h : t.val < 4096) : lat x0 x2 x4 x5 b ⟨t, h⟩ = col x0 x1 x2 x3 x4 x5 b t :=
  funext fun j => by
    unfold col
    rw [dif_pos h]

theorem col_ctx (b : Fin 8) (t : Fin 4352) (h : ¬t.val < 4096) :
    ctx x1 x3 x4 x5 b ⟨t - 4096, by omega⟩ = col x0 x1 x2 x3 x4 x5 b t :=
  funext fun j => by
    unfold col
    rw [dif_neg h]

/-- The grouped-query values. -/
theorem gval_apply (b : Fin 8) (t : Fin 4352) (n : Fin 256) :
    val_main_v141 (F := Ideal) x0 x1 x2 x3 x4 x5 (ix3 b t n) = gval (col x0 x1 x2 x3 x4 x5 b t) n := by
  pointwise [val_main_v141]
  simp only [lat_gval, ctx_gval, lat_apply, ctx_apply]
  split
  · next h => rw [← col_lat x0 x1 x2 x3 x4 x5 b t h]
  · next h => rw [← col_ctx x0 x1 x2 x3 x4 x5 b t h]

/-- The latent attention's values. -/
theorem mval_apply (b : Fin 8) (t : Fin 4352) (n : Fin 512) :
    val_main_v144 (F := Ideal) x0 x1 x2 x3 x4 x5 x9 x11 (ix3 b t n) = mval x9 x11 (col x0 x1 x2 x3 x4 x5 b t) n := by
  pointwise [val_main_v144]
  simp only [lat_mval, ctx_mval, lat_apply, ctx_apply]
  split
  · next h => rw [← col_lat x0 x1 x2 x3 x4 x5 b t h]
  · next h => rw [← col_ctx x0 x1 x2 x3 x4 x5 b t h]

/-- The grouped-query value result, over the flattened tokens. -/
theorem gval_row (b : Fin 8) (t : Fin 4352) (n : Fin 256) :
    val_main_v143 (F := Ideal) x0 x1 x2 x3 x4 x5 (ix2 ⟨4352 * b + t, by omega⟩ n) = gval (col x0 x1 x2 x3 x4 x5 b t) n := by
  have e : idx_main_v142 (ix2 ⟨4352 * b + t, by omega⟩ n) = ix3 b t n := by
    funext a
    match a with
    | ⟨0, _⟩ => exact Fin.ext (by change ((4352 * (b : ℕ) + t) * 256 + n) / 1114112 = b; omega)
    | ⟨1, _⟩ => exact Fin.ext (by change ((4352 * (b : ℕ) + t) * 256 + n) / 256 % 4352 = t; omega)
    | ⟨2, _⟩ => exact Fin.ext (by change ((4352 * (b : ℕ) + t) * 256 + n) % 256 = n; omega)
  change val_main_v142 (F := Ideal) x0 x1 x2 x3 x4 x5 _ = _
  rw [val_main_v142_apply, e, gval_apply]

/-- The latent value result, over the flattened tokens. -/
theorem mval_row (b : Fin 8) (t : Fin 4352) (n : Fin 512) :
    val_main_v146 (F := Ideal) x0 x1 x2 x3 x4 x5 x9 x11 (ix2 ⟨4352 * b + t, by omega⟩ n)
      = mval x9 x11 (col x0 x1 x2 x3 x4 x5 b t) n := by
  have e : idx_main_v145 (ix2 ⟨4352 * b + t, by omega⟩ n) = ix3 b t n := by
    funext a
    match a with
    | ⟨0, _⟩ => exact Fin.ext (by change ((4352 * (b : ℕ) + t) * 512 + n) / 2228224 = b; omega)
    | ⟨1, _⟩ => exact Fin.ext (by change ((4352 * (b : ℕ) + t) * 512 + n) / 512 % 4352 = t; omega)
    | ⟨2, _⟩ => exact Fin.ext (by change ((4352 * (b : ℕ) + t) * 512 + n) % 512 = n; omega)
  change val_main_v145 (F := Ideal) x0 x1 x2 x3 x4 x5 x9 x11 _ = _
  rw [val_main_v145_apply, e, mval_apply]

end Cert.MixerReferenceIdeal.Hand
end
-- ==== Proof.MixerHeadValue.lean ====
module

public import proofs.«01_k».proof.Proof.MixerValue
public import proofs.«01_k».proof.Proof.MixerHeadFinal
public import proofs.«01_k».proof.Proof.MixerHeadOperands
public import proofs.«01_k».proof.Proof.MixerHeadRef

@[expose] public section

/-! The arrays of values of the grouped-query and of the latent attention are the reference's results. -/

set_option maxRecDepth 16384
noncomputable section
namespace Cert.MixerIdeal.Hand
open Cert.MixerIdeal Cert.MixerIdeal.Gen Idealize.ShloMosaic Idealize.ShloMosaic.TcCoe Idealize.SL.Sem
open Cert.MergeRow Cert.MixerHead
open scoped BigOperators
variable (m : (ℓ : Loc nD τ sig) → Buf (Elt Ideal) ℓ)

/-- A column of zeros gives nothing, whatever the token. -/
theorem cell_zero (X : FVec Ideal S34816x1024 .f32) (M : FVec Ideal S16x6x1024 .f32) (G : FVec Ideal S1x1024 .f32)
    (W : FVec Ideal S1024x5376 .bf16) (R : Fin 34816) (j : Fin 5376) (h : ∀ k, W (ix2 k j) = (0 : EReal)) : cell X M G W R j = 0 := by
  unfold cell
  exact Finset.sum_eq_zero fun k _ => by rw [h k, mul_zero]

/-- The grouped-query values. -/
theorem value_gval (c : Dev nD) :
    (fun i : S34816x256.Idx => cell (V m c main_v147) (V m c main_v4) (V m c main_v42) (V m c main_v23) (i 0) (gvcol (i 1))
        + lane (i 1))
      = Cert.MixerReferenceIdeal.Read.val_main_v143 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  funext i
  obtain ⟨b, t, n, rfl⟩ := split_row i
  refine Eq.trans ?_ (Cert.MixerReferenceIdeal.Hand.gval_row _ _ _ _ _ _ b t n).symm
  change cell (V m c main_v147) (V m c main_v4) (V m c main_v42) (V m c main_v23) ⟨4352 * b + t, by omega⟩ (gvcol n) + lane n = _
  unfold Cert.MixerReferenceIdeal.Hand.gval lane ones
  by_cases h : n.val % 128 < 64
  · rw [if_pos h, dif_pos h, add_zero]
    exact cell_eq m c b t _ _ fun k => (V_wgv m c k n).trans (dif_pos h)
  · rw [if_neg h, dif_neg h]
    exact (congrArg (· + 1) (cell_zero _ _ _ _ _ _ fun k => (V_wgv m c k n).trans (dif_neg h))).trans (zero_add 1)

/-- The latent attention's values. -/
theorem value_mval (c : Dev nD) :
    (fun i : S34816x512.Idx => upcell (V m c main_v147) (V m c main_v4) (V m c main_v42) (V m c main_v23) (V m c main_v52)
        (V m c main_v40) (i 0) (mvcol (i 1)) + lane (i 1))
      = Cert.MixerReferenceIdeal.Read.val_main_v146 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg9)) (m ((c : Thread nD τ).loc main_arg11)) := by
  funext i
  obtain ⟨b, t, n, rfl⟩ := split_row i
  refine Eq.trans ?_ (Cert.MixerReferenceIdeal.Hand.mval_row _ _ _ _ _ _ _ _ b t n).symm
  change upcell (V m c main_v147) (V m c main_v4) (V m c main_v42) (V m c main_v23) (V m c main_v52) (V m c main_v40)
    ⟨4352 * b + t, by omega⟩ (mvcol n) + lane n = _
  unfold Cert.MixerReferenceIdeal.Hand.mval lane ones upcell
  by_cases h : n.val % 128 < 64
  · rw [if_pos h, dif_pos h, add_zero]
    exact up_congr (fun k => cell_eq m c b t _ _ fun k' => V_wckv m c k' k) (fun k => V_kvgain m c k)
      (fun k => (V_wukv m c k n).trans (dif_pos h))
  · rw [if_neg h, dif_neg h]
    exact (congrArg (· + 1) (up_zero fun k => (V_wukv m c k n).trans (dif_neg h))).trans (zero_add 1)

end Cert.MixerIdeal.Hand
end
-- ==== Proof.MixerKeyRow.lean ====
module

public import proofs.«01_k».proof.Proof.MixerHeadRow

@[expose] public section

/-! The stored keys of the grouped-query attention, as both programs compute them. -/

set_option maxRecDepth 16384
noncomputable section
namespace Cert.MixerHead
open Idealize.ShloMosaic Idealize.SL.Sem
open scoped BigOperators

/-- The one that follows a head's key: on the lane after its values. -/
def unit (l : ℕ) : EReal := if l % 128 = 64 then 1 else 0

/-- A head's lanes, normalised over its 64. -/
def nrm {w : ℕ} (y g : Fin w → EReal) (l : Fin w) : EReal :=
  y l * Ideal.rsqrt ((∑ j, y j * y j) * Ideal.ofBits .f32 0x3C800000#32 + Ideal.ofBits .f32 0x358637BD#32) * g l

/-- A lane some lanes back, around the end. -/
def on (l : Fin 128) (s : ℕ) : Fin 128 := ⟨(l + 128 - s) % 128, Nat.mod_lt _ (by decide)⟩

/-- A head's lanes, rotated by the three tables. -/
def rot (x a b c : Fin 128 → EReal) (l : Fin 128) : EReal := x l * a l + x (on l 96) * b l + x (on l 32) * c l

/-- A stored head: normalised, rotated, the one behind. -/
def khead (y g a b c : Fin 128 → EReal) (l : Fin 128) : EReal := rot (nrm y g) a b c l + unit l

/-- A head's 64 lanes rotated by pairs. -/
def pairs (x : Fin 64 → EReal) (cs sn : Fin 32 → EReal) (q : Fin 64) : EReal :=
  if h : q.val < 32 then x q * cs ⟨q, h⟩ - x ⟨32 + q, by omega⟩ * sn ⟨q, h⟩
  else x q * cs ⟨q - 32, by omega⟩ + x ⟨q - 32, by omega⟩ * sn ⟨q - 32, by omega⟩

/-- A mean over 64 lanes is the sum times the reciprocal of 64. -/
theorem div_64 (x : EReal) :
    Ideal.div x (Ideal.ofBits .f32 0x42800000#32) = x * Ideal.ofBits .f32 0x3C800000#32 := by
  have e : Ideal.ofBits .f32 0x42800000#32 = ((64 : ℝ) : EReal) := by
    simp [Ideal.ofBits, Ideal.ieee, -EReal.coe_mul]; norm_num
  have e' : Ideal.ofBits .f32 0x3C800000#32 = ((1 / 64 : ℝ) : EReal) := by
    simp [Ideal.ofBits, Ideal.ieee, -EReal.coe_mul]; norm_num
  rw [e, e', Ideal.div_coe (by norm_num)]

theorem khead_congr {y y' g g' a a' b b' c c' : Fin 128 → EReal} (hy : ∀ k, y k = y' k) (hg : ∀ k, g k = g' k)
    (ha : ∀ k, a k = a' k) (hb : ∀ k, b k = b' k) (hc : ∀ k, c k = c' k) (l : Fin 128) :
    khead y g a b c l = khead y' g' a' b' c' l := by
  obtain rfl := funext hy
  obtain rfl := funext hg
  obtain rfl := funext ha
  obtain rfl := funext hb
  obtain rfl := funext hc
  rfl

/-- Lanes of nothing behind a head leave its normalisation. -/
theorem nrm_pad {y g : Fin 128 → EReal} {v g' : Fin 64 → EReal} (hy : ∀ l, y l = if h : l.val < 64 then v ⟨l, h⟩ else 0)
    (hg : ∀ l (h : l.val < 64), g l = g' ⟨l, h⟩) (l : Fin 128) :
    nrm y g l = if h : l.val < 64 then nrm v g' ⟨l, h⟩ else 0 := by
  have e : ∑ j, y j * y j = ∑ j, v j * v j := by
    rw [show (∑ j : Fin 128, y j * y j) = ∑ j : Fin (64 + 64), y j * y j from rfl, Fin.sum_univ_add]
    have e1 : ∀ j : Fin 64, y (Fin.castAdd 64 j) = v j := fun j => (hy _).trans (dif_pos j.isLt)
    have e2 : ∀ j : Fin 64, y (Fin.natAdd 64 j) = 0 := fun j =>
      (hy _).trans (dif_neg (by change ¬64 + (j : ℕ) < 64; omega))
    simp only [e1, e2, mul_zero, Finset.sum_const_zero, add_zero]
  unfold nrm
  rw [e, hy l]
  split
  · next h => rw [hg l h]
  · rw [zero_mul, zero_mul]

/-- A rotated head, its lanes behind: the pairs. -/
theorem khead_lat {y g a b c : Fin 128 → EReal} {v g' : Fin 64 → EReal} {cs sn : Fin 32 → EReal}
    (hy : ∀ l, y l = if h : l.val < 64 then v ⟨l, h⟩ else 0) (hg : ∀ l (h : l.val < 64), g l = g' ⟨l, h⟩)
    (ha : ∀ l, a l = cs ⟨l % 32, Nat.mod_lt _ (by decide)⟩)
    (hb : ∀ l, b l = if l.val % 64 < 32 then -sn ⟨l % 32, Nat.mod_lt _ (by decide)⟩ else 0)
    (hc : ∀ l, c l = if l.val % 64 < 32 then 0 else sn ⟨l % 32, Nat.mod_lt _ (by decide)⟩) (l : Fin 128) :
    khead y g a b c l = if h : l.val < 64 then pairs (nrm v g') cs sn ⟨l, h⟩ else unit l := by
  have hn := nrm_pad hy hg
  unfold khead rot
  rw [ha, hb, hc]
  by_cases h : l.val < 64
  · rw [dif_pos h]
    have hu : unit l = 0 := if_neg (by omega)
    rw [hu, add_zero, hn l, dif_pos h]
    unfold pairs
    by_cases h' : l.val < 32
    · rw [if_pos (by omega), if_pos (by omega), dif_pos h', mul_zero, add_zero, hn (on l 96), dif_pos (by change ((l : ℕ) + 128 - 96) % 128 < 64; omega),
        mul_neg, sub_eq_add_neg]
      have i1 : (⟨l % 32, Nat.mod_lt _ (by decide)⟩ : Fin 32) = ⟨l, h'⟩ := Fin.ext (by change (l : ℕ) % 32 = l; omega)
      have i2 : (⟨on l 96, by change ((l : ℕ) + 128 - 96) % 128 < 64; omega⟩ : Fin 64) = ⟨32 + l, by omega⟩ :=
        Fin.ext (by change ((l : ℕ) + 128 - 96) % 128 = 32 + l; omega)
      rw [i1, i2]
    · rw [if_neg (by omega), if_neg (by omega), dif_neg h', mul_zero, add_zero, hn (on l 32), dif_pos (by change ((l : ℕ) + 128 - 32) % 128 < 64; omega)]
      have i1 : (⟨l % 32, Nat.mod_lt _ (by decide)⟩ : Fin 32) = ⟨l - 32, by omega⟩ := Fin.ext (by change (l : ℕ) % 32 = l - 32; omega)
      have i2 : (⟨on l 32, by change ((l : ℕ) + 128 - 32) % 128 < 64; omega⟩ : Fin 64) = ⟨l - 32, by omega⟩ :=
        Fin.ext (by change ((l : ℕ) + 128 - 32) % 128 = l - 32; omega)
      rw [i1, i2]
  · rw [dif_neg h, hn l, dif_neg h, zero_mul, zero_add]
    by_cases h' : l.val % 64 < 32
    · rw [if_pos h', if_pos h', mul_zero, add_zero, hn (on l 96), dif_neg (by change ¬((l : ℕ) + 128 - 96) % 128 < 64; omega), zero_mul, zero_add]
    · rw [if_neg h', if_neg h', mul_zero, zero_add, hn (on l 32), dif_neg (by change ¬((l : ℕ) + 128 - 32) % 128 < 64; omega), zero_mul, zero_add]

/-- A head that is not rotated. -/
theorem khead_ctx {y g a b c : Fin 128 → EReal} {v g' : Fin 64 → EReal}
    (hy : ∀ l, y l = if h : l.val < 64 then v ⟨l, h⟩ else 0) (hg : ∀ l (h : l.val < 64), g l = g' ⟨l, h⟩)
    (ha : ∀ l, a l = 1) (hb : ∀ l, b l = 0) (hc : ∀ l, c l = 0) (l : Fin 128) :
    khead y g a b c l = if h : l.val < 64 then nrm v g' ⟨l, h⟩ else unit l := by
  unfold khead rot
  rw [ha, hb, hc, mul_one, mul_zero, mul_zero, add_zero, add_zero, nrm_pad hy hg l]
  by_cases h : l.val < 64
  · rw [dif_pos h, dif_pos h, show unit l = 0 from if_neg (by omega), add_zero]
  · rw [dif_neg h, dif_neg h, zero_add]

end Cert.MixerHead
end
-- ==== Proof.MixerKeyBlock.lean ====
module

public import proofs.«01_k».proof.Proof.MixerHeadBlock
public import proofs.«01_k».proof.Proof.MixerKeyRow

@[expose] public section

/-! One grid point of the input projection: a row of the stored keys of the grouped-query attention. -/

set_option maxRecDepth 16384
noncomputable section
namespace Cert.MixerIdeal.Hand
open Cert.MixerIdeal Cert.MixerIdeal.Gen Idealize.ShloMosaic Idealize.ShloMosaic.TcCoe Idealize.SL.Sem
open Cert.MergeRow Cert.MixerHead
open scoped BigOperators

/-- A lane's number is compared with 64. -/
theorem lane_eq (l : Fin 128) :
    Scalar.select (IntOp.cmpi .eq (BitVec.ofNat 32 (l : ℕ)) 64#32) (1 : EReal) 0 = unit l := by
  have e : ∀ l : Fin 128, IntOp.cmpi .eq (BitVec.ofNat 32 (l : ℕ)) 64#32 = if (l : ℕ) % 128 = 64 then 1#1 else 0#1 := by decide +kernel
  rw [e]
  unfold unit
  split <;> rfl

/-- The first tile's first head. -/
theorem key_3 (h : FVec Ideal S256x1024 .bf16) (w : Vec Ideal S1024x512 .bf16) (a b c : FVec Ideal S256x128 .f32) (g : Vec Ideal S1x128 .f32)
    (r : Fin 256) (l : Fin 128) :
    k0_pay75 (iota .tc S256x128 32 [1] iota_S256x128_d1_w32) a b c (k0_pay74 h w) g (ix2 r l)
      = khead (fun l => k0_pay73 h w (ix2 r ⟨l, by omega⟩)) (fun l => g (ix2 0 l)) (fun l => a (ix2 r l)) (fun l => b (ix2 r l))
          (fun l => c (ix2 r l)) l := by
  unfold khead rot nrm on k0_pay74
  rw [← lane_eq]
  generalize k0_pay73 h w = y
  pointwise [k0_pay75]

/-- The first tile's second head. -/
theorem key_2 (y : FVec Ideal S256x512 .f32) (a b c : FVec Ideal S256x128 .f32) (g : Vec Ideal S1x128 .f32) (r : Fin 256) (l : Fin 128) :
    k0_pay79 (iota .tc S256x128 32 [1] iota_S256x128_d1_w32) c (k0_pay77 y g) (k0_pay78 a b y g) 32#32 (ix2 r l)
      = khead (fun l => y (ix2 r ⟨128 + l, by omega⟩)) (fun l => g (ix2 0 l)) (fun l => a (ix2 r l)) (fun l => b (ix2 r l))
          (fun l => c (ix2 r l)) l := by
  unfold khead rot nrm on
  rw [← lane_eq]
  pointwise [k0_pay77, k0_pay78, k0_pay79]

/-- The second tile's first head. -/
theorem key_1 (h : FVec Ideal S256x1024 .bf16) (w : Vec Ideal S1024x512 .bf16) (a b c : FVec Ideal S256x128 .f32) (g : Vec Ideal S1x128 .f32)
    (r : Fin 256) (l : Fin 128) :
    k0_pay173 h (iota .tc S256x128 32 [1] iota_S256x128_d1_w32) a b c w g (ix2 r l)
      = khead (fun l => k0_pay172 h w (ix2 r ⟨l, by omega⟩)) (fun l => g (ix2 0 l)) (fun l => a (ix2 r l)) (fun l => b (ix2 r l))
          (fun l => c (ix2 r l)) l := by
  unfold khead rot nrm on k0_pay173
  rw [← lane_eq]
  generalize k0_pay172 h w = y
  pointwise

/-- The second tile's second head. -/
theorem key_0 (y : FVec Ideal S256x512 .f32) (a b c : FVec Ideal S256x128 .f32) (g : Vec Ideal S1x128 .f32) (r : Fin 256) (l : Fin 128) :
    k0_pay175 (iota .tc S256x128 32 [1] iota_S256x128_d1_w32) a b c y g (ix2 r l)
      = khead (fun l => y (ix2 r ⟨128 + l, by omega⟩)) (fun l => g (ix2 0 l)) (fun l => a (ix2 r l)) (fun l => b (ix2 r l))
          (fun l => c (ix2 r l)) l := by
  unfold khead rot nrm on
  rw [← lane_eq]
  pointwise [k0_pay175]

/-- A load of one of the three tables. -/
theorem ld_tab {o : ℕ} (X : Vec Ideal S3x256x128 .f32) (h) (j : Fin 3) (r : Fin 256) (l : Fin 128) (hj : j = o) :
    View.ld X (Rect.unit (s := S3x256x128) ![o, 0, 0] S1x256x128.size h) (ix3 0 r l) = X (ix3 j r l) := by
  refine congrArg X (funext fun i => Fin.ext ?_)
  match i with
  | ⟨0, _⟩ => change o + 1 * 0 = j; omega
  | ⟨1, _⟩ => change 0 + 1 * (r : ℕ) = r; omega
  | ⟨2, _⟩ => change 0 + 1 * (l : ℕ) = l; omega

/-- The tables without their leading axis. -/
theorem tab_5 (v : Vec Ideal S1x256x128 .f32) (r : Fin 256) (l : Fin 128) : k0_pay5 v (ix2 r l) = v (ix3 0 r l) := by
  pointwise [k0_pay5]
theorem tab_6 (v : Vec Ideal S1x256x128 .f32) (r : Fin 256) (l : Fin 128) : k0_pay6 v (ix2 r l) = v (ix3 0 r l) := by
  pointwise [k0_pay6]
theorem tab_7 (v : Vec Ideal S1x256x128 .f32) (r : Fin 256) (l : Fin 128) : k0_pay7 v (ix2 r l) = v (ix3 0 r l) := by
  pointwise [k0_pay7]
theorem tab_113 (v : Vec Ideal S1x256x128 .f32) (r : Fin 256) (l : Fin 128) : k0_pay113 v (ix2 r l) = v (ix3 0 r l) := by
  pointwise [k0_pay113]
theorem tab_114 (v : Vec Ideal S1x256x128 .f32) (r : Fin 256) (l : Fin 128) : k0_pay114 v (ix2 r l) = v (ix3 0 r l) := by
  pointwise [k0_pay114]
theorem tab_115 (v : Vec Ideal S1x256x128 .f32) (r : Fin 256) (l : Fin 128) : k0_pay115 v (ix2 r l) = v (ix3 0 r l) := by
  pointwise [k0_pay115]

variable (x0 : Vec Ideal S512x1024 .f32) (x1 x2 : Vec Ideal S1x6x1024 .f32) (x3 : Vec Ideal S1x1024 .f32)
  (x4 : Vec Ideal S1024x5376 .bf16) (x5 x6 : Vec Ideal S1x128 .f32) (x7 : Vec Ideal S1x256 .f32) (x8 : Vec Ideal S1x128 .f32)
  (x9 : Vec Ideal S256x512 .bf16) (x10 : Vec Ideal S128x1024 .bf16) (x11 x12 x13 x14 : Vec Ideal S3x256x128 .f32)

/-- A row's table entry, in the tile the row is of. -/
def tabrow (j : Fin 3) (r : Fin 512) (l : Fin 128) : EReal :=
  (if r.val < 256 then x11 else x12) (ix3 j ⟨r % 256, Nat.mod_lt _ (by decide)⟩ l)

theorem tabrow_lo (j : Fin 3) (r : Fin 256) (l : Fin 128) : tabrow x11 x12 j (lo r) l = x11 (ix3 j r l) := by
  unfold tabrow lo
  rw [if_pos r.isLt]
  exact congrArg (fun s => x11 (ix3 j s l)) (Fin.ext (Nat.mod_eq_of_lt r.isLt))

theorem tabrow_hi (j : Fin 3) (r : Fin 256) (l : Fin 128) : tabrow x11 x12 j (hi r) l = x12 (ix3 j r l) := by
  unfold tabrow hi
  rw [if_neg (by change ¬256 + (r : ℕ) < 256; omega)]
  exact congrArg (fun s => x12 (ix3 j s l)) (Fin.ext (by change (256 + (r : ℕ)) % 256 = r; omega))

/-- A head's column among the joined weights. -/
def kgc (p : Fin 2) (l : Fin 128) : Fin 5376 := ⟨1280 + (p * 128 + l), by omega⟩

/-- A head of a row. -/
def keyrow (r : Fin 512) (p : Fin 2) (l : Fin 128) : EReal :=
  khead (fun l => colsum x0 x1 x2 x3 x4 r (kgc p l)) (fun l => x6 (ix2 0 l)) (tabrow x11 x12 0 r) (tabrow x11 x12 1 r) (tabrow x11 x12 2 r) l

/-- The grouped-query keys a grid point writes. -/
theorem out_gkey (r : Fin 512) (n : Fin 256) :
    out0_19 x0 x1 x2 x3 x4 x5 x6 x7 x8 x9 x10 x11 x12 x13 x14 (ix2 r n)
      = keyrow x0 x1 x2 x3 x4 x6 x11 x12 r ⟨n / 128, by omega⟩ ⟨n % 128, Nat.mod_lt _ (by decide)⟩ := by
  have e6 : View.ld x6 r0_9 = x6 := ld_whole _ _ _ (by decide)
  have f5 : ∀ r l, k0_pay208 x0 x1 x2 x3 x4 x5 x6 x7 x8 x9 x10 x11 x12 x13 x14 (ix2 r l) = tabrow x11 x12 0 (lo r) l := fun r l =>
    (tab_5 _ r l).trans ((ld_tab x11 _ 0 r l rfl).trans (tabrow_lo x11 x12 0 r l).symm)
  have f6 : ∀ r l, k0_pay209 x0 x1 x2 x3 x4 x5 x6 x7 x8 x9 x10 x11 x12 x13 x14 (ix2 r l) = tabrow x11 x12 1 (lo r) l := fun r l =>
    (tab_6 _ r l).trans ((ld_tab x11 _ 1 r l rfl).trans (tabrow_lo x11 x12 1 r l).symm)
  have f7 : ∀ r l, k0_pay210 x0 x1 x2 x3 x4 x5 x6 x7 x8 x9 x10 x11 x12 x13 x14 (ix2 r l) = tabrow x11 x12 2 (lo r) l := fun r l =>
    (tab_7 _ r l).trans ((ld_tab x11 _ 2 r l rfl).trans (tabrow_lo x11 x12 2 r l).symm)
  have s5 : ∀ r l, k0_pay236 x0 x1 x2 x3 x4 x5 x6 x7 x8 x9 x10 x11 x12 x13 x14 (ix2 r l) = tabrow x11 x12 0 (hi r) l := fun r l =>
    (tab_113 _ r l).trans ((ld_tab x12 _ 0 r l rfl).trans (tabrow_hi x11 x12 0 r l).symm)
  have s6 : ∀ r l, k0_pay237 x0 x1 x2 x3 x4 x5 x6 x7 x8 x9 x10 x11 x12 x13 x14 (ix2 r l) = tabrow x11 x12 1 (hi r) l := fun r l =>
    (tab_114 _ r l).trans ((ld_tab x12 _ 1 r l rfl).trans (tabrow_hi x11 x12 1 r l).symm)
  have s7 : ∀ r l, k0_pay238 x0 x1 x2 x3 x4 x5 x6 x7 x8 x9 x10 x11 x12 x13 x14 (ix2 r l) = tabrow x11 x12 2 (hi r) l := fun r l =>
    (tab_115 _ r l).trans ((ld_tab x12 _ 2 r l rfl).trans (tabrow_hi x11 x12 2 r l).symm)
  have d0 : ∀ l : Fin 128, (128 + (l : ℕ)) / 128 = 1 := fun l => by omega
  have d1 : ∀ l : Fin 128, (128 + (l : ℕ)) % 128 = l := fun l => by omega
  have d2 : ∀ l : Fin 128, (0 + (l : ℕ)) / 128 = 0 := fun l => by omega
  have d3 : ∀ l : Fin 128, (0 + (l : ℕ)) % 128 = l := fun l => by omega
  unfold out0_19
  rw [e6]
  canon_tiles x h
  all_goals obtain ⟨r', l, rfl⟩ : ∃ (r : Fin 256) (l : Fin 128), x = ix2 r l := ⟨x 0, x 1, by blk_ext []⟩
  · obtain rfl : r = hi r' := Fin.ext h0
    obtain rfl : n = hl 128 l (by decide) := Fin.ext h1
    refine (key_0 _ _ _ _ _ _ _).trans ?_
    simp only [hl, d0, d1]
    exact khead_congr (fun k => (second_gproj x0 x1 x2 x3 x4 x5 x6 x7 x8 x9 x10 x11 x12 x13 x14 _ _).trans
      (congrArg (colsum x0 x1 x2 x3 x4 _) (Fin.ext (by simp only [kgc])))) (fun _ => rfl) (s5 r') (s6 r') (s7 r') l
  · obtain rfl : r = hi r' := Fin.ext h0
    obtain rfl : n = hl 0 l (by decide) := Fin.ext (by simp only [hl, zero_add]; exact h1)
    refine (key_1 _ _ _ _ _ _ _ _).trans ?_
    simp only [hl, d2, d3]
    exact khead_congr (fun k => (second_gproj x0 x1 x2 x3 x4 x5 x6 x7 x8 x9 x10 x11 x12 x13 x14 _ _).trans
      (congrArg (colsum x0 x1 x2 x3 x4 _) (Fin.ext (by simp only [kgc]; omega)))) (fun _ => rfl) (s5 r') (s6 r') (s7 r') l
  · obtain rfl : r = lo r' := Fin.ext h0
    obtain rfl : n = hl 128 l (by decide) := Fin.ext h1
    refine (key_2 _ _ _ _ _ _ _).trans ?_
    simp only [hl, d0, d1]
    exact khead_congr (fun k => (first_gproj x0 x1 x2 x3 x4 x5 x6 x7 x8 x9 x10 x11 x12 x13 x14 _ _).trans
      (congrArg (colsum x0 x1 x2 x3 x4 _) (Fin.ext (by simp only [kgc])))) (fun _ => rfl) (f5 r') (f6 r') (f7 r') l
  · obtain rfl : r = lo r' := Fin.ext h0
    obtain rfl : n = hl 0 l (by decide) := Fin.ext (by simp only [hl, zero_add]; exact h1)
    refine (key_3 _ _ _ _ _ _ _ _).trans ?_
    simp only [hl, d2, d3]
    exact khead_congr (fun k => (first_gproj x0 x1 x2 x3 x4 x5 x6 x7 x8 x9 x10 x11 x12 x13 x14 _ _).trans
      (congrArg (colsum x0 x1 x2 x3 x4 _) (Fin.ext (by simp only [kgc]; omega)))) (fun _ => rfl) (f5 r') (f6 r') (f7 r') l

end Cert.MixerIdeal.Hand
end
-- ==== Proof.MixerKeyFinal.lean ====
module

public import proofs.«01_k».proof.Proof.MixerHeadFinal
public import proofs.«01_k».proof.Proof.MixerKeyBlock

@[expose] public section

/-! From a grid point's blocks to the array of the grouped-query keys. -/

set_option maxRecDepth 16384
noncomputable section
namespace Cert.MixerIdeal.Hand
open Cert.MixerIdeal Cert.MixerIdeal.Gen Idealize.ShloMosaic Idealize.ShloMosaic.TcCoe Idealize.SL.Sem
open Idealize.ShloMosaic.Pipeline (Dat)
open Cert.MergeRow Cert.MixerHead
open scoped BigOperators
variable (m : (ℓ : Loc nD τ sig) → Buf (Elt Ideal) ℓ)

/-- Where the blocks of the keys' windows lie at a grid point. -/
theorem idx_key : ∀ t : Fin cfg0.N, win0_6.index t = ![0, 0] ∧ win0_11.index t = ![0, 2 * t.val % 17, 0]
    ∧ win0_12.index t = ![0, (2 * t.val + 1) % 17, 0] ∧ win0_19.index t = ![t.val, 0] :=
  (by decide +kernel : ∀ t : Fin grid0.N, _)

theorem read_6 (t : Fin cfg0.N) (A : FVec Ideal S1x128 .f32) (n : Fin 128) :
    ((cfg0.win 6).blk t).view.read (Elt Ideal) A (ix2 0 n) = A (ix2 0 n) := by
  blk_simp
  blk_ext [idx_key t]

/-- The row of the tables a tile's row takes. -/
def tile (T : ℕ) (r : Fin 256) : Fin 4352 := ⟨T % 17 * 256 + r, by omega⟩

theorem read_11 (t : Fin cfg0.N) (A : FVec Ideal S3x4352x128 .f32) (j : Fin 3) (r : Fin 256) (l : Fin 128) :
    ((cfg0.win 11).blk t).view.read (Elt Ideal) A (ix3 j r l) = A (ix3 j (tile (2 * t.val) r) l) := by
  unfold tile
  blk_simp
  blk_ext [idx_key t]

theorem read_12 (t : Fin cfg0.N) (A : FVec Ideal S3x4352x128 .f32) (j : Fin 3) (r : Fin 256) (l : Fin 128) :
    ((cfg0.win 12).blk t).view.read (Elt Ideal) A (ix3 j r l) = A (ix3 j (tile (2 * t.val + 1) r) l) := by
  unfold tile
  blk_simp
  blk_ext [idx_key t]

/-- A token's place in its sequence. -/
def place (R : Fin 34816) : Fin 4352 := ⟨R % 4352, by omega⟩

/-- A row's table entry. -/
theorem tabrow_eq (c : Dev nD) (t : Fin cfg0.N) (j : Fin 3) (r : Fin 512) (l : Fin 128) :
    tabrow (iblk m c 11 t : Vec Ideal S3x256x128 .f32) (iblk m c 12 t : Vec Ideal S3x256x128 .f32) j r l
      = (V m c main_v101 : FVec Ideal S3x4352x128 .f32) (ix3 j (place (row t r)) l) := by
  unfold tabrow
  by_cases h : r.val < 256
  · rw [if_pos h]
    refine (read_11 t (V m c main_v101) j _ l).trans (congrArg (fun s => (V m c main_v101 : FVec Ideal S3x4352x128 .f32) (ix3 j s l)) (Fin.ext ?_))
    change 2 * t.val % 17 * 256 + r.val % 256 = (512 * t.val + r) % 4352
    omega
  · rw [if_neg h]
    refine (read_12 t (V m c main_v101) j _ l).trans (congrArg (fun s => (V m c main_v101 : FVec Ideal S3x4352x128 .f32) (ix3 j s l)) (Fin.ext ?_))
    change (2 * t.val + 1) % 17 * 256 + r.val % 256 = (512 * t.val + r) % 4352
    omega

/-- A stored key lane, over the operands. -/
def keycell (X : FVec Ideal S34816x1024 .f32) (M : FVec Ideal S16x6x1024 .f32) (G : FVec Ideal S1x1024 .f32)
    (W : FVec Ideal S1024x5376 .bf16) (g : FVec Ideal S1x128 .f32) (T : FVec Ideal S3x4352x128 .f32) (R : Fin 34816) (n : Fin 256) :
    EReal :=
  khead (fun l => cell X M G W R (kgc ⟨n / 128, by omega⟩ l)) (fun l => g (ix2 0 l)) (fun l => T (ix3 0 (place R) l))
    (fun l => T (ix3 1 (place R) l)) (fun l => T (ix3 2 (place R) l)) ⟨n % 128, Nat.mod_lt _ (by decide)⟩

/-- The grouped-query keys. -/
theorem final_gkey (c : Dev nD) : (dats m 0 c).arrAt 19 (cfgs 0).N
    = fun i : S34816x256.Idx => keycell (V m c main_v147) (V m c main_v4) (V m c main_v42) (V m c main_v23) (V m c main_v50)
        (V m c main_v101) (i 0) (i 1) := by
  refine (dats m 0 c).arrAt_eq_of_covers 19 _ (by decide +kernel) fun t _ y => ?_
  blk_simp
  rw [after0_19]
  obtain ⟨r, n, rfl⟩ : ∃ (r : Fin 512) (n : Fin 256), y = ix2 r n := ⟨y 0, y 1, by blk_ext []⟩
  refine (out_gkey _ _ _ _ _ _ _ _ _ _ _ _ _ _ _ r n).trans ?_
  have e : (win0_19.blk t).view.emb (ix2 r n) = ix2 (row t r) n := by
    unfold row
    blk_ext [idx_key t]
  rw [e]
  exact khead_congr (fun l => colsum_eq m c t r _) (fun l => read_6 t (V m c main_v50) l) (fun l => tabrow_eq m c t 0 r l)
    (fun l => tabrow_eq m c t 1 r l) (fun l => tabrow_eq m c t 2 r l) _

end Cert.MixerIdeal.Hand
end
-- ==== Proof.MixerKeyOperands.lean ====
module

public import proofs.«01_k».proof.Proof.MixerHeadOperands
public import proofs.«01_k».proof.Proof.Gen.MixerReferenceIdeal.Read

@[expose] public section

/-! The operands the host code prepares for the keys of the grouped-query attention. -/

set_option maxRecDepth 16384
noncomputable section
namespace Cert.MixerIdeal.Hand
open Cert.MixerIdeal Cert.MixerIdeal.Gen Idealize.ShloMosaic Idealize.ShloMosaic.TcCoe Idealize.SL.Sem
open scoped BigOperators
variable (m : (ℓ : Loc nD τ sig) → Buf (Elt Ideal) ℓ)

/-- The gain of the keys, once per 64 lanes. -/
theorem V_kgain (c : Dev nD) (k : Fin 128) :
    (V m c main_v50 : FVec Ideal S1x128 .f32) (ix2 0 k)
      = (m ((c : Thread nD τ).loc main_arg7) : FVec Ideal S64 .f32) (ix1 ⟨k % 64, Nat.mod_lt _ (by decide)⟩) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  pointwise

/-- The cosines. -/
theorem V_cos (c : Dev nD) : (V m c main_v75 : FVec Ideal S4096x32 .f32) = Cert.MixerReferenceIdeal.Read.val_main_v184 (F := Ideal) := by
  funext i
  obtain ⟨t, q, rfl⟩ : ∃ (t : Fin 4096) (q : Fin 32), i = ix2 t q := ⟨i 0, i 1, by blk_ext []⟩
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  pointwise
  after_results_loop
  pointwise
  pointwise [Cert.MixerReferenceIdeal.Read.val_main_v184, Cert.MixerReferenceIdeal.Read.val_main_v183, Cert.MixerReferenceIdeal.Read.val_main_v182, Cert.MixerReferenceIdeal.Read.val_main_v181, Cert.MixerReferenceIdeal.Read.val_main_v180, Cert.MixerReferenceIdeal.Read.val_main_v179, Cert.MixerReferenceIdeal.Read.val_main_v178, Cert.MixerReferenceIdeal.Read.val_main_v177, Cert.MixerReferenceIdeal.Read.val_main_v176, Cert.MixerReferenceIdeal.Read.val_main_v175, Cert.MixerReferenceIdeal.Read.val_main_v174, Cert.MixerReferenceIdeal.Read.val_main_v173, Cert.MixerReferenceIdeal.Read.val_main_v172, Cert.MixerReferenceIdeal.Read.val_main_v171, Cert.MixerReferenceIdeal.Read.val_main_v170, Cert.MixerReferenceIdeal.Read.val_main_v169, Cert.MixerReferenceIdeal.Read.val_main_v168, Cert.MixerReferenceIdeal.Read.val_main_v167, Cert.MixerReferenceIdeal.Read.val_main_cst_27, Cert.MixerReferenceIdeal.Read.val_main_cst_28]
  refine congrArg Ideal.cos ?_
  refine dite_congr rfl (fun _ => ?_) (fun _ => ?_)
  · refine congrArg₂ (· * ·) ?_ rfl
    rfl
  · refine congrArg₂ (· * ·) ?_ rfl
    rfl

/-- The sines. -/
theorem V_sin (c : Dev nD) : (V m c main_v76 : FVec Ideal S4096x32 .f32) = Cert.MixerReferenceIdeal.Read.val_main_v186 (F := Ideal) := by
  funext i
  obtain ⟨t, q, rfl⟩ : ∃ (t : Fin 4096) (q : Fin 32), i = ix2 t q := ⟨i 0, i 1, by blk_ext []⟩
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  pointwise
  after_results_loop
  pointwise
  pointwise [Cert.MixerReferenceIdeal.Read.val_main_v186, Cert.MixerReferenceIdeal.Read.val_main_v183, Cert.MixerReferenceIdeal.Read.val_main_v182, Cert.MixerReferenceIdeal.Read.val_main_v181, Cert.MixerReferenceIdeal.Read.val_main_v180, Cert.MixerReferenceIdeal.Read.val_main_v179, Cert.MixerReferenceIdeal.Read.val_main_v178, Cert.MixerReferenceIdeal.Read.val_main_v177, Cert.MixerReferenceIdeal.Read.val_main_v176, Cert.MixerReferenceIdeal.Read.val_main_v175, Cert.MixerReferenceIdeal.Read.val_main_v174, Cert.MixerReferenceIdeal.Read.val_main_v173, Cert.MixerReferenceIdeal.Read.val_main_v172, Cert.MixerReferenceIdeal.Read.val_main_v171, Cert.MixerReferenceIdeal.Read.val_main_v170, Cert.MixerReferenceIdeal.Read.val_main_v169, Cert.MixerReferenceIdeal.Read.val_main_v168, Cert.MixerReferenceIdeal.Read.val_main_v167, Cert.MixerReferenceIdeal.Read.val_main_cst_27, Cert.MixerReferenceIdeal.Read.val_main_cst_28]
  refine congrArg Ideal.sin ?_
  refine dite_congr rfl (fun _ => ?_) (fun _ => ?_)
  · refine congrArg₂ (· * ·) ?_ rfl
    rfl
  · refine congrArg₂ (· * ·) ?_ rfl
    rfl

/-- The grouped-query keys' columns of the joined weights. -/
theorem cat_4 (y0 y1 y2 : FVec Ideal S1024x256 .f32) (y3 : FVec Ideal S1024x512 .f32) (y4 y5 y6 : FVec Ideal S1024x256 .f32)
    (y7 y8 : FVec Ideal S1024x128 .f32) (y9 : FVec Ideal S1024x3072 .f32) (h) (k : Fin 1024) (n : Fin 256) :
    (truncf .bf16 (concatenate S1024x5376 1 [⟨S1024x256, y0⟩, ⟨S1024x256, y1⟩, ⟨S1024x256, y2⟩, ⟨S1024x512, y3⟩, ⟨S1024x256, y4⟩,
      ⟨S1024x256, y5⟩, ⟨S1024x256, y6⟩, ⟨S1024x128, y7⟩, ⟨S1024x128, y8⟩, ⟨S1024x3072, y9⟩] h) bitsLt_bf16_f32 : FVec Ideal S1024x5376 .bf16) (ix2 k ⟨1280 + n, by omega⟩) = y4 (ix2 k n) := by
  pointwise
  rw [dif_neg (show ¬1280 + (n : ℕ) < 256 by omega),
    dif_neg (show ¬1280 + (n : ℕ) - 256 < 256 by omega),
    dif_neg (show ¬1280 + (n : ℕ) - 256 - 256 < 256 by omega),
    dif_neg (show ¬1280 + (n : ℕ) - 256 - 256 - 256 < 512 by omega),
    dif_pos (show 1280 + (n : ℕ) - 256 - 256 - 256 - 512 < 256 by omega)]
  refine congrArg (fun s => y4 (ix2 k s)) (Fin.ext ?_)
  change 1280 + (n : ℕ) - 256 - 256 - 256 - 512 = n
  omega

/-- The columns of the grouped-query keys, a head of 64 in 128 lanes. -/
theorem V_wgk (c : Dev nD) (k : Fin 1024) (n : Fin 256) :
    (V m c main_v23 : FVec Ideal S1024x5376 .bf16) (ix2 k ⟨1280 + n, by omega⟩)
      = (if h : n.val % 128 < 64 then (m ((c : Thread nD τ).loc main_arg5) : FVec Ideal S1024x5024 .f32)
          (ix2 k ⟨512 + (n.val / 128 * 64 + n.val % 128), by omega⟩) else 0 : EReal) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  refine (cat_4 _ _ _ _ _ _ _ _ _ _ _ k n).trans ?_
  pointwise
  after_results_loop
  pointwise
  refine (pad_2 _ k ⟨n / 128, by omega⟩ ⟨n % 128, by omega⟩).trans ?_
  rfl

end Cert.MixerIdeal.Hand
end
-- ==== Proof.MixerKeyTables.lean ====
module

public import proofs.«01_k».proof.Proof.MixerHeadOperands

@[expose] public section

/-! The tables of the rotation the host code prepares, each array over the ones before it. -/

set_option maxRecDepth 16384
noncomputable section
namespace Cert.MixerIdeal.Hand
open Cert.MixerIdeal Cert.MixerIdeal.Gen Idealize.ShloMosaic Idealize.ShloMosaic.TcCoe Idealize.SL.Sem
open scoped BigOperators
variable (m : (ℓ : Loc nD τ sig) → Buf (Elt Ideal) ℓ)

/-- A lane among the first 64. -/
def low (q : Fin 64) : Fin 128 := ⟨q, by omega⟩

/-- The first 64 lanes, twice over. -/
theorem rep (x : FVec Ideal S3x4352x128 .f32) (j : Fin 3) (t : Fin 4352) (l : Fin 128) :
    shapeCast S3x4352x128 (broadcastInDim S1x3x1x4352x2x64 ![0, 1, 2, 3, 4, 5] bcast_S1x3x1x4352x1x64_S1x3x1x4352x2x64_0_1_2_3_4_5
      (shapeCast S1x3x1x4352x1x64 (extractStridedSlice S3x4352x64 ![0, 0, 0] x slices_S3x4352x128_S3x4352x64_0_0_0)
        shapeCasts_S3x4352x64_S1x3x1x4352x1x64)) shapeCasts_S1x3x1x4352x2x64_S3x4352x128 (ix3 j t l)
      = x (ix3 j t (low ⟨l % 64, Nat.mod_lt _ (by decide)⟩)) := by
  unfold low
  pointwise

theorem stack_0 (x y z : FVec Ideal S1x4352x128 .f32) (h) (t : Fin 4352) (l : Fin 128) :
    (concatenate S3x4352x128 0 [⟨S1x4352x128, x⟩, ⟨S1x4352x128, y⟩, ⟨S1x4352x128, z⟩] h : FVec Ideal S3x4352x128 .f32) (ix3 0 t l)
      = x (ix3 0 t l) := by
  pointwise

theorem stack_1 (x y z : FVec Ideal S1x4352x128 .f32) (h) (t : Fin 4352) (l : Fin 128) :
    (concatenate S3x4352x128 0 [⟨S1x4352x128, x⟩, ⟨S1x4352x128, y⟩, ⟨S1x4352x128, z⟩] h : FVec Ideal S3x4352x128 .f32) (ix3 1 t l)
      = y (ix3 0 t l) := by
  pointwise

theorem stack_2 (x y z : FVec Ideal S1x4352x128 .f32) (h) (t : Fin 4352) (l : Fin 128) :
    (concatenate S3x4352x128 0 [⟨S1x4352x128, x⟩, ⟨S1x4352x128, y⟩, ⟨S1x4352x128, z⟩] h : FVec Ideal S3x4352x128 .f32) (ix3 2 t l)
      = z (ix3 0 t l) := by
  pointwise

theorem lead (x : FVec Ideal S4352x128 .f32) (t : Fin 4352) (l : Fin 128) :
    (broadcastInDim S1x4352x128 ![1, 2] bcast_S4352x128_S1x4352x128_1_2 x : FVec Ideal S1x4352x128 .f32) (ix3 0 t l) = x (ix2 t l) := by
  pointwise

theorem cat_rows (x : FVec Ideal S4096x128 .f32) (y : FVec Ideal S256x128 .f32) (h) (t : Fin 4352) (l : Fin 128) :
    (concatenate S4352x128 0 [⟨S4096x128, x⟩, ⟨S256x128, y⟩] h : FVec Ideal S4352x128 .f32) (ix2 t l)
      = if h : t.val < 4096 then x (ix2 ⟨t, h⟩ l) else y (ix2 ⟨t - 4096, by omega⟩ l) := by
  pointwise

theorem cat_lanes (x y : FVec Ideal S4096x32 .f32) (h) (t : Fin 4096) (q : Fin 64) :
    (concatenate S4096x64 1 [⟨S4096x32, x⟩, ⟨S4096x32, y⟩] h : FVec Ideal S4096x64 .f32) (ix2 t q)
      = if h : q.val < 32 then x (ix2 t ⟨q, h⟩) else y (ix2 t ⟨q - 32, by omega⟩) := by
  pointwise

theorem pad_lat (x : FVec Ideal S4096x64 .f32) (v : FVec Ideal S_ .f32) (t : Fin 4096) (q : Fin 64) :
    (pad S4096x128 ![0, 0] ![0, 64] ![0, 0] x v pads_S4096x64_S4096x128_000_0640 h_S_ : FVec Ideal S4096x128 .f32) (ix2 t (low q))
      = x (ix2 t q) := by
  unfold low
  pointwise

theorem pad_none (y : FVec Ideal S4096x0 .f32) (t : Fin 4096) (l : Fin 128) :
    (pad S4096x128 ![0, 0] ![0, 128] ![0, 0] y (sitofp .f32 (constantI S_ 32 0#32)) pads_S4096x0_S4096x128_000_01280 h_S_ : FVec Ideal S4096x128 .f32) (ix2 t l)
      = (0 : EReal) := by
  pointwise
  rw [dif_neg (by omega)]
  simp [FloatOps.sitofp]

theorem pad_ctx (x : FVec Ideal S256x64 .f32) (v : FVec Ideal S_ .f32) (t : Fin 256) (q : Fin 64) :
    (pad S256x128 ![0, 0] ![0, 64] ![0, 0] x v pads_S256x64_S256x128_000_0640 h_S_ : FVec Ideal S256x128 .f32) (ix2 t (low q))
      = x (ix2 t q) := by
  unfold low
  pointwise

theorem V_rep (c : Dev nD) (j : Fin 3) (t : Fin 4352) (l : Fin 128) :
    (V m c main_v101 : FVec Ideal S3x4352x128 .f32) (ix3 j t l) = (V m c main_v97 : FVec Ideal S3x4352x128 .f32) (ix3 j t (low ⟨l % 64, Nat.mod_lt _ (by decide)⟩)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  exact rep _ j t l

theorem V_stack0 (c : Dev nD) (t : Fin 4352) (l : Fin 128) :
    (V m c main_v97 : FVec Ideal S3x4352x128 .f32) (ix3 0 t l) = (V m c main_v94 : FVec Ideal S1x4352x128 .f32) (ix3 0 t l) := by
  generalize hR : V m c main_v94 = R
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  refine (stack_0 _ _ _ _ t l).trans ?_
  subst hR
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  try rfl

theorem V_stack1 (c : Dev nD) (t : Fin 4352) (l : Fin 128) :
    (V m c main_v97 : FVec Ideal S3x4352x128 .f32) (ix3 1 t l) = (V m c main_v95 : FVec Ideal S1x4352x128 .f32) (ix3 0 t l) := by
  generalize hR : V m c main_v95 = R
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  refine (stack_1 _ _ _ _ t l).trans ?_
  subst hR
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  try rfl

theorem V_stack2 (c : Dev nD) (t : Fin 4352) (l : Fin 128) :
    (V m c main_v97 : FVec Ideal S3x4352x128 .f32) (ix3 2 t l) = (V m c main_v96 : FVec Ideal S1x4352x128 .f32) (ix3 0 t l) := by
  generalize hR : V m c main_v96 = R
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  refine (stack_2 _ _ _ _ t l).trans ?_
  subst hR
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  try rfl

theorem V_94 (c : Dev nD) (t : Fin 4352) (l : Fin 128) :
    (V m c main_v94 : FVec Ideal S1x4352x128 .f32) (ix3 0 t l) = (V m c main_v91 : FVec Ideal S4352x128 .f32) (ix2 t l) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  exact lead _ t l

theorem V_95 (c : Dev nD) (t : Fin 4352) (l : Fin 128) :
    (V m c main_v95 : FVec Ideal S1x4352x128 .f32) (ix3 0 t l) = (V m c main_v92 : FVec Ideal S4352x128 .f32) (ix2 t l) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  exact lead _ t l

theorem V_96 (c : Dev nD) (t : Fin 4352) (l : Fin 128) :
    (V m c main_v96 : FVec Ideal S1x4352x128 .f32) (ix3 0 t l) = (V m c main_v93 : FVec Ideal S4352x128 .f32) (ix2 t l) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  exact lead _ t l

theorem V_91 (c : Dev nD) (t : Fin 4352) (l : Fin 128) :
    (V m c main_v91 : FVec Ideal S4352x128 .f32) (ix2 t l) = if h : t.val < 4096 then (V m c main_v82 : FVec Ideal S4096x128 .f32) (ix2 ⟨t, h⟩ l) else (V m c main_v89 : FVec Ideal S256x128 .f32) (ix2 ⟨t - 4096, by omega⟩ l) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  refine (cat_rows _ _ _ t l).trans ?_
  refine dite_congr rfl (fun _ => ?_) (fun _ => ?_)
  · after_results_loop
    rfl
  · after_results_loop
    rfl

theorem V_92 (c : Dev nD) (t : Fin 4352) (l : Fin 128) :
    (V m c main_v92 : FVec Ideal S4352x128 .f32) (ix2 t l) = if h : t.val < 4096 then (V m c main_v85 : FVec Ideal S4096x128 .f32) (ix2 ⟨t, h⟩ l) else (V m c main_v90 : FVec Ideal S256x128 .f32) (ix2 ⟨t - 4096, by omega⟩ l) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  refine (cat_rows _ _ _ t l).trans ?_
  refine dite_congr rfl (fun _ => ?_) (fun _ => ?_)
  · after_results_loop
    rfl
  · after_results_loop
    rfl

theorem V_93 (c : Dev nD) (t : Fin 4352) (l : Fin 128) :
    (V m c main_v93 : FVec Ideal S4352x128 .f32) (ix2 t l) = if h : t.val < 4096 then (V m c main_v87 : FVec Ideal S4096x128 .f32) (ix2 ⟨t, h⟩ l) else (V m c main_v90 : FVec Ideal S256x128 .f32) (ix2 ⟨t - 4096, by omega⟩ l) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  refine (cat_rows _ _ _ t l).trans ?_
  refine dite_congr rfl (fun _ => ?_) (fun _ => ?_)
  · after_results_loop
    rfl
  · after_results_loop
    rfl

theorem V_82 (c : Dev nD) (t : Fin 4096) (q : Fin 64) :
    (V m c main_v82 : FVec Ideal S4096x128 .f32) (ix2 t (low q)) = (V m c main_v78 : FVec Ideal S4096x64 .f32) (ix2 t q) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  exact (congrArg₂ (fun a b : EReal => a + b) (pad_lat _ _ t q) (pad_none _ t (low q))).trans (add_zero _)

theorem V_85 (c : Dev nD) (t : Fin 4096) (q : Fin 64) :
    (V m c main_v85 : FVec Ideal S4096x128 .f32) (ix2 t (low q)) = (V m c main_v84 : FVec Ideal S4096x64 .f32) (ix2 t q) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  exact pad_lat _ _ t q

theorem V_87 (c : Dev nD) (t : Fin 4096) (q : Fin 64) :
    (V m c main_v87 : FVec Ideal S4096x128 .f32) (ix2 t (low q)) = (V m c main_v86 : FVec Ideal S4096x64 .f32) (ix2 t q) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  exact pad_lat _ _ t q

theorem V_78 (c : Dev nD) (t : Fin 4096) (q : Fin 64) :
    (V m c main_v78 : FVec Ideal S4096x64 .f32) (ix2 t q) = if h : q.val < 32 then (V m c main_v75 : FVec Ideal S4096x32 .f32) (ix2 t ⟨q, h⟩) else (V m c main_v75 : FVec Ideal S4096x32 .f32) (ix2 t ⟨q - 32, by omega⟩) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  refine (cat_lanes _ _ _ t q).trans ?_
  refine dite_congr rfl (fun _ => ?_) (fun _ => ?_)
  · after_results_loop
    rfl
  · after_results_loop
    rfl

theorem V_84 (c : Dev nD) (t : Fin 4096) (q : Fin 64) :
    (V m c main_v84 : FVec Ideal S4096x64 .f32) (ix2 t q) = if h : q.val < 32 then Neg.neg (α := EReal) ((V m c main_v76 : FVec Ideal S4096x32 .f32) (ix2 t ⟨q, h⟩)) else (0 : EReal) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  refine (cat_lanes _ _ _ t q).trans ?_
  refine dite_congr rfl (fun _ => ?_) (fun _ => ?_)
  · after_results_loop
    rfl
  · after_results_loop
    pointwise

theorem V_86 (c : Dev nD) (t : Fin 4096) (q : Fin 64) :
    (V m c main_v86 : FVec Ideal S4096x64 .f32) (ix2 t q) = if h : q.val < 32 then (0 : EReal) else (V m c main_v76 : FVec Ideal S4096x32 .f32) (ix2 t ⟨q - 32, by omega⟩) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  refine (cat_lanes _ _ _ t q).trans ?_
  refine dite_congr rfl (fun _ => ?_) (fun _ => ?_)
  · after_results_loop
    pointwise
  · after_results_loop
    rfl

theorem V_89 (c : Dev nD) (t : Fin 256) (q : Fin 64) :
    (V m c main_v89 : FVec Ideal S256x128 .f32) (ix2 t (low q)) = (1 : EReal) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  refine (pad_ctx (broadcastInDim S256x64 ![] bcast_S_S256x64 (constant (F := Ideal) S_ .f32 1065353216#32)) _ t q).trans ?_
  pointwise

theorem V_90 (c : Dev nD) (t : Fin 256) (q : Fin 64) :
    (V m c main_v90 : FVec Ideal S256x128 .f32) (ix2 t (low q)) = (0 : EReal) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.cons_append, List.nil_append, List.append_nil, StableHlo.TRef.unary, StableHlo.TRef.binary, StableHlo.TRef.ternary]
  after_results_simp
  pointwise

end Cert.MixerIdeal.Hand
end
-- ==== Proof.MixerKeyRef.lean ====
module

public import proofs.«01_k».proof.Proof.MixerHeadRef
public import proofs.«01_k».proof.Proof.MixerKeyRow

@[expose] public section

/-! The input projection reference's keys of the grouped-query attention at an index. -/

set_option maxRecDepth 16384
noncomputable section
namespace Cert.MixerReferenceIdeal.Hand
open Cert.MixerReferenceIdeal Cert.MixerReferenceIdeal.Gen Cert.MixerReferenceIdeal.Read Idealize.ShloMosaic Idealize.ShloMosaic.TcCoe Idealize.SL.Sem
open Cert.MergeRow Cert.MixerHead
open scoped BigOperators

variable (x0 : FVec Ideal S8x4096x1024 .f32) (x1 : FVec Ideal S8x256x1024 .f32) (x2 : FVec Ideal S8x6144 .f32)
  (x3 : FVec Ideal S6144 .f32) (x4 : FVec Ideal S1024 .f32) (x5 : FVec Ideal S1024x5024 .f32) (x7 : FVec Ideal S64 .f32)

/-- A head of the projected row. -/
def head (v : Fin 5024 → EReal) (p : Fin 2) (l : Fin 64) : EReal := v ⟨512 + (p * 64 + l), by omega⟩

theorem lat_nrm (b : Fin 8) (t : Fin 4096) (p : Fin 2) (l : Fin 64) :
    val_main_v166 (F := Ideal) x0 x2 x4 x5 x7 (ix4 b t p l)
      = nrm (head (fun j => val_main_v32 (F := Ideal) x0 x2 x4 x5 (ix3 b t j)) p) (fun k => x7 (ix1 k)) l := by
  unfold nrm head
  rw [← div_64]
  pointwise [val_main_v166, val_main_v165, val_main_v164, val_main_v163, val_main_v162, val_main_v161, val_main_v160, val_main_v159,
    val_main_v158, val_main_v157, val_main_v156, val_main_v155, val_main_v154, val_main_v153, val_main_v152, val_main_cst_24,
    val_main_cst_25, val_main_cst_26]

theorem ctx_nrm (b : Fin 8) (t : Fin 256) (p : Fin 2) (l : Fin 64) :
    val_main_v219 (F := Ideal) x1 x3 x4 x5 x7 (ix4 b t p l)
      = nrm (head (fun j => val_main_v66 (F := Ideal) x1 x3 x4 x5 (ix3 b t j)) p) (fun k => x7 (ix1 k)) l := by
  unfold nrm head
  rw [← div_64]
  pointwise [val_main_v219, val_main_v218, val_main_v217, val_main_v216, val_main_v215, val_main_v214, val_main_v213, val_main_v212,
    val_main_v211, val_main_v210, val_main_v209, val_main_v208, val_main_v207, val_main_v206, val_main_v205, val_main_cst_31,
    val_main_cst_32, val_main_cst_33]

theorem lat_rot (b : Fin 8) (t : Fin 4096) (p : Fin 2) (l : Fin 64) :
    val_main_v200 (F := Ideal) x0 x2 x4 x5 x7 (ix4 b t p l)
      = pairs (fun l => val_main_v166 (F := Ideal) x0 x2 x4 x5 x7 (ix4 b t p l)) (fun q => val_main_v184 (F := Ideal) (ix2 t q))
          (fun q => val_main_v186 (F := Ideal) (ix2 t q)) l := by
  unfold pairs
  pointwise [val_main_v200, val_main_v199, val_main_v198, val_main_v197, val_main_v196, val_main_v195, val_main_v194, val_main_v193,
    val_main_v192, val_main_v191, val_main_v190, val_main_v189, val_main_v188, val_main_v187, val_main_v185]
  refine dite_congr rfl (fun _ => rfl) (fun h => ?_)
  refine congrArg (fun s => val_main_v166 (F := Ideal) x0 x2 x4 x5 x7 (ix4 b t p s) * _ + _) (Fin.ext ?_)
  change 32 + (l.val - 32) = l
  omega

/-- A stored lane of a rotated head. -/
theorem lat_gkey (b : Fin 8) (t : Fin 4096) (n : Fin 256) :
    val_main_v204 (F := Ideal) x0 x2 x4 x5 x7 (ix3 b t n)
      = if h : n.val % 128 < 64 then val_main_v200 (F := Ideal) x0 x2 x4 x5 x7 (ix4 b t ⟨n / 128, by omega⟩ ⟨n % 128, h⟩) else unit (n % 128 : ℕ) := by
  have e : idx_main_v204 (ix3 b t n) = ix4 b t ⟨n / 128, by omega⟩ ⟨n % 128, by omega⟩ := by
    funext a
    match a with
    | ⟨0, _⟩ => exact Fin.ext (by change (((b : ℕ) * 4096 + t) * 256 + n) / 1048576 = b; omega)
    | ⟨1, _⟩ => exact Fin.ext (by change (((b : ℕ) * 4096 + t) * 256 + n) / 256 % 4096 = t; omega)
    | ⟨2, _⟩ => exact Fin.ext (by change (((b : ℕ) * 4096 + t) * 256 + n) / 128 % 2 = n / 128; omega)
    | ⟨3, _⟩ => exact Fin.ext (by change (((b : ℕ) * 4096 + t) * 256 + n) % 128 = n % 128; omega)
  rw [val_main_v204_apply, e]
  unfold unit
  pointwise [val_main_v203, val_main_v202, val_main_v201, val_main_cst_29, val_main_cst_30]
  refine dite_congr rfl (fun _ => rfl) (fun h => ?_)
  by_cases h' : n.val % 128 = 64
  · rw [dif_pos (by omega), if_pos (by omega)]
  · rw [dif_neg (by omega), if_neg (by omega)]

/-- A stored lane of a head that is not rotated. -/
theorem ctx_gkey (b : Fin 8) (t : Fin 256) (n : Fin 256) :
    val_main_v223 (F := Ideal) x1 x3 x4 x5 x7 (ix3 b t n)
      = if h : n.val % 128 < 64 then val_main_v219 (F := Ideal) x1 x3 x4 x5 x7 (ix4 b t ⟨n / 128, by omega⟩ ⟨n % 128, h⟩) else unit (n % 128 : ℕ) := by
  have e : idx_main_v223 (ix3 b t n) = ix4 b t ⟨n / 128, by omega⟩ ⟨n % 128, by omega⟩ := by
    funext a
    match a with
    | ⟨0, _⟩ => exact Fin.ext (by change (((b : ℕ) * 256 + t) * 256 + n) / 65536 = b; omega)
    | ⟨1, _⟩ => exact Fin.ext (by change (((b : ℕ) * 256 + t) * 256 + n) / 256 % 256 = t; omega)
    | ⟨2, _⟩ => exact Fin.ext (by change (((b : ℕ) * 256 + t) * 256 + n) / 128 % 2 = n / 128; omega)
    | ⟨3, _⟩ => exact Fin.ext (by change (((b : ℕ) * 256 + t) * 256 + n) % 128 = n % 128; omega)
  rw [val_main_v223_apply, e]
  unfold unit
  pointwise [val_main_v222, val_main_v221, val_main_v220, val_main_cst_34, val_main_cst_35]
  refine dite_congr rfl (fun _ => rfl) (fun h => ?_)
  by_cases h' : n.val % 128 = 64
  · rw [dif_pos (by omega), if_pos (by omega)]
  · rw [dif_neg (by omega), if_neg (by omega)]

/-- A stored key lane of a token. -/
def gkey (v : Fin 5024 → EReal) (t : Fin 4352) (n : Fin 256) : EReal :=
  if h : n.val % 128 < 64 then
    (if ht : t.val < 4096 then
      pairs (nrm (head v ⟨n / 128, by omega⟩) (fun k => x7 (ix1 k))) (fun q => val_main_v184 (F := Ideal) (ix2 ⟨t, ht⟩ q))
        (fun q => val_main_v186 (F := Ideal) (ix2 ⟨t, ht⟩ q)) ⟨n % 128, h⟩
    else nrm (head v ⟨n / 128, by omega⟩) (fun k => x7 (ix1 k)) ⟨n % 128, h⟩)
  else unit (n % 128 : ℕ)

/-- The grouped-query keys. -/
theorem gkey_apply (b : Fin 8) (t : Fin 4352) (n : Fin 256) :
    val_main_v224 (F := Ideal) x0 x1 x2 x3 x4 x5 x7 (ix3 b t n) = gkey x7 (col x0 x1 x2 x3 x4 x5 b t) t n := by
  pointwise [val_main_v224]
  simp only [lat_gkey, ctx_gkey, lat_rot, lat_nrm, ctx_nrm, lat_apply, ctx_apply]
  unfold gkey
  split
  · next h => rw [← col_lat x0 x1 x2 x3 x4 x5 b t h]
  · next h => rw [← col_ctx x0 x1 x2 x3 x4 x5 b t h]

/-- The grouped-query key result, over the flattened tokens. -/
theorem gkey_row (b : Fin 8) (t : Fin 4352) (n : Fin 256) :
    val_main_v226 (F := Ideal) x0 x1 x2 x3 x4 x5 x7 (ix2 ⟨4352 * b + t, by omega⟩ n) = gkey x7 (col x0 x1 x2 x3 x4 x5 b t) t n := by
  have e : idx_main_v225 (ix2 ⟨4352 * b + t, by omega⟩ n) = ix3 b t n := by
    funext a
    match a with
    | ⟨0, _⟩ => exact Fin.ext (by change ((4352 * (b : ℕ) + t) * 256 + n) / 1114112 = b; omega)
    | ⟨1, _⟩ => exact Fin.ext (by change ((4352 * (b : ℕ) + t) * 256 + n) / 256 % 4352 = t; omega)
    | ⟨2, _⟩ => exact Fin.ext (by change ((4352 * (b : ℕ) + t) * 256 + n) % 256 = n; omega)
  change val_main_v225 (F := Ideal) x0 x1 x2 x3 x4 x5 x7 _ = _
  rw [val_main_v225_apply, e, gkey_apply]

end Cert.MixerReferenceIdeal.Hand
end
-- ==== Proof.MixerKeyValue.lean ====
module

public import proofs.«01_k».proof.Proof.MixerHeadValue
public import proofs.«01_k».proof.Proof.MixerKeyFinal
public import proofs.«01_k».proof.Proof.MixerKeyOperands
public import proofs.«01_k».proof.Proof.MixerKeyTables
public import proofs.«01_k».proof.Proof.MixerKeyRef

@[expose] public section

/-! The array of the grouped-query keys is the reference's result. -/

set_option maxRecDepth 16384
noncomputable section
namespace Cert.MixerIdeal.Hand
open Cert.MixerIdeal Cert.MixerIdeal.Gen Idealize.ShloMosaic Idealize.ShloMosaic.TcCoe Idealize.SL.Sem
open Cert.MergeRow Cert.MixerHead
open scoped BigOperators
variable (m : (ℓ : Loc nD τ sig) → Buf (Elt Ideal) ℓ)

/-- A rotation's angle's cosine, at a lane. -/
def cosAt (t : Fin 4096) (q : Fin 32) : EReal := Cert.MixerReferenceIdeal.Read.val_main_v184 (F := Ideal) (ix2 t q)

/-- A rotation's angle's sine, at a lane. -/
def sinAt (t : Fin 4096) (q : Fin 32) : EReal := Cert.MixerReferenceIdeal.Read.val_main_v186 (F := Ideal) (ix2 t q)

/-- The pair a lane is of. -/
def pair (l : Fin 128) : Fin 32 := ⟨l % 32, Nat.mod_lt _ (by decide)⟩

theorem cosAt_of (c : Dev nD) (t : Fin 4096) (q : Fin 32) (l : Fin 128) (h : q.val = l % 32) :
    (V m c main_v75 : FVec Ideal S4096x32 .f32) (ix2 t q) = cosAt t (pair l) :=
  (congrFun (V_cos m c) _).trans (congrArg (cosAt t) (Fin.ext h))

theorem sinAt_of (c : Dev nD) (t : Fin 4096) (q : Fin 32) (l : Fin 128) (h : q.val = l % 32) :
    (V m c main_v76 : FVec Ideal S4096x32 .f32) (ix2 t q) = sinAt t (pair l) :=
  (congrFun (V_sin m c) _).trans (congrArg (sinAt t) (Fin.ext h))

/-- The factors a lane keeps. -/
theorem table_0 (c : Dev nD) (t : Fin 4352) (l : Fin 128) :
    (V m c main_v101 : FVec Ideal S3x4352x128 .f32) (ix3 0 t l) = if h : t.val < 4096 then cosAt ⟨t, h⟩ (pair l) else 1 := by
  refine (V_rep m c 0 t l).trans ((V_stack0 m c t _).trans ((V_94 m c t _).trans ((V_91 m c t _).trans ?_)))
  refine dite_congr rfl (fun h => ?_) (fun h => V_89 m c _ _)
  refine (V_82 m c _ _).trans ((V_78 m c _ _).trans ?_)
  by_cases hl : l.val % 64 < 32
  · exact (dif_pos hl).trans (cosAt_of m c _ _ l (by change l.val % 64 = l % 32; omega))
  · exact (dif_neg hl).trans (cosAt_of m c _ _ l (by change l.val % 64 - 32 = l % 32; omega))

/-- The factors of the lane above. -/
theorem table_1 (c : Dev nD) (t : Fin 4352) (l : Fin 128) :
    (V m c main_v101 : FVec Ideal S3x4352x128 .f32) (ix3 1 t l)
      = if h : t.val < 4096 then (if l.val % 64 < 32 then -sinAt ⟨t, h⟩ (pair l) else 0) else 0 := by
  refine (V_rep m c 1 t l).trans ((V_stack1 m c t _).trans ((V_95 m c t _).trans ((V_92 m c t _).trans ?_)))
  refine dite_congr rfl (fun h => ?_) (fun h => V_90 m c _ _)
  refine (V_85 m c _ _).trans ((V_84 m c _ _).trans ?_)
  by_cases hl : l.val % 64 < 32
  · rw [if_pos hl]
    exact (dif_pos hl).trans (congrArg (fun x : EReal => -x) (sinAt_of m c _ _ l (by change l.val % 64 = l % 32; omega)))
  · rw [if_neg hl]
    exact dif_neg hl

/-- The factors of the lane below. -/
theorem table_2 (c : Dev nD) (t : Fin 4352) (l : Fin 128) :
    (V m c main_v101 : FVec Ideal S3x4352x128 .f32) (ix3 2 t l)
      = if h : t.val < 4096 then (if l.val % 64 < 32 then 0 else sinAt ⟨t, h⟩ (pair l)) else 0 := by
  refine (V_rep m c 2 t l).trans ((V_stack2 m c t _).trans ((V_96 m c t _).trans ((V_93 m c t _).trans ?_)))
  refine dite_congr rfl (fun h => ?_) (fun h => V_90 m c _ _)
  refine (V_87 m c _ _).trans ((V_86 m c _ _).trans ?_)
  by_cases hl : l.val % 64 < 32
  · rw [if_pos hl]
    exact dif_pos hl
  · rw [if_neg hl]
    exact (dif_neg hl).trans (sinAt_of m c _ _ l (by change l.val % 64 - 32 = l % 32; omega))

/-- A token's projected row. -/
def tokrow (c : Dev nD) (b : Fin 8) (t : Fin 4352) (j : Fin 5024) : EReal :=
  Cert.MixerReferenceIdeal.Hand.col (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) b t j

/-- The keys' gain. -/
def keygain (c : Dev nD) (k : Fin 64) : EReal := (m ((c : Thread nD τ).loc main_arg7) : FVec Ideal S64 .f32) (ix1 k)

/-- A head's lanes: 64 of the projected row, the rest 0. -/
theorem head_cell (c : Dev nD) (b : Fin 8) (t : Fin 4352) (p : Fin 2) (l : Fin 128) :
    cell (V m c main_v147) (V m c main_v4) (V m c main_v42) (V m c main_v23) ⟨4352 * b + t, by omega⟩ (kgc p l)
      = if h : l.val < 64 then Cert.MixerReferenceIdeal.Hand.head (tokrow m c b t) p ⟨l, h⟩ else 0 := by
  have hm : (p.val * 128 + l) % 128 = l := by omega
  by_cases h : l.val < 64
  · rw [dif_pos h]
    refine cell_eq m c b t _ ⟨512 + (p * 64 + l), by omega⟩ fun k => (V_wgk m c k ⟨p * 128 + l, by omega⟩).trans ?_
    refine (dif_pos (show (p.val * 128 + l.val) % 128 < 64 by omega)).trans ?_
    refine congrArg (fun s => (m ((c : Thread nD τ).loc main_arg5) : FVec Ideal S1024x5024 .f32) (ix2 k s)) (Fin.ext ?_)
    change 512 + ((p.val * 128 + l.val) / 128 * 64 + (p.val * 128 + l.val) % 128) = 512 + (p.val * 64 + l.val)
    omega
  · rw [dif_neg h]
    exact cell_zero _ _ _ _ _ _ fun k => (V_wgk m c k ⟨p * 128 + l, by omega⟩).trans
      (dif_neg (show ¬(p.val * 128 + l.val) % 128 < 64 by omega))

theorem head_gain (c : Dev nD) (l : Fin 128) (h : l.val < 64) :
    (V m c main_v50 : FVec Ideal S1x128 .f32) (ix2 0 l) = keygain m c ⟨l, h⟩ :=
  (V_kgain m c l).trans (congrArg (keygain m c) (Fin.ext (Nat.mod_eq_of_lt h)))

/-- A token's place is its own. -/
theorem place_eq (b : Fin 8) (t : Fin 4352) : place ⟨4352 * b + t, by omega⟩ = t :=
  Fin.ext (by change (4352 * (b : ℕ) + t) % 4352 = t; omega)

/-- The grouped-query keys. -/
theorem value_gkey (c : Dev nD) :
    (fun i : S34816x256.Idx => keycell (V m c main_v147) (V m c main_v4) (V m c main_v42) (V m c main_v23) (V m c main_v50)
        (V m c main_v101) (i 0) (i 1))
      = Cert.MixerReferenceIdeal.Read.val_main_v226 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg7)) := by
  funext i
  obtain ⟨b, t, n, rfl⟩ := split_row i
  refine Eq.trans ?_ (Cert.MixerReferenceIdeal.Hand.gkey_row _ _ _ _ _ _ _ b t n).symm
  change keycell (V m c main_v147) (V m c main_v4) (V m c main_v42) (V m c main_v23) (V m c main_v50) (V m c main_v101)
    ⟨4352 * b + t, by omega⟩ n = Cert.MixerReferenceIdeal.Hand.gkey _ (tokrow m c b t) t n
  unfold keycell Cert.MixerReferenceIdeal.Hand.gkey
  rw [place_eq]
  by_cases ht : t.val < 4096
  · refine (khead_lat (cs := cosAt ⟨t, ht⟩) (sn := sinAt ⟨t, ht⟩) (head_cell m c b t ⟨n / 128, by omega⟩) (head_gain m c)
      (fun l => (table_0 m c t l).trans (dif_pos ht)) (fun l => (table_1 m c t l).trans (dif_pos ht))
      (fun l => (table_2 m c t l).trans (dif_pos ht)) _).trans ?_
    refine dite_congr rfl (fun _ => ?_) (fun _ => rfl)
    rw [dif_pos ht]
    rfl
  · refine (khead_ctx (head_cell m c b t ⟨n / 128, by omega⟩) (head_gain m c)
      (fun l => (table_0 m c t l).trans (dif_neg ht)) (fun l => (table_1 m c t l).trans (dif_neg ht))
      (fun l => (table_2 m c t l).trans (dif_neg ht)) _).trans ?_
    refine dite_congr rfl (fun _ => ?_) (fun _ => rfl)
    rw [dif_neg ht]
    rfl

end Cert.MixerIdeal.Hand
end
-- ==== Proof.RouterBlock.lean ====
module

public import proofs.«01_k».proof.Proof.Gen.RouterIdeal.Value
public import proofs.«01_k».proof.Proof.MergeRow

@[expose] public section

/-! One grid point of the routing call: a row of the stored block. -/

set_option maxRecDepth 16384
noncomputable section
namespace Cert.RouterIdeal.Hand
open Cert.RouterIdeal Cert.RouterIdeal.Gen Idealize.ShloMosaic Idealize.ShloMosaic.TcCoe Idealize.SL.Sem
open Cert.MergeRow
open scoped BigOperators

/-- The grouped branch's rows. -/
theorem second_apply (i : grid0.Coords) (v6 v8 : Vec Ideal S1x256x512 .bf16) (r : Fin 256) (k : Fin 512) :
    k0_pay4 i v6 v8 (ix2 r k) = (if 16 ≤ (i 1).val then v6 else v8) (ix3 0 r k) := by
  by_cases h : 16 ≤ (i 1).val
  · have c : Scalar.cmpi .sge (BitVec.ofNat 32 (i 1).val) 16#32 = 1#1 := by
      revert h; generalize i 1 = j; revert j; decide
    simp only [k0_pay4]
    rw [c, if_pos h]
    pointwise
  · have c : Scalar.cmpi .sge (BitVec.ofNat 32 (i 1).val) 16#32 = 0#1 := by
      revert h; generalize i 1 = j; revert j; decide
    simp only [k0_pay4]
    rw [c, if_neg h]
    pointwise

/-- The latent branch's rows. -/
theorem third_apply (i : grid0.Coords) (v6 v8 : Vec Ideal S1x256x256 .bf16) (r : Fin 256) (k : Fin 256) :
    k0_pay5 i v6 v8 (ix2 r k) = (if 16 ≤ (i 1).val then v6 else v8) (ix3 0 r k) := by
  by_cases h : 16 ≤ (i 1).val
  · have c : Scalar.cmpi .sge (BitVec.ofNat 32 (i 1).val) 16#32 = 1#1 := by
      revert h; generalize i 1 = j; revert j; decide
    simp only [k0_pay5]
    rw [c, if_pos h]
    pointwise
  · have c : Scalar.cmpi .sge (BitVec.ofNat 32 (i 1).val) 16#32 = 0#1 := by
      revert h; generalize i 1 = j; revert j; decide
    simp only [k0_pay5]
    rw [c, if_neg h]
    pointwise

/-- The neighbourhood branch's part. -/
theorem first_apply (v16 : Vec Ideal S1x256x1024 .bf16) (v19 : Vec Ideal S1x256x256 .bf16) (v21 : Vec Ideal S256x1024 .bf16)
    (r : Fin 256) (n : Fin 1024) :
    k0_pay6 v16 v19 v21 (ix2 r n) = v16 (ix3 0 r n) * ∑ k : Fin 256, v19 (ix3 0 r k) * v21 (ix2 k n) := by
  pointwise [k0_pay6]

/-- The grouped branch's gate. -/
theorem gate_apply (v25 : Vec Ideal S1x256x1024 .bf16) (r : Fin 256) (n : Fin 1024) :
    k0_pay7 v25 (ix2 r n) = v25 (ix3 0 r n) := by
  pointwise [k0_pay7]

/-- The merged residual. -/
theorem merged_apply (v10 : FVec Ideal S256x512 .bf16) (v15 : FVec Ideal S256x256 .bf16) (v24 v27 : FVec Ideal S256x1024 .f32)
    (v28 : Vec Ideal S512x1024 .bf16) (v33 : Vec Ideal S1x256x1024 .bf16) (v36 : Vec Ideal S256x1024 .bf16)
    (v42 : Vec Ideal S1024x1024 .bf16) (v45 : Vec Ideal S1x256x1024 .f32) (v47 : Vec Ideal S1x6x1024 .f32) (r : Fin 256) (n : Fin 1024) :
    k0_pay9 v10 v15 v24 v27 v28 v33 v36 v42 v45 v47 (ix3 0 r n)
      = v45 (ix3 0 r n) + v47 (ix3 0 2 n) * ∑ k : Fin 1024,
          (v24 (ix2 r k) + v27 (ix2 r k) * (∑ j : Fin 512, v10 (ix2 r j) * v28 (ix2 j k))
            + v33 (ix3 0 r k) * ∑ j : Fin 256, v15 (ix2 r j) * v36 (ix2 j k)) * v42 (ix2 k n) := by
  pointwise [k0_pay9, k0_pay8]

/-- A load of some lanes of a block's rows. -/
theorem ld_lanes {a b w o : ℕ} {e : EltTy} (X : Vec Ideal ⟨3, ![1, a, b]⟩ e) (h) (r : Fin a) (k : Fin w) (hk : o + (k : ℕ) < b) :
    View.ld X (Rect.unit (s := ⟨3, ![1, a, b]⟩) ![0, 0, o] ![1, a, w] h) (ix3 0 r k) = X (ix3 0 r ⟨o + k, hk⟩) := by
  refine congrArg X (funext fun i => Fin.ext ?_)
  match i with
  | ⟨0, _⟩ => rfl
  | ⟨1, _⟩ => change 0 + 1 * (r : ℕ) = r; omega
  | ⟨2, _⟩ => change o + 1 * (k : ℕ) = o + k; omega

theorem hz3 : (![0, 0, 0] : Fin 3 → ℕ) = fun _ => 0 := by decide

theorem hz2 : (![0, 0] : Fin 2 → ℕ) = fun _ => 0 := by decide

/-- What a grid point stores of the tokens, from the blocks it holds. -/
def stored (i : grid0.Coords) (x0 : Vec Ideal S1x256x1024 .f32) (x1 : Vec Ideal S1x6x1024 .f32) (x2 : Vec Ideal S1x256x256 .bf16)
    (x3 x4 : Vec Ideal S1x256x512 .bf16) (x5 x6 : Vec Ideal S1x256x256 .bf16) (x7 : Vec Ideal S1x256x3072 .bf16)
    (x8 : Vec Ideal S256x1024 .bf16) (x9 : Vec Ideal S512x1024 .bf16) (x10 : Vec Ideal S256x1024 .bf16)
    (x11 : Vec Ideal S1024x1024 .bf16) : Vec Ideal S1x256x1024 .f32 :=
  k0_pay9 (k0_pay4 i x4 x3) (k0_pay5 i x6 x5)
    (k0_pay6 (View.ld x7 (Rect.unit (s := S1x256x3072) ![0, 0, 0] S1x256x1024.size inb_S1x256x3072_S1x256x1024_0_0_0)) x2 x8)
    (k0_pay7 (View.ld x7 (Rect.unit (s := S1x256x3072) ![0, 0, 1024] S1x256x1024.size inb_S1x256x3072_S1x256x1024_0_0_1024))) x9
    (View.ld x7 (Rect.unit (s := S1x256x3072) ![0, 0, 2048] S1x256x1024.size inb_S1x256x3072_S1x256x1024_0_0_2048)) x10 x11 x0 x1

/-- The tokens the first grid point stores. -/
theorem out_A (c : Dev nD) (i : grid0.Coords) (arg2 : Memref sig .tc .vmem S1x256x1024 .f32) (harg2 : arg2.IsWhole)
    (arg3 : Memref sig .tc .vmem S1x6x1024 .f32) (harg3 : arg3.IsWhole) (arg4 : Memref sig .tc .vmem S1x256x256 .bf16)
    (harg4 : arg4.IsWhole) (arg5 : Memref sig .tc .vmem S1x256x512 .bf16) (harg5 : arg5.IsWhole)
    (arg6 : Memref sig .tc .vmem S1x256x512 .bf16) (harg6 : arg6.IsWhole) (arg7 : Memref sig .tc .vmem S1x256x256 .bf16)
    (harg7 : arg7.IsWhole) (arg8 : Memref sig .tc .vmem S1x256x256 .bf16) (harg8 : arg8.IsWhole)
    (arg9 : Memref sig .tc .vmem S1x256x3072 .bf16) (harg9 : arg9.IsWhole) (arg10 : Memref sig .tc .vmem S256x1024 .bf16)
    (harg10 : arg10.IsWhole) (arg11 : Memref sig .tc .vmem S512x1024 .bf16) (harg11 : arg11.IsWhole)
    (arg12 : Memref sig .tc .vmem S256x1024 .bf16) (harg12 : arg12.IsWhole) (arg13 : Memref sig .tc .vmem S1024x1024 .bf16)
    (harg13 : arg13.IsWhole) (arg14 : Memref sig .tc .vmem S1x1024 .f32) (harg14 : arg14.IsWhole)
    (arg15 : Memref sig .tc .vmem S2x1024x128 .bf16) (harg15 : arg15.IsWhole) (arg16 : Memref sig .tc .vmem S1x256x1024 .f32)
    (harg16 : arg16.IsWhole) (arg17 : Memref sig .tc .vmem S1x256x128 .i32) (harg17 : arg17.IsWhole)
    (arg18 : Memref sig .tc .vmem S1x256x128 .f32) (harg18 : arg18.IsWhole) (arg19 : Memref sig .tc .vmem S8x128 .f32)
    (harg19 : arg19.IsWhole) (arg20 : Memref sig .tc .vmem S8x128 .f32) (harg20 : arg20.IsWhole)
    (hc0 : cond0_0 i)
    (x0 : Vec Ideal S1x256x1024 .f32) (x1 : Vec Ideal S1x6x1024 .f32) (x2 : Vec Ideal S1x256x256 .bf16)
    (x3 : Vec Ideal S1x256x512 .bf16) (x4 : Vec Ideal S1x256x512 .bf16) (x5 : Vec Ideal S1x256x256 .bf16)
    (x6 : Vec Ideal S1x256x256 .bf16) (x7 : Vec Ideal S1x256x3072 .bf16) (x8 : Vec Ideal S256x1024 .bf16)
    (x9 : Vec Ideal S512x1024 .bf16) (x10 : Vec Ideal S256x1024 .bf16) (x11 : Vec Ideal S1024x1024 .bf16)
    (x12 : Vec Ideal S1x1024 .f32) (x13 : Vec Ideal S2x1024x128 .bf16) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 = stored i x0 x1 x2 x3 x4 x5 x6 x7 x8 x9 x10 x11 := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13)]
  unfold kernelRun0_A
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread]
  rw [View.canon_unit_zero hz3]
  unfold stored
  simp only [View.ld_unit_zero (S := S1x256x1024) hz3, View.ld_unit_zero (S := S1x6x1024) hz3, View.ld_unit_zero (S := S1x256x256) hz3,
    View.ld_unit_zero (S := S1x256x512) hz3, View.ld_unit_zero (S := S256x1024) hz2, View.ld_unit_zero (S := S512x1024) hz2,
    View.ld_unit_zero (S := S1024x1024) hz2]

/-- The tokens a later grid point stores. -/
theorem out_B (c : Dev nD) (i : grid0.Coords) (arg2 : Memref sig .tc .vmem S1x256x1024 .f32) (harg2 : arg2.IsWhole)
    (arg3 : Memref sig .tc .vmem S1x6x1024 .f32) (harg3 : arg3.IsWhole) (arg4 : Memref sig .tc .vmem S1x256x256 .bf16)
    (harg4 : arg4.IsWhole) (arg5 : Memref sig .tc .vmem S1x256x512 .bf16) (harg5 : arg5.IsWhole)
    (arg6 : Memref sig .tc .vmem S1x256x512 .bf16) (harg6 : arg6.IsWhole) (arg7 : Memref sig .tc .vmem S1x256x256 .bf16)
    (harg7 : arg7.IsWhole) (arg8 : Memref sig .tc .vmem S1x256x256 .bf16) (harg8 : arg8.IsWhole)
    (arg9 : Memref sig .tc .vmem S1x256x3072 .bf16) (harg9 : arg9.IsWhole) (arg10 : Memref sig .tc .vmem S256x1024 .bf16)
    (harg10 : arg10.IsWhole) (arg11 : Memref sig .tc .vmem S512x1024 .bf16) (harg11 : arg11.IsWhole)
    (arg12 : Memref sig .tc .vmem S256x1024 .bf16) (harg12 : arg12.IsWhole) (arg13 : Memref sig .tc .vmem S1024x1024 .bf16)
    (harg13 : arg13.IsWhole) (arg14 : Memref sig .tc .vmem S1x1024 .f32) (harg14 : arg14.IsWhole)
    (arg15 : Memref sig .tc .vmem S2x1024x128 .bf16) (harg15 : arg15.IsWhole) (arg16 : Memref sig .tc .vmem S1x256x1024 .f32)
    (harg16 : arg16.IsWhole) (arg17 : Memref sig .tc .vmem S1x256x128 .i32) (harg17 : arg17.IsWhole)
    (arg18 : Memref sig .tc .vmem S1x256x128 .f32) (harg18 : arg18.IsWhole) (arg19 : Memref sig .tc .vmem S8x128 .f32)
    (harg19 : arg19.IsWhole) (arg20 : Memref sig .tc .vmem S8x128 .f32) (harg20 : arg20.IsWhole)
    (hc0 : ¬cond0_0 i)
    (x0 : Vec Ideal S1x256x1024 .f32) (x1 : Vec Ideal S1x6x1024 .f32) (x2 : Vec Ideal S1x256x256 .bf16)
    (x3 : Vec Ideal S1x256x512 .bf16) (x4 : Vec Ideal S1x256x512 .bf16) (x5 : Vec Ideal S1x256x256 .bf16)
    (x6 : Vec Ideal S1x256x256 .bf16) (x7 : Vec Ideal S1x256x3072 .bf16) (x8 : Vec Ideal S256x1024 .bf16)
    (x9 : Vec Ideal S512x1024 .bf16) (x10 : Vec Ideal S256x1024 .bf16) (x11 : Vec Ideal S1024x1024 .bf16)
    (x12 : Vec Ideal S1x1024 .f32) (x13 : Vec Ideal S2x1024x128 .bf16) (xs0 : Vec Ideal S8x128 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs0 = stored i x0 x1 x2 x3 x4 x5 x6 x7 x8 x9 x10 x11 := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs0)]
  unfold kernelRun0_B
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread]
  rw [View.canon_unit_zero hz3]
  unfold stored
  simp only [View.ld_unit_zero (S := S1x256x1024) hz3, View.ld_unit_zero (S := S1x6x1024) hz3, View.ld_unit_zero (S := S1x256x256) hz3,
    View.ld_unit_zero (S := S1x256x512) hz3, View.ld_unit_zero (S := S256x1024) hz2, View.ld_unit_zero (S := S512x1024) hz2,
    View.ld_unit_zero (S := S1024x1024) hz2]

/-- What a grid point stores, entry by entry. -/
theorem stored_apply (i : grid0.Coords) (x0 : Vec Ideal S1x256x1024 .f32) (x1 : Vec Ideal S1x6x1024 .f32) (x2 : Vec Ideal S1x256x256 .bf16)
    (x3 x4 : Vec Ideal S1x256x512 .bf16) (x5 x6 : Vec Ideal S1x256x256 .bf16) (x7 : Vec Ideal S1x256x3072 .bf16)
    (x8 : Vec Ideal S256x1024 .bf16) (x9 : Vec Ideal S512x1024 .bf16) (x10 : Vec Ideal S256x1024 .bf16) (x11 : Vec Ideal S1024x1024 .bf16)
    (r : Fin 256) (n : Fin 1024) :
    stored i x0 x1 x2 x3 x4 x5 x6 x7 x8 x9 x10 x11 (ix3 0 r n)
      = resid (fun k => x0 (ix3 0 r k)) (fun k => x1 (ix3 0 2 k))
          (mixed (fun k => x7 (ix3 0 r ⟨k, by omega⟩)) (fun k => x7 (ix3 0 r ⟨1024 + k, by omega⟩)) (fun k => x7 (ix3 0 r ⟨2048 + k, by omega⟩))
            (fun k => x2 (ix3 0 r k)) (fun k => (if 16 ≤ (i 1).val then x4 else x3) (ix3 0 r k))
            (fun k => (if 16 ≤ (i 1).val then x6 else x5) (ix3 0 r k))
            (fun k n => x8 (ix2 k n)) (fun k n => x9 (ix2 k n)) (fun k n => x10 (ix2 k n)))
          (fun k n => x11 (ix2 k n)) n := by
  have g0 : ∀ k : Fin 1024, View.ld x7 (Rect.unit (s := S1x256x3072) ![0, 0, 0] S1x256x1024.size inb_S1x256x3072_S1x256x1024_0_0_0)
      (ix3 0 r k) = x7 (ix3 0 r ⟨k, by omega⟩) :=
    fun k => (ld_lanes x7 _ r k (by omega)).trans (by simp only [zero_add])
  have g1 : ∀ k : Fin 1024, View.ld x7 (Rect.unit (s := S1x256x3072) ![0, 0, 1024] S1x256x1024.size inb_S1x256x3072_S1x256x1024_0_0_1024)
      (ix3 0 r k) = x7 (ix3 0 r ⟨1024 + k, by omega⟩) :=
    fun k => ld_lanes x7 _ r k (by omega)
  have g2 : ∀ k : Fin 1024, View.ld x7 (Rect.unit (s := S1x256x3072) ![0, 0, 2048] S1x256x1024.size inb_S1x256x3072_S1x256x1024_0_0_2048)
      (ix3 0 r k) = x7 (ix3 0 r ⟨2048 + k, by omega⟩) :=
    fun k => ld_lanes x7 _ r k (by omega)
  unfold stored
  refine (merged_apply _ _ _ _ _ _ _ _ _ _ r n).trans ?_
  simp only [first_apply, gate_apply, second_apply, third_apply, g0, g1, g2]
  rfl

end Cert.RouterIdeal.Hand
end
-- ==== Proof.RouterFinal.lean ====
module

public import proofs.«01_k».proof.Proof.RouterBlock

@[expose] public section

/-! From a grid point's blocks to the array of tokens the routing call leaves. -/

set_option maxRecDepth 16384
noncomputable section
namespace Cert.RouterIdeal.Hand
open Cert.RouterIdeal Cert.RouterIdeal.Gen Idealize.ShloMosaic Idealize.ShloMosaic.TcCoe Idealize.SL.Sem
open Idealize.ShloMosaic.Pipeline (Dat)
open Cert.MergeRow
open scoped BigOperators
variable (m : (ℓ : Loc nD τ sig) → Buf (Elt Ideal) ℓ)

/-- Where each window's block lies at a grid point. -/
theorem idx : ∀ t : Fin cfg0.N, win0_0.index t = ![t.val / 17, t.val % 17, 0]
    ∧ win0_1.index t = ![2 * (t.val / 17) + t.val % 17 / 16, 0, 0]
    ∧ win0_2.index t = ![t.val / 17, t.val % 17, 0]
    ∧ win0_3.index t = ![t.val / 17, min (t.val % 17) 15, 0] ∧ win0_4.index t = ![t.val / 17, 0, 0]
    ∧ win0_5.index t = ![t.val / 17, min (t.val % 17) 15, 0] ∧ win0_6.index t = ![t.val / 17, 0, 0]
    ∧ win0_7.index t = ![t.val / 17, t.val % 17, 0] ∧ win0_14.index t = ![t.val / 17, t.val % 17, 0] :=
  (by decide +kernel : ∀ t : Fin grid0.N, _)

/-- The resident windows' blocks are whole arrays. -/
theorem idx' : ∀ t : Fin cfg0.N, win0_8.index t = ![0, 0] ∧ win0_9.index t = ![0, 0] ∧ win0_10.index t = ![0, 0]
    ∧ win0_11.index t = ![0, 0] :=
  (by decide +kernel : ∀ t : Fin grid0.N, _)

/-- The second grid coordinate is the point's tile. -/
theorem coord_one : ∀ t : Fin cfg0.N, (grid0.coords t 1).val = t.val % 17 :=
  (by decide +kernel : ∀ t : Fin grid0.N, _)

/-- The number of grid points. -/
theorem lt_N (t : Fin cfg0.N) : t.val < 136 := lt_of_lt_of_eq t.isLt (by decide)

/-- A grid point's batch entry. -/
def bat (t : Fin cfg0.N) : Fin 8 := ⟨t.val / 17, by have := lt_N t; omega⟩

/-- A grid point's rows. -/
def row (t : Fin cfg0.N) (r : Fin 256) : Fin 4352 := ⟨256 * (t.val % 17) + r, by omega⟩

/-- A token's modulation row. -/
def mrow (b : Fin 8) (t : Fin 4352) : Fin 16 := ⟨2 * b + t / 4096, by omega⟩

theorem read_0 (t : Fin cfg0.N) (A : FVec Ideal S8x4352x1024 .f32) (r : Fin 256) (k : Fin 1024) :
    ((cfg0.win 0).blk t).view.read (Elt Ideal) A (ix3 0 r k) = A (ix3 (bat t) (row t r) k) := by
  unfold bat row
  blk_simp
  blk_ext [idx t]

theorem read_1 (t : Fin cfg0.N) (A : FVec Ideal S16x6x1024 .f32) (r : Fin 256) (j : Fin 6) (k : Fin 1024) :
    ((cfg0.win 1).blk t).view.read (Elt Ideal) A (ix3 0 j k) = A (ix3 (mrow (bat t) (row t r)) j k) := by
  have e : (mrow (bat t) (row t r)) = ⟨2 * (t.val / 17) + t.val % 17 / 16, by have := lt_N t; omega⟩ := by
    refine Fin.ext ?_
    change 2 * (t.val / 17) + (256 * (t.val % 17) + (r : ℕ)) / 4096 = 2 * (t.val / 17) + t.val % 17 / 16
    omega
  rw [e]
  blk_simp
  blk_ext [idx t]

theorem read_2 (t : Fin cfg0.N) (A : FVec Ideal S8x4352x256 .bf16) (r : Fin 256) (k : Fin 256) :
    ((cfg0.win 2).blk t).view.read (Elt Ideal) A (ix3 0 r k) = A (ix3 (bat t) (row t r) k) := by
  unfold bat row
  blk_simp
  blk_ext [idx t]

theorem read_7 (t : Fin cfg0.N) (A : FVec Ideal S8x4352x3072 .bf16) (r : Fin 256) (k : Fin 3072) :
    ((cfg0.win 7).blk t).view.read (Elt Ideal) A (ix3 0 r k) = A (ix3 (bat t) (row t r) k) := by
  unfold bat row
  blk_simp
  blk_ext [idx t]

theorem read_3 (t : Fin cfg0.N) (A : FVec Ideal S8x4096x512 .bf16) (r : Fin 256) (k : Fin 512) :
    ((cfg0.win 3).blk t).view.read (Elt Ideal) A (ix3 0 r k) = A (ix3 (bat t) ⟨256 * min (t.val % 17) 15 + r, by omega⟩ k) := by
  unfold bat
  blk_simp
  blk_ext [idx t]

theorem read_4 (t : Fin cfg0.N) (A : FVec Ideal S8x256x512 .bf16) (r : Fin 256) (k : Fin 512) :
    ((cfg0.win 4).blk t).view.read (Elt Ideal) A (ix3 0 r k) = A (ix3 (bat t) r k) := by
  unfold bat
  blk_simp
  blk_ext [idx t]

theorem read_5 (t : Fin cfg0.N) (A : FVec Ideal S8x4096x256 .bf16) (r : Fin 256) (k : Fin 256) :
    ((cfg0.win 5).blk t).view.read (Elt Ideal) A (ix3 0 r k) = A (ix3 (bat t) ⟨256 * min (t.val % 17) 15 + r, by omega⟩ k) := by
  unfold bat
  blk_simp
  blk_ext [idx t]

theorem read_6 (t : Fin cfg0.N) (A : FVec Ideal S8x256x256 .bf16) (r : Fin 256) (k : Fin 256) :
    ((cfg0.win 6).blk t).view.read (Elt Ideal) A (ix3 0 r k) = A (ix3 (bat t) r k) := by
  unfold bat
  blk_simp
  blk_ext [idx t]

theorem read_8 (t : Fin cfg0.N) (A : FVec Ideal S256x1024 .bf16) (k : Fin 256) (n : Fin 1024) :
    ((cfg0.win 8).blk t).view.read (Elt Ideal) A (ix2 k n) = A (ix2 k n) := by
  blk_simp
  blk_ext [idx' t]

theorem read_9 (t : Fin cfg0.N) (A : FVec Ideal S512x1024 .bf16) (k : Fin 512) (n : Fin 1024) :
    ((cfg0.win 9).blk t).view.read (Elt Ideal) A (ix2 k n) = A (ix2 k n) := by
  blk_simp
  blk_ext [idx' t]

theorem read_10 (t : Fin cfg0.N) (A : FVec Ideal S256x1024 .bf16) (k : Fin 256) (n : Fin 1024) :
    ((cfg0.win 10).blk t).view.read (Elt Ideal) A (ix2 k n) = A (ix2 k n) := by
  blk_simp
  blk_ext [idx' t]

theorem read_11 (t : Fin cfg0.N) (A : FVec Ideal S1024x1024 .bf16) (k : Fin 1024) (n : Fin 1024) :
    ((cfg0.win 11).blk t).view.read (Elt Ideal) A (ix2 k n) = A (ix2 k n) := by
  blk_simp
  blk_ext [idx' t]

/-- The rows a grid point takes of a branch whose latents and context are separate arrays. -/
theorem rows_joined {w : ℕ} (L : FVec Ideal ⟨3, ![8, 4096, w]⟩ .bf16) (C : FVec Ideal ⟨3, ![8, 256, w]⟩ .bf16)
    (x y : Vec Ideal ⟨3, ![1, 256, w]⟩ .bf16) (t : Fin cfg0.N) (r : Fin 256) (k : Fin w)
    (hx : x (ix3 0 r k) = L (ix3 (bat t) ⟨256 * min (t.val % 17) 15 + r, by omega⟩ k)) (hy : y (ix3 0 r k) = C (ix3 (bat t) r k)) :
    (if 16 ≤ (grid0.coords t 1).val then y else x) (ix3 0 r k) = joined L C (bat t) (row t r) k := by
  rw [coord_one t]
  unfold joined
  by_cases h : 16 ≤ t.val % 17
  · rw [if_pos h, hy, dif_neg (by change ¬256 * (t.val % 17) + (r : ℕ) < 4096; omega)]
    refine congrArg (fun s => C (ix3 (bat t) s k)) (Fin.ext ?_)
    change (r : ℕ) = 256 * (t.val % 17) + (r : ℕ) - 4096
    omega
  · rw [if_neg h, hx, dif_pos (by change 256 * (t.val % 17) + (r : ℕ) < 4096; omega)]
    refine congrArg (fun s => L (ix3 (bat t) s k)) (Fin.ext ?_)
    change 256 * min (t.val % 17) 15 + (r : ℕ) = 256 * (t.val % 17) + (r : ℕ)
    omega

/-- A token of the result, over the operands. -/
def tok (X : FVec Ideal S8x4352x1024 .f32) (M : FVec Ideal S16x6x1024 .f32) (Na : FVec Ideal S8x4352x256 .bf16)
    (Lg : FVec Ideal S8x4096x512 .bf16) (Cg : FVec Ideal S8x256x512 .bf16) (Lm : FVec Ideal S8x4096x256 .bf16)
    (Cm : FVec Ideal S8x256x256 .bf16) (G : FVec Ideal S8x4352x3072 .bf16) (Wa : FVec Ideal S256x1024 .bf16)
    (Wg : FVec Ideal S512x1024 .bf16) (Wm : FVec Ideal S256x1024 .bf16) (Wo : FVec Ideal S1024x1024 .bf16)
    (b : Fin 8) (t : Fin 4352) : Fin 1024 → EReal :=
  resid (fun k => X (ix3 b t k)) (fun k => M (ix3 (mrow b t) 2 k))
    (mixed (fun k => G (ix3 b t ⟨k, by omega⟩)) (fun k => G (ix3 b t ⟨1024 + k, by omega⟩)) (fun k => G (ix3 b t ⟨2048 + k, by omega⟩))
      (fun k => Na (ix3 b t k)) (joined Lg Cg b t) (joined Lm Cm b t)
      (fun k n => Wa (ix2 k n)) (fun k n => Wg (ix2 k n)) (fun k n => Wm (ix2 k n))) (fun k n => Wo (ix2 k n))

/-- What a grid point leaves of the tokens, whichever of the two kinds of point it is. -/
theorem left_eq (c : Dev nD) (t : Fin cfg0.N) :
    (outsAt0 m c t.val t.isLt).1 = stored (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  by_cases h : t.val % 136 = 0
  · refine (congrArg Prod.fst (outsAt0_A m c t h)).trans ?_
    dsimp only
    exact out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
  · refine (congrArg Prod.fst (outsAt0_B m c t h)).trans ?_
    dsimp only
    exact out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun e => h ((hcond0_0 t).mp e)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2

/-- The array the kernel leaves. -/
theorem final (c : Dev nD) : (dats m 0 c).arrAt 14 (cfgs 0).N
    = fun i : S8x4352x1024.Idx => tok (V m c main_v21) (V m c main_v4) (V m c main_v23) (V m c main_v24) (V m c main_v25) (V m c main_v26) (V m c main_v27) (V m c main_v20) (V m c main_v28) (V m c main_v29) (V m c main_v30) (V m c main_v31)
        (i 0) (i 1) (i 2) := by
  refine (dats m 0 c).arrAt_eq_of_covers 14 _ (by decide +kernel) fun t _ y => ?_
  blk_simp
  rw [after0_14, left_eq m c t]
  obtain ⟨a, r, n, rfl⟩ : ∃ (a : Fin 1) (r : Fin 256) (n : Fin 1024), y = ix3 a r n := ⟨y 0, y 1, y 2, by blk_ext []⟩
  obtain rfl := Subsingleton.elim a 0
  refine (stored_apply _ _ _ _ _ _ _ _ _ _ _ _ _ r n).trans ?_
  have e : (win0_14.blk t).view.emb (ix3 0 r n) = ix3 (bat t) (row t r) n := by
    unfold bat row
    blk_ext [idx t]
  rw [e]
  have e0 : ∀ k, (iblk m c 0 t : Vec Ideal S1x256x1024 .f32) (ix3 0 r k) = _ := read_0 t (V m c main_v21) r
  have e1 : ∀ j k, (iblk m c 1 t : Vec Ideal S1x6x1024 .f32) (ix3 0 j k) = _ := read_1 t (V m c main_v4) r
  have e2 : ∀ k, (iblk m c 2 t : Vec Ideal S1x256x256 .bf16) (ix3 0 r k) = _ := read_2 t (V m c main_v23) r
  have e7 : ∀ k, (iblk m c 7 t : Vec Ideal S1x256x3072 .bf16) (ix3 0 r k) = _ := read_7 t (V m c main_v20) r
  have e8 : ∀ k n, (iblk m c 8 t : Vec Ideal S256x1024 .bf16) (ix2 k n) = _ := read_8 t (V m c main_v28)
  have e9 : ∀ k n, (iblk m c 9 t : Vec Ideal S512x1024 .bf16) (ix2 k n) = _ := read_9 t (V m c main_v29)
  have e10 : ∀ k n, (iblk m c 10 t : Vec Ideal S256x1024 .bf16) (ix2 k n) = _ := read_10 t (V m c main_v30)
  have e11 : ∀ k n, (iblk m c 11 t : Vec Ideal S1024x1024 .bf16) (ix2 k n) = _ := read_11 t (V m c main_v31)
  have eg : ∀ k, (if 16 ≤ (grid0.coords t 1).val then (iblk m c 4 t : Vec Ideal S1x256x512 .bf16) else iblk m c 3 t) (ix3 0 r k) = _ :=
    fun k => rows_joined (V m c main_v24) (V m c main_v25) _ _ t r k (read_3 t (V m c main_v24) r k) (read_4 t (V m c main_v25) r k)
  have em : ∀ k, (if 16 ≤ (grid0.coords t 1).val then (iblk m c 6 t : Vec Ideal S1x256x256 .bf16) else iblk m c 5 t) (ix3 0 r k) = _ :=
    fun k => rows_joined (V m c main_v26) (V m c main_v27) _ _ t r k (read_5 t (V m c main_v26) r k) (read_6 t (V m c main_v27) r k)
  simp only [e0, e1, e2, e7, e8, e9, e10, e11, eg, em]
  rfl

end Cert.RouterIdeal.Hand
end
-- ==== Proof.RouterOperands.lean ====
module

public import proofs.«01_k».proof.Proof.Gen.RouterIdeal.Value
public import proofs.«01_k».proof.Proof.MergeRow

@[expose] public section

/-! The operands the host code prepares for the layers with experts. -/

set_option maxRecDepth 16384
noncomputable section
namespace Cert.RouterIdeal.Hand
open Cert.RouterIdeal Cert.RouterIdeal.Gen Idealize.ShloMosaic Idealize.ShloMosaic.TcCoe Idealize.SL.Sem
open Cert.MergeRow
open scoped BigOperators
variable (m : (ℓ : Loc nD τ sig) → Buf (Elt Ideal) ℓ)

/-- The tokens. -/
theorem V_x (c : Dev nD) (b : Fin 8) (t : Fin 4352) (k : Fin 1024) :
    (V m c main_v21 : FVec Ideal S8x4352x1024 .f32) (ix3 b t k)
      = joined (m ((c : Thread nD τ).loc main_arg0)) (m ((c : Thread nD τ).loc main_arg1)) b t k := by
  unfold V
  simp only [hostOps0, hostOps0_1, hostOps0_2, List.flatten_cons, List.flatten_nil, List.cons_append, List.nil_append,
    List.append_nil, StableHlo.TRef.unary, StableHlo.TRef.binary, StableHlo.TRef.ternary]
  after_results_simp
  pointwise
  rfl

/-- The neighbourhood branch's rows. -/
theorem V_na (c : Dev nD) (b : Fin 8) (t : Fin 4352) (k : Fin 256) :
    (V m c main_v23 : FVec Ideal S8x4352x256 .bf16) (ix3 b t k)
      = joined (m ((c : Thread nD τ).loc main_arg5)) (m ((c : Thread nD τ).loc main_arg6)) b t k := by
  unfold V
  simp only [hostOps0, hostOps0_1, hostOps0_2, List.flatten_cons, List.flatten_nil, List.cons_append, List.nil_append,
    List.append_nil, StableHlo.TRef.unary, StableHlo.TRef.binary, StableHlo.TRef.ternary]
  after_results_simp
  pointwise
  rfl

/-- The gates. -/
theorem V_gate (c : Dev nD) (b : Fin 8) (t : Fin 4352) (k : Fin 3072) :
    (V m c main_v20 : FVec Ideal S8x4352x3072 .bf16) (ix3 b t k)
      = Ideal.logistic (joined (m ((c : Thread nD τ).loc main_arg11)) (m ((c : Thread nD τ).loc main_arg12)) b t k) := by
  unfold V
  simp only [hostOps0, hostOps0_1, hostOps0_2, List.flatten_cons, List.flatten_nil, List.cons_append, List.nil_append,
    List.append_nil, StableHlo.TRef.unary, StableHlo.TRef.binary, StableHlo.TRef.ternary]
  after_results_simp
  pointwise
  rfl

/-- The latents' modulation. -/
theorem V_mod (c : Dev nD) (b : Fin 8) (j : Fin 6) (k : Fin 1024) :
    (V m c main_v4 : FVec Ideal S16x6x1024 .f32) (ix3 ⟨2 * b, by omega⟩ j k)
      = (m ((c : Thread nD τ).loc main_arg2) : FVec Ideal S8x6144 .f32) (ix2 b ⟨j * 1024 + k, by omega⟩) := by
  unfold V
  simp only [hostOps0, hostOps0_1, hostOps0_2, List.flatten_cons, List.flatten_nil, List.cons_append, List.nil_append,
    List.append_nil, StableHlo.TRef.unary, StableHlo.TRef.binary, StableHlo.TRef.ternary]
  after_results_simp
  pointwise
  rw [dif_pos (by omega)]
  after_results_loop
  pointwise

/-- The context's modulation. -/
theorem V_modc (c : Dev nD) (b : Fin 8) (j : Fin 6) (k : Fin 1024) :
    (V m c main_v4 : FVec Ideal S16x6x1024 .f32) (ix3 ⟨2 * b + 1, by omega⟩ j k)
      = (m ((c : Thread nD τ).loc main_arg3) : FVec Ideal S6144 .f32) (ix1 ⟨j * 1024 + k, by omega⟩) := by
  unfold V
  simp only [hostOps0, hostOps0_1, hostOps0_2, List.flatten_cons, List.flatten_nil, List.cons_append, List.nil_append,
    List.append_nil, StableHlo.TRef.unary, StableHlo.TRef.binary, StableHlo.TRef.ternary]
  after_results_simp
  pointwise
  rw [dif_neg (by omega)]
  after_results_loop
  pointwise

/-- The grouped branch, latents. -/
theorem V_g (c : Dev nD) (i : S8x4096x512.Idx) :
    (V m c main_v24 : FVec Ideal S8x4096x512 .bf16) i = (m ((c : Thread nD τ).loc main_arg7) : FVec Ideal S8x4096x512 .f32) i := by
  unfold V
  simp only [hostOps0, hostOps0_1, hostOps0_2, List.flatten_cons, List.flatten_nil, List.cons_append, List.nil_append,
    List.append_nil, StableHlo.TRef.unary, StableHlo.TRef.binary, StableHlo.TRef.ternary]
  after_results_simp
  rfl

/-- The grouped branch, context. -/
theorem V_gc (c : Dev nD) (i : S8x256x512.Idx) :
    (V m c main_v25 : FVec Ideal S8x256x512 .bf16) i = (m ((c : Thread nD τ).loc main_arg8) : FVec Ideal S8x256x512 .f32) i := by
  unfold V
  simp only [hostOps0, hostOps0_1, hostOps0_2, List.flatten_cons, List.flatten_nil, List.cons_append, List.nil_append,
    List.append_nil, StableHlo.TRef.unary, StableHlo.TRef.binary, StableHlo.TRef.ternary]
  after_results_simp
  rfl

/-- The latent branch, latents. -/
theorem V_m (c : Dev nD) (i : S8x4096x256.Idx) :
    (V m c main_v26 : FVec Ideal S8x4096x256 .bf16) i = (m ((c : Thread nD τ).loc main_arg9) : FVec Ideal S8x4096x256 .f32) i := by
  unfold V
  simp only [hostOps0, hostOps0_1, hostOps0_2, List.flatten_cons, List.flatten_nil, List.cons_append, List.nil_append,
    List.append_nil, StableHlo.TRef.unary, StableHlo.TRef.binary, StableHlo.TRef.ternary]
  after_results_simp
  rfl

/-- The latent branch, context. -/
theorem V_mc (c : Dev nD) (i : S8x256x256.Idx) :
    (V m c main_v27 : FVec Ideal S8x256x256 .bf16) i = (m ((c : Thread nD τ).loc main_arg10) : FVec Ideal S8x256x256 .f32) i := by
  unfold V
  simp only [hostOps0, hostOps0_1, hostOps0_2, List.flatten_cons, List.flatten_nil, List.cons_append, List.nil_append,
    List.append_nil, StableHlo.TRef.unary, StableHlo.TRef.binary, StableHlo.TRef.ternary]
  after_results_simp
  rfl

/-- The neighbourhood projection. -/
theorem V_wa (c : Dev nD) (i : S256x1024.Idx) :
    (V m c main_v28 : FVec Ideal S256x1024 .bf16) i = (m ((c : Thread nD τ).loc main_arg13) : FVec Ideal S256x1024 .f32) i := by
  unfold V
  simp only [hostOps0, hostOps0_1, hostOps0_2, List.flatten_cons, List.flatten_nil, List.cons_append, List.nil_append,
    List.append_nil, StableHlo.TRef.unary, StableHlo.TRef.binary, StableHlo.TRef.ternary]
  after_results_simp
  rfl

/-- The grouped projection. -/
theorem V_wg (c : Dev nD) (i : S512x1024.Idx) :
    (V m c main_v29 : FVec Ideal S512x1024 .bf16) i = (m ((c : Thread nD τ).loc main_arg14) : FVec Ideal S512x1024 .f32) i := by
  unfold V
  simp only [hostOps0, hostOps0_1, hostOps0_2, List.flatten_cons, List.flatten_nil, List.cons_append, List.nil_append,
    List.append_nil, StableHlo.TRef.unary, StableHlo.TRef.binary, StableHlo.TRef.ternary]
  after_results_simp
  rfl

/-- The latent projection. -/
theorem V_wm (c : Dev nD) (i : S256x1024.Idx) :
    (V m c main_v30 : FVec Ideal S256x1024 .bf16) i = (m ((c : Thread nD τ).loc main_arg15) : FVec Ideal S256x1024 .f32) i := by
  unfold V
  simp only [hostOps0, hostOps0_1, hostOps0_2, List.flatten_cons, List.flatten_nil, List.cons_append, List.nil_append,
    List.append_nil, StableHlo.TRef.unary, StableHlo.TRef.binary, StableHlo.TRef.ternary]
  after_results_simp
  rfl

/-- The output projection. -/
theorem V_wo (c : Dev nD) (i : S1024x1024.Idx) :
    (V m c main_v31 : FVec Ideal S1024x1024 .bf16) i = (m ((c : Thread nD τ).loc main_arg16) : FVec Ideal S1024x1024 .f32) i := by
  unfold V
  simp only [hostOps0, hostOps0_1, hostOps0_2, List.flatten_cons, List.flatten_nil, List.cons_append, List.nil_append,
    List.append_nil, StableHlo.TRef.unary, StableHlo.TRef.binary, StableHlo.TRef.ternary]
  after_results_simp
  rfl

end Cert.RouterIdeal.Hand
end
-- ==== Proof.RouterRef.lean ====
module

public import proofs.«01_k».proof.Proof.Gen.RouterReferenceIdeal.Read
public import proofs.«01_k».proof.Proof.Gen.RouterReferenceIdeal.Run
public import proofs.«01_k».proof.Proof.MergeRow

@[expose] public section

/-! The result of the experts layers' reference at an index. -/

set_option maxRecDepth 16384
noncomputable section
namespace Cert.RouterReferenceIdeal.Hand
open Cert.RouterReferenceIdeal Cert.RouterReferenceIdeal.Gen Cert.RouterReferenceIdeal.Read Idealize.ShloMosaic Idealize.ShloMosaic.TcCoe Idealize.SL.Sem
open Cert.MergeRow
open scoped BigOperators

variable (x0 : FVec Ideal S8x4096x1024 .f32) (x1 : FVec Ideal S8x256x1024 .f32) (x2 : FVec Ideal S8x6144 .f32)
  (x3 : FVec Ideal S6144 .f32) (x5 : FVec Ideal S8x4096x256 .f32) (x6 : FVec Ideal S8x256x256 .f32)
  (x7 : FVec Ideal S8x4096x512 .f32) (x8 : FVec Ideal S8x256x512 .f32) (x9 : FVec Ideal S8x4096x256 .f32)
  (x10 : FVec Ideal S8x256x256 .f32) (x11 : FVec Ideal S8x4096x3072 .f32) (x12 : FVec Ideal S8x256x3072 .f32)
  (x13 : FVec Ideal S256x1024 .f32) (x14 : FVec Ideal S512x1024 .f32) (x15 : FVec Ideal S256x1024 .f32)
  (x16 : FVec Ideal S1024x1024 .f32)

/-- The latents' merged branches. -/
theorem mixed_apply (b : Fin 8) (t : Fin 4096) (n : Fin 1024) :
    val_main_v29 (F := Ideal) x5 x7 x9 x11 x13 x14 x15 (ix3 b t n)
      = mixed (fun k => Ideal.logistic (x11 (ix3 b t ⟨k, by omega⟩))) (fun k => Ideal.logistic (x11 (ix3 b t ⟨1024 + k, by omega⟩)))
          (fun k => Ideal.logistic (x11 (ix3 b t ⟨2048 + k, by omega⟩))) (fun k => x5 (ix3 b t k)) (fun k => x7 (ix3 b t k))
          (fun k => x9 (ix3 b t k)) (fun k n => x13 (ix2 k n)) (fun k n => x14 (ix2 k n)) (fun k n => x15 (ix2 k n)) n := by
  pointwise [val_main_v29, val_main_v28, val_main_v27, val_main_v26, val_main_v25, val_main_v24, val_main_v23, val_main_v22,
    val_main_v21, val_main_v20, val_main_v19, val_main_v18, val_main_v17, val_main_v16, val_main_v15, val_main_v14, val_main_v13,
    val_main_cst, val_main_cst_0]
  unfold mixed
  rfl

/-- The latents' residual. -/
theorem resid_apply (b : Fin 8) (t : Fin 4096) (n : Fin 1024) :
    val_main_v33 (F := Ideal) x0 x2 x5 x7 x9 x11 x13 x14 x15 x16 (ix3 b t n)
      = resid (fun k => x0 (ix3 b t k)) (fun k => x2 (ix2 b ⟨2048 + k, by omega⟩))
          (fun k => val_main_v29 (F := Ideal) x5 x7 x9 x11 x13 x14 x15 (ix3 b t k)) (fun k n => x16 (ix2 k n)) n := by
  pointwise [val_main_v33, val_main_v32, val_main_v31, val_main_v30, val_main_v3, val_main_v0]
  unfold resid
  rfl

/-- The context's merged branches. -/
theorem mixed_apply' (b : Fin 8) (t : Fin 256) (n : Fin 1024) :
    val_main_v50 (F := Ideal) x6 x8 x10 x12 x13 x14 x15 (ix3 b t n)
      = mixed (fun k => Ideal.logistic (x12 (ix3 b t ⟨k, by omega⟩))) (fun k => Ideal.logistic (x12 (ix3 b t ⟨1024 + k, by omega⟩)))
          (fun k => Ideal.logistic (x12 (ix3 b t ⟨2048 + k, by omega⟩))) (fun k => x6 (ix3 b t k)) (fun k => x8 (ix3 b t k))
          (fun k => x10 (ix3 b t k)) (fun k n => x13 (ix2 k n)) (fun k n => x14 (ix2 k n)) (fun k n => x15 (ix2 k n)) n := by
  pointwise [val_main_v50, val_main_v49, val_main_v48, val_main_v47, val_main_v46, val_main_v45, val_main_v44, val_main_v43,
    val_main_v42, val_main_v41, val_main_v40, val_main_v39, val_main_v38, val_main_v37, val_main_v36, val_main_v35, val_main_v34,
    val_main_cst_1, val_main_cst_2]
  unfold mixed
  rfl

/-- The context's residual. -/
theorem resid_apply' (b : Fin 8) (t : Fin 256) (n : Fin 1024) :
    val_main_v55 (F := Ideal) x1 x3 x6 x8 x10 x12 x13 x14 x15 x16 (ix3 b t n)
      = resid (fun k => x1 (ix3 b t k)) (fun k => x3 (ix1 ⟨2048 + k, by omega⟩))
          (fun k => val_main_v50 (F := Ideal) x6 x8 x10 x12 x13 x14 x15 (ix3 b t k)) (fun k n => x16 (ix2 k n)) n := by
  pointwise [val_main_v55, val_main_v54, val_main_v53, val_main_v52, val_main_v51, val_main_v9]
  unfold resid
  rfl

/-- A token of the latents. -/
theorem token_apply (b : Fin 8) (t : Fin 4096) (n : Fin 1024) :
    val_main_v33 (F := Ideal) x0 x2 x5 x7 x9 x11 x13 x14 x15 x16 (ix3 b t n)
      = resid (fun k => x0 (ix3 b t k)) (fun k => x2 (ix2 b ⟨2048 + k, by omega⟩))
          (mixed (fun k => Ideal.logistic (x11 (ix3 b t ⟨k, by omega⟩))) (fun k => Ideal.logistic (x11 (ix3 b t ⟨1024 + k, by omega⟩)))
            (fun k => Ideal.logistic (x11 (ix3 b t ⟨2048 + k, by omega⟩))) (fun k => x5 (ix3 b t k)) (fun k => x7 (ix3 b t k))
            (fun k => x9 (ix3 b t k)) (fun k n => x13 (ix2 k n)) (fun k n => x14 (ix2 k n)) (fun k n => x15 (ix2 k n)))
          (fun k n => x16 (ix2 k n)) n := by
  rw [resid_apply]
  simp only [mixed_apply]

/-- A token of the context. -/
theorem token_apply' (b : Fin 8) (t : Fin 256) (n : Fin 1024) :
    val_main_v55 (F := Ideal) x1 x3 x6 x8 x10 x12 x13 x14 x15 x16 (ix3 b t n)
      = resid (fun k => x1 (ix3 b t k)) (fun k => x3 (ix1 ⟨2048 + k, by omega⟩))
          (mixed (fun k => Ideal.logistic (x12 (ix3 b t ⟨k, by omega⟩))) (fun k => Ideal.logistic (x12 (ix3 b t ⟨1024 + k, by omega⟩)))
            (fun k => Ideal.logistic (x12 (ix3 b t ⟨2048 + k, by omega⟩))) (fun k => x6 (ix3 b t k)) (fun k => x8 (ix3 b t k))
            (fun k => x10 (ix3 b t k)) (fun k n => x13 (ix2 k n)) (fun k n => x14 (ix2 k n)) (fun k n => x15 (ix2 k n)))
          (fun k n => x16 (ix2 k n)) n := by
  rw [resid_apply']
  simp only [mixed_apply']

/-- Two arrays one after the other along the tokens, at an index. -/
theorem joined_apply (X : FVec Ideal S8x4096x1024 .f32) (C : FVec Ideal S8x256x1024 .f32) (b : Fin 8) (t : Fin 4352) (n : Fin 1024) :
    concatenate (α := Ideal .f32) S8x4352x1024 1 [⟨S8x4096x1024, X⟩, ⟨S8x256x1024, C⟩]
      concatenates_S8x4096x1024_S8x256x1024_S8x4352x1024_d1 (ix3 b t n) = joined X C b t n := by
  pointwise
  rfl

end Cert.RouterReferenceIdeal.Hand
end
-- ==== Proof.RouterValue.lean ====
module

public import proofs.«01_k».proof.Proof.RouterFinal
public import proofs.«01_k».proof.Proof.RouterOperands
public import proofs.«01_k».proof.Proof.RouterRef

@[expose] public section

/-! The tokens the merge of the layers with experts leaves are the reference's result. -/

set_option maxRecDepth 16384
noncomputable section
namespace Cert.RouterIdeal.Hand
open Cert.RouterIdeal Cert.RouterIdeal.Gen Idealize.ShloMosaic Idealize.ShloMosaic.TcCoe Idealize.SL.Sem
open Cert.MergeRow
open scoped BigOperators
variable (m : (ℓ : Loc nD τ sig) → Buf (Elt Ideal) ℓ)

/-- The gated sum depends on its inputs' entries alone. -/
theorem mixed_congr {ga ga' gb gb' gc gc' : Fin 1024 → EReal} {ya ya' : Fin 256 → EReal} {yg yg' : Fin 512 → EReal}
    {ym ym' : Fin 256 → EReal} {wa wa' : Fin 256 → Fin 1024 → EReal} {wg wg' : Fin 512 → Fin 1024 → EReal}
    {wm wm' : Fin 256 → Fin 1024 → EReal} (h_ga : ∀ i, ga i = ga' i) (h_gb : ∀ i, gb i = gb' i) (h_gc : ∀ i, gc i = gc' i)
    (h_ya : ∀ i, ya i = ya' i) (h_yg : ∀ i, yg i = yg' i) (h_ym : ∀ i, ym i = ym' i) (h_wa : ∀ i j, wa i j = wa' i j)
    (h_wg : ∀ i j, wg i j = wg' i j) (h_wm : ∀ i j, wm i j = wm' i j) (n : Fin 1024) :
    mixed ga gb gc ya yg ym wa wg wm n = mixed ga' gb' gc' ya' yg' ym' wa' wg' wm' n := by
  unfold mixed
  simp only [h_ga, h_gb, h_gc, h_ya, h_yg, h_ym, h_wa, h_wg, h_wm]

/-- A token plus its scaled projection depends on its inputs' entries alone. -/
theorem resid_congr {x x' g g' y y' : Fin 1024 → EReal} {w w' : Fin 1024 → Fin 1024 → EReal} (h_x : ∀ i, x i = x' i)
    (h_g : ∀ i, g i = g' i) (h_y : ∀ i, y i = y' i) (h_w : ∀ i j, w i j = w' i j) (n : Fin 1024) :
    resid x g y w n = resid x' g' y' w' n := by
  unfold resid
  simp only [h_x, h_g, h_y, h_w]

/-- A token of the latents. -/
theorem tok_lat (c : Dev nD) (b : Fin 8) (t : Fin 4352) (ht : t.val < 4096) (n : Fin 1024) :
    tok (V m c main_v21) (V m c main_v4) (V m c main_v23) (V m c main_v24) (V m c main_v25) (V m c main_v26) (V m c main_v27) (V m c main_v20) (V m c main_v28) (V m c main_v29) (V m c main_v30) (V m c main_v31) b t n
      = Cert.RouterReferenceIdeal.Read.val_main_v33 (F := Ideal) (m ((c : Thread nD τ).loc main_arg0)) (m ((c : Thread nD τ).loc main_arg2)) (m ((c : Thread nD τ).loc main_arg5)) (m ((c : Thread nD τ).loc main_arg7)) (m ((c : Thread nD τ).loc main_arg9))
          (m ((c : Thread nD τ).loc main_arg11)) (m ((c : Thread nD τ).loc main_arg13)) (m ((c : Thread nD τ).loc main_arg14)) (m ((c : Thread nD τ).loc main_arg15)) (m ((c : Thread nD τ).loc main_arg16)) (ix3 b ⟨t, ht⟩ n) := by
  rw [Cert.RouterReferenceIdeal.Hand.token_apply]
  have hm : mrow b t = ⟨2 * b, by omega⟩ := Fin.ext (by change 2 * (b : ℕ) + (t : ℕ) / 4096 = 2 * b; omega)
  unfold tok
  rw [hm]
  exact resid_congr (fun k => (V_x m c b t k).trans (dif_pos ht)) (fun k => V_mod m c b 2 k)
    (mixed_congr (fun k => (V_gate m c b t _).trans (congrArg Ideal.logistic (dif_pos ht)))
      (fun k => (V_gate m c b t _).trans (congrArg Ideal.logistic (dif_pos ht)))
      (fun k => (V_gate m c b t _).trans (congrArg Ideal.logistic (dif_pos ht)))
      (fun k => (V_na m c b t k).trans (dif_pos ht)) (fun k => (dif_pos ht).trans (V_g m c _)) (fun k => (dif_pos ht).trans (V_m m c _))
      (fun k n => V_wa m c _) (fun k n => V_wg m c _) (fun k n => V_wm m c _)) (fun k n => V_wo m c _) n

/-- A token of the context. -/
theorem tok_ctx (c : Dev nD) (b : Fin 8) (t : Fin 4352) (ht : ¬t.val < 4096) (n : Fin 1024) :
    tok (V m c main_v21) (V m c main_v4) (V m c main_v23) (V m c main_v24) (V m c main_v25) (V m c main_v26) (V m c main_v27) (V m c main_v20) (V m c main_v28) (V m c main_v29) (V m c main_v30) (V m c main_v31) b t n
      = Cert.RouterReferenceIdeal.Read.val_main_v55 (F := Ideal) (m ((c : Thread nD τ).loc main_arg1)) (m ((c : Thread nD τ).loc main_arg3)) (m ((c : Thread nD τ).loc main_arg6)) (m ((c : Thread nD τ).loc main_arg8)) (m ((c : Thread nD τ).loc main_arg10))
          (m ((c : Thread nD τ).loc main_arg12)) (m ((c : Thread nD τ).loc main_arg13)) (m ((c : Thread nD τ).loc main_arg14)) (m ((c : Thread nD τ).loc main_arg15)) (m ((c : Thread nD τ).loc main_arg16)) (ix3 b ⟨t - 4096, by omega⟩ n) := by
  rw [Cert.RouterReferenceIdeal.Hand.token_apply']
  have hm : mrow b t = ⟨2 * b + 1, by omega⟩ := Fin.ext (by change 2 * (b : ℕ) + (t : ℕ) / 4096 = 2 * b + 1; omega)
  unfold tok
  rw [hm]
  exact resid_congr (fun k => (V_x m c b t k).trans (dif_neg ht)) (fun k => V_modc m c b 2 k)
    (mixed_congr (fun k => (V_gate m c b t _).trans (congrArg Ideal.logistic (dif_neg ht)))
      (fun k => (V_gate m c b t _).trans (congrArg Ideal.logistic (dif_neg ht)))
      (fun k => (V_gate m c b t _).trans (congrArg Ideal.logistic (dif_neg ht)))
      (fun k => (V_na m c b t k).trans (dif_neg ht)) (fun k => (dif_neg ht).trans (V_gc m c _)) (fun k => (dif_neg ht).trans (V_mc m c _))
      (fun k n => V_wa m c _) (fun k n => V_wg m c _) (fun k n => V_wm m c _)) (fun k n => V_wo m c _) n

/-- The tokens the kernel leaves are the reference's result. -/
theorem value (c : Dev nD) :
    (fun i : S8x4352x1024.Idx => tok (V m c main_v21) (V m c main_v4) (V m c main_v23) (V m c main_v24) (V m c main_v25) (V m c main_v26) (V m c main_v27) (V m c main_v20) (V m c main_v28) (V m c main_v29) (V m c main_v30) (V m c main_v31)
        (i 0) (i 1) (i 2))
      = Cert.RouterReferenceIdeal.Read.val_main_v56 (F := Ideal) (m ((c : Thread nD τ).loc main_arg0)) (m ((c : Thread nD τ).loc main_arg1)) (m ((c : Thread nD τ).loc main_arg2)) (m ((c : Thread nD τ).loc main_arg3))
          (m ((c : Thread nD τ).loc main_arg5)) (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) (m ((c : Thread nD τ).loc main_arg12))
          (m ((c : Thread nD τ).loc main_arg13)) (m ((c : Thread nD τ).loc main_arg14)) (m ((c : Thread nD τ).loc main_arg15)) (m ((c : Thread nD τ).loc main_arg16)) := by
  funext i
  obtain ⟨b, t, n, rfl⟩ : ∃ (b : Fin 8) (t : Fin 4352) (n : Fin 1024), i = ix3 b t n := ⟨i 0, i 1, i 2, by blk_ext []⟩
  refine Eq.trans ?_ (Cert.RouterReferenceIdeal.Hand.joined_apply _ _ b t n).symm
  by_cases ht : t.val < 4096
  · exact (tok_lat m c b t ht n).trans (joined_lat _ _ b t ht n).symm
  · exact (tok_ctx m c b t ht n).trans (joined_ctx _ _ b t ht n).symm

end Cert.RouterIdeal.Hand
end
-- ==== Proof.GroupedBlock.lean ====
module

public import proofs.«01_k».proof.Proof.Gen.GroupedIdeal.Value
public import proofs.«01_k».proof.Proof.Softmax

@[expose] public section

/-! One grid point of the grouped-query call: four stacked query heads per key head, the chunked sums, and the lanes of a
    stored pair. -/

set_option maxRecDepth 16384
noncomputable section
namespace Cert.GroupedIdeal.Hand
open Cert.GroupedIdeal Cert.GroupedIdeal.Gen Idealize.ShloMosaic Idealize.ShloMosaic.TcCoe Idealize.SL.Sem
open Cert.Softmax
open scoped BigOperators

/-- The queries of four heads, two packed pairs, stacked along the rows with each head's shift added. -/
def stack (p q : Vec Ideal S1x512x128 .bf16) (u0 u1 u2 u3 : Vec Ideal S1x1x128 .bf16) : FVec Ideal S2048x128 .bf16 :=
  k0_pay9 k0_pay4 (k0_pay5 p u0) (k0_pay6 p u1) (k0_pay7 q u2) (k0_pay8 q) u3

/-- The test of the lower lanes. -/
theorem low_eq : ∀ l : Fin 128, IntOp.cmpi .slt (BitVec.ofNat 32 l) 64#32 = if l.val < 64 then 1#1 else 0#1 := by decide

/-- A selection on a test's word is the choice on the test. -/
theorem select_ite (p : Prop) [Decidable p] (x y : EReal) :
    Scalar.select (if p then 1#1 else 0#1) x y = if p then x else y := by
  by_cases h : p <;> simp only [h, if_true, if_false] <;> rfl

/-- The even head of a pair. -/
theorem even_apply (p : Vec Ideal S1x512x128 .bf16) (u : Vec Ideal S1x1x128 .bf16) (r : Fin 512) (l : Fin 128) :
    k0_pay5 p u (ix2 r l) = (if l.val < 64 then p (ix3 0 r l) else 0) + u (ix3 0 0 l) := by
  pointwise [k0_pay5, k0_pay4]
  rw [low_eq, select_ite]

/-- The odd head of a pair. -/
theorem odd_apply (p : Vec Ideal S1x512x128 .bf16) (u : Vec Ideal S1x1x128 .bf16) (r : Fin 512) (l : Fin 128) :
    k0_pay6 p u (ix2 r l) = (if h : l.val < 64 then p (ix3 0 r ⟨64 + l, by omega⟩) else 0) + u (ix3 0 0 l) := by
  pointwise [k0_pay6, k0_pay4]
  rw [low_eq, select_ite]
  by_cases h : l.val < 64
  · have e : ((l : ℕ) + 128 - 64) % 128 = 64 + l := by omega
    simp only [h, e, if_true, dif_pos]
  · simp only [h, if_false, dif_neg, not_false_eq_true]

/-- A stack's rows are its four heads' rows. -/
theorem stack_rows (a b c : FVec Ideal S512x128 .bf16) (d : Vec Ideal S1x512x128 .bf16) (u : Vec Ideal S1x1x128 .bf16)
    (g : Fin 4) (r : Fin 512) (l : Fin 128) :
    k0_pay9 k0_pay4 a b c (k0_pay8 d) u (ix2 ⟨512 * g + r, by omega⟩ l)
      = (![a, b, c, k0_pay6 d u] g) (ix2 r l) := by
  match g with
  | ⟨0, _⟩ => pointwise [k0_pay9, k0_pay8, k0_pay6]
  | ⟨1, _⟩ => pointwise [k0_pay9, k0_pay8, k0_pay6]
  | ⟨2, _⟩ =>
    pointwise [k0_pay9, k0_pay8, k0_pay6]
    rw [dif_neg (by omega), dif_neg (by omega), dif_pos (by omega)]
    exact congrArg c (congrArg (fun i => ix2 i l) (Fin.ext (by simp only []; omega)))
  | ⟨3, _⟩ =>
    pointwise [k0_pay9, k0_pay8, k0_pay6]
    rw [dif_neg (by omega), dif_neg (by omega), dif_neg (by omega)]
    have e : (⟨1536 + (r : ℕ) - 512 - 512 - 512, by omega⟩ : Fin 512) = r := Fin.ext (by simp only []; omega)
    rw [e]

/-- The chunk of the context's keys. -/
theorem first_apply (q : FVec Ideal S2048x128 .bf16) (K V : Vec Ideal S1x256x128 .bf16) (r : Fin 2048) (l : Fin 128) :
    k0_pay14 q K V (ix2 r l)
      = ∑ k : Fin 256, Ideal.exp2 (∑ d : Fin 128, q (ix2 r d) * K (ix3 0 k d)) * V (ix3 0 k l) := by
  pointwise [k0_pay14]
  rfl

/-- A chunk of the latents' keys, added to the sum so far. -/
theorem step_apply (q : FVec Ideal S2048x128 .bf16) (acc : FVec Ideal S2048x128 .f32)
    (K V : Vec Ideal S1x512x128 .bf16) (r : Fin 2048) (l : Fin 128) :
    k0_pay16 q acc K V (ix2 r l)
      = acc (ix2 r l) + ∑ k : Fin 512, Ideal.exp2 (∑ d : Fin 128, q (ix2 r d) * K (ix3 0 k d)) * V (ix3 0 k l) := by
  pointwise [k0_pay16]
  rfl

/-- The sums over the lanes half the width away. -/
def quot (acc : FVec Ideal S2048x128 .f32) : FVec Ideal S2048x128 .f32 :=
  divf acc (dynamicRotate 1 64#32 none acc rotates_S2048x128_d1)

/-- A value lane over its lane of ones. -/
theorem quot_apply (acc : FVec Ideal S2048x128 .f32) (r : Fin 2048) (l : Fin 128) (h : (l : ℕ) < 64) :
    quot acc (ix2 r l) = Ideal.div (acc (ix2 r l)) (acc (ix2 r ⟨64 + l, by omega⟩)) := by
  unfold quot
  pointwise
  have e : ((l : ℕ) + 128 - 64) % 128 = 64 + l := by omega
  simp only [e]

/-- The lower half of a stored pair is its first head. -/
theorem pair_low (x y : FVec Ideal S512x128 .f32) (r : Fin 512) (l : Fin 128) (h : (l : ℕ) < 64) :
    k0_pay2 k0_pay4 x y (ix3 0 r l) = x (ix2 r l) := by
  pointwise [k0_pay2, k0_pay4]
  rw [low_eq, if_pos h]
  rfl

/-- The upper half is its second head. -/
theorem pair_high (x y : FVec Ideal S512x128 .f32) (r : Fin 512) (l : Fin 128) (h : 64 ≤ (l : ℕ)) :
    k0_pay2 k0_pay4 x y (ix3 0 r l) = y (ix2 r ⟨l - 64, by omega⟩) := by
  pointwise [k0_pay2, k0_pay4]
  rw [low_eq, if_neg (by omega)]
  have e : ((l : ℕ) + 128 - 64) % 128 = l - 64 := by omega
  simp only [e]
  rfl

/-- A head's rows of a stack of four. -/
def rows (o : FVec Ideal S2048x128 .f32) (g : ℕ) : FVec Ideal S512x128 .f32 :=
  match g with
  | 0 => extractStridedSlice S512x128 ![0, 0] o slices_S2048x128_o0_0_S512x128
  | 1 => extractStridedSlice S512x128 ![512, 0] o slices_S2048x128_o512_0_S512x128
  | 2 => extractStridedSlice S512x128 ![1024, 0] o slices_S2048x128_o1024_0_S512x128
  | _ => extractStridedSlice S512x128 ![1536, 0] o slices_S2048x128_o1536_0_S512x128

/-- Their entries. -/
theorem rows_apply (o : FVec Ideal S2048x128 .f32) (g : ℕ) (hg : g < 4) (r : Fin 512) (l : Fin 128) :
    rows o g (ix2 r l) = o (ix2 ⟨512 * g + r, by omega⟩ l) := by
  match g, hg with
  | 0, _ => unfold rows; pointwise
  | 1, _ => unfold rows; pointwise
  | 2, _ => unfold rows; pointwise
  | 3, _ => unfold rows; pointwise

variable (m : (ℓ : Loc nD τ sig) → Buf (Elt Ideal) ℓ)

/-- A box lies inside a rank-3 array when it does on every axis. -/
theorem inb3 {a b c o0 o1 o2 s0 s1 s2 : ℕ} (h0 : o0 + s0 ≤ a) (h1 : o1 + s1 ≤ b) (h2 : o2 + s2 ≤ c) :
    ∀ i, (![o0, o1, o2] : Fin 3 → ℕ) i + (![s0, s1, s2] : Fin 3 → ℕ) i ≤ (⟨3, ![a, b, c]⟩ : Shape).size i := by
  intro i
  match i with
  | ⟨0, _⟩ => exact h0
  | ⟨1, _⟩ => exact h1
  | ⟨2, _⟩ => exact h2

/-- The keys (or values) `st … st + n - 1` of key head `h`, as the kernel loads them. -/
def cut (n : ℕ) (X : Vec Ideal S1x4352x256 .bf16) (st h : ℕ) (hb : st + n ≤ 4352) (hh : h < 2) :
    Vec Ideal ⟨3, ![1, n, 128]⟩ .bf16 :=
  View.ld X (Rect.unit (s := S1x4352x256) ![0, st, 128 * h] ![1, n, 128]
    (inb3 (by decide) hb (show 128 * h + 128 ≤ 256 by omega)))

/-- A loaded chunk's entries. -/
theorem cut_apply (n : ℕ) (X : Vec Ideal S1x4352x256 .bf16) (st h : ℕ) (hb) (hh) (k : Fin n) (l : Fin 128) :
    cut n X st h hb hh (ix3 0 k l) = X (ix3 0 ⟨st + k, by omega⟩ ⟨128 * h + l, by omega⟩) := by
  refine congrArg X (funext fun i => Fin.ext ?_)
  match i with
  | ⟨0, _⟩ => rfl
  | ⟨1, _⟩ => change st + 1 * (k : ℕ) = st + k; omega
  | ⟨2, _⟩ => change 128 * h + 1 * (l : ℕ) = 128 * h + l; omega

/-- The packed pair `p` of query heads, as the kernel loads it. -/
def cutQ (X : Vec Ideal S1x512x512 .bf16) (p : ℕ) (hh : p < 4) : Vec Ideal S1x512x128 .bf16 :=
  View.ld X (Rect.unit (s := S1x512x512) ![0, 0, 128 * p] ![1, 512, 128]
    (inb3 (by decide) (by decide) (show 128 * p + 128 ≤ 512 by omega)))

/-- Its entries. -/
theorem cutQ_apply (X : Vec Ideal S1x512x512 .bf16) (p : ℕ) (hh) (r : Fin 512) (l : Fin 128) :
    cutQ X p hh (ix3 0 r l) = X (ix3 0 r ⟨128 * p + l, by omega⟩) := by
  refine congrArg X (funext fun i => Fin.ext ?_)
  match i with
  | ⟨0, _⟩ => rfl
  | ⟨1, _⟩ => change 0 + 1 * (r : ℕ) = r; omega
  | ⟨2, _⟩ => change 128 * p + 1 * (l : ℕ) = 128 * p + l; omega

/-- The shift of query head `n`, as the kernel loads it. -/
def cutU (X : Vec Ideal S1x8x128 .bf16) (n : ℕ) (hh : n < 8) : Vec Ideal S1x1x128 .bf16 :=
  View.ld X (Rect.unit (s := S1x8x128) ![0, n, 0] ![1, 1, 128] (inb3 (by decide) (show n + 1 ≤ 8 by omega) (by decide)))

/-- Its entries. -/
theorem cutU_apply (X : Vec Ideal S1x8x128 .bf16) (n : ℕ) (hh) (l : Fin 128) :
    cutU X n hh (ix3 0 0 l) = X (ix3 0 ⟨n, hh⟩ l) := by
  refine congrArg X (funext fun i => Fin.ext ?_)
  match i with
  | ⟨0, _⟩ => rfl
  | ⟨1, _⟩ => rfl
  | ⟨2, _⟩ => change 0 + 1 * (l : ℕ) = l; omega

/-- The stacked queries of key head `h`. -/
def headQ (X : Vec Ideal S1x512x512 .bf16) (u : Vec Ideal S1x8x128 .bf16) (h : ℕ) (hh : h < 2) : FVec Ideal S2048x128 .bf16 :=
  stack (cutQ X (2 * h) (by omega)) (cutQ X (2 * h + 1) (by omega)) (cutU u (4 * h) (by omega)) (cutU u (4 * h + 1) (by omega))
    (cutU u (4 * h + 2) (by omega)) (cutU u (4 * h + 3) (by omega))

/-- Their entries: 64 lanes of the query head, then its shift. -/
theorem headQ_apply (X : Vec Ideal S1x512x512 .bf16) (u : Vec Ideal S1x8x128 .bf16) (h : ℕ) (hh : h < 2) (g : Fin 4)
    (r : Fin 512) (l : Fin 128) :
    headQ X u h hh (ix2 ⟨512 * g + r, by omega⟩ l)
      = (if hl : l.val < 64 then X (ix3 0 r ⟨64 * (4 * h + g) + l, by omega⟩) else 0) + u (ix3 0 ⟨4 * h + g, by omega⟩ l) := by
  unfold headQ stack
  rw [stack_rows]
  match g with
  | ⟨0, _⟩ =>
    refine (even_apply _ _ r l).trans ?_
    rw [cutQ_apply, cutU_apply]
    by_cases hl : l.val < 64
    · rw [if_pos hl, dif_pos hl]
      refine congrArg₂ _ (congrArg X (congrArg (ix3 0 r) (Fin.ext (by simp only []; omega)))) rfl
    · rw [if_neg hl, dif_neg hl]
      rfl
  | ⟨1, _⟩ =>
    refine (odd_apply _ _ r l).trans ?_
    rw [cutU_apply]
    by_cases hl : l.val < 64
    · rw [dif_pos hl, dif_pos hl, cutQ_apply]
      refine congrArg₂ _ (congrArg X (congrArg (ix3 0 r) (Fin.ext (by simp only []; omega)))) rfl
    · rw [dif_neg hl, dif_neg hl]
  | ⟨2, _⟩ =>
    refine (even_apply _ _ r l).trans ?_
    rw [cutQ_apply, cutU_apply]
    by_cases hl : l.val < 64
    · rw [if_pos hl, dif_pos hl]
      refine congrArg₂ _ (congrArg X (congrArg (ix3 0 r) (Fin.ext (by simp only []; omega)))) rfl
    · rw [if_neg hl, dif_neg hl]
  | ⟨3, _⟩ =>
    refine (odd_apply _ _ r l).trans ?_
    rw [cutU_apply]
    by_cases hl : l.val < 64
    · rw [dif_pos hl, dif_pos hl, cutQ_apply]
      refine congrArg₂ _ (congrArg X (congrArg (ix3 0 r) (Fin.ext (by simp only []; omega)))) rfl
    · rw [dif_neg hl, dif_neg hl]

/-- Key head `h` of a grid point: the sums over all keys of its four query heads, chunk by chunk. -/
def headAcc (X : Vec Ideal S1x512x512 .bf16) (K V : Vec Ideal S1x4352x256 .bf16) (u : Vec Ideal S1x8x128 .bf16)
    (h : ℕ) (hh : h < 2) : FVec Ideal S2048x128 .f32 :=
  let Q := headQ X u h hh
  let s (acc : FVec Ideal S2048x128 .f32) (st : ℕ) (hb : st + 512 ≤ 4352) :=
    k0_pay16 Q acc (cut 512 K st h hb hh) (cut 512 V st h hb hh)
  s (s (s (s (s (s (s (s (k0_pay14 Q (cut 256 K 4096 h (by decide) hh) (cut 256 V 4096 h (by decide) hh))
    0 (by decide)) 512 (by decide)) 1024 (by decide)) 1536 (by decide)) 2048 (by decide)) 2560 (by decide))
    3072 (by decide)) 3584 (by decide)

/-- They are the sums over all keys of the powers of two of the scores, times the values. -/
theorem headAcc_apply (X : Vec Ideal S1x512x512 .bf16) (K V : Vec Ideal S1x4352x256 .bf16)
    (u : Vec Ideal S1x8x128 .bf16) (h : ℕ) (hh : h < 2) (g : Fin 4) (r : Fin 512) (l : Fin 128) :
    headAcc X K V u h hh (ix2 ⟨512 * g + r, by omega⟩ l)
      = ∑ k : Fin 4352, Ideal.exp2 (∑ d : Fin 128,
            ((if hl : d.val < 64 then X (ix3 0 r ⟨64 * (4 * h + g) + d, by omega⟩) else 0) + u (ix3 0 ⟨4 * h + g, by omega⟩ d))
            * K (ix3 0 k ⟨128 * h + d, by omega⟩))
          * V (ix3 0 k ⟨128 * h + l, by omega⟩) := by
  rw [← chunk_sum]
  unfold headAcc
  simp only [step_apply, first_apply, headQ_apply, cut_apply, zero_add]

/-- A query head's entry of the result of a grid point: a value lane over its lane of ones. -/
def entry (X : Vec Ideal S1x512x512 .bf16) (K V : Vec Ideal S1x4352x256 .bf16) (u : Vec Ideal S1x8x128 .bf16)
    (h : ℕ) (hh : h < 2) (g : Fin 4) (r : Fin 512) (d : Fin 64) : EReal :=
  Ideal.div (headAcc X K V u h hh (ix2 ⟨512 * g + r, by omega⟩ ⟨d, by omega⟩))
    (headAcc X K V u h hh (ix2 ⟨512 * g + r, by omega⟩ ⟨64 + d, by omega⟩))

/-- Entries at equal places are equal. -/
theorem entry_congr (X K V u) {h h' : ℕ} (e : h = h') (hh hh') {g g' : Fin 4} (eg : (g : ℕ) = g') (r : Fin 512)
    {d d' : Fin 64} (ed : (d : ℕ) = d') : entry X K V u h hh g r d = entry X K V u h' hh' g' r d' := by
  obtain rfl := e; obtain rfl := Fin.ext eg; obtain rfl := Fin.ext ed; rfl

/-- A stored pair of heads. -/
theorem pair_apply (X : Vec Ideal S1x512x512 .bf16) (K V : Vec Ideal S1x4352x256 .bf16) (u : Vec Ideal S1x8x128 .bf16)
    (n : ℕ) (hn : n < 512) (p : ℕ) (hp : p < 4) (r : Fin 512) (l : Fin 128) (h2 : n = 128 * p + l) :
    k0_pay2 k0_pay4 (rows (quot (headAcc X K V u (p / 2) (by omega))) (2 * (p % 2)))
        (rows (quot (headAcc X K V u (p / 2) (by omega))) (2 * (p % 2) + 1)) (ix3 0 r l)
      = entry X K V u (n / 256) (by omega) ⟨n / 64 % 4, by omega⟩ r ⟨n % 64, by omega⟩ := by
  have hl := l.2
  rcases Nat.lt_or_ge (l : ℕ) 64 with hl | hl
  · rw [pair_low _ _ _ _ hl, rows_apply _ _ (by omega), quot_apply _ _ _ hl]
    exact entry_congr X K V u (h := p / 2) (by omega) (by omega) _ (g := ⟨2 * (p % 2), by omega⟩) (by simp only []; omega) r
      (d := ⟨l, hl⟩) (by simp only []; omega)
  · rw [pair_high _ _ _ _ hl, rows_apply _ _ (by omega), quot_apply _ _ _ (by simp only []; omega)]
    exact entry_congr X K V u (h := p / 2) (by omega) (by omega) _ (g := ⟨2 * (p % 2) + 1, by omega⟩) (by simp only []; omega) r
      (d := ⟨l - 64, by omega⟩) (by simp only []; omega)

section steps
variable (a : IVec S512x128 1) (Q : FVec Ideal S2048x128 .bf16) (acc : FVec Ideal S2048x128 .f32)
  (p q K V K' V' : Vec Ideal S1x512x128 .bf16) (u0 u1 u2 u3 : Vec Ideal S1x1x128 .bf16) (c c' : Vec Ideal S1x256x128 .bf16)

/-- The first key head's stack. -/
theorem stack_fst : k0_pay9 k0_pay4 (k0_pay5 p u0) (k0_pay6 p u1) (k0_pay7 q u2) (k0_pay8 q) u3 = stack p q u0 u1 u2 u3 := rfl

/-- The second key head's stack. -/
theorem stack_snd : k0_pay13 k0_pay4 (k0_pay10 k0_pay4 p u0) (k0_pay11 k0_pay4 p u1) (k0_pay12 k0_pay4 q) u2 q u3
    = stack p q u0 u1 u2 u3 := rfl

/-- The second key head's chunk of context keys. -/
theorem first_snd : k0_pay15 k0_pay4 (k0_pay10 k0_pay4 p u0) (k0_pay11 k0_pay4 p u1) (k0_pay12 k0_pay4 q) u2 q u3 c c'
    = k0_pay14 (stack p q u0 u1 u2 u3) c c' := rfl

/-- Two chunks of the first key head. -/
theorem two_17 : k0_pay17 Q acc K V K' V' = k0_pay16 Q (k0_pay16 Q acc K V) K' V' := rfl

/-- Two chunks of the second key head. -/
theorem two_19 : k0_pay19 Q acc (k0_pay18 Q K) V K' V' = k0_pay16 Q (k0_pay16 Q acc K V) K' V' := rfl

/-- Two chunks of the first key head. -/
theorem two_20 : k0_pay20 Q acc K V K' V' = k0_pay16 Q (k0_pay16 Q acc K V) K' V' := rfl

/-- One chunk of the first key head. -/
theorem one_22 : k0_pay22 Q acc K V = k0_pay16 Q acc K V := rfl

/-- Two chunks of the second key head. -/
theorem two_23 : k0_pay23 Q acc (k0_pay21 K) V K' V' = k0_pay16 Q (k0_pay16 Q acc K V) K' V' := rfl

/-- Two chunks of the first key head. -/
theorem two_26 : k0_pay26 Q acc (k0_pay24 Q K) (k0_pay25 V) K' V' = k0_pay16 Q (k0_pay16 Q acc K V) K' V' := rfl

/-- Two chunks of the second key head. -/
theorem two_27 : k0_pay27 Q acc K V K' V' = k0_pay16 Q (k0_pay16 Q acc K V) K' V' := rfl

/-- The first stored pair. -/
theorem pair_35 : k0_pay35 a Q acc (k0_pay28 K) (constant S2048x512 .f32 0x00000000#32) V
    = k0_pay2 a (rows (quot (k0_pay16 Q acc K V)) 0) (rows (quot (k0_pay16 Q acc K V)) 1) := rfl

/-- The second stored pair. -/
theorem pair_36 : k0_pay1 (k0_pay36 a Q acc (k0_pay28 K) (constant S2048x512 .f32 0x00000000#32) V)
    = k0_pay2 a (rows (quot (k0_pay16 Q acc K V)) 2) (rows (quot (k0_pay16 Q acc K V)) 3) := rfl

/-- The third stored pair. -/
theorem pair_2 : k0_pay2 a (k0_pay31 Q acc K V) (k0_pay32 Q acc K V)
    = k0_pay2 a (rows (quot (k0_pay16 Q acc K V)) 0) (rows (quot (k0_pay16 Q acc K V)) 1) := rfl

/-- The last stored pair. -/
theorem pair_3 : k0_pay3 a (k0_pay33 Q acc K V) (k0_pay34 Q acc K V)
    = k0_pay2 a (rows (quot (k0_pay16 Q acc K V)) 2) (rows (quot (k0_pay16 Q acc K V)) 3) := rfl

end steps

/-- What a grid point writes. -/
theorem out_apply (c : Dev nD) (t : Fin cfg0.N) (r : Fin 512) (n : Fin 512) :
    outsAt0 m c t (ix3 0 r n)
      = entry (X0_0 m c t) (iblk m c 1 t) (iblk m c 2 t) (iblk m c 3 t) ((n : ℕ) / 256) (by omega)
          ⟨(n : ℕ) / 64 % 4, by omega⟩ r ⟨(n : ℕ) % 64, by omega⟩ := by
  rw [outsAt0]
  frame_out
  canon_tiles x h
  all_goals obtain ⟨a, r', l, rfl⟩ : ∃ (a : Fin 1) (r : Fin 512) (l : Fin 128), x = ix3 a r l := ⟨x 0, x 1, x 2, by blk_ext []⟩
  all_goals obtain rfl := Subsingleton.elim a 0
  all_goals obtain rfl : r = r' := Fin.ext (by simpa using h1)
  all_goals simp only [stack_fst, stack_snd, first_snd, two_17, two_19, two_20, one_22, two_23, two_26, two_27, pair_35, pair_36, pair_2, pair_3]
  · exact pair_apply _ _ _ _ n n.2 3 (by decide) r l (by simpa using h2)
  · exact pair_apply _ _ _ _ n n.2 2 (by decide) r l (by simpa using h2)
  · exact pair_apply _ _ _ _ n n.2 1 (by decide) r l (by simpa using h2)
  · exact pair_apply _ _ _ _ n n.2 0 (by decide) r l (by simpa using h2)

end Cert.GroupedIdeal.Hand
end
-- ==== Proof.GroupedFinal.lean ====
module

public import proofs.«01_k».proof.Proof.GroupedBlock

@[expose] public section

/-! From a grid point's blocks to the array the grouped call leaves. -/

set_option maxRecDepth 16384
noncomputable section
namespace Cert.GroupedIdeal.Hand
open Cert.GroupedIdeal Cert.GroupedIdeal.Gen Idealize.ShloMosaic Idealize.ShloMosaic.TcCoe Idealize.SL.Sem
open Idealize.ShloMosaic.Pipeline (Dat)
open scoped BigOperators
variable (m : (ℓ : Loc nD τ sig) → Buf (Elt Ideal) ℓ)

/-- Where each window's block lies at a grid point. -/
theorem idx : ∀ t : Fin cfg0.N, win0_0.index t = ![t.val / 8, t.val % 8, 0] ∧ win0_1.index t = ![t.val / 8, 0, 0]
    ∧ win0_2.index t = ![t.val / 8, 0, 0] ∧ win0_3.index t = ![t.val / 8, 0, 0]
    ∧ win0_4.index t = ![t.val / 8, t.val % 8, 0] :=
  (by decide +kernel : ∀ t : Fin grid0.N, _)

/-- A grid point's batch entry. -/
theorem div_lt (t : Fin cfg0.N) : t.val / 8 < 8 := by
  have h : t.val < 64 := lt_of_lt_of_eq t.isLt (by decide)
  omega

/-- A grid point's rows. -/
theorem row_lt (t : Fin cfg0.N) (r : Fin 512) : 512 * (t.val % 8) + r < 4352 := by omega

/-- The read of a block of keys. -/
theorem read_k (t : Fin cfg0.N) (A : FVec Ideal S8x4352x256 .bf16) (k : Fin 4352) (j : Fin 256) :
    ((cfg0.win 1).blk t).view.read (Elt Ideal) A (ix3 0 k j) = A (ix3 ⟨t.val / 8, div_lt t⟩ k j) := by
  blk_simp
  blk_ext [idx t]

/-- The read of a block of values. -/
theorem read_v (t : Fin cfg0.N) (A : FVec Ideal S8x4352x256 .bf16) (k : Fin 4352) (j : Fin 256) :
    ((cfg0.win 2).blk t).view.read (Elt Ideal) A (ix3 0 k j) = A (ix3 ⟨t.val / 8, div_lt t⟩ k j) := by
  blk_simp
  blk_ext [idx t]

/-- The read of a block of shifts. -/
theorem read_u (t : Fin cfg0.N) (A : FVec Ideal S8x8x128 .bf16) (k : Fin 8) (j : Fin 128) :
    ((cfg0.win 3).blk t).view.read (Elt Ideal) A (ix3 0 k j) = A (ix3 ⟨t.val / 8, div_lt t⟩ k j) := by
  blk_simp
  blk_ext [idx t]

/-- The read of a block of queries. -/
theorem read_q (t : Fin cfg0.N) (A : FVec Ideal S8x4352x512 .bf16) (r : Fin 512) (j : Fin 512) :
    ((cfg0.win 0).fill (cfg0.grid.coords t) dflt0_0 (((cfg0.win 0).blk t).view.read (Elt Ideal) A)) (ix3 0 r j)
      = A (ix3 ⟨t.val / 8, div_lt t⟩ ⟨512 * (t.val % 8) + r, row_lt t r⟩ j) := by
  unfold Pipeline.Window.fill
  rw [dif_pos (moved0_0 t _)]
  blk_simp
  blk_ext [idx t]

/-- A query head's sums over all keys at a batch entry and a query row, over the call's four operands. -/
def sums (Q : FVec Ideal S8x4352x512 .bf16) (K W : FVec Ideal S8x4352x256 .bf16) (U : FVec Ideal S8x8x128 .bf16) (b : Fin 8)
    (t : Fin 4352) (h : Fin 2) (g : Fin 4) (l : Fin 128) : EReal :=
  ∑ k : Fin 4352, Ideal.exp2 (∑ d : Fin 128,
      ((if hd : d.val < 64 then Q (ix3 b t ⟨64 * (4 * h + g) + d, by omega⟩) else 0) + U (ix3 b ⟨4 * h + g, by omega⟩ d))
      * K (ix3 b k ⟨128 * h + d, by omega⟩)) * W (ix3 b k ⟨128 * h + l, by omega⟩)

/-- The call's result over its four operands, by batch entry, row and lane. -/
def outAt (Q : FVec Ideal S8x4352x512 .bf16) (K W : FVec Ideal S8x4352x256 .bf16) (U : FVec Ideal S8x8x128 .bf16) (b : Fin 8)
    (t : Fin 4096) (n : Fin 512) : EReal :=
  Ideal.div
    (sums Q K W U b ⟨t, by omega⟩ ⟨(n : ℕ) / 256, by omega⟩ ⟨(n : ℕ) / 64 % 4, by omega⟩ ⟨(n : ℕ) % 64, by omega⟩)
    (sums Q K W U b ⟨t, by omega⟩ ⟨(n : ℕ) / 256, by omega⟩ ⟨(n : ℕ) / 64 % 4, by omega⟩ ⟨64 + (n : ℕ) % 64, by omega⟩)

/-- The call's result over its four operands. -/
def out (Q : FVec Ideal S8x4352x512 .bf16) (K W : FVec Ideal S8x4352x256 .bf16) (U : FVec Ideal S8x8x128 .bf16) :
    FVec Ideal S8x4096x512 .bf16 := fun i => outAt Q K W U (i 0) (i 1) (i 2)

/-- A query head's sums in a grid point are the sums over the operands at the point's rows. -/
theorem headAcc_sums (c : Dev nD) (t : Fin cfg0.N) (h : ℕ) (hh : h < 2) (g : Fin 4) (r : Fin 512) (l : Fin 128) :
    headAcc (X0_0 m c t) (iblk m c 1 t) (iblk m c 2 t) (iblk m c 3 t) h hh (ix2 ⟨512 * g + r, by omega⟩ l)
      = sums (V m c main_v28) (V m c main_v34) (V m c main_v38) (V m c main_v18) ⟨t.val / 8, div_lt t⟩
          ⟨512 * (t.val % 8) + r, row_lt t r⟩ ⟨h, hh⟩ g l := by
  refine (headAcc_apply _ _ _ _ h hh g r l).trans ?_
  have eq : ∀ j, (X0_0 m c t : Vec Ideal S1x512x512 .bf16) (ix3 0 r j) = _ := read_q t (V m c main_v28) r
  have ek : ∀ k j, (iblk m c 1 t : Vec Ideal S1x4352x256 .bf16) (ix3 0 k j) = _ := read_k t (V m c main_v34)
  have ev : ∀ k j, (iblk m c 2 t : Vec Ideal S1x4352x256 .bf16) (ix3 0 k j) = _ := read_v t (V m c main_v38)
  have eu : ∀ k j, (iblk m c 3 t : Vec Ideal S1x8x128 .bf16) (ix3 0 k j) = _ := read_u t (V m c main_v18)
  simp only [eq, ek, ev, eu]
  rfl

/-- The array the call leaves. -/
theorem final (c : Dev nD) : (dats m 0 c).arrAt 4 (cfgs 0).N
    = out (V m c main_v28) (V m c main_v34) (V m c main_v38) (V m c main_v18) := by
  refine (dats m 0 c).arrAt_eq_of_covers 4 _ (by decide +kernel) fun t _ y => ?_
  blk_simp
  rw [after0_4]
  obtain ⟨a, r, n, rfl⟩ : ∃ (a : Fin 1) (r : Fin 512) (n : Fin 512), y = ix3 a r n := ⟨y 0, y 1, y 2, by blk_ext []⟩
  obtain rfl := Subsingleton.elim a 0
  refine (out_apply m c t r n).trans ?_
  unfold entry
  rw [headAcc_sums, headAcc_sums]
  have e : (win0_4.blk t).view.emb (ix3 0 r n) = ix3 ⟨t.val / 8, div_lt t⟩ ⟨512 * (t.val % 8) + r, by omega⟩ n := by
    blk_ext [idx t]
  rw [e]
  rfl

end Cert.GroupedIdeal.Hand
end
-- ==== Proof.GroupedOperands.lean ====
module

public import proofs.«01_k».proof.Proof.Gen.GroupedIdeal.Value
public import proofs.«01_k».proof.Proof.Softmax

@[expose] public section

/-! The operands the host code prepares for the grouped call. -/

set_option maxRecDepth 16384
noncomputable section
namespace Cert.GroupedIdeal.Hand
open Cert.GroupedIdeal Cert.GroupedIdeal.Gen Idealize.ShloMosaic Idealize.ShloMosaic.TcCoe Idealize.SL.Sem
open Cert.Softmax
open scoped BigOperators
variable (m : (ℓ : Loc nD τ sig) → Buf (Elt Ideal) ℓ)

/-- Two arrays of 64 lanes per key head, one after the other along the tokens: the latents, then the context. -/
def joined (X : FVec Ideal S8x4096x2x64 .f32) (C : FVec Ideal S8x256x2x64 .f32) (b : Fin 8) (t : Fin 4352) (h : Fin 2) (x : Fin 64) : EReal :=
  if ht : t.val < 4096 then X (ix4 b ⟨t, ht⟩ h x) else C (ix4 b ⟨t - 4096, by omega⟩ h x)

/-- A lane of a query head. -/
def query (X : FVec Ideal S8x4096x2x4x64 .f32) (b : Fin 8) (t : Fin 4096) (h : Fin 2) (g : Fin 4) (x : Fin 64) : EReal := X (ix5 b t h g x)

/-- The scale of the scores with the change of base: an eighth over the logarithm of 2. -/
def scale : EReal := Ideal.div (Ideal.ofBits .f32 0x3E000000#32) (Ideal.log (Ideal.ofBits .f32 0x40000000#32))

/-- The test for lane 64. -/
theorem lane_eq : ∀ l : Fin 128, IntOp.cmpi .eq (BitVec.ofNat 32 l) 64#32 = if l.val = 64 then 1#1 else 0#1 := by decide

/-- A selection on a test's word is the choice on the test. -/
theorem select_lane (p : Prop) [Decidable p] (x y : EReal) :
    Scalar.select (if p then 1#1 else 0#1) x y = if p then x else y := by
  by_cases h : p <;> simp only [h, if_true, if_false] <;> rfl

/-- The operand of queries, at the latents' rows. -/
theorem V_q (c : Dev nD) (b : Fin 8) (t : Fin 4096) (h : Fin 2) (g : Fin 4) (l : Fin 64) :
    (V m c main_v28 : FVec Ideal S8x4352x512 .bf16) (ix3 b ⟨t, by omega⟩ ⟨64 * (4 * h + g) + l, by omega⟩)
      = query (m ((c : Thread nD τ).loc main_arg0)) b t h g l * scale := by
  unfold V
  simp only [hostOps0, hostOps0_1, hostOps0_2, hostOps0_3, hostOps0_4, hostOps0_5, hostOps0_6, hostOps0_7, hostOps0_8, List.flatten_cons, List.flatten_nil, List.cons_append, List.nil_append, List.append_nil, StableHlo.TRef.unary, StableHlo.TRef.binary, StableHlo.TRef.ternary]
  after_results_simp
  after_results_loop
  pointwise
  unfold scale query
  rfl

/-- The operand of keys. -/
theorem V_k (c : Dev nD) (b : Fin 8) (t : Fin 4352) (h : Fin 2) (l : Fin 128) :
    (V m c main_v34 : FVec Ideal S8x4352x256 .bf16) (ix3 b t ⟨128 * h + l, by omega⟩)
      = (if hl : l.val < 64 then joined (m ((c : Thread nD τ).loc main_arg1)) (m ((c : Thread nD τ).loc main_arg4)) b t h ⟨l, hl⟩ else 0)
        + if l.val = 64 then 1 else 0 := by
  unfold V
  simp only [hostOps0, hostOps0_1, hostOps0_2, hostOps0_3, hostOps0_4, hostOps0_5, hostOps0_6, hostOps0_7, hostOps0_8, List.flatten_cons, List.flatten_nil, List.cons_append, List.nil_append, List.append_nil, StableHlo.TRef.unary, StableHlo.TRef.binary, StableHlo.TRef.ternary]
  after_results_simp
  after_results_loop
  simp only [StableHlo.TRef.toBuf, StableHlo.TRef.ofBuf, cast_eq, id_eq]
  pointwise
  unfold joined
  rw [lane_eq]
  rw [select_lane]

/-- The operand of values. -/
theorem V_v (c : Dev nD) (b : Fin 8) (t : Fin 4352) (h : Fin 2) (l : Fin 128) :
    (V m c main_v38 : FVec Ideal S8x4352x256 .bf16) (ix3 b t ⟨128 * h + l, by omega⟩)
      = if hl : l.val < 64 then joined (m ((c : Thread nD τ).loc main_arg2)) (m ((c : Thread nD τ).loc main_arg5)) b t h ⟨l, hl⟩ else 1 := by
  unfold V
  simp only [hostOps0, hostOps0_1, hostOps0_2, hostOps0_3, hostOps0_4, hostOps0_5, hostOps0_6, hostOps0_7, hostOps0_8, List.flatten_cons, List.flatten_nil, List.cons_append, List.nil_append, List.append_nil, StableHlo.TRef.unary, StableHlo.TRef.binary, StableHlo.TRef.ternary]
  after_results_simp
  after_results_loop
  simp only [StableHlo.TRef.toBuf, StableHlo.TRef.ofBuf, cast_eq, id_eq]
  pointwise
  unfold joined
  rfl

/-- The largest magnitude of a gain. -/
def gainMax (x : FVec Ideal S64 .f32) : EReal :=
  Finset.univ.fold max (Ideal.ofBits .f32 0xFF800000#32) fun k : Fin 64 => max (x (ix1 k)) (-x (ix1 k))

/-- The bound on the scores that the kernel shifts by. -/
def bound (x y : FVec Ideal S64 .f32) : EReal :=
  Ideal.div (Ideal.ofBits .f32 0x41000000#32) (Ideal.log (Ideal.ofBits .f32 0x40000000#32)) * gainMax x * gainMax y
    * Ideal.ofBits .f32 0x3F828F5C#32

/-- The shift operand: minus the bound at the lane after the head's own. -/
theorem V_u (c : Dev nD) (b : Fin 8) (h : Fin 8) (l : Fin 128) :
    (V m c main_v18 : FVec Ideal S8x8x128 .bf16) (ix3 b h l)
      = if l.val = 64 then -bound (m ((c : Thread nD τ).loc main_arg6)) (m ((c : Thread nD τ).loc main_arg7)) else 0 := by
  unfold V
  simp only [hostOps0, hostOps0_1, hostOps0_2, hostOps0_3, hostOps0_4, hostOps0_5, hostOps0_6, hostOps0_7, hostOps0_8, List.flatten_cons, List.flatten_nil, List.cons_append, List.nil_append, List.append_nil, StableHlo.TRef.unary, StableHlo.TRef.binary, StableHlo.TRef.ternary]
  after_results_simp
  after_results_loop
  simp only [StableHlo.TRef.toBuf, StableHlo.TRef.ofBuf, cast_eq, id_eq]
  pointwise
  rw [lane_eq, select_lane]
  rfl

/-- The f32 pattern `0x3E000000` is an eighth. -/
theorem ofBits_eighth : Ideal.ofBits .f32 0x3E000000#32 = ((1 / 8 : ℝ) : EReal) := by
  simp [Ideal.ofBits, Ideal.ieee, -EReal.coe_mul]; norm_num

/-- The f32 pattern `0x41000000` is a real number. -/
theorem ofBits_eight : Rl (Ideal.ofBits .f32 0x41000000#32) := by
  simp [Ideal.ofBits, Ideal.ieee, -EReal.coe_mul, Rl]

/-- The scale is a real number. -/
theorem scale_coe : scale = ((1 / 8 * (1 / Real.log 2) : ℝ) : EReal) := by
  have hl : Real.log 2 ≠ 0 := (Real.log_pos (by norm_num)).ne'
  unfold scale
  rw [ofBits_eighth, ofBits_two, Ideal.log_coe, if_neg (by norm_num), Ideal.div_coe hl, ← EReal.coe_mul]

/-- Joined real arrays are real. -/
theorem Rl.joined {X : FVec Ideal S8x4096x2x64 .f32} {C : FVec Ideal S8x256x2x64 .f32}
    (hX : ∀ i, Rl (X i)) (hC : ∀ i, Rl (C i)) (b t h x) : Rl (joined X C b t h x) := by
  unfold Hand.joined
  split
  · exact hX _
  · exact hC _

/-- The largest magnitude of a real gain is real. -/
theorem gainMax_rl {x : FVec Ideal S64 .f32} (hx : ∀ i, Rl (x i)) : Rl (gainMax x) := by
  unfold gainMax
  rw [ofBits_ninf]
  exact fold_max (P := Rl) (fun h h' => h.max h') _ ⟨0, Finset.mem_univ _⟩ fun k _ => (hx _).max (hx _).neg

/-- The bound is a real number. -/
theorem bound_rl {x y : FVec Ideal S64 .f32} (hx : ∀ i, Rl (x i)) (hy : ∀ i, Rl (y i)) : Rl (bound x y) := by
  have hl : Real.log 2 ≠ 0 := (Real.log_pos (by norm_num)).ne'
  refine ((Rl.mul ?_ (gainMax_rl hx)).mul (gainMax_rl hy)).mul ofBits_slack
  rw [ofBits_two, Ideal.log_coe, if_neg (by norm_num), Ideal.div_coe hl]
  exact ofBits_eight.mul ⟨_, rfl⟩

end Cert.GroupedIdeal.Hand
end
-- ==== Proof.GroupedRef.lean ====
module

public import proofs.«01_k».proof.Proof.Gen.GroupedReferenceIdeal.Read
public import proofs.«01_k».proof.Proof.Gen.GroupedReferenceIdeal.Run
public import proofs.«01_k».proof.Proof.Softmax

@[expose] public section

/-! The grouped reference's result at an index. -/

set_option maxRecDepth 16384
noncomputable section
namespace Cert.GroupedReferenceIdeal.Hand
open Cert.GroupedReferenceIdeal Cert.GroupedReferenceIdeal.Gen Cert.GroupedReferenceIdeal.Read Idealize.ShloMosaic Idealize.ShloMosaic.TcCoe Idealize.SL.Sem
open Cert.Softmax
open scoped BigOperators

/-- An entry of the joined keys or values, in the reference's order: the context's 256 tokens, then the latents. -/
def rowOf (X : FVec Ideal S8x4096x2x64 .f32) (C : FVec Ideal S8x256x2x64 .f32) (b : Fin 8) (h : Fin 2) (k : Fin 4352) (x : Fin 64) : EReal :=
  if hk : k.val < 256 then C (ix4 b ⟨k, hk⟩ h x) else X (ix4 b ⟨k - 256, by omega⟩ h x)

/-- The scaled score of a query row and a key. -/
theorem score_apply (x0 : FVec Ideal S8x4096x2x4x64 .f32) (x1 : FVec Ideal S8x4096x2x64 .f32) (x4 : FVec Ideal S8x256x2x64 .f32)
    (b : Fin 8) (h : Fin 2) (g : Fin 4) (t : Fin 4096) (k : Fin 4352) :
    val_main_v5 (F := Ideal) x0 x1 x4 (ix5 b h g t k)
      = (∑ x, rowOf x1 x4 b h k x * x0 (ix5 b t h g x)) * Ideal.ofBits .f32 0x3E000000#32 := by
  pointwise [val_main_v5, val_main_v4, val_main_v3, val_main_v2, val_main_v0, val_main_cst]
  rfl

/-- The larger of minus infinity and an array, carried along the keys. -/
theorem spread_apply (y : FVec Ideal S8x2x4x4096 .f32) (b : Fin 8) (h : Fin 2) (g : Fin 4) (t : Fin 4096) (k : Fin 4352) :
    broadcastInDim S8x2x4x4096x4352 ![0, 1, 2, 3, 4] bcast_S8x2x4x4096x1_S8x2x4x4096x4352_0_1_2_3_4
      (broadcastInDim S8x2x4x4096x1 ![0, 1, 2, 3] bcast_S8x2x4x4096_S8x2x4x4096x1_0_1_2_3 (maximumf (val_main_v7 (F := Ideal)) y))
      (ix5 b h g t k)
      = max (Ideal.ofBits .f32 0xFF800000#32) (y (ix4 b h g t)) := by
  pointwise [val_main_v7, val_main_cst_1]

/-- The row maximum the softmax subtracts. -/
theorem max_apply (x0 : FVec Ideal S8x4096x2x4x64 .f32) (x1 : FVec Ideal S8x4096x2x64 .f32) (x4 : FVec Ideal S8x256x2x64 .f32)
    (b : Fin 8) (h : Fin 2) (g : Fin 4) (t : Fin 4096) (k : Fin 4352) :
    val_main_v10 (F := Ideal) x0 x1 x4 (ix5 b h g t k)
      = max (Ideal.ofBits .f32 0xFF800000#32) (val_main_v6 (F := Ideal) x0 x1 x4 (ix4 b h g t)) := by
  unfold val_main_v10 val_main_v9 val_main_v8
  exact spread_apply (val_main_v6 (F := Ideal) x0 x1 x4) b h g t k

/-- The weight of a key. -/
theorem weight_apply (x0 : FVec Ideal S8x4096x2x4x64 .f32) (x1 : FVec Ideal S8x4096x2x64 .f32) (x4 : FVec Ideal S8x256x2x64 .f32)
    (b : Fin 8) (h : Fin 2) (g : Fin 4) (t : Fin 4096) (k : Fin 4352) :
    val_main_v16 (F := Ideal) x0 x1 x4 (ix5 b h g t k)
      = Ideal.div (Ideal.exp (val_main_v5 (F := Ideal) x0 x1 x4 (ix5 b h g t k) - val_main_v10 (F := Ideal) x0 x1 x4 (ix5 b h g t k)))
          (∑ i, Ideal.exp (val_main_v5 (F := Ideal) x0 x1 x4 (ix5 b h g t i) - val_main_v10 (F := Ideal) x0 x1 x4 (ix5 b h g t i))) := by
  pointwise [val_main_v16, val_main_v15, val_main_v14, val_main_v13, val_main_v12, val_main_v11, val_main_cst_2]

/-- The result: the weighted sum of the values. -/
theorem out_apply (x0 : FVec Ideal S8x4096x2x4x64 .f32) (x1 x2 : FVec Ideal S8x4096x2x64 .f32) (x4 x5 : FVec Ideal S8x256x2x64 .f32)
    (b : Fin 8) (h : Fin 2) (g : Fin 4) (t : Fin 4096) (d : Fin 64) :
    val_main_v20 (F := Ideal) x0 x1 x2 x4 x5 (ix3 b t ⟨64 * (4 * h + g) + d, by omega⟩)
      = ∑ k, rowOf x2 x5 b h k d * val_main_v16 (F := Ideal) x0 x1 x4 (ix5 b h g t k) := by
  rw [Fin.sum_univ_two_halves 256 4096 rfl fun k : Fin 4352 => rowOf x2 x5 b h k d * val_main_v16 (F := Ideal) x0 x1 x4 (ix5 b h g t k)]
  pointwise [val_main_v20, val_main_v19, val_main_v18, val_main_v17, val_main_v1]
  simp [rowOf]

/-- A maximum along the last axis of a rank-5 array, started at minus infinity, keeps what the row's entries share. -/
theorem reduce_max_last5 {P : EReal → Prop} (hP : ∀ {x y}, P x → P y → P (max x y)) (x : S8x2x4x4096x4352.Idx → EReal)
    (init : S_.Idx → EReal) (h : S8x2x4x4096x4352.ReducesTo [4] S8x2x4x4096) (hu : 0 < S_.numel) (hi : init (Shape.Idx.first hu) = ⊥)
    (j) (hx : ∀ i, P (x i)) : P (Host.reduce (FloatOps.maximumf (F := Ideal) (φ := .f32)) x init h hu j) := by
  obtain ⟨b, e, g, t, rfl⟩ : ∃ (b : Fin 8) (e : Fin 2) (g : Fin 4) (t : Fin 4096), j = ix4 b e g t := ⟨j 0, j 1, j 2, j 3, by blk_ext []⟩
  pointwise
  rw [hi]
  exact fold_max hP _ ⟨⟨0, by decide⟩, Finset.mem_univ _⟩ fun i _ => hx _

/-- On real queries and keys the row maximum is real. -/
theorem max_rl {x0 : FVec Ideal S8x4096x2x4x64 .f32} {x1 : FVec Ideal S8x4096x2x64 .f32} {x4 : FVec Ideal S8x256x2x64 .f32}
    (h0 : ∀ i, Rl (x0 i)) (h1 : ∀ i, Rl (x1 i)) (h4 : ∀ i, Rl (x4 i)) (e8 : Rl (Ideal.ofBits .f32 0x3E000000#32)) (j) :
    Rl (val_main_v6 (F := Ideal) x0 x1 x4 j) := by
  refine reduce_max_last5 (P := Rl) (fun h h' => h.max h') (val_main_v5 (F := Ideal) x0 x1 x4) (val_main_cst_0 (F := Ideal)) _ _ ofBits_ninf j fun i => ?_
  obtain ⟨b, h, g, t, k, rfl⟩ : ∃ (b : Fin 8) (h : Fin 2) (g : Fin 4) (t : Fin 4096) (k : Fin 4352), i = ix5 b h g t k :=
    ⟨i 0, i 1, i 2, i 3, i 4, by blk_ext []⟩
  rw [score_apply]
  refine (Rl.sum _ fun x => Rl.mul ?_ (h0 _)).mul e8
  unfold rowOf
  split
  · exact h4 _
  · exact h1 _

end Cert.GroupedReferenceIdeal.Hand
end
-- ==== Proof.GroupedValue.lean ====
module

public import proofs.«01_k».proof.Proof.GroupedFinal
public import proofs.«01_k».proof.Proof.GroupedOperands
public import proofs.«01_k».proof.Proof.GroupedRef

@[expose] public section

/-! The grouped kernel's attention is the reference's. -/

set_option maxRecDepth 16384
noncomputable section
namespace Cert.GroupedIdeal.Hand
open Cert.GroupedIdeal Cert.GroupedIdeal.Gen Idealize.ShloMosaic Idealize.ShloMosaic.TcCoe Idealize.SL.Sem
open Cert.Softmax
open scoped BigOperators
variable (m : (ℓ : Loc nD τ sig) → Buf (Elt Ideal) ℓ)

/-- A query row's quotient of sums, over operands of the prepared form, is the softmax average of the values, in the
    reference's order of the keys and under any real shift. -/
theorem quotient (Q : FVec Ideal S8x4352x512 .bf16) (K W : FVec Ideal S8x4352x256 .bf16) (U : FVec Ideal S8x8x128 .bf16)
    (b : Fin 8) (t : Fin 4352) (h : Fin 2) (g : Fin 4)
    (d : Fin 64) (q : Fin 64 → ℝ) (k : Fin 4352 → Fin 64 → ℝ) (v : Fin 4352 → EReal) (β M : ℝ)
    (hQ : ∀ l : Fin 64, Q (ix3 b t ⟨64 * (4 * h + g) + l, by omega⟩) = (q l : EReal) * scale)
    (hK : ∀ (j) (l : Fin 128), K (ix3 b j ⟨128 * h + l, by omega⟩)
      = (if hl : l.val < 64 then (k j ⟨l, hl⟩ : EReal) else 0) + if l.val = 64 then 1 else 0)
    (hW : ∀ j, W (ix3 b j ⟨128 * h + d, by omega⟩) = v j) (hW' : ∀ j, W (ix3 b j ⟨128 * h + (64 + d), by omega⟩) = 1)
    (hU : ∀ l : Fin 128, U (ix3 b ⟨4 * h + g, by omega⟩ l) = if l.val = 64 then ((-β : ℝ) : EReal) else 0) :
    Ideal.div (sums Q K W U b t h g ⟨d, by omega⟩) (sums Q K W U b t h g ⟨64 + d, by omega⟩)
      = ∑ j, v (place j) * Ideal.div (Ideal.exp ((((∑ x, q x * k (place j) x) * (1 / 8) : ℝ) : EReal) - (M : EReal)))
          (∑ i, Ideal.exp ((((∑ x, q x * k (place i) x) * (1 / 8) : ℝ) : EReal) - (M : EReal))) := by
  have sc : ∀ j : Fin 4352, (∑ l : Fin 128,
        ((if hl : l.val < 64 then Q (ix3 b t ⟨64 * (4 * h + g) + l, by omega⟩) else 0) + U (ix3 b ⟨4 * h + g, by omega⟩ l))
        * K (ix3 b j ⟨128 * h + l, by omega⟩))
      = (((∑ x, q x * k j x) * (1 / 8) * (1 / Real.log 2) - β : ℝ) : EReal) := fun j => by
    rw [score_lanes (a := 64) (z := 63) rfl q (k j) (1 / 8 * (1 / Real.log 2)) β _ _
      (fun l => by
        rw [hU, ← scale_coe]
        by_cases hl : l.val < 64
        · rw [dif_pos hl, dif_pos hl]
          exact congrArg (· + _) (hQ ⟨l, hl⟩)
        · rw [dif_neg hl, dif_neg hl, zero_mul]) (fun l => hK j l), mul_assoc]
  unfold sums
  simp only [sc, hW, hW']
  rw [sum_place, sum_place fun j => _ * (1 : EReal)]
  exact shifted (by decide) (fun j => (∑ x, q x * k (place j) x) * (1 / 8)) (fun j => v (place j)) β M

/-- In the reference's order of the keys, the joined arrays are the reference's. -/
theorem joined_place (X : FVec Ideal S8x4096x2x64 .f32) (C : FVec Ideal S8x256x2x64 .f32) (b : Fin 8)
    (h : Fin 2) (k : Fin 4352) (x : Fin 64) : joined X C b (place k) h x = GroupedReferenceIdeal.Hand.rowOf X C b h k x := by
  unfold joined place GroupedReferenceIdeal.Hand.rowOf
  by_cases hk : k.val < 256
  · simp [hk]
  · have : k.val - 256 < 4096 := by omega
    simp [hk, this]

/-- On real queries, keys and gains the call's result is the reference's. -/
theorem value (c : Dev nD)
    (h0 : ∀ i, Rl ((m ((c : Thread nD τ).loc main_arg0) : FVec Ideal S8x4096x2x4x64 .f32) i))
    (h1 : ∀ i, Rl ((m ((c : Thread nD τ).loc main_arg1) : FVec Ideal S8x4096x2x64 .f32) i))
    (h4 : ∀ i, Rl ((m ((c : Thread nD τ).loc main_arg4) : FVec Ideal S8x256x2x64 .f32) i))
    (h6 : ∀ i, Rl ((m ((c : Thread nD τ).loc main_arg6) : FVec Ideal S64 .f32) i))
    (h7 : ∀ i, Rl ((m ((c : Thread nD τ).loc main_arg7) : FVec Ideal S64 .f32) i)) :
    out (V m c main_v28) (V m c main_v34) (V m c main_v38) (V m c main_v18)
      = GroupedReferenceIdeal.Read.val_main_v20 (F := Ideal) (m ((c : Thread nD τ).loc main_arg0)) (m ((c : Thread nD τ).loc main_arg1))
          (m ((c : Thread nD τ).loc main_arg2)) (m ((c : Thread nD τ).loc main_arg4)) (m ((c : Thread nD τ).loc main_arg5)) := by
  funext i
  obtain ⟨b, t, n, rfl⟩ : ∃ (b : Fin 8) (t : Fin 4096) (n : Fin 512), i = ix3 b t n := ⟨i 0, i 1, i 2, by blk_ext []⟩
  obtain ⟨h, g, d, rfl⟩ : ∃ (h : Fin 2) (g : Fin 4) (d : Fin 64), n = ⟨64 * (4 * h + g) + d, by omega⟩ :=
    ⟨⟨n / 256, by omega⟩, ⟨n / 64 % 4, by omega⟩, ⟨n % 64, by omega⟩, Fin.ext (by simp only []; omega)⟩
  have jk := fun j x => Rl.joined h1 h4 b j h x
  choose q hq using fun x => h0 (ix5 b t h g x)
  choose k hk using jk
  obtain ⟨β, hβ⟩ := bound_rl h6 h7
  obtain ⟨M, hM⟩ := GroupedReferenceIdeal.Hand.max_rl h0 h1 h4 ⟨_, ofBits_eighth⟩ (ix4 b h g t)
  have e := quotient (V m c main_v28) (V m c main_v34) (V m c main_v38) (V m c main_v18) b ⟨t, by omega⟩ h g d q k
    (fun j => joined (m ((c : Thread nD τ).loc main_arg2)) (m ((c : Thread nD τ).loc main_arg5)) b j h d) β M
    (fun l => by rw [V_q]; exact congrArg (· * scale) (hq l))
    (fun j l => by rw [V_k]; simp only [hk])
    (fun j => (V_v m c b j h ⟨d, by omega⟩).trans (dif_pos d.2))
    (fun j => (V_v m c b j h ⟨64 + d, by omega⟩).trans (dif_neg (by simp)))
    (fun l => by rw [V_u, hβ, EReal.coe_neg])
  have el : out (V m c main_v28) (V m c main_v34) (V m c main_v38) (V m c main_v18) (ix3 b t ⟨64 * (4 * h + g) + d, by omega⟩)
      = Ideal.div (sums (V m c main_v28) (V m c main_v34) (V m c main_v38) (V m c main_v18) b ⟨t, by omega⟩ h g ⟨d, by omega⟩)
        (sums (V m c main_v28) (V m c main_v34) (V m c main_v38) (V m c main_v18) b ⟨t, by omega⟩ h g ⟨64 + d, by omega⟩) := by
    have a0 : (64 * (4 * (h : ℕ) + g) + d) / 256 = h := by omega
    have a1 : (64 * (4 * (h : ℕ) + g) + d) / 64 % 4 = g := by omega
    have a2 : (64 * (4 * (h : ℕ) + g) + d) % 64 = d := by omega
    change outAt _ _ _ _ b t ⟨64 * (4 * h + g) + d, _⟩ = _
    unfold outAt
    simp only [a0, a1, a2]
  rw [el, e, GroupedReferenceIdeal.Hand.out_apply]
  have es : ∀ j, GroupedReferenceIdeal.Read.val_main_v5 (F := Ideal) (m ((c : Thread nD τ).loc main_arg0)) (m ((c : Thread nD τ).loc main_arg1)) (m ((c : Thread nD τ).loc main_arg4))
      (ix5 b h g t j) = (((∑ x, q x * k (place j) x) * (1 / 8) : ℝ) : EReal) := fun j => by
    rw [GroupedReferenceIdeal.Hand.score_apply, ofBits_eighth]
    simp only [← joined_place, hk, hq, ← EReal.coe_mul, coe_sum, mul_comm (q _)]
  refine Finset.sum_congr rfl fun j _ => ?_
  rw [joined_place, GroupedReferenceIdeal.Hand.weight_apply]
  simp only [GroupedReferenceIdeal.Hand.max_apply, ofBits_ninf, bot_le, max_eq_right, hM, es]

end Cert.GroupedIdeal.Hand
end
-- ==== Proof.GroupedPre.lean ====
module

public import proofs.«01_k».proof.Proof.Gen.Pre_grouped_finite
public import proofs.«01_k».proof.Proof.Pre

@[expose] public section

/-! What the grouped call's precondition says: queries, keys and gains are real numbers. -/

set_option maxRecDepth 16384
noncomputable section
namespace Cert.Pre_grouped_finite
open Idealize.ShloMosaic Idealize.ShloMosaic.TcCoe Cert.Softmax Cert.Pre_grouped_finite.Gen

/-- Under the precondition the latents' queries, both groups of keys and both gains are real numbers. -/
theorem real_of_pre (x0 : FVec Ideal S8x4096x2x4x64 .f32) (x1 x2 : FVec Ideal S8x4096x2x64 .f32) (x3 : FVec Ideal S8x256x2x4x64 .f32)
    (x4 x5 : FVec Ideal S8x256x2x64 .f32) (x6 x7 : FVec Ideal S64 .f32)
    (h : fn (F := Ideal) x0 x1 x2 x3 x4 x5 x6 x7 = fun _ => 1#1) :
    (∀ i, Rl (x0 i)) ∧ (∀ i, Rl (x1 i)) ∧ (∀ i, Rl (x4 i)) ∧ (∀ i, Rl (x6 i)) ∧ ∀ i, Rl (x7 i) := by
  have e := congrFun h (fun a => a.elim0)
  obtain ⟨e, e7⟩ := and_one e
  obtain ⟨e, e6⟩ := and_one e
  obtain ⟨e, e4⟩ := and_one e
  obtain ⟨e0, e1⟩ := and_one e
  haveI : Subsingleton S_.Idx := ⟨fun a b => funext fun i => Fin.elim0 i⟩
  exact ⟨rl_of_all x0 _ _ _ _ _ e0, rl_of_all x1 _ _ _ _ _ e1, rl_of_all x4 _ _ _ _ _ e4, rl_of_all x6 _ _ _ _ _ e6, rl_of_all x7 _ _ _ _ _ e7⟩

end Cert.Pre_grouped_finite
end
-- ==== Proof.lean ====
/- The proof of the claim: the frames of the programs, and the equality of each kernel's and its reference's results. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.Pre_scores_finite
public import proofs.«01_k».proof.Proof.Gen.ReferenceIdeal.Run
public import proofs.«01_k».proof.Proof.Gen.ReferenceIdeal.Read
public import proofs.«01_k».proof.Proof.Attention
public import proofs.«01_k».proof.Proof.Pre
public import proofs.«01_k».proof.Proof.MergeValue
public import proofs.«01_k».proof.Proof.MixerValue
public import proofs.«01_k».proof.Proof.MixerHeadValue
public import proofs.«01_k».proof.Proof.MixerKeyValue
public import proofs.«01_k».proof.Proof.RouterValue
public import proofs.«01_k».proof.Proof.GroupedValue
public import proofs.«01_k».proof.Proof.GroupedPre
public import proofs.«01_k».proof.Proof.Gen.Grouped
public import proofs.«01_k».proof.Proof.Gen.Grouped.Frame
public import proofs.«01_k».proof.Proof.Gen.GroupedIdeal
public import proofs.«01_k».proof.Proof.Gen.GroupedIdeal.Frame
public import proofs.«01_k».proof.Proof.Gen.GroupedIdeal.Value
public import proofs.«01_k».proof.Proof.Gen.GroupedReferenceIdeal
public import proofs.«01_k».proof.Proof.Gen.GroupedReferenceIdeal.Run
public import proofs.«01_k».proof.Proof.Gen.GroupedReferenceIdeal.Read
public import proofs.«01_k».proof.Proof.Gen.Pre_grouped_finite
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.Router
public import proofs.«01_k».proof.Proof.Gen.Router.Frame
public import proofs.«01_k».proof.Proof.Gen.RouterIdeal
public import proofs.«01_k».proof.Proof.Gen.RouterIdeal.Frame
public import proofs.«01_k».proof.Proof.Gen.RouterIdeal.Value
public import proofs.«01_k».proof.Proof.Gen.RouterReferenceIdeal
public import proofs.«01_k».proof.Proof.Gen.RouterReferenceIdeal.Run
public import proofs.«01_k».proof.Proof.Gen.RouterReferenceIdeal.Read
public import proofs.«01_k».proof.Proof.Gen.Mixer
public import proofs.«01_k».proof.Proof.Gen.Mixer.Frame
public import proofs.«01_k».proof.Proof.Gen.MixerIdeal
public import proofs.«01_k».proof.Proof.Gen.MixerIdeal.Frame
public import proofs.«01_k».proof.Proof.Gen.MixerIdeal.Value
public import proofs.«01_k».proof.Proof.Gen.MixerReferenceIdeal
public import proofs.«01_k».proof.Proof.Gen.MixerReferenceIdeal.Run
public import proofs.«01_k».proof.Proof.Gen.MixerReferenceIdeal.Read
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The reference's result is one function of its arguments: equal arguments, equal results. -/
theorem reference_congr {x0 x1 y0 y1 : (⟨Cert.ReferenceIdeal.S8x4096x4x96, .f32⟩ : BufTy).Contents (Elt Ideal)}
    {x2 y2 : (⟨Cert.ReferenceIdeal.S8x4096x4x64, .f32⟩ : BufTy).Contents (Elt Ideal)}
    {x4 y4 : (⟨Cert.ReferenceIdeal.S8x256x4x96, .f32⟩ : BufTy).Contents (Elt Ideal)}
    {x5 y5 : (⟨Cert.ReferenceIdeal.S8x256x4x64, .f32⟩ : BufTy).Contents (Elt Ideal)}
    (h0 : x0 = y0) (h1 : x1 = y1) (h2 : x2 = y2) (h4 : x4 = y4) (h5 : x5 = y5) :
    Cert.ReferenceIdeal.Read.val_main_v21 (F := Ideal) x0 x1 x2 x4 x5
      = Cert.ReferenceIdeal.Read.val_main_v21 (F := Ideal) y0 y1 y2 y4 y5 := by
  subst h0 h1 h2 h4 h5; rfl

/-- The kernel's result is the reference's on real queries and keys. -/
theorem algebraic : Cert.algebraic_KernelIdeal_ReferenceIdeal_pre_scores_finite := by
  intro m g m' g' hpre hagree
  refine ⟨fun c => Cert.ReferenceIdeal.Read.val_main_v21 (F := Ideal)
    (m ((c.tc : Thread _ _).loc Cert.KernelIdeal.main_arg0)) (m ((c.tc : Thread _ _).loc Cert.KernelIdeal.main_arg1))
    (m ((c.tc : Thread _ _).loc Cert.KernelIdeal.main_arg2)) (m ((c.tc : Thread _ _).loc Cert.KernelIdeal.main_arg4))
    (m ((c.tc : Thread _ _).loc Cert.KernelIdeal.main_arg5)), ?_, ?_⟩
  · refine (θ_run Cert.KernelIdeal.defs _ _).mono (fun r h c => ⟨?_, (h c).2⟩) (Cert.KernelIdeal.Value.run_blocks (F := Ideal) m g)
    obtain ⟨h0, h1, h3, h4⟩ := Cert.Pre_scores_finite.real_of_pre _ _ _ _ _ _ (hpre c)
    exact (h c).1.trans ((Cert.KernelIdeal.Hand.final m c).trans (Cert.KernelIdeal.Hand.value m c h0 h1 h3 h4))
  · refine (θ_run Cert.ReferenceIdeal.defs _ _).mono (fun r h c => ⟨?_, (h c).2⟩) (Cert.ReferenceIdeal.Value.run (F := Ideal) m' g')
    obtain ⟨a0, a1, a2, _, a4, a5⟩ := hagree c
    exact ((h c).1.trans (Cert.ReferenceIdeal.Read.val_main_v21_eq _ _ _ _ _)).trans (reference_congr a0 a1 a2 a4 a5)

/-- The reference ends with its six arguments unchanged and every counter at zero: it declares no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run Cert.ReferenceIdeal.defs (onTc (τ := Cert.ReferenceIdeal.τ) (Cert.ReferenceIdeal.main (F := Ideal)))
      ⟨m, fun _ => 0, g⟩ fun r => (∀ c : Dev Cert.ReferenceIdeal.nD,
        r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2)
        ∧ r.2.mem ((c.tc : Thread _ _).loc Cert.ReferenceIdeal.main_arg3) = m ((c.tc : Thread _ _).loc Cert.ReferenceIdeal.main_arg3)
        ∧ r.2.mem ((c.tc : Thread _ _).loc Cert.ReferenceIdeal.main_arg4) = m ((c.tc : Thread _ _).loc Cert.ReferenceIdeal.main_arg4)
        ∧ r.2.mem ((c.tc : Thread _ _).loc Cert.ReferenceIdeal.main_arg5) = m ((c.tc : Thread _ _).loc Cert.ReferenceIdeal.main_arg5))
        ∧ r.2.sem = fun _ => 0 :=
  (θ_run Cert.ReferenceIdeal.defs _ _).mono (fun r h => ⟨fun c => (h c).2, sem_eq_zero_of_no_sems (by decide) r.2⟩)
    (Cert.ReferenceIdeal.Value.run (F := Ideal) m g)

/-- The dense layers' reference is one function of its nineteen arguments. -/
theorem merge_reference_congr
    {x0 y0 : (⟨Cert.MergeReferenceIdeal.S8x4096x1024, .f32⟩ : BufTy).Contents (Elt Ideal)}
    {x1 y1 : (⟨Cert.MergeReferenceIdeal.S8x256x1024, .f32⟩ : BufTy).Contents (Elt Ideal)}
    {x2 y2 : (⟨Cert.MergeReferenceIdeal.S8x6144, .f32⟩ : BufTy).Contents (Elt Ideal)}
    {x3 y3 : (⟨Cert.MergeReferenceIdeal.S6144, .f32⟩ : BufTy).Contents (Elt Ideal)}
    {x4 y4 : (⟨Cert.MergeReferenceIdeal.S1024, .f32⟩ : BufTy).Contents (Elt Ideal)}
    {x5 y5 : (⟨Cert.MergeReferenceIdeal.S8x4096x256, .f32⟩ : BufTy).Contents (Elt Ideal)}
    {x6 y6 : (⟨Cert.MergeReferenceIdeal.S8x256x256, .f32⟩ : BufTy).Contents (Elt Ideal)}
    {x7 y7 : (⟨Cert.MergeReferenceIdeal.S8x4096x512, .f32⟩ : BufTy).Contents (Elt Ideal)}
    {x8 y8 : (⟨Cert.MergeReferenceIdeal.S8x256x512, .f32⟩ : BufTy).Contents (Elt Ideal)}
    {x9 y9 : (⟨Cert.MergeReferenceIdeal.S8x4096x256, .f32⟩ : BufTy).Contents (Elt Ideal)}
    {x10 y10 : (⟨Cert.MergeReferenceIdeal.S8x256x256, .f32⟩ : BufTy).Contents (Elt Ideal)}
    {x11 y11 : (⟨Cert.MergeReferenceIdeal.S8x4096x3072, .f32⟩ : BufTy).Contents (Elt Ideal)}
    {x12 y12 : (⟨Cert.MergeReferenceIdeal.S8x256x3072, .f32⟩ : BufTy).Contents (Elt Ideal)}
    {x13 y13 : (⟨Cert.MergeReferenceIdeal.S256x1024, .f32⟩ : BufTy).Contents (Elt Ideal)}
    {x14 y14 : (⟨Cert.MergeReferenceIdeal.S512x1024, .f32⟩ : BufTy).Contents (Elt Ideal)}
    {x15 y15 : (⟨Cert.MergeReferenceIdeal.S256x1024, .f32⟩ : BufTy).Contents (Elt Ideal)}
    {x16 y16 : (⟨Cert.MergeReferenceIdeal.S1024x1024, .f32⟩ : BufTy).Contents (Elt Ideal)}
    {x17 y17 : (⟨Cert.MergeReferenceIdeal.S1024x5632, .f32⟩ : BufTy).Contents (Elt Ideal)}
    {x18 y18 : (⟨Cert.MergeReferenceIdeal.S2816x1024, .f32⟩ : BufTy).Contents (Elt Ideal)}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) :
    Cert.MergeReferenceIdeal.Read.val_main_v115 (F := Ideal) x0 x1 x2 x3 x4 x5 x6 x7 x8 x9 x10 x11 x12 x13 x14 x15 x16 x17 x18
      = Cert.MergeReferenceIdeal.Read.val_main_v115 (F := Ideal) y0 y1 y2 y3 y4 y5 y6 y7 y8 y9 y10 y11 y12 y13 y14 y15 y16 y17 y18 := by
  subst h0 h1 h2 h3 h4 h5 h6 h7 h8 h9 h10 h11 h12 h13 h14 h15 h16 h17 h18; rfl

/-- The merge and the dense feed-forward part: the kernel's result is the reference's, on all arguments. -/
theorem merge_algebraic : Cert.algebraic_MergeIdeal_MergeReferenceIdeal := by
  intro m g m' g' _ hagree
  refine ⟨fun c => Cert.MergeReferenceIdeal.Read.val_main_v115 (F := Ideal)
    (m ((c.tc : Thread _ _).loc Cert.MergeIdeal.main_arg0))
    (m ((c.tc : Thread _ _).loc Cert.MergeIdeal.main_arg1))
    (m ((c.tc : Thread _ _).loc Cert.MergeIdeal.main_arg2))
    (m ((c.tc : Thread _ _).loc Cert.MergeIdeal.main_arg3))
    (m ((c.tc : Thread _ _).loc Cert.MergeIdeal.main_arg4))
    (m ((c.tc : Thread _ _).loc Cert.MergeIdeal.main_arg5))
    (m ((c.tc : Thread _ _).loc Cert.MergeIdeal.main_arg6))
    (m ((c.tc : Thread _ _).loc Cert.MergeIdeal.main_arg7))
    (m ((c.tc : Thread _ _).loc Cert.MergeIdeal.main_arg8))
    (m ((c.tc : Thread _ _).loc Cert.MergeIdeal.main_arg9))
    (m ((c.tc : Thread _ _).loc Cert.MergeIdeal.main_arg10))
    (m ((c.tc : Thread _ _).loc Cert.MergeIdeal.main_arg11))
    (m ((c.tc : Thread _ _).loc Cert.MergeIdeal.main_arg12))
    (m ((c.tc : Thread _ _).loc Cert.MergeIdeal.main_arg13))
    (m ((c.tc : Thread _ _).loc Cert.MergeIdeal.main_arg14))
    (m ((c.tc : Thread _ _).loc Cert.MergeIdeal.main_arg15))
    (m ((c.tc : Thread _ _).loc Cert.MergeIdeal.main_arg16))
    (m ((c.tc : Thread _ _).loc Cert.MergeIdeal.main_arg17))
    (m ((c.tc : Thread _ _).loc Cert.MergeIdeal.main_arg18)), ?_, ?_⟩
  · refine (θ_run Cert.MergeIdeal.defs _ _).mono (fun r h c => ⟨?_, (h c).2⟩) (Cert.MergeIdeal.Value.run_blocks (F := Ideal) m g)
    exact (h c).1.trans ((Cert.MergeIdeal.Hand.final m c).trans (Cert.MergeIdeal.Hand.value m c))
  · refine (θ_run Cert.MergeReferenceIdeal.defs _ _).mono (fun r h c => ⟨?_, (h c).2⟩) (Cert.MergeReferenceIdeal.Value.run (F := Ideal) m' g')
    obtain ⟨a0, a1, a2, a3, a4, a5, a6, a7, a8, a9, a10, a11, a12, a13, a14, a15, a16, a17, a18⟩ := hagree c
    exact ((h c).1.trans (Cert.MergeReferenceIdeal.Read.val_main_v115_eq _ _)).trans
      (merge_reference_congr a0 a1 a2 a3 a4 a5 a6 a7 a8 a9 a10 a11 a12 a13 a14 a15 a16 a17 a18)

/-- The dense layers' reference ends with its nineteen arguments unchanged and every counter at zero. -/
theorem merge_reference_frame
    (m : (ℓ : Loc Cert.MergeReferenceIdeal.nD Cert.MergeReferenceIdeal.τ Cert.MergeReferenceIdeal.sig) → Buf (Elt Ideal) ℓ)
    (g : Dev Cert.MergeReferenceIdeal.nD → PrngReg) :
    θ_run Cert.MergeReferenceIdeal.defs (onTc (τ := Cert.MergeReferenceIdeal.τ) (Cert.MergeReferenceIdeal.main (F := Ideal)))
      ⟨m, fun _ => 0, g⟩ fun r => (∀ c : Dev Cert.MergeReferenceIdeal.nD,
        r.2.mem ((c.tc : Thread _ _).loc Cert.MergeReferenceIdeal.main_arg0) = m ((c.tc : Thread _ _).loc Cert.MergeReferenceIdeal.main_arg0)
        ∧ r.2.mem ((c.tc : Thread _ _).loc Cert.MergeReferenceIdeal.main_arg1) = m ((c.tc : Thread _ _).loc Cert.MergeReferenceIdeal.main_arg1)
        ∧ r.2.mem ((c.tc : Thread _ _).loc Cert.MergeReferenceIdeal.main_arg2) = m ((c.tc : Thread _ _).loc Cert.MergeReferenceIdeal.main_arg2)
        ∧ r.2.mem ((c.tc : Thread _ _).loc Cert.MergeReferenceIdeal.main_arg3) = m ((c.tc : Thread _ _).loc Cert.MergeReferenceIdeal.main_arg3)
        ∧ r.2.mem ((c.tc : Thread _ _).loc Cert.MergeReferenceIdeal.main_arg4) = m ((c.tc : Thread _ _).loc Cert.MergeReferenceIdeal.main_arg4)
        ∧ r.2.mem ((c.tc : Thread _ _).loc Cert.MergeReferenceIdeal.main_arg5) = m ((c.tc : Thread _ _).loc Cert.MergeReferenceIdeal.main_arg5)
        ∧ r.2.mem ((c.tc : Thread _ _).loc Cert.MergeReferenceIdeal.main_arg6) = m ((c.tc : Thread _ _).loc Cert.MergeReferenceIdeal.main_arg6)
        ∧ r.2.mem ((c.tc : Thread _ _).loc Cert.MergeReferenceIdeal.main_arg7) = m ((c.tc : Thread _ _).loc Cert.MergeReferenceIdeal.main_arg7)
        ∧ r.2.mem ((c.tc : Thread _ _).loc Cert.MergeReferenceIdeal.main_arg8) = m ((c.tc : Thread _ _).loc Cert.MergeReferenceIdeal.main_arg8)
        ∧ r.2.mem ((c.tc : Thread _ _).loc Cert.MergeReferenceIdeal.main_arg9) = m ((c.tc : Thread _ _).loc Cert.MergeReferenceIdeal.main_arg9)
        ∧ r.2.mem ((c.tc : Thread _ _).loc Cert.MergeReferenceIdeal.main_arg10) = m ((c.tc : Thread _ _).loc Cert.MergeReferenceIdeal.main_arg10)
        ∧ r.2.mem ((c.tc : Thread _ _).loc Cert.MergeReferenceIdeal.main_arg11) = m ((c.tc : Thread _ _).loc Cert.MergeReferenceIdeal.main_arg11)
        ∧ r.2.mem ((c.tc : Thread _ _).loc Cert.MergeReferenceIdeal.main_arg12) = m ((c.tc : Thread _ _).loc Cert.MergeReferenceIdeal.main_arg12)
        ∧ r.2.mem ((c.tc : Thread _ _).loc Cert.MergeReferenceIdeal.main_arg13) = m ((c.tc : Thread _ _).loc Cert.MergeReferenceIdeal.main_arg13)
        ∧ r.2.mem ((c.tc : Thread _ _).loc Cert.MergeReferenceIdeal.main_arg14) = m ((c.tc : Thread _ _).loc Cert.MergeReferenceIdeal.main_arg14)
        ∧ r.2.mem ((c.tc : Thread _ _).loc Cert.MergeReferenceIdeal.main_arg15) = m ((c.tc : Thread _ _).loc Cert.MergeReferenceIdeal.main_arg15)
        ∧ r.2.mem ((c.tc : Thread _ _).loc Cert.MergeReferenceIdeal.main_arg16) = m ((c.tc : Thread _ _).loc Cert.MergeReferenceIdeal.main_arg16)
        ∧ r.2.mem ((c.tc : Thread _ _).loc Cert.MergeReferenceIdeal.main_arg17) = m ((c.tc : Thread _ _).loc Cert.MergeReferenceIdeal.main_arg17)
        ∧ r.2.mem ((c.tc : Thread _ _).loc Cert.MergeReferenceIdeal.main_arg18) = m ((c.tc : Thread _ _).loc Cert.MergeReferenceIdeal.main_arg18))
        ∧ r.2.sem = fun _ => 0 :=
  (θ_run Cert.MergeReferenceIdeal.defs _ _).mono (fun r h => ⟨fun c => (h c).2, sem_eq_zero_of_no_sems (by decide) r.2⟩)
    (Cert.MergeReferenceIdeal.Value.run (F := Ideal) m g)

/-- The input projection's reference, query: one function of six arguments. -/
theorem mixer_query_congr
    {x0 y0 : (⟨Cert.MixerReferenceIdeal.S8x4096x1024, .f32⟩ : BufTy).Contents (Elt Ideal)}
    {x1 y1 : (⟨Cert.MixerReferenceIdeal.S8x256x1024, .f32⟩ : BufTy).Contents (Elt Ideal)}
    {x2 y2 : (⟨Cert.MixerReferenceIdeal.S8x6144, .f32⟩ : BufTy).Contents (Elt Ideal)}
    {x3 y3 : (⟨Cert.MixerReferenceIdeal.S6144, .f32⟩ : BufTy).Contents (Elt Ideal)}
    {x4 y4 : (⟨Cert.MixerReferenceIdeal.S1024, .f32⟩ : BufTy).Contents (Elt Ideal)}
    {x5 y5 : (⟨Cert.MixerReferenceIdeal.S1024x5024, .f32⟩ : BufTy).Contents (Elt Ideal)}
    (h0 : x0 = y0) (h1 : x1 = y1) (h2 : x2 = y2) (h3 : x3 = y3) (h4 : x4 = y4) (h5 : x5 = y5) :
    Cert.MixerReferenceIdeal.Read.val_main_v81 (F := Ideal) x0 x1 x2 x3 x4 x5
      = Cert.MixerReferenceIdeal.Read.val_main_v81 (F := Ideal) y0 y1 y2 y3 y4 y5 := by
  subst h0 h1 h2 h3 h4 h5; rfl

/-- The input projection's reference, key: one function of six arguments. -/
theorem mixer_key_congr
    {x0 y0 : (⟨Cert.MixerReferenceIdeal.S8x4096x1024, .f32⟩ : BufTy).Contents (Elt Ideal)}
    {x1 y1 : (⟨Cert.MixerReferenceIdeal.S8x256x1024, .f32⟩ : BufTy).Contents (Elt Ideal)}
    {x2 y2 : (⟨Cert.MixerReferenceIdeal.S8x6144, .f32⟩ : BufTy).Contents (Elt Ideal)}
    {x3 y3 : (⟨Cert.MixerReferenceIdeal.S6144, .f32⟩ : BufTy).Contents (Elt Ideal)}
    {x4 y4 : (⟨Cert.MixerReferenceIdeal.S1024, .f32⟩ : BufTy).Contents (Elt Ideal)}
    {x5 y5 : (⟨Cert.MixerReferenceIdeal.S1024x5024, .f32⟩ : BufTy).Contents (Elt Ideal)}
    (h0 : x0 = y0) (h1 : x1 = y1) (h2 : x2 = y2) (h3 : x3 = y3) (h4 : x4 = y4) (h5 : x5 = y5) :
    Cert.MixerReferenceIdeal.Read.val_main_v84 (F := Ideal) x0 x1 x2 x3 x4 x5
      = Cert.MixerReferenceIdeal.Read.val_main_v84 (F := Ideal) y0 y1 y2 y3 y4 y5 := by
  subst h0 h1 h2 h3 h4 h5; rfl

/-- The input projection's reference, value: one function of six arguments. -/
theorem mixer_value_congr
    {x0 y0 : (⟨Cert.MixerReferenceIdeal.S8x4096x1024, .f32⟩ : BufTy).Contents (Elt Ideal)}
    {x1 y1 : (⟨Cert.MixerReferenceIdeal.S8x256x1024, .f32⟩ : BufTy).Contents (Elt Ideal)}
    {x2 y2 : (⟨Cert.MixerReferenceIdeal.S8x6144, .f32⟩ : BufTy).Contents (Elt Ideal)}
    {x3 y3 : (⟨Cert.MixerReferenceIdeal.S6144, .f32⟩ : BufTy).Contents (Elt Ideal)}
    {x4 y4 : (⟨Cert.MixerReferenceIdeal.S1024, .f32⟩ : BufTy).Contents (Elt Ideal)}
    {x5 y5 : (⟨Cert.MixerReferenceIdeal.S1024x5024, .f32⟩ : BufTy).Contents (Elt Ideal)}
    (h0 : x0 = y0) (h1 : x1 = y1) (h2 : x2 = y2) (h3 : x3 = y3) (h4 : x4 = y4) (h5 : x5 = y5) :
    Cert.MixerReferenceIdeal.Read.val_main_v87 (F := Ideal) x0 x1 x2 x3 x4 x5
      = Cert.MixerReferenceIdeal.Read.val_main_v87 (F := Ideal) y0 y1 y2 y3 y4 y5 := by
  subst h0 h1 h2 h3 h4 h5; rfl

/-- The input projection's reference, gate: one function of six arguments. -/
theorem mixer_gate_congr
    {x0 y0 : (⟨Cert.MixerReferenceIdeal.S8x4096x1024, .f32⟩ : BufTy).Contents (Elt Ideal)}
    {x1 y1 : (⟨Cert.MixerReferenceIdeal.S8x256x1024, .f32⟩ : BufTy).Contents (Elt Ideal)}
    {x2 y2 : (⟨Cert.MixerReferenceIdeal.S8x6144, .f32⟩ : BufTy).Contents (Elt Ideal)}
    {x3 y3 : (⟨Cert.MixerReferenceIdeal.S6144, .f32⟩ : BufTy).Contents (Elt Ideal)}
    {x4 y4 : (⟨Cert.MixerReferenceIdeal.S1024, .f32⟩ : BufTy).Contents (Elt Ideal)}
    {x5 y5 : (⟨Cert.MixerReferenceIdeal.S1024x5024, .f32⟩ : BufTy).Contents (Elt Ideal)}
    (h0 : x0 = y0) (h1 : x1 = y1) (h2 : x2 = y2) (h3 : x3 = y3) (h4 : x4 = y4) (h5 : x5 = y5) :
    Cert.MixerReferenceIdeal.Read.val_main_v90 (F := Ideal) x0 x1 x2 x3 x4 x5
      = Cert.MixerReferenceIdeal.Read.val_main_v90 (F := Ideal) y0 y1 y2 y3 y4 y5 := by
  subst h0 h1 h2 h3 h4 h5; rfl

/-- The input projection's reference, the grouped-query values: one function of six arguments. -/
theorem mixer_gval_congr
    {x0 y0 : (⟨Cert.MixerReferenceIdeal.S8x4096x1024, .f32⟩ : BufTy).Contents (Elt Ideal)}
    {x1 y1 : (⟨Cert.MixerReferenceIdeal.S8x256x1024, .f32⟩ : BufTy).Contents (Elt Ideal)}
    {x2 y2 : (⟨Cert.MixerReferenceIdeal.S8x6144, .f32⟩ : BufTy).Contents (Elt Ideal)}
    {x3 y3 : (⟨Cert.MixerReferenceIdeal.S6144, .f32⟩ : BufTy).Contents (Elt Ideal)}
    {x4 y4 : (⟨Cert.MixerReferenceIdeal.S1024, .f32⟩ : BufTy).Contents (Elt Ideal)}
    {x5 y5 : (⟨Cert.MixerReferenceIdeal.S1024x5024, .f32⟩ : BufTy).Contents (Elt Ideal)}
    (h0 : x0 = y0) (h1 : x1 = y1) (h2 : x2 = y2) (h3 : x3 = y3) (h4 : x4 = y4) (h5 : x5 = y5) :
    Cert.MixerReferenceIdeal.Read.val_main_v143 (F := Ideal) x0 x1 x2 x3 x4 x5
      = Cert.MixerReferenceIdeal.Read.val_main_v143 (F := Ideal) y0 y1 y2 y3 y4 y5 := by
  subst h0 h1 h2 h3 h4 h5; rfl

/-- The input projection's reference, the latent values: one function of eight arguments. -/
theorem mixer_mval_congr
    {x0 y0 : (⟨Cert.MixerReferenceIdeal.S8x4096x1024, .f32⟩ : BufTy).Contents (Elt Ideal)}
    {x1 y1 : (⟨Cert.MixerReferenceIdeal.S8x256x1024, .f32⟩ : BufTy).Contents (Elt Ideal)}
    {x2 y2 : (⟨Cert.MixerReferenceIdeal.S8x6144, .f32⟩ : BufTy).Contents (Elt Ideal)}
    {x3 y3 : (⟨Cert.MixerReferenceIdeal.S6144, .f32⟩ : BufTy).Contents (Elt Ideal)}
    {x4 y4 : (⟨Cert.MixerReferenceIdeal.S1024, .f32⟩ : BufTy).Contents (Elt Ideal)}
    {x5 y5 : (⟨Cert.MixerReferenceIdeal.S1024x5024, .f32⟩ : BufTy).Contents (Elt Ideal)}
    {x9 y9 : (⟨Cert.MixerReferenceIdeal.S128, .f32⟩ : BufTy).Contents (Elt Ideal)}
    {x11 y11 : (⟨Cert.MixerReferenceIdeal.S128x512, .f32⟩ : BufTy).Contents (Elt Ideal)}
    (h0 : x0 = y0) (h1 : x1 = y1) (h2 : x2 = y2) (h3 : x3 = y3) (h4 : x4 = y4) (h5 : x5 = y5)
    (h9 : x9 = y9) (h11 : x11 = y11) :
    Cert.MixerReferenceIdeal.Read.val_main_v146 (F := Ideal) x0 x1 x2 x3 x4 x5 x9 x11
      = Cert.MixerReferenceIdeal.Read.val_main_v146 (F := Ideal) y0 y1 y2 y3 y4 y5 y9 y11 := by
  subst h0 h1 h2 h3 h4 h5 h9 h11; rfl

/-- The input projection's reference, the grouped-query keys: one function of seven arguments. -/
theorem mixer_gkey_congr
    {x0 y0 : (⟨Cert.MixerReferenceIdeal.S8x4096x1024, .f32⟩ : BufTy).Contents (Elt Ideal)}
    {x1 y1 : (⟨Cert.MixerReferenceIdeal.S8x256x1024, .f32⟩ : BufTy).Contents (Elt Ideal)}
    {x2 y2 : (⟨Cert.MixerReferenceIdeal.S8x6144, .f32⟩ : BufTy).Contents (Elt Ideal)}
    {x3 y3 : (⟨Cert.MixerReferenceIdeal.S6144, .f32⟩ : BufTy).Contents (Elt Ideal)}
    {x4 y4 : (⟨Cert.MixerReferenceIdeal.S1024, .f32⟩ : BufTy).Contents (Elt Ideal)}
    {x5 y5 : (⟨Cert.MixerReferenceIdeal.S1024x5024, .f32⟩ : BufTy).Contents (Elt Ideal)}
    {x7 y7 : (⟨Cert.MixerReferenceIdeal.S64, .f32⟩ : BufTy).Contents (Elt Ideal)}
    (h0 : x0 = y0) (h1 : x1 = y1) (h2 : x2 = y2) (h3 : x3 = y3) (h4 : x4 = y4) (h5 : x5 = y5) (h7 : x7 = y7) :
    Cert.MixerReferenceIdeal.Read.val_main_v226 (F := Ideal) x0 x1 x2 x3 x4 x5 x7
      = Cert.MixerReferenceIdeal.Read.val_main_v226 (F := Ideal) y0 y1 y2 y3 y4 y5 y7 := by
  subst h0 h1 h2 h3 h4 h5 h7; rfl

/-- The input projection: the queries, keys and values of the neighbourhood attention, the gates, the values of the
    grouped-query and of the latent attention, and the grouped-query keys are the reference's, on all arguments. -/
theorem mixer_algebraic : Cert.algebraic_MixerIdeal_MixerReferenceIdeal := by
  intro m g m' g' _ hagree
  refine ⟨fun c => Cert.MixerReferenceIdeal.Read.val_main_v81 (F := Ideal)
    (m ((c.tc : Thread _ _).loc Cert.MixerIdeal.main_arg0)) (m ((c.tc : Thread _ _).loc Cert.MixerIdeal.main_arg1)) (m ((c.tc : Thread _ _).loc Cert.MixerIdeal.main_arg2))
    (m ((c.tc : Thread _ _).loc Cert.MixerIdeal.main_arg3)) (m ((c.tc : Thread _ _).loc Cert.MixerIdeal.main_arg4)) (m ((c.tc : Thread _ _).loc Cert.MixerIdeal.main_arg5)),
    fun c => Cert.MixerReferenceIdeal.Read.val_main_v84 (F := Ideal)
    (m ((c.tc : Thread _ _).loc Cert.MixerIdeal.main_arg0)) (m ((c.tc : Thread _ _).loc Cert.MixerIdeal.main_arg1)) (m ((c.tc : Thread _ _).loc Cert.MixerIdeal.main_arg2))
    (m ((c.tc : Thread _ _).loc Cert.MixerIdeal.main_arg3)) (m ((c.tc : Thread _ _).loc Cert.MixerIdeal.main_arg4)) (m ((c.tc : Thread _ _).loc Cert.MixerIdeal.main_arg5)),
    fun c => Cert.MixerReferenceIdeal.Read.val_main_v87 (F := Ideal)
    (m ((c.tc : Thread _ _).loc Cert.MixerIdeal.main_arg0)) (m ((c.tc : Thread _ _).loc Cert.MixerIdeal.main_arg1)) (m ((c.tc : Thread _ _).loc Cert.MixerIdeal.main_arg2))
    (m ((c.tc : Thread _ _).loc Cert.MixerIdeal.main_arg3)) (m ((c.tc : Thread _ _).loc Cert.MixerIdeal.main_arg4)) (m ((c.tc : Thread _ _).loc Cert.MixerIdeal.main_arg5)),
    fun c => Cert.MixerReferenceIdeal.Read.val_main_v90 (F := Ideal)
    (m ((c.tc : Thread _ _).loc Cert.MixerIdeal.main_arg0)) (m ((c.tc : Thread _ _).loc Cert.MixerIdeal.main_arg1)) (m ((c.tc : Thread _ _).loc Cert.MixerIdeal.main_arg2))
    (m ((c.tc : Thread _ _).loc Cert.MixerIdeal.main_arg3)) (m ((c.tc : Thread _ _).loc Cert.MixerIdeal.main_arg4)) (m ((c.tc : Thread _ _).loc Cert.MixerIdeal.main_arg5)),
    fun c => Cert.MixerReferenceIdeal.Read.val_main_v143 (F := Ideal)
    (m ((c.tc : Thread _ _).loc Cert.MixerIdeal.main_arg0)) (m ((c.tc : Thread _ _).loc Cert.MixerIdeal.main_arg1)) (m ((c.tc : Thread _ _).loc Cert.MixerIdeal.main_arg2))
    (m ((c.tc : Thread _ _).loc Cert.MixerIdeal.main_arg3)) (m ((c.tc : Thread _ _).loc Cert.MixerIdeal.main_arg4)) (m ((c.tc : Thread _ _).loc Cert.MixerIdeal.main_arg5)),
    fun c => Cert.MixerReferenceIdeal.Read.val_main_v146 (F := Ideal)
    (m ((c.tc : Thread _ _).loc Cert.MixerIdeal.main_arg0)) (m ((c.tc : Thread _ _).loc Cert.MixerIdeal.main_arg1)) (m ((c.tc : Thread _ _).loc Cert.MixerIdeal.main_arg2))
    (m ((c.tc : Thread _ _).loc Cert.MixerIdeal.main_arg3)) (m ((c.tc : Thread _ _).loc Cert.MixerIdeal.main_arg4)) (m ((c.tc : Thread _ _).loc Cert.MixerIdeal.main_arg5))
    (m ((c.tc : Thread _ _).loc Cert.MixerIdeal.main_arg9)) (m ((c.tc : Thread _ _).loc Cert.MixerIdeal.main_arg11)),
    fun c => Cert.MixerReferenceIdeal.Read.val_main_v226 (F := Ideal)
    (m ((c.tc : Thread _ _).loc Cert.MixerIdeal.main_arg0)) (m ((c.tc : Thread _ _).loc Cert.MixerIdeal.main_arg1)) (m ((c.tc : Thread _ _).loc Cert.MixerIdeal.main_arg2))
    (m ((c.tc : Thread _ _).loc Cert.MixerIdeal.main_arg3)) (m ((c.tc : Thread _ _).loc Cert.MixerIdeal.main_arg4)) (m ((c.tc : Thread _ _).loc Cert.MixerIdeal.main_arg5))
    (m ((c.tc : Thread _ _).loc Cert.MixerIdeal.main_arg7)),
    ?_, ?_⟩
  · refine (θ_run Cert.MixerIdeal.defs _ _).mono (fun r h c => ?_) (Cert.MixerIdeal.Value.run_blocks (F := Ideal) m g)
    obtain ⟨h0, h1, h2, _, h4, h5, _, _, h8, h9, _, hargs⟩ := h c
    exact ⟨h0.trans ((Cert.MixerIdeal.Hand.final_query m c).trans (Cert.MixerIdeal.Hand.value_query m c)),
      h1.trans ((Cert.MixerIdeal.Hand.final_key m c).trans (Cert.MixerIdeal.Hand.value_key m c)),
      h2.trans ((Cert.MixerIdeal.Hand.final_value m c).trans (Cert.MixerIdeal.Hand.value_value m c)),
      h9.trans ((Cert.MixerIdeal.Hand.final_gate m c).trans (Cert.MixerIdeal.Hand.value_gate m c)),
      h5.trans ((Cert.MixerIdeal.Hand.final_gval m c).trans (Cert.MixerIdeal.Hand.value_gval m c)),
      h8.trans ((Cert.MixerIdeal.Hand.final_mval m c).trans (Cert.MixerIdeal.Hand.value_mval m c)),
      h4.trans ((Cert.MixerIdeal.Hand.final_gkey m c).trans (Cert.MixerIdeal.Hand.value_gkey m c)), hargs⟩
  · refine (θ_run Cert.MixerReferenceIdeal.defs _ _).mono (fun r h c => ?_) (Cert.MixerReferenceIdeal.Value.run (F := Ideal) m' g')
    obtain ⟨a0, a1, a2, a3, a4, a5, _, a7, _, a9, _, a11⟩ := hagree c
    obtain ⟨h0, h1, h2, h3, h4, h5, h6, hargs⟩ := h c
    exact ⟨(h0.trans (Cert.MixerReferenceIdeal.Read.val_main_v81_eq _)).trans (mixer_query_congr a0 a1 a2 a3 a4 a5),
      (h1.trans (Cert.MixerReferenceIdeal.Read.val_main_v84_eq _)).trans (mixer_key_congr a0 a1 a2 a3 a4 a5),
      (h2.trans (Cert.MixerReferenceIdeal.Read.val_main_v87_eq _)).trans (mixer_value_congr a0 a1 a2 a3 a4 a5),
      (h3.trans (Cert.MixerReferenceIdeal.Read.val_main_v90_eq _)).trans (mixer_gate_congr a0 a1 a2 a3 a4 a5),
      (h4.trans (Cert.MixerReferenceIdeal.Read.val_main_v143_eq _)).trans (mixer_gval_congr a0 a1 a2 a3 a4 a5),
      (h5.trans (Cert.MixerReferenceIdeal.Read.val_main_v146_eq _)).trans
        (mixer_mval_congr a0 a1 a2 a3 a4 a5 a9 a11),
      (h6.trans (Cert.MixerReferenceIdeal.Read.val_main_v226_eq _)).trans
        (mixer_gkey_congr a0 a1 a2 a3 a4 a5 a7), hargs⟩

/-- The input projection's reference ends with its twelve arguments unchanged and every counter at zero. -/
theorem mixer_reference_frame
    (m : (ℓ : Loc Cert.MixerReferenceIdeal.nD Cert.MixerReferenceIdeal.τ Cert.MixerReferenceIdeal.sig) → Buf (Elt Ideal) ℓ)
    (g : Dev Cert.MixerReferenceIdeal.nD → PrngReg) :
    θ_run Cert.MixerReferenceIdeal.defs (onTc (τ := Cert.MixerReferenceIdeal.τ) (Cert.MixerReferenceIdeal.main (F := Ideal)))
      ⟨m, fun _ => 0, g⟩ fun r => (∀ c : Dev Cert.MixerReferenceIdeal.nD,
        r.2.mem ((c.tc : Thread _ _).loc Cert.MixerReferenceIdeal.main_arg0) = m ((c.tc : Thread _ _).loc Cert.MixerReferenceIdeal.main_arg0)
        ∧ r.2.mem ((c.tc : Thread _ _).loc Cert.MixerReferenceIdeal.main_arg1) = m ((c.tc : Thread _ _).loc Cert.MixerReferenceIdeal.main_arg1)
        ∧ r.2.mem ((c.tc : Thread _ _).loc Cert.MixerReferenceIdeal.main_arg2) = m ((c.tc : Thread _ _).loc Cert.MixerReferenceIdeal.main_arg2)
        ∧ r.2.mem ((c.tc : Thread _ _).loc Cert.MixerReferenceIdeal.main_arg3) = m ((c.tc : Thread _ _).loc Cert.MixerReferenceIdeal.main_arg3)
        ∧ r.2.mem ((c.tc : Thread _ _).loc Cert.MixerReferenceIdeal.main_arg4) = m ((c.tc : Thread _ _).loc Cert.MixerReferenceIdeal.main_arg4)
        ∧ r.2.mem ((c.tc : Thread _ _).loc Cert.MixerReferenceIdeal.main_arg5) = m ((c.tc : Thread _ _).loc Cert.MixerReferenceIdeal.main_arg5)
        ∧ r.2.mem ((c.tc : Thread _ _).loc Cert.MixerReferenceIdeal.main_arg6) = m ((c.tc : Thread _ _).loc Cert.MixerReferenceIdeal.main_arg6)
        ∧ r.2.mem ((c.tc : Thread _ _).loc Cert.MixerReferenceIdeal.main_arg7) = m ((c.tc : Thread _ _).loc Cert.MixerReferenceIdeal.main_arg7)
        ∧ r.2.mem ((c.tc : Thread _ _).loc Cert.MixerReferenceIdeal.main_arg8) = m ((c.tc : Thread _ _).loc Cert.MixerReferenceIdeal.main_arg8)
        ∧ r.2.mem ((c.tc : Thread _ _).loc Cert.MixerReferenceIdeal.main_arg9) = m ((c.tc : Thread _ _).loc Cert.MixerReferenceIdeal.main_arg9)
        ∧ r.2.mem ((c.tc : Thread _ _).loc Cert.MixerReferenceIdeal.main_arg10) = m ((c.tc : Thread _ _).loc Cert.MixerReferenceIdeal.main_arg10)
        ∧ r.2.mem ((c.tc : Thread _ _).loc Cert.MixerReferenceIdeal.main_arg11) = m ((c.tc : Thread _ _).loc Cert.MixerReferenceIdeal.main_arg11))
        ∧ r.2.sem = fun _ => 0 :=
  (θ_run Cert.MixerReferenceIdeal.defs _ _).mono (fun r h => ⟨fun c => (h c).2.2.2.2.2.2.2, sem_eq_zero_of_no_sems (by decide) r.2⟩)
    (Cert.MixerReferenceIdeal.Value.run (F := Ideal) m g)

/-- The grouped reference's result is one function of its arguments. -/
theorem grouped_reference_congr
    {x0 y0 : (⟨Cert.GroupedReferenceIdeal.S8x4096x2x4x64, .f32⟩ : BufTy).Contents (Elt Ideal)}
    {x1 y1 x2 y2 : (⟨Cert.GroupedReferenceIdeal.S8x4096x2x64, .f32⟩ : BufTy).Contents (Elt Ideal)}
    {x4 y4 x5 y5 : (⟨Cert.GroupedReferenceIdeal.S8x256x2x64, .f32⟩ : BufTy).Contents (Elt Ideal)}
    (h0 : x0 = y0) (h1 : x1 = y1) (h2 : x2 = y2) (h4 : x4 = y4) (h5 : x5 = y5) :
    Cert.GroupedReferenceIdeal.Read.val_main_v20 (F := Ideal) x0 x1 x2 x4 x5
      = Cert.GroupedReferenceIdeal.Read.val_main_v20 (F := Ideal) y0 y1 y2 y4 y5 := by
  subst h0 h1 h2 h4 h5; rfl

/-- The grouped attention: the kernel's result is the reference's on real queries, keys and gains. -/
theorem grouped_algebraic : Cert.algebraic_GroupedIdeal_GroupedReferenceIdeal_pre_grouped_finite := by
  intro m g m' g' hpre hagree
  refine ⟨fun c => Cert.GroupedReferenceIdeal.Read.val_main_v20 (F := Ideal)
    (m ((c.tc : Thread _ _).loc Cert.GroupedIdeal.main_arg0)) (m ((c.tc : Thread _ _).loc Cert.GroupedIdeal.main_arg1))
    (m ((c.tc : Thread _ _).loc Cert.GroupedIdeal.main_arg2)) (m ((c.tc : Thread _ _).loc Cert.GroupedIdeal.main_arg4))
    (m ((c.tc : Thread _ _).loc Cert.GroupedIdeal.main_arg5)), ?_, ?_⟩
  · refine (θ_run Cert.GroupedIdeal.defs _ _).mono (fun r h c => ⟨?_, (h c).2⟩) (Cert.GroupedIdeal.Value.run_blocks (F := Ideal) m g)
    obtain ⟨h0, h1, h4, h6, h7⟩ := Cert.Pre_grouped_finite.real_of_pre _ _ _ _ _ _ _ _ (hpre c)
    exact (h c).1.trans ((Cert.GroupedIdeal.Hand.final m c).trans (Cert.GroupedIdeal.Hand.value m c h0 h1 h4 h6 h7))
  · refine (θ_run Cert.GroupedReferenceIdeal.defs _ _).mono (fun r h c => ⟨?_, (h c).2⟩) (Cert.GroupedReferenceIdeal.Value.run (F := Ideal) m' g')
    obtain ⟨a0, a1, a2, _, a4, a5, _, _⟩ := hagree c
    exact ((h c).1.trans (Cert.GroupedReferenceIdeal.Read.val_main_v20_eq _ _ _ _ _)).trans (grouped_reference_congr a0 a1 a2 a4 a5)

/-- The grouped reference ends with its eight arguments unchanged and every counter at zero. -/
theorem grouped_reference_frame
    (m : (ℓ : Loc Cert.GroupedReferenceIdeal.nD Cert.GroupedReferenceIdeal.τ Cert.GroupedReferenceIdeal.sig) → Buf (Elt Ideal) ℓ)
    (g : Dev Cert.GroupedReferenceIdeal.nD → PrngReg) :
    θ_run Cert.GroupedReferenceIdeal.defs (onTc (τ := Cert.GroupedReferenceIdeal.τ) (Cert.GroupedReferenceIdeal.main (F := Ideal)))
      ⟨m, fun _ => 0, g⟩ fun r => (∀ c : Dev Cert.GroupedReferenceIdeal.nD,
        r.2.mem ((c.tc : Thread _ _).loc Cert.GroupedReferenceIdeal.main_arg0) = m ((c.tc : Thread _ _).loc Cert.GroupedReferenceIdeal.main_arg0)
        ∧ r.2.mem ((c.tc : Thread _ _).loc Cert.GroupedReferenceIdeal.main_arg1) = m ((c.tc : Thread _ _).loc Cert.GroupedReferenceIdeal.main_arg1)
        ∧ r.2.mem ((c.tc : Thread _ _).loc Cert.GroupedReferenceIdeal.main_arg2) = m ((c.tc : Thread _ _).loc Cert.GroupedReferenceIdeal.main_arg2)
        ∧ r.2.mem ((c.tc : Thread _ _).loc Cert.GroupedReferenceIdeal.main_arg3) = m ((c.tc : Thread _ _).loc Cert.GroupedReferenceIdeal.main_arg3)
        ∧ r.2.mem ((c.tc : Thread _ _).loc Cert.GroupedReferenceIdeal.main_arg4) = m ((c.tc : Thread _ _).loc Cert.GroupedReferenceIdeal.main_arg4)
        ∧ r.2.mem ((c.tc : Thread _ _).loc Cert.GroupedReferenceIdeal.main_arg5) = m ((c.tc : Thread _ _).loc Cert.GroupedReferenceIdeal.main_arg5)
        ∧ r.2.mem ((c.tc : Thread _ _).loc Cert.GroupedReferenceIdeal.main_arg6) = m ((c.tc : Thread _ _).loc Cert.GroupedReferenceIdeal.main_arg6)
        ∧ r.2.mem ((c.tc : Thread _ _).loc Cert.GroupedReferenceIdeal.main_arg7) = m ((c.tc : Thread _ _).loc Cert.GroupedReferenceIdeal.main_arg7))
        ∧ r.2.sem = fun _ => 0 :=
  (θ_run Cert.GroupedReferenceIdeal.defs _ _).mono (fun r h => ⟨fun c => (h c).2, sem_eq_zero_of_no_sems (by decide) r.2⟩)
    (Cert.GroupedReferenceIdeal.Value.run (F := Ideal) m g)

/-- The experts layers' reference is one function of the arguments it reads. -/
theorem router_reference_congr
    {x0 y0 : (⟨Cert.RouterReferenceIdeal.S8x4096x1024, .f32⟩ : BufTy).Contents (Elt Ideal)}
    {x1 y1 : (⟨Cert.RouterReferenceIdeal.S8x256x1024, .f32⟩ : BufTy).Contents (Elt Ideal)}
    {x2 y2 : (⟨Cert.RouterReferenceIdeal.S8x6144, .f32⟩ : BufTy).Contents (Elt Ideal)}
    {x3 y3 : (⟨Cert.RouterReferenceIdeal.S6144, .f32⟩ : BufTy).Contents (Elt Ideal)}
    {x5 y5 : (⟨Cert.RouterReferenceIdeal.S8x4096x256, .f32⟩ : BufTy).Contents (Elt Ideal)}
    {x6 y6 : (⟨Cert.RouterReferenceIdeal.S8x256x256, .f32⟩ : BufTy).Contents (Elt Ideal)}
    {x7 y7 : (⟨Cert.RouterReferenceIdeal.S8x4096x512, .f32⟩ : BufTy).Contents (Elt Ideal)}
    {x8 y8 : (⟨Cert.RouterReferenceIdeal.S8x256x512, .f32⟩ : BufTy).Contents (Elt Ideal)}
    {x9 y9 : (⟨Cert.RouterReferenceIdeal.S8x4096x256, .f32⟩ : BufTy).Contents (Elt Ideal)}
    {x10 y10 : (⟨Cert.RouterReferenceIdeal.S8x256x256, .f32⟩ : BufTy).Contents (Elt Ideal)}
    {x11 y11 : (⟨Cert.RouterReferenceIdeal.S8x4096x3072, .f32⟩ : BufTy).Contents (Elt Ideal)}
    {x12 y12 : (⟨Cert.RouterReferenceIdeal.S8x256x3072, .f32⟩ : BufTy).Contents (Elt Ideal)}
    {x13 y13 : (⟨Cert.RouterReferenceIdeal.S256x1024, .f32⟩ : BufTy).Contents (Elt Ideal)}
    {x14 y14 : (⟨Cert.RouterReferenceIdeal.S512x1024, .f32⟩ : BufTy).Contents (Elt Ideal)}
    {x15 y15 : (⟨Cert.RouterReferenceIdeal.S256x1024, .f32⟩ : BufTy).Contents (Elt Ideal)}
    {x16 y16 : (⟨Cert.RouterReferenceIdeal.S1024x1024, .f32⟩ : BufTy).Contents (Elt Ideal)}
    (h0 : x0 = y0) (h1 : x1 = y1) (h2 : x2 = y2) (h3 : x3 = y3) (h5 : x5 = y5) (h6 : x6 = y6) (h7 : x7 = y7) (h8 : x8 = y8)
    (h9 : x9 = y9) (h10 : x10 = y10) (h11 : x11 = y11) (h12 : x12 = y12) (h13 : x13 = y13) (h14 : x14 = y14) (h15 : x15 = y15) (h16 : x16 = y16) :
    Cert.RouterReferenceIdeal.Read.val_main_v56 (F := Ideal) x0 x1 x2 x3 x5 x6 x7 x8 x9 x10 x11 x12 x13 x14 x15 x16
      = Cert.RouterReferenceIdeal.Read.val_main_v56 (F := Ideal) y0 y1 y2 y3 y5 y6 y7 y8 y9 y10 y11 y12 y13 y14 y15 y16 := by
  subst h0 h1 h2 h3 h5 h6 h7 h8 h9 h10 h11 h12 h13 h14 h15 h16; rfl

/-- The merged tokens of the layers with experts are the reference's. -/
theorem router_algebraic : Cert.algebraic_RouterIdeal_RouterReferenceIdeal := by
  intro m g m' g' _ hagree
  refine ⟨fun c => Cert.RouterReferenceIdeal.Read.val_main_v56 (F := Ideal)
    (m ((c.tc : Thread _ _).loc Cert.RouterIdeal.main_arg0))
    (m ((c.tc : Thread _ _).loc Cert.RouterIdeal.main_arg1))
    (m ((c.tc : Thread _ _).loc Cert.RouterIdeal.main_arg2))
    (m ((c.tc : Thread _ _).loc Cert.RouterIdeal.main_arg3))
    (m ((c.tc : Thread _ _).loc Cert.RouterIdeal.main_arg5))
    (m ((c.tc : Thread _ _).loc Cert.RouterIdeal.main_arg6))
    (m ((c.tc : Thread _ _).loc Cert.RouterIdeal.main_arg7))
    (m ((c.tc : Thread _ _).loc Cert.RouterIdeal.main_arg8))
    (m ((c.tc : Thread _ _).loc Cert.RouterIdeal.main_arg9))
    (m ((c.tc : Thread _ _).loc Cert.RouterIdeal.main_arg10))
    (m ((c.tc : Thread _ _).loc Cert.RouterIdeal.main_arg11))
    (m ((c.tc : Thread _ _).loc Cert.RouterIdeal.main_arg12))
    (m ((c.tc : Thread _ _).loc Cert.RouterIdeal.main_arg13))
    (m ((c.tc : Thread _ _).loc Cert.RouterIdeal.main_arg14))
    (m ((c.tc : Thread _ _).loc Cert.RouterIdeal.main_arg15))
    (m ((c.tc : Thread _ _).loc Cert.RouterIdeal.main_arg16)), ?_, ?_⟩
  · refine (θ_run Cert.RouterIdeal.defs _ _).mono (fun r h c => ?_) (Cert.RouterIdeal.Value.run_blocks (F := Ideal) m g)
    obtain ⟨h0, _, _, _, hargs⟩ := h c
    exact ⟨h0.trans ((Cert.RouterIdeal.Hand.final m c).trans (Cert.RouterIdeal.Hand.value m c)), hargs⟩
  · refine (θ_run Cert.RouterReferenceIdeal.defs _ _).mono (fun r h c => ⟨?_, (h c).2⟩) (Cert.RouterReferenceIdeal.Value.run (F := Ideal) m' g')
    obtain ⟨a0, a1, a2, a3, _, a5, a6, a7, a8, a9, a10, a11, a12, a13, a14, a15, a16, _⟩ := hagree c
    exact ((h c).1.trans (Cert.RouterReferenceIdeal.Read.val_main_v56_eq _ _)).trans
      (router_reference_congr a0 a1 a2 a3 a5 a6 a7 a8 a9 a10 a11 a12 a13 a14 a15 a16)

/-- The experts layers' reference ends with its eighteen arguments unchanged and every counter at zero. -/
theorem router_reference_frame
    (m : (ℓ : Loc Cert.RouterReferenceIdeal.nD Cert.RouterReferenceIdeal.τ Cert.RouterReferenceIdeal.sig) → Buf (Elt Ideal) ℓ)
    (g : Dev Cert.RouterReferenceIdeal.nD → PrngReg) :
    θ_run Cert.RouterReferenceIdeal.defs (onTc (τ := Cert.RouterReferenceIdeal.τ) (Cert.RouterReferenceIdeal.main (F := Ideal)))
      ⟨m, fun _ => 0, g⟩ fun r => (∀ c : Dev Cert.RouterReferenceIdeal.nD,
        r.2.mem ((c.tc : Thread _ _).loc Cert.RouterReferenceIdeal.main_arg0) = m ((c.tc : Thread _ _).loc Cert.RouterReferenceIdeal.main_arg0)
        ∧ r.2.mem ((c.tc : Thread _ _).loc Cert.RouterReferenceIdeal.main_arg1) = m ((c.tc : Thread _ _).loc Cert.RouterReferenceIdeal.main_arg1)
        ∧ r.2.mem ((c.tc : Thread _ _).loc Cert.RouterReferenceIdeal.main_arg2) = m ((c.tc : Thread _ _).loc Cert.RouterReferenceIdeal.main_arg2)
        ∧ r.2.mem ((c.tc : Thread _ _).loc Cert.RouterReferenceIdeal.main_arg3) = m ((c.tc : Thread _ _).loc Cert.RouterReferenceIdeal.main_arg3)
        ∧ r.2.mem ((c.tc : Thread _ _).loc Cert.RouterReferenceIdeal.main_arg4) = m ((c.tc : Thread _ _).loc Cert.RouterReferenceIdeal.main_arg4)
        ∧ r.2.mem ((c.tc : Thread _ _).loc Cert.RouterReferenceIdeal.main_arg5) = m ((c.tc : Thread _ _).loc Cert.RouterReferenceIdeal.main_arg5)
        ∧ r.2.mem ((c.tc : Thread _ _).loc Cert.RouterReferenceIdeal.main_arg6) = m ((c.tc : Thread _ _).loc Cert.RouterReferenceIdeal.main_arg6)
        ∧ r.2.mem ((c.tc : Thread _ _).loc Cert.RouterReferenceIdeal.main_arg7) = m ((c.tc : Thread _ _).loc Cert.RouterReferenceIdeal.main_arg7)
        ∧ r.2.mem ((c.tc : Thread _ _).loc Cert.RouterReferenceIdeal.main_arg8) = m ((c.tc : Thread _ _).loc Cert.RouterReferenceIdeal.main_arg8)
        ∧ r.2.mem ((c.tc : Thread _ _).loc Cert.RouterReferenceIdeal.main_arg9) = m ((c.tc : Thread _ _).loc Cert.RouterReferenceIdeal.main_arg9)
        ∧ r.2.mem ((c.tc : Thread _ _).loc Cert.RouterReferenceIdeal.main_arg10) = m ((c.tc : Thread _ _).loc Cert.RouterReferenceIdeal.main_arg10)
        ∧ r.2.mem ((c.tc : Thread _ _).loc Cert.RouterReferenceIdeal.main_arg11) = m ((c.tc : Thread _ _).loc Cert.RouterReferenceIdeal.main_arg11)
        ∧ r.2.mem ((c.tc : Thread _ _).loc Cert.RouterReferenceIdeal.main_arg12) = m ((c.tc : Thread _ _).loc Cert.RouterReferenceIdeal.main_arg12)
        ∧ r.2.mem ((c.tc : Thread _ _).loc Cert.RouterReferenceIdeal.main_arg13) = m ((c.tc : Thread _ _).loc Cert.RouterReferenceIdeal.main_arg13)
        ∧ r.2.mem ((c.tc : Thread _ _).loc Cert.RouterReferenceIdeal.main_arg14) = m ((c.tc : Thread _ _).loc Cert.RouterReferenceIdeal.main_arg14)
        ∧ r.2.mem ((c.tc : Thread _ _).loc Cert.RouterReferenceIdeal.main_arg15) = m ((c.tc : Thread _ _).loc Cert.RouterReferenceIdeal.main_arg15)
        ∧ r.2.mem ((c.tc : Thread _ _).loc Cert.RouterReferenceIdeal.main_arg16) = m ((c.tc : Thread _ _).loc Cert.RouterReferenceIdeal.main_arg16)
        ∧ r.2.mem ((c.tc : Thread _ _).loc Cert.RouterReferenceIdeal.main_arg17) = m ((c.tc : Thread _ _).loc Cert.RouterReferenceIdeal.main_arg17))
        ∧ r.2.sem = fun _ => 0 :=
  (θ_run Cert.RouterReferenceIdeal.defs _ _).mono (fun r h => ⟨fun c => (h c).2, sem_eq_zero_of_no_sems (by decide) r.2⟩)
    (Cert.RouterReferenceIdeal.Value.run (F := Ideal) m g)

/-- Every claim of the certificate. -/
theorem claim : Cert.Claim := ⟨Cert.Kernel.Gen.facts, Cert.KernelIdeal.Gen.facts, Cert.ReferenceIdeal.Gen.facts,
  Cert.Grouped.Gen.facts, Cert.GroupedIdeal.Gen.facts, Cert.GroupedReferenceIdeal.Gen.facts,
  Cert.Merge.Gen.facts, Cert.MergeIdeal.Gen.facts, Cert.MergeReferenceIdeal.Gen.facts,
  Cert.Mixer.Gen.facts, Cert.MixerIdeal.Gen.facts, Cert.MixerReferenceIdeal.Gen.facts,
  Cert.Router.Gen.facts, Cert.RouterIdeal.Gen.facts, Cert.RouterReferenceIdeal.Gen.facts, Cert.Pre_scores_finite.Gen.facts,
  Cert.Pre_grouped_finite.Gen.facts, by
  refine ⟨?_, ?_, ?_, ?_, ?_, ?_, ?_, ?_, ?_, ?_, ?_, ?_, ?_, ?_, ?_, ?_, ?_, ?_, ?_, trivial, algebraic, trivial, grouped_algebraic,
    trivial, merge_algebraic, trivial, mixer_algebraic, trivial, router_algebraic⟩
  · intro m g _; exact Cert.Kernel.Gen.frame m g
  · intro m g _; exact Cert.KernelIdeal.Gen.frame m g
  · intro m g _; exact Cert.KernelIdeal.Gen.frame m g
  · intro m g _; exact reference_frame m g
  · intro m g _; exact reference_frame m g
  · intro m g _; exact Cert.Grouped.Gen.frame m g
  · intro m g _; exact Cert.GroupedIdeal.Gen.frame m g
  · intro m g _; exact Cert.GroupedIdeal.Gen.frame m g
  · intro m g _; exact grouped_reference_frame m g
  · intro m g _; exact grouped_reference_frame m g
  · intro m g _; exact Cert.Merge.Gen.frame m g
  · intro m g _; exact Cert.MergeIdeal.Gen.frame m g
  · intro m g _; exact merge_reference_frame m g
  · intro m g _; exact Cert.Mixer.Gen.frame m g
  · intro m g _; exact Cert.MixerIdeal.Gen.frame m g
  · intro m g _; exact mixer_reference_frame m g
  · intro m g _; exact Cert.Router.Gen.frame m g
  · intro m g _; exact Cert.RouterIdeal.Gen.frame m g
  · intro m g _; exact router_reference_frame m g⟩

end Cert.Proof

end
